-- ==== Defs.lean ====
def Pre_Kernel [hPre_words_in_table : Cert.Pre_words_in_table.Facts] (m : (ℓ : Loc Cert.Kernel.nD Cert.Kernel.τ Cert.Kernel.sig) → Buf (Elt Bits) ℓ) : Prop :=
  ∀ c : Dev Cert.Kernel.nD,
    (Cert.Pre_words_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_words_in_table : Cert.Pre_words_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_in_table [hPre_words_in_table : Cert.Pre_words_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Offsets (m : (ℓ : Loc Cert.Offsets.nD Cert.Offsets.τ Cert.Offsets.sig) → Buf (Elt Bits) ℓ) : Prop :=
  True

def Pre_OffsetsIdeal (m : (ℓ : Loc Cert.OffsetsIdeal.nD Cert.OffsetsIdeal.τ Cert.OffsetsIdeal.sig) → Buf (Elt Ideal) ℓ) : Prop :=
  True

def Pre_OffsetsReferenceIdeal (m : (ℓ : Loc Cert.OffsetsReferenceIdeal.nD Cert.OffsetsReferenceIdeal.τ Cert.OffsetsReferenceIdeal.sig) → Buf (Elt Ideal) ℓ) : Prop :=
  True

def quiescent_Kernel [hKernel : Cert.Kernel.Facts] [hPre_words_in_table : Cert.Pre_words_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_words_in_table : Cert.Pre_words_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_words_in_table [hReferenceIdeal : Cert.ReferenceIdeal.Facts] [hPre_words_in_table : Cert.Pre_words_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Offsets [hOffsets : Cert.Offsets.Facts] : Prop :=
  ∀ (m : (ℓ : Loc Cert.Offsets.nD Cert.Offsets.τ Cert.Offsets.sig) → Buf (Elt Bits) ℓ) (g : Dev Cert.Offsets.nD → PrngReg), Pre_Offsets m →
    θ_run (Cert.Offsets.defs (F := Bits)) (onTc (τ := Cert.Offsets.τ) (Cert.Offsets.main (F := Bits))) ⟨m, fun _ => 0, g⟩ (fun r => (∀ c : Dev Cert.Offsets.nD,
      r.2.mem ((c.tc : Thread Cert.Offsets.nD Cert.Offsets.τ).loc Cert.Offsets.main_arg0) = m ((c.tc : Thread Cert.Offsets.nD Cert.Offsets.τ).loc Cert.Offsets.main_arg0)
      ∧ r.2.mem ((c.tc : Thread Cert.Offsets.nD Cert.Offsets.τ).loc Cert.Offsets.main_arg1) = m ((c.tc : Thread Cert.Offsets.nD Cert.Offsets.τ).loc Cert.Offsets.main_arg1)
      ∧ r.2.mem ((c.tc : Thread Cert.Offsets.nD Cert.Offsets.τ).loc Cert.Offsets.main_arg2) = m ((c.tc : Thread Cert.Offsets.nD Cert.Offsets.τ).loc Cert.Offsets.main_arg2)
      ∧ r.2.mem ((c.tc : Thread Cert.Offsets.nD Cert.Offsets.τ).loc Cert.Offsets.main_arg3) = m ((c.tc : Thread Cert.Offsets.nD Cert.Offsets.τ).loc Cert.Offsets.main_arg3))
      ∧ r.2.sem = fun _ => 0)

def quiescent_OffsetsIdeal [hOffsetsIdeal : Cert.OffsetsIdeal.Facts] : Prop :=
  ∀ (m : (ℓ : Loc Cert.OffsetsIdeal.nD Cert.OffsetsIdeal.τ Cert.OffsetsIdeal.sig) → Buf (Elt Ideal) ℓ) (g : Dev Cert.OffsetsIdeal.nD → PrngReg), Pre_OffsetsIdeal m →
    θ_run (Cert.OffsetsIdeal.defs (F := Ideal)) (onTc (τ := Cert.OffsetsIdeal.τ) (Cert.OffsetsIdeal.main (F := Ideal))) ⟨m, fun _ => 0, g⟩ (fun r => (∀ c : Dev Cert.OffsetsIdeal.nD,
      r.2.mem ((c.tc : Thread Cert.OffsetsIdeal.nD Cert.OffsetsIdeal.τ).loc Cert.OffsetsIdeal.main_arg0) = m ((c.tc : Thread Cert.OffsetsIdeal.nD Cert.OffsetsIdeal.τ).loc Cert.OffsetsIdeal.main_arg0)
      ∧ r.2.mem ((c.tc : Thread Cert.OffsetsIdeal.nD Cert.OffsetsIdeal.τ).loc Cert.OffsetsIdeal.main_arg1) = m ((c.tc : Thread Cert.OffsetsIdeal.nD Cert.OffsetsIdeal.τ).loc Cert.OffsetsIdeal.main_arg1)
      ∧ r.2.mem ((c.tc : Thread Cert.OffsetsIdeal.nD Cert.OffsetsIdeal.τ).loc Cert.OffsetsIdeal.main_arg2) = m ((c.tc : Thread Cert.OffsetsIdeal.nD Cert.OffsetsIdeal.τ).loc Cert.OffsetsIdeal.main_arg2)
      ∧ r.2.mem ((c.tc : Thread Cert.OffsetsIdeal.nD Cert.OffsetsIdeal.τ).loc Cert.OffsetsIdeal.main_arg3) = m ((c.tc : Thread Cert.OffsetsIdeal.nD Cert.OffsetsIdeal.τ).loc Cert.OffsetsIdeal.main_arg3))
      ∧ r.2.sem = fun _ => 0)

def quiescent_OffsetsReferenceIdeal [hOffsetsReferenceIdeal : Cert.OffsetsReferenceIdeal.Facts] : Prop :=
  ∀ (m : (ℓ : Loc Cert.OffsetsReferenceIdeal.nD Cert.OffsetsReferenceIdeal.τ Cert.OffsetsReferenceIdeal.sig) → Buf (Elt Ideal) ℓ) (g : Dev Cert.OffsetsReferenceIdeal.nD → PrngReg), Pre_OffsetsReferenceIdeal m →
    θ_run (Cert.OffsetsReferenceIdeal.defs (F := Ideal)) (onTc (τ := Cert.OffsetsReferenceIdeal.τ) (Cert.OffsetsReferenceIdeal.main (F := Ideal))) ⟨m, fun _ => 0, g⟩ (fun r => (∀ c : Dev Cert.OffsetsReferenceIdeal.nD,
      r.2.mem ((c.tc : Thread Cert.OffsetsReferenceIdeal.nD Cert.OffsetsReferenceIdeal.τ).loc Cert.OffsetsReferenceIdeal.main_arg0) = m ((c.tc : Thread Cert.OffsetsReferenceIdeal.nD Cert.OffsetsReferenceIdeal.τ).loc Cert.OffsetsReferenceIdeal.main_arg0)
      ∧ r.2.mem ((c.tc : Thread Cert.OffsetsReferenceIdeal.nD Cert.OffsetsReferenceIdeal.τ).loc Cert.OffsetsReferenceIdeal.main_arg1) = m ((c.tc : Thread Cert.OffsetsReferenceIdeal.nD Cert.OffsetsReferenceIdeal.τ).loc Cert.OffsetsReferenceIdeal.main_arg1)
      ∧ r.2.mem ((c.tc : Thread Cert.OffsetsReferenceIdeal.nD Cert.OffsetsReferenceIdeal.τ).loc Cert.OffsetsReferenceIdeal.main_arg2) = m ((c.tc : Thread Cert.OffsetsReferenceIdeal.nD Cert.OffsetsReferenceIdeal.τ).loc Cert.OffsetsReferenceIdeal.main_arg2)
      ∧ r.2.mem ((c.tc : Thread Cert.OffsetsReferenceIdeal.nD Cert.OffsetsReferenceIdeal.τ).loc Cert.OffsetsReferenceIdeal.main_arg3) = m ((c.tc : Thread Cert.OffsetsReferenceIdeal.nD Cert.OffsetsReferenceIdeal.τ).loc Cert.OffsetsReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_words_in_table : Cert.Pre_words_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Offsets_OffsetsIdeal : Prop :=
  True

def algebraic_OffsetsIdeal_OffsetsReferenceIdeal [hOffsetsIdeal : Cert.OffsetsIdeal.Facts] [hOffsetsReferenceIdeal : Cert.OffsetsReferenceIdeal.Facts] : Prop :=
  ∀ (m : (ℓ : Loc Cert.OffsetsIdeal.nD Cert.OffsetsIdeal.τ Cert.OffsetsIdeal.sig) → Buf (Elt Ideal) ℓ) (g : Dev Cert.OffsetsIdeal.nD → PrngReg)
    (m' : (ℓ : Loc Cert.OffsetsReferenceIdeal.nD Cert.OffsetsReferenceIdeal.τ Cert.OffsetsReferenceIdeal.sig) → Buf (Elt Ideal) ℓ) (g' : Dev Cert.OffsetsReferenceIdeal.nD → PrngReg), Pre_OffsetsIdeal m →
    (∀ c : Dev Cert.OffsetsIdeal.nD,
      m' ((c.tc : Thread Cert.OffsetsReferenceIdeal.nD Cert.OffsetsReferenceIdeal.τ).loc Cert.OffsetsReferenceIdeal.main_arg0) = m ((c.tc : Thread Cert.OffsetsIdeal.nD Cert.OffsetsIdeal.τ).loc Cert.OffsetsIdeal.main_arg0)
      ∧ m' ((c.tc : Thread Cert.OffsetsReferenceIdeal.nD Cert.OffsetsReferenceIdeal.τ).loc Cert.OffsetsReferenceIdeal.main_arg1) = m ((c.tc : Thread Cert.OffsetsIdeal.nD Cert.OffsetsIdeal.τ).loc Cert.OffsetsIdeal.main_arg1)
      ∧ m' ((c.tc : Thread Cert.OffsetsReferenceIdeal.nD Cert.OffsetsReferenceIdeal.τ).loc Cert.OffsetsReferenceIdeal.main_arg2) = m ((c.tc : Thread Cert.OffsetsIdeal.nD Cert.OffsetsIdeal.τ).loc Cert.OffsetsIdeal.main_arg2)
      ∧ m' ((c.tc : Thread Cert.OffsetsReferenceIdeal.nD Cert.OffsetsReferenceIdeal.τ).loc Cert.OffsetsReferenceIdeal.main_arg3) = m ((c.tc : Thread Cert.OffsetsIdeal.nD Cert.OffsetsIdeal.τ).loc Cert.OffsetsIdeal.main_arg3)) →
    ∃ (v0 : (c : Dev Cert.OffsetsIdeal.nD) → Buf (Elt Ideal) ((c.tc : Thread Cert.OffsetsIdeal.nD Cert.OffsetsIdeal.τ).loc Cert.OffsetsIdeal.main_v0_0)) (v1 : (c : Dev Cert.OffsetsIdeal.nD) → Buf (Elt Ideal) ((c.tc : Thread Cert.OffsetsIdeal.nD Cert.OffsetsIdeal.τ).loc Cert.OffsetsIdeal.main_v0_1)),
      θ_run (Cert.OffsetsIdeal.defs (F := Ideal)) (onTc (τ := Cert.OffsetsIdeal.τ) (Cert.OffsetsIdeal.main (F := Ideal))) ⟨m, fun _ => 0, g⟩ (fun r => ∀ c : Dev Cert.OffsetsIdeal.nD,
          r.2.mem ((c.tc : Thread Cert.OffsetsIdeal.nD Cert.OffsetsIdeal.τ).loc Cert.OffsetsIdeal.main_v0_0) = v0 c
          ∧ r.2.mem ((c.tc : Thread Cert.OffsetsIdeal.nD Cert.OffsetsIdeal.τ).loc Cert.OffsetsIdeal.main_v0_1) = v1 c
          ∧ r.2.mem ((c.tc : Thread Cert.OffsetsIdeal.nD Cert.OffsetsIdeal.τ).loc Cert.OffsetsIdeal.main_arg0) = m ((c.tc : Thread Cert.OffsetsIdeal.nD Cert.OffsetsIdeal.τ).loc Cert.OffsetsIdeal.main_arg0)
          ∧ r.2.mem ((c.tc : Thread Cert.OffsetsIdeal.nD Cert.OffsetsIdeal.τ).loc Cert.OffsetsIdeal.main_arg1) = m ((c.tc : Thread Cert.OffsetsIdeal.nD Cert.OffsetsIdeal.τ).loc Cert.OffsetsIdeal.main_arg1)
          ∧ r.2.mem ((c.tc : Thread Cert.OffsetsIdeal.nD Cert.OffsetsIdeal.τ).loc Cert.OffsetsIdeal.main_arg2) = m ((c.tc : Thread Cert.OffsetsIdeal.nD Cert.OffsetsIdeal.τ).loc Cert.OffsetsIdeal.main_arg2)
          ∧ r.2.mem ((c.tc : Thread Cert.OffsetsIdeal.nD Cert.OffsetsIdeal.τ).loc Cert.OffsetsIdeal.main_arg3) = m ((c.tc : Thread Cert.OffsetsIdeal.nD Cert.OffsetsIdeal.τ).loc Cert.OffsetsIdeal.main_arg3))
      ∧ θ_run (Cert.OffsetsReferenceIdeal.defs (F := Ideal)) (onTc (τ := Cert.OffsetsReferenceIdeal.τ) (Cert.OffsetsReferenceIdeal.main (F := Ideal))) ⟨m', fun _ => 0, g'⟩ (fun r => ∀ c : Dev Cert.OffsetsReferenceIdeal.nD,
          r.2.mem ((c.tc : Thread Cert.OffsetsReferenceIdeal.nD Cert.OffsetsReferenceIdeal.τ).loc Cert.OffsetsReferenceIdeal.main_v3_0) = v0 c
          ∧ r.2.mem ((c.tc : Thread Cert.OffsetsReferenceIdeal.nD Cert.OffsetsReferenceIdeal.τ).loc Cert.OffsetsReferenceIdeal.main_v3_1) = v1 c
          ∧ r.2.mem ((c.tc : Thread Cert.OffsetsReferenceIdeal.nD Cert.OffsetsReferenceIdeal.τ).loc Cert.OffsetsReferenceIdeal.main_arg0) = m' ((c.tc : Thread Cert.OffsetsReferenceIdeal.nD Cert.OffsetsReferenceIdeal.τ).loc Cert.OffsetsReferenceIdeal.main_arg0)
          ∧ r.2.mem ((c.tc : Thread Cert.OffsetsReferenceIdeal.nD Cert.OffsetsReferenceIdeal.τ).loc Cert.OffsetsReferenceIdeal.main_arg1) = m' ((c.tc : Thread Cert.OffsetsReferenceIdeal.nD Cert.OffsetsReferenceIdeal.τ).loc Cert.OffsetsReferenceIdeal.main_arg1)
          ∧ r.2.mem ((c.tc : Thread Cert.OffsetsReferenceIdeal.nD Cert.OffsetsReferenceIdeal.τ).loc Cert.OffsetsReferenceIdeal.main_arg2) = m' ((c.tc : Thread Cert.OffsetsReferenceIdeal.nD Cert.OffsetsReferenceIdeal.τ).loc Cert.OffsetsReferenceIdeal.main_arg2)
          ∧ r.2.mem ((c.tc : Thread Cert.OffsetsReferenceIdeal.nD Cert.OffsetsReferenceIdeal.τ).loc Cert.OffsetsReferenceIdeal.main_arg3) = m' ((c.tc : Thread Cert.OffsetsReferenceIdeal.nD Cert.OffsetsReferenceIdeal.τ).loc Cert.OffsetsReferenceIdeal.main_arg3))

def Claim : Prop :=
  ∃ (hKernel : Cert.Kernel.Facts) (hKernelIdeal : Cert.KernelIdeal.Facts) (hReferenceIdeal : Cert.ReferenceIdeal.Facts) (hOffsets : Cert.Offsets.Facts) (hOffsetsIdeal : Cert.OffsetsIdeal.Facts) (hOffsetsReferenceIdeal : Cert.OffsetsReferenceIdeal.Facts) (hPre_words_in_table : Cert.Pre_words_in_table.Facts),
    quiescent_Kernel (hKernel := hKernel) (hPre_words_in_table := hPre_words_in_table)
    ∧ quiescent_KernelIdeal (hKernelIdeal := hKernelIdeal) (hPre_words_in_table := hPre_words_in_table)
    ∧ quiescent_ReferenceIdeal (hReferenceIdeal := hReferenceIdeal)
    ∧ quiescent_ReferenceIdeal_pre_words_in_table (hReferenceIdeal := hReferenceIdeal) (hPre_words_in_table := hPre_words_in_table)
    ∧ quiescent_Offsets (hOffsets := hOffsets)
    ∧ quiescent_OffsetsIdeal (hOffsetsIdeal := hOffsetsIdeal)
    ∧ quiescent_OffsetsReferenceIdeal (hOffsetsReferenceIdeal := hOffsetsReferenceIdeal)
    ∧ preserves_Kernel_KernelIdeal
    ∧ algebraic_KernelIdeal_ReferenceIdeal (hKernelIdeal := hKernelIdeal) (hReferenceIdeal := hReferenceIdeal) (hPre_words_in_table := hPre_words_in_table)
    ∧ preserves_Offsets_OffsetsIdeal
    ∧ algebraic_OffsetsIdeal_OffsetsReferenceIdeal (hOffsetsIdeal := hOffsetsIdeal) (hOffsetsReferenceIdeal := hOffsetsReferenceIdeal)
-- ==== Pre_words_in_table.lean ====
abbrev S1536x2048 : Shape := ⟨2, ![1536, 2048]⟩
abbrev S108x8x128 : Shape := ⟨3, ![108, 8, 128]⟩
abbrev S108x4x8x128 : Shape := ⟨4, ![108, 4, 8, 128]⟩
abbrev S9x2048x1024 : Shape := ⟨3, ![9, 2048, 1024]⟩
abbrev S1x1024 : Shape := ⟨2, ![1, 1024]⟩
abbrev S_ : Shape := ⟨0, ![]⟩

class Facts : Prop where
  bcast_S_S108x8x128 : S_.BroadcastsInDim S108x8x128 (![] : Fin 0 → Fin S108x8x128.rank)

variable [Facts]

def fn {F : FTy → Type} [FloatOps F] (main_arg0 : IVec S1536x2048 8) (main_arg1 : IVec S108x8x128 32) (main_arg2 : FVec F S108x4x8x128 .f32) (main_arg3 : FVec F S9x2048x1024 .fp8e4m3) (main_arg4 : FVec F S1x1024 .f32) (main_arg5 : FVec F S1x1024 .f32) : IVec S108x8x128 1 :=
  let main_v0 : IVec S108x8x128 32 := iotaInDim S108x8x128 32 1
  let main_c : IVec S_ 32 := constantI S_ 32 3104#32
  let main_v1 : IVec S108x8x128 32 := broadcastInDim S108x8x128 ![] bcast_S_S108x8x128 main_c
  let main_v2 : IVec S108x8x128 32 := muli main_v1 main_v0
  let main_c_0 : IVec S_ 32 := constantI S_ 32 1#32
  let main_v3 : IVec S108x8x128 32 := broadcastInDim S108x8x128 ![] bcast_S_S108x8x128 main_c_0
  let main_v4 : IVec S108x8x128 32 := andi main_arg1 main_v3
  let main_c_1 : IVec S_ 32 := constantI S_ 32 0#32
  let main_v5 : IVec S108x8x128 32 := broadcastInDim S108x8x128 ![] bcast_S_S108x8x128 main_c_1
  let main_v6 : IVec S108x8x128 1 := cmpi .eq main_v4 main_v5
  let main_v7 : IVec S108x8x128 1 := cmpi .sge main_arg1 main_v2
  let main_v8 : IVec S108x8x128 1 := andi main_v6 main_v7
  let main_c_2 : IVec S_ 32 := constantI S_ 32 3104#32
  let main_v9 : IVec S108x8x128 32 := broadcastInDim S108x8x128 ![] bcast_S_S108x8x128 main_c_2
  let main_v10 : IVec S108x8x128 32 := addi main_v2 main_v9
  let main_v11 : IVec S108x8x128 1 := cmpi .slt main_arg1 main_v10
  let main_v12 : IVec S108x8x128 1 := andi main_v8 main_v11
  main_v12
-- ==== Kernel.lean ====
abbrev S1536x2048 : Shape := ⟨2, ![1536, 2048]⟩
abbrev S108x8x128 : Shape := ⟨3, ![108, 8, 128]⟩
abbrev S108x4x8x128 : Shape := ⟨4, ![108, 4, 8, 128]⟩
abbrev S9x2048x1024 : Shape := ⟨3, ![9, 2048, 1024]⟩
abbrev S1x1024 : Shape := ⟨2, ![1, 1024]⟩
abbrev S1536x1024 : Shape := ⟨2, ![1536, 1024]⟩
abbrev S4x1584x128 : Shape := ⟨3, ![4, 1584, 128]⟩
abbrev S24832x128 : Shape := ⟨2, ![24832, 128]⟩
abbrev S8x256x128 : Shape := ⟨3, ![8, 256, 128]⟩
abbrev S128x2048 : Shape := ⟨2, ![128, 2048]⟩
abbrev S128x1024 : Shape := ⟨2, ![128, 1024]⟩
abbrev S8x128 : Shape := ⟨2, ![8, 128]⟩
abbrev S2 : Shape := ⟨1, ![2]⟩
abbrev S1 : Shape := ⟨1, ![1]⟩
abbrev S_ : Shape := ⟨0, ![]⟩
abbrev S1x8x128 : Shape := ⟨3, ![1, 8, 128]⟩
abbrev S4x16x128 : Shape := ⟨3, ![4, 16, 128]⟩
abbrev S128x512 : Shape := ⟨2, ![128, 512]⟩
abbrev S512x128 : Shape := ⟨2, ![512, 128]⟩
abbrev S128x128 : Shape := ⟨2, ![128, 128]⟩
abbrev S1x128x128 : Shape := ⟨3, ![1, 128, 128]⟩
abbrev S1x16x128 : Shape := ⟨3, ![1, 16, 128]⟩
abbrev S16x128 : Shape := ⟨2, ![16, 128]⟩
abbrev S1x2048x1024 : Shape := ⟨3, ![1, 2048, 1024]⟩
abbrev S2048x1024 : Shape := ⟨2, ![2048, 1024]⟩
abbrev S1x1 : Shape := ⟨2, ![1, 1]⟩
abbrev S2x128 : Shape := ⟨2, ![2, 128]⟩
abbrev S1x2x128 : Shape := ⟨3, ![1, 2, 128]⟩
abbrev S64x128 : Shape := ⟨2, ![64, 128]⟩
abbrev S256x128 : Shape := ⟨2, ![256, 128]⟩
abbrev S1x4x8x128 : Shape := ⟨4, ![1, 4, 8, 128]⟩
abbrev S4x8x128 : Shape := ⟨3, ![4, 8, 128]⟩
abbrev S1x1x128 : Shape := ⟨3, ![1, 1, 128]⟩
abbrev S1x128 : Shape := ⟨2, ![1, 128]⟩
abbrev S128x256 : Shape := ⟨2, ![128, 256]⟩

abbrev nBuf : Space → Nat
  | .hbm => 7
  | .vmem => 14
  | .smem => 2
  | _ => 0

abbrev bufTy : (tb : Table) → Fin (tcTables nBuf tb) → BufTy
  | .hbm, ⟨0, _⟩ => ⟨S1536x2048, .i8⟩
  | .hbm, ⟨1, _⟩ => ⟨S108x8x128, .i32⟩
  | .hbm, ⟨2, _⟩ => ⟨S108x4x8x128, .f32⟩
  | .hbm, ⟨3, _⟩ => ⟨S9x2048x1024, .fp8e4m3⟩
  | .hbm, ⟨4, _⟩ => ⟨S1x1024, .f32⟩
  | .hbm, ⟨5, _⟩ => ⟨S1x1024, .f32⟩
  | .hbm, ⟨6, _⟩ => ⟨S1536x1024, .bf16⟩
  | .local _ .vmem, ⟨0, _⟩ => ⟨S1536x2048, .i8⟩
  | .local _ .vmem, ⟨1, _⟩ => ⟨S108x8x128, .i32⟩
  | .local _ .vmem, ⟨2, _⟩ => ⟨S108x4x8x128, .f32⟩
  | .local _ .vmem, ⟨3, _⟩ => ⟨S9x2048x1024, .fp8e4m3⟩
  | .local _ .vmem, ⟨4, _⟩ => ⟨S1x1024, .f32⟩
  | .local _ .vmem, ⟨5, _⟩ => ⟨S1x1024, .f32⟩
  | .local _ .vmem, ⟨6, _⟩ => ⟨S1536x1024, .bf16⟩
  | .local _ .vmem, ⟨7, _⟩ => ⟨S4x1584x128, .i32⟩
  | .local _ .vmem, ⟨8, _⟩ => ⟨S24832x128, .i32⟩
  | .local _ .vmem, ⟨9, _⟩ => ⟨S8x256x128, .i32⟩
  | .local _ .vmem, ⟨10, _⟩ => ⟨S8x256x128, .i32⟩
  | .local _ .vmem, ⟨11, _⟩ => ⟨S128x2048, .bf16⟩
  | .local _ .vmem, ⟨12, _⟩ => ⟨S128x2048, .bf16⟩
  | .local _ .vmem, ⟨13, _⟩ => ⟨S128x1024, .f32⟩
  | .local _ .smem, ⟨0, _⟩ => ⟨S8x128, .i32⟩
  | .local _ .smem, ⟨1, _⟩ => ⟨S8x128, .i32⟩
  | _, _ => ⟨S1536x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.smem, 0, rfl⟩
abbrev cc0_scratch8 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_off1 (c0_i32 : BitVec 32) : Fin 3 → Nat :=
  let c107_i32 : BitVec 32 := 107#32
  let v0 : BitVec 32 := Scalar.minsi c0_i32 c107_i32
  let c0_i32_1 : BitVec 32 := 0#32
  let c0_i32_2 : BitVec 32 := 0#32
  ![v0.toNat, 0, 0]
@[reducible] def k0_t1_loop : Scf.Loop 32 :=
  let c0_i32_10 : BitVec 32 := 0#32
  let c12_i32 : BitVec 32 := 12#32
  let v15 : BitVec 32 := Scalar.addi c0_i32_10 c12_i32
  let c1_i32 : BitVec 32 := 1#32
  ⟨c0_i32_10, v15, c1_i32⟩
def k0_mult1 (k0_t1 : Fin k0_t1_loop.trips) : BitVec 32 :=
  let c0_i32_10 : BitVec 32 := 0#32
  let c1_i32 : BitVec 32 := 1#32
  let arg17 : BitVec 32 := Scf.iv c0_i32_10 c1_i32 k0_t1
  let c128_i32 : BitVec 32 := 128#32
  let v166 : BitVec 32 := Scalar.muli arg17 c128_i32
  v166
def k0_off2 (k0_t1 : Fin k0_t1_loop.trips) : Fin 2 → Nat :=
  let c0_i32_10 : BitVec 32 := 0#32
  let c1_i32 : BitVec 32 := 1#32
  let arg17 : BitVec 32 := Scf.iv c0_i32_10 c1_i32 k0_t1
  let c128_i32 : BitVec 32 := 128#32
  let v166 : BitVec 32 := Scalar.muli arg17 c128_i32
  let v167 : BitVec 32 := v166
  let v168 : Index := Scalar.indexCast v167
  let c0_104 : Index := 0#32
  ![v168.toNat, 0]
def k0_off3 (k0_t1 : Fin k0_t1_loop.trips) : Fin 3 → Nat :=
  let c0_105 : Index := 0#32
  let c16_i32 : BitVec 32 := 16#32
  let c0_i32_10 : BitVec 32 := 0#32
  let c1_i32 : BitVec 32 := 1#32
  let arg17 : BitVec 32 := Scf.iv c0_i32_10 c1_i32 k0_t1
  let c128_i32 : BitVec 32 := 128#32
  let v166 : BitVec 32 := Scalar.muli arg17 c128_i32
  let v167 : BitVec 32 := v166
  let v175 : BitVec 32 := Scalar.addi c16_i32 v167
  let v176 : Index := Scalar.indexCast v175
  let c0_106 : Index := 0#32
  ![0, v176.toNat, 0]
def k0_off4 (k0_t1 : Fin k0_t1_loop.trips) : Fin 2 → Nat :=
  let c0_i32_10 : BitVec 32 := 0#32
  let c1_i32 : BitVec 32 := 1#32
  let arg17 : BitVec 32 := Scf.iv c0_i32_10 c1_i32 k0_t1
  let c128_i32 : BitVec 32 := 128#32
  let v166 : BitVec 32 := Scalar.muli arg17 c128_i32
  let v167 : BitVec 32 := v166
  let v180 : Index := Scalar.indexCast v167
  let c512 : Index := 512#32
  ![v180.toNat, 512]
def k0_off5 (k0_t1 : Fin k0_t1_loop.trips) : Fin 3 → Nat :=
  let c1_108 : Index := 1#32
  let c16_i32_107 : BitVec 32 := 16#32
  let c0_i32_10 : BitVec 32 := 0#32
  let c1_i32 : BitVec 32 := 1#32
  let arg17 : BitVec 32 := Scf.iv c0_i32_10 c1_i32 k0_t1
  let c128_i32 : BitVec 32 := 128#32
  let v166 : BitVec 32 := Scalar.muli arg17 c128_i32
  let v167 : BitVec 32 := v166
  let v187 : BitVec 32 := Scalar.addi c16_i32_107 v167
  let v188 : Index := Scalar.indexCast v187
  let c0_109 : Index := 0#32
  ![1, v188.toNat, 0]
def k0_off6 (k0_t1 : Fin k0_t1_loop.trips) : Fin 2 → Nat :=
  let c0_i32_10 : BitVec 32 := 0#32
  let c1_i32 : BitVec 32 := 1#32
  let arg17 : BitVec 32 := Scf.iv c0_i32_10 c1_i32 k0_t1
  let c128_i32 : BitVec 32 := 128#32
  let v166 : BitVec 32 := Scalar.muli arg17 c128_i32
  let v167 : BitVec 32 := v166
  let v192 : Index := Scalar.indexCast v167
  let c1024 : Index := 1024#32
  ![v192.toNat, 1024]
def k0_off7 (k0_t1 : Fin k0_t1_loop.trips) : Fin 3 → Nat :=
  let c2_111 : Index := 2#32
  let c16_i32_110 : BitVec 32 := 16#32
  let c0_i32_10 : BitVec 32 := 0#32
  let c1_i32 : BitVec 32 := 1#32
  let arg17 : BitVec 32 := Scf.iv c0_i32_10 c1_i32 k0_t1
  let c128_i32 : BitVec 32 := 128#32
  let v166 : BitVec 32 := Scalar.muli arg17 c128_i32
  let v167 : BitVec 32 := v166
  let v199 : BitVec 32 := Scalar.addi c16_i32_110 v167
  let v200 : Index := Scalar.indexCast v199
  let c0_112 : Index := 0#32
  ![2, v200.toNat, 0]
def k0_off8 (k0_t1 : Fin k0_t1_loop.trips) : Fin 2 → Nat :=
  let c0_i32_10 : BitVec 32 := 0#32
  let c1_i32 : BitVec 32 := 1#32
  let arg17 : BitVec 32 := Scf.iv c0_i32_10 c1_i32 k0_t1
  let c128_i32 : BitVec 32 := 128#32
  let v166 : BitVec 32 := Scalar.muli arg17 c128_i32
  let v167 : BitVec 32 := v166
  let v204 : Index := Scalar.indexCast v167
  let c1536_113 : Index := 1536#32
  ![v204.toNat, 1536]
def k0_off9 (k0_t1 : Fin k0_t1_loop.trips) : Fin 3 → Nat :=
  let c3_115 : Index := 3#32
  let c16_i32_114 : BitVec 32 := 16#32
  let c0_i32_10 : BitVec 32 := 0#32
  let c1_i32 : BitVec 32 := 1#32
  let arg17 : BitVec 32 := Scf.iv c0_i32_10 c1_i32 k0_t1
  let c128_i32 : BitVec 32 := 128#32
  let v166 : BitVec 32 := Scalar.muli arg17 c128_i32
  let v167 : BitVec 32 := v166
  let v211 : BitVec 32 := Scalar.addi c16_i32_114 v167
  let v212 : Index := Scalar.indexCast v211
  let c0_116 : Index := 0#32
  ![3, v212.toNat, 0]
@[reducible] def k0_t2_loop : Scf.Loop 32 :=
  let c0_i32_12 : BitVec 32 := 0#32
  let c12_i32_13 : BitVec 32 := 12#32
  let v19 : BitVec 32 := Scalar.addi c0_i32_12 c12_i32_13
  let c1_i32_14 : BitVec 32 := 1#32
  ⟨c0_i32_12, v19, c1_i32_14⟩
def k0_off10 (k0_t2 : Fin k0_t2_loop.trips) (c0_i32_104 : BitVec 32) : Fin 3 → Nat :=
  let c0_105 : Index := 0#32
  let c0_i32_12 : BitVec 32 := 0#32
  let c1_i32_14 : BitVec 32 := 1#32
  let arg17 : BitVec 32 := Scf.iv c0_i32_12 c1_i32_14 k0_t2
  let c128_i32 : BitVec 32 := 128#32
  let v166 : BitVec 32 := Scalar.muli arg17 c128_i32
  let v167 : BitVec 32 := Scalar.addi v166 c0_i32_104
  let v168 : Index := Scalar.indexCast v167
  let c0_106 : Index := 0#32
  ![0, v168.toNat, 0]
def k0_off11 (k0_t2 : Fin k0_t2_loop.trips) (c0_i32_104 : BitVec 32) : Fin 3 → Nat :=
  let c0_108 : Index := 0#32
  let c0_i32_12 : BitVec 32 := 0#32
  let c1_i32_14 : BitVec 32 := 1#32
  let arg17 : BitVec 32 := Scf.iv c0_i32_12 c1_i32_14 k0_t2
  let c128_i32 : BitVec 32 := 128#32
  let v166 : BitVec 32 := Scalar.muli arg17 c128_i32
  let v167 : BitVec 32 := Scalar.addi v166 c0_i32_104
  let c1_i32_107 : BitVec 32 := 1#32
  let v171 : BitVec 32 := Scalar.addi v167 c1_i32_107
  let v172 : Index := Scalar.indexCast v171
  let c0_109 : Index := 0#32
  ![0, v172.toNat, 0]
def k0_off12 (k0_t2 : Fin k0_t2_loop.trips) (c0_i32_112 : BitVec 32) (c0_i32_113 : BitVec 32) : Fin 2 → Nat :=
  let c2_i32 : BitVec 32 := 2#32
  let c0_i32_12 : BitVec 32 := 0#32
  let c1_i32_14 : BitVec 32 := 1#32
  let arg17 : BitVec 32 := Scf.iv c0_i32_12 c1_i32_14 k0_t2
  let c128_i32_111 : BitVec 32 := 128#32
  let v176 : BitVec 32 := Scalar.muli arg17 c128_i32_111
  let v177 : BitVec 32 := Scalar.addi c0_i32_112 v176
  let v178 : BitVec 32 := Scalar.muli c2_i32 v177
  let v179 : BitVec 32 := Scalar.addi v178 c0_i32_113
  let v181 : Index := Scalar.indexCast v179
  let c0_114 : Index := 0#32
  ![v181.toNat, 0]
def k0_off13 (k0_t2 : Fin k0_t2_loop.trips) (c0_i32_138 : BitVec 32) : Fin 3 → Nat :=
  let c1_139 : Index := 1#32
  let c0_i32_12 : BitVec 32 := 0#32
  let c1_i32_14 : BitVec 32 := 1#32
  let arg17 : BitVec 32 := Scf.iv c0_i32_12 c1_i32_14 k0_t2
  let c128_i32_137 : BitVec 32 := 128#32
  let v222 : BitVec 32 := Scalar.muli arg17 c128_i32_137
  let v223 : BitVec 32 := Scalar.addi v222 c0_i32_138
  let v224 : Index := Scalar.indexCast v223
  let c0_140 : Index := 0#32
  ![1, v224.toNat, 0]
def k0_off14 (k0_t2 : Fin k0_t2_loop.trips) (c0_i32_138 : BitVec 32) : Fin 3 → Nat :=
  let c1_142 : Index := 1#32
  let c0_i32_12 : BitVec 32 := 0#32
  let c1_i32_14 : BitVec 32 := 1#32
  let arg17 : BitVec 32 := Scf.iv c0_i32_12 c1_i32_14 k0_t2
  let c128_i32_137 : BitVec 32 := 128#32
  let v222 : BitVec 32 := Scalar.muli arg17 c128_i32_137
  let v223 : BitVec 32 := Scalar.addi v222 c0_i32_138
  let c1_i32_141 : BitVec 32 := 1#32
  let v227 : BitVec 32 := Scalar.addi v223 c1_i32_141
  let v228 : Index := Scalar.indexCast v227
  let c0_143 : Index := 0#32
  ![1, v228.toNat, 0]
def k0_off15 (k0_t2 : Fin k0_t2_loop.trips) (c0_i32_172 : BitVec 32) : Fin 3 → Nat :=
  let c2_173 : Index := 2#32
  let c0_i32_12 : BitVec 32 := 0#32
  let c1_i32_14 : BitVec 32 := 1#32
  let arg17 : BitVec 32 := Scf.iv c0_i32_12 c1_i32_14 k0_t2
  let c128_i32_171 : BitVec 32 := 128#32
  let v278 : BitVec 32 := Scalar.muli arg17 c128_i32_171
  let v279 : BitVec 32 := Scalar.addi v278 c0_i32_172
  let v280 : Index := Scalar.indexCast v279
  let c0_174 : Index := 0#32
  ![2, v280.toNat, 0]
def k0_off16 (k0_t2 : Fin k0_t2_loop.trips) (c0_i32_172 : BitVec 32) : Fin 3 → Nat :=
  let c2_176 : Index := 2#32
  let c0_i32_12 : BitVec 32 := 0#32
  let c1_i32_14 : BitVec 32 := 1#32
  let arg17 : BitVec 32 := Scf.iv c0_i32_12 c1_i32_14 k0_t2
  let c128_i32_171 : BitVec 32 := 128#32
  let v278 : BitVec 32 := Scalar.muli arg17 c128_i32_171
  let v279 : BitVec 32 := Scalar.addi v278 c0_i32_172
  let c1_i32_175 : BitVec 32 := 1#32
  let v283 : BitVec 32 := Scalar.addi v279 c1_i32_175
  let v284 : Index := Scalar.indexCast v283
  let c0_177 : Index := 0#32
  ![2, v284.toNat, 0]
def k0_off17 (k0_t2 : Fin k0_t2_loop.trips) (c0_i32_206 : BitVec 32) : Fin 3 → Nat :=
  let c3_207 : Index := 3#32
  let c0_i32_12 : BitVec 32 := 0#32
  let c1_i32_14 : BitVec 32 := 1#32
  let arg17 : BitVec 32 := Scf.iv c0_i32_12 c1_i32_14 k0_t2
  let c128_i32_205 : BitVec 32 := 128#32
  let v334 : BitVec 32 := Scalar.muli arg17 c128_i32_205
  let v335 : BitVec 32 := Scalar.addi v334 c0_i32_206
  let v336 : Index := Scalar.indexCast v335
  let c0_208 : Index := 0#32
  ![3, v336.toNat, 0]
def k0_off18 (k0_t2 : Fin k0_t2_loop.trips) (c0_i32_206 : BitVec 32) : Fin 3 → Nat :=
  let c3_210 : Index := 3#32
  let c0_i32_12 : BitVec 32 := 0#32
  let c1_i32_14 : BitVec 32 := 1#32
  let arg17 : BitVec 32 := Scf.iv c0_i32_12 c1_i32_14 k0_t2
  let c128_i32_205 : BitVec 32 := 128#32
  let v334 : BitVec 32 := Scalar.muli arg17 c128_i32_205
  let v335 : BitVec 32 := Scalar.addi v334 c0_i32_206
  let c1_i32_209 : BitVec 32 := 1#32
  let v339 : BitVec 32 := Scalar.addi v335 c1_i32_209
  let v340 : Index := Scalar.indexCast v339
  let c0_211 : Index := 0#32
  ![3, v340.toNat, 0]
@[reducible] def k0_t3_loop : Scf.Loop 32 :=
  let c0_i32_97 : BitVec 32 := 0#32
  let c55_i32 : BitVec 32 := 55#32
  let v160 : BitVec 32 := Scalar.addi c0_i32_97 c55_i32
  let c1_i32_98 : BitVec 32 := 1#32
  ⟨c0_i32_97, v160, c1_i32_98⟩
def k0_off19 (k0_t3 : Fin k0_t3_loop.trips) : Fin 3 → Nat :=
  let c2_i32 : BitVec 32 := 2#32
  let c0_i32_97 : BitVec 32 := 0#32
  let c1_i32_98 : BitVec 32 := 1#32
  let arg17 : BitVec 32 := Scf.iv c0_i32_97 c1_i32_98 k0_t3
  let v166 : BitVec 32 := Scalar.muli c2_i32 arg17
  let c2_i32_104 : BitVec 32 := 2#32
  let v167 : BitVec 32 := Scalar.subi v166 c2_i32_104
  let c0_i32_105 : BitVec 32 := 0#32
  let v168 : BitVec 32 := Scalar.maxsi v167 c0_i32_105
  let c9_i32 : BitVec 32 := 9#32
  let v169 : BitVec 32 := Scalar.remsi v168 c9_i32
  let v171 : Index := Scalar.indexCast v169
  let c0_108 : Index := 0#32
  let c0_109 : Index := 0#32
  ![v171.toNat, 0, 0]
def k0_off20 (k0_t3 : Fin k0_t3_loop.trips) : Fin 3 → Nat :=
  let c2_i32 : BitVec 32 := 2#32
  let c0_i32_97 : BitVec 32 := 0#32
  let c1_i32_98 : BitVec 32 := 1#32
  let arg17 : BitVec 32 := Scf.iv c0_i32_97 c1_i32_98 k0_t3
  let v166 : BitVec 32 := Scalar.muli c2_i32 arg17
  let c107_i32_117 : BitVec 32 := 107#32
  let v184 : BitVec 32 := Scalar.minsi v166 c107_i32_117
  let c0_i32_119 : BitVec 32 := 0#32
  let c0_i32_120 : BitVec 32 := 0#32
  ![v184.toNat, 0, 0]
def k0_off21 (k0_t3 : Fin k0_t3_loop.trips) : Fin 3 → Nat :=
  let c2_i32 : BitVec 32 := 2#32
  let c0_i32_97 : BitVec 32 := 0#32
  let c1_i32_98 : BitVec 32 := 1#32
  let arg17 : BitVec 32 := Scf.iv c0_i32_97 c1_i32_98 k0_t3
  let v166 : BitVec 32 := Scalar.muli c2_i32 arg17
  let c1_i32_121 : BitVec 32 := 1#32
  let v189 : BitVec 32 := Scalar.addi v166 c1_i32_121
  let c107_i32_122 : BitVec 32 := 107#32
  let v190 : BitVec 32 := Scalar.minsi v189 c107_i32_122
  let c0_i32_124 : BitVec 32 := 0#32
  let c0_i32_125 : BitVec 32 := 0#32
  ![v190.toNat, 0, 0]
@[reducible] def k0_t4_loop : Scf.Loop 32 :=
  let c0_i32_126 : BitVec 32 := 0#32
  let c8_i32 : BitVec 32 := 8#32
  let v195 : BitVec 32 := Scalar.addi c0_i32_126 c8_i32
  let c1_i32_127 : BitVec 32 := 1#32
  ⟨c0_i32_126, v195, c1_i32_127⟩
@[reducible] def k0_t5_loop : Scf.Loop 32 :=
  let c0_i32_672 : BitVec 32 := 0#32
  let c128_i32 : BitVec 32 := 128#32
  let v1043 : BitVec 32 := Scalar.addi c0_i32_672 c128_i32
  let c1_i32_673 : BitVec 32 := 1#32
  ⟨c0_i32_672, v1043, c1_i32_673⟩
def k0_off22 (k0_t4 : Fin k0_t4_loop.trips) (k0_t5 : Fin k0_t5_loop.trips) : Fin 2 → Nat :=
  let c0_i32_126 : BitVec 32 := 0#32
  let c1_i32_127 : BitVec 32 := 1#32
  let arg18 : BitVec 32 := Scf.iv c0_i32_126 c1_i32_127 k0_t4
  let v1044 : Index := Scalar.indexCast arg18
  let c0_i32_672 : BitVec 32 := 0#32
  let c1_i32_673 : BitVec 32 := 1#32
  let arg19 : BitVec 32 := Scf.iv c0_i32_672 c1_i32_673 k0_t5
  let v1045 : Index := Scalar.indexCast arg19
  ![v1044.toNat, v1045.toNat]
def k0_mult2 (v1046 : BitVec 32) : BitVec 32 :=
  v1046

def k0_off23 (v1046 : BitVec 32) : Fin 2 → Nat :=
  let v1047 : BitVec 32 := v1046
  let v1048 : Index := Scalar.indexCast v1047
  let c0_675 : Index := 0#32
  ![v1048.toNat, 0]

def k0_chk1 (v1046 : BitVec 32) : Prop :=
  (2 ∣ (k0_mult2 v1046).toNat) ∧
  (∀ a, (k0_off23 v1046) a + S2x128.size a ≤ S24832x128.size a)
theorem k0_mult2_dvd : ∀ (v1046 : BitVec 32) (k0_hw1 : k0_chk1 v1046), 2 ∣ (k0_mult2 v1046).toNat := fun v1046 k0_hw1 => k0_hw1.1
theorem k0_off23_inb : ∀ (v1046 : BitVec 32) (k0_hw1 : k0_chk1 v1046), ∀ a, (k0_off23 v1046) a + S2x128.size a ≤ S24832x128.size a := fun v1046 k0_hw1 => k0_hw1.2

def k0_mult3 (k0_t5 : Fin k0_t5_loop.trips) : BitVec 32 :=
  let c2_i32_676 : BitVec 32 := 2#32
  let c0_i32_672 : BitVec 32 := 0#32
  let c1_i32_673 : BitVec 32 := 1#32
  let arg19 : BitVec 32 := Scf.iv c0_i32_672 c1_i32_673 k0_t5
  let v1050 : BitVec 32 := Scalar.muli c2_i32_676 arg19
  v1050
def k0_off24 (k0_t4 : Fin k0_t4_loop.trips) (k0_t5 : Fin k0_t5_loop.trips) : Fin 3 → Nat :=
  let c0_i32_126 : BitVec 32 := 0#32
  let c1_i32_127 : BitVec 32 := 1#32
  let arg18 : BitVec 32 := Scf.iv c0_i32_126 c1_i32_127 k0_t4
  let v1052 : Index := Scalar.indexCast arg18
  let c2_i32_676 : BitVec 32 := 2#32
  let c0_i32_672 : BitVec 32 := 0#32
  let c1_i32_673 : BitVec 32 := 1#32
  let arg19 : BitVec 32 := Scf.iv c0_i32_672 c1_i32_673 k0_t5
  let v1050 : BitVec 32 := Scalar.muli c2_i32_676 arg19
  let v1051 : BitVec 32 := v1050
  let v1053 : Index := Scalar.indexCast v1051
  let c0_677 : Index := 0#32
  ![v1052.toNat, v1053.toNat, 0]
def k0_off25 (k0_t3 : Fin k0_t3_loop.trips) : Fin 4 → Nat :=
  let c107_i32_131 : BitVec 32 := 107#32
  let c0_i32_130 : BitVec 32 := 0#32
  let c2_i32 : BitVec 32 := 2#32
  let c0_i32_97 : BitVec 32 := 0#32
  let c1_i32_98 : BitVec 32 := 1#32
  let arg17 : BitVec 32 := Scf.iv c0_i32_97 c1_i32_98 k0_t3
  let v166 : BitVec 32 := Scalar.muli c2_i32 arg17
  let c1_i32_129 : BitVec 32 := 1#32
  let v196 : BitVec 32 := Scalar.subi v166 c1_i32_129
  let v197 : BitVec 32 := Scalar.maxsi c0_i32_130 v196
  let v198 : BitVec 32 := Scalar.minsi c107_i32_131 v197
  let c0_i32_135 : BitVec 32 := 0#32
  let c0_i32_136 : BitVec 32 := 0#32
  let c0_i32_137 : BitVec 32 := 0#32
  ![v198.toNat, 0, 0, 0]
def k0_cond1 (k0_t3 : Fin k0_t3_loop.trips) : BitVec 1 :=
  let c2_i32 : BitVec 32 := 2#32
  let c0_i32_97 : BitVec 32 := 0#32
  let c1_i32_98 : BitVec 32 := 1#32
  let arg17 : BitVec 32 := Scf.iv c0_i32_97 c1_i32_98 k0_t3
  let v166 : BitVec 32 := Scalar.muli c2_i32 arg17
  let c2_i32_104 : BitVec 32 := 2#32
  let v167 : BitVec 32 := Scalar.subi v166 c2_i32_104
  let c0_i32_105 : BitVec 32 := 0#32
  let v168 : BitVec 32 := Scalar.maxsi v167 c0_i32_105
  let c9_i32 : BitVec 32 := 9#32
  let v169 : BitVec 32 := Scalar.remsi v168 c9_i32
  let c8_i32_378 : BitVec 32 := 8#32
  let v599 : BitVec 1 := Scalar.cmpi .eq v169 c8_i32_378
  let c2_i32_379 : BitVec 32 := 2#32
  let v600 : BitVec 1 := Scalar.cmpi .sge v166 c2_i32_379
  let v601 : BitVec 1 := Scalar.andi v599 v600
  let v602 : BitVec 32 := Scalar.extui v601
  let c0_i32_380 : BitVec 32 := 0#32
  let v603 : BitVec 1 := Scalar.cmpi .ne v602 c0_i32_380
  v603

def k0_mult4 (k0_t3 : Fin k0_t3_loop.trips) : BitVec 32 :=
  let c2_i32 : BitVec 32 := 2#32
  let c0_i32_97 : BitVec 32 := 0#32
  let c1_i32_98 : BitVec 32 := 1#32
  let arg17 : BitVec 32 := Scf.iv c0_i32_97 c1_i32_98 k0_t3
  let v166 : BitVec 32 := Scalar.muli c2_i32 arg17
  let c2_i32_104 : BitVec 32 := 2#32
  let v167 : BitVec 32 := Scalar.subi v166 c2_i32_104
  let c0_i32_105 : BitVec 32 := 0#32
  let v168 : BitVec 32 := Scalar.maxsi v167 c0_i32_105
  let c9_i32_672 : BitVec 32 := 9#32
  let v1043 : BitVec 32 := Scalar.divsi v168 c9_i32_672
  let c128_i32 : BitVec 32 := 128#32
  let v1044 : BitVec 32 := Scalar.muli v1043 c128_i32
  v1044
def k0_off26 (k0_t3 : Fin k0_t3_loop.trips) : Fin 2 → Nat :=
  let c2_i32 : BitVec 32 := 2#32
  let c0_i32_97 : BitVec 32 := 0#32
  let c1_i32_98 : BitVec 32 := 1#32
  let arg17 : BitVec 32 := Scf.iv c0_i32_97 c1_i32_98 k0_t3
  let v166 : BitVec 32 := Scalar.muli c2_i32 arg17
  let c2_i32_104 : BitVec 32 := 2#32
  let v167 : BitVec 32 := Scalar.subi v166 c2_i32_104
  let c0_i32_105 : BitVec 32 := 0#32
  let v168 : BitVec 32 := Scalar.maxsi v167 c0_i32_105
  let c9_i32_672 : BitVec 32 := 9#32
  let v1043 : BitVec 32 := Scalar.divsi v168 c9_i32_672
  let c128_i32 : BitVec 32 := 128#32
  let v1044 : BitVec 32 := Scalar.muli v1043 c128_i32
  let v1045 : BitVec 32 := v1044
  let v1054 : Index := Scalar.indexCast v1045
  let c0_679 : Index := 0#32
  ![v1054.toNat, 0]
def k0_off27 (k0_t3 : Fin k0_t3_loop.trips) : Fin 3 → Nat :=
  let c2_i32_381 : BitVec 32 := 2#32
  let c0_i32_97 : BitVec 32 := 0#32
  let c1_i32_98 : BitVec 32 := 1#32
  let arg17 : BitVec 32 := Scf.iv c0_i32_97 c1_i32_98 k0_t3
  let v604 : BitVec 32 := Scalar.muli c2_i32_381 arg17
  let c1_i32_382 : BitVec 32 := 1#32
  let v605 : BitVec 32 := Scalar.addi v604 c1_i32_382
  let c2_i32_383 : BitVec 32 := 2#32
  let v606 : BitVec 32 := Scalar.subi v605 c2_i32_383
  let c0_i32_384 : BitVec 32 := 0#32
  let v607 : BitVec 32 := Scalar.maxsi v606 c0_i32_384
  let c9_i32_385 : BitVec 32 := 9#32
  let v608 : BitVec 32 := Scalar.remsi v607 c9_i32_385
  let v610 : Index := Scalar.indexCast v608
  let c0_388 : Index := 0#32
  let c0_389 : Index := 0#32
  ![v610.toNat, 0, 0]
def k0_off28 (k0_t3 : Fin k0_t3_loop.trips) : Fin 3 → Nat :=
  let c2_i32_381 : BitVec 32 := 2#32
  let c0_i32_97 : BitVec 32 := 0#32
  let c1_i32_98 : BitVec 32 := 1#32
  let arg17 : BitVec 32 := Scf.iv c0_i32_97 c1_i32_98 k0_t3
  let v604 : BitVec 32 := Scalar.muli c2_i32_381 arg17
  let c1_i32_382 : BitVec 32 := 1#32
  let v605 : BitVec 32 := Scalar.addi v604 c1_i32_382
  let c1_i32_401 : BitVec 32 := 1#32
  let v628 : BitVec 32 := Scalar.addi v605 c1_i32_401
  let c107_i32_402 : BitVec 32 := 107#32
  let v629 : BitVec 32 := Scalar.minsi v628 c107_i32_402
  let c0_i32_404 : BitVec 32 := 0#32
  let c0_i32_405 : BitVec 32 := 0#32
  ![v629.toNat, 0, 0]
@[reducible] def k0_t6_loop : Scf.Loop 32 :=
  let c0_i32_406 : BitVec 32 := 0#32
  let c8_i32_407 : BitVec 32 := 8#32
  let v634 : BitVec 32 := Scalar.addi c0_i32_406 c8_i32_407
  let c1_i32_408 : BitVec 32 := 1#32
  ⟨c0_i32_406, v634, c1_i32_408⟩
@[reducible] def k0_t7_loop : Scf.Loop 32 :=
  let c0_i32_672 : BitVec 32 := 0#32
  let c128_i32 : BitVec 32 := 128#32
  let v1043 : BitVec 32 := Scalar.addi c0_i32_672 c128_i32
  let c1_i32_673 : BitVec 32 := 1#32
  ⟨c0_i32_672, v1043, c1_i32_673⟩
def k0_off29 (k0_t6 : Fin k0_t6_loop.trips) (k0_t7 : Fin k0_t7_loop.trips) : Fin 2 → Nat :=
  let c0_i32_406 : BitVec 32 := 0#32
  let c1_i32_408 : BitVec 32 := 1#32
  let arg18 : BitVec 32 := Scf.iv c0_i32_406 c1_i32_408 k0_t6
  let v1044 : Index := Scalar.indexCast arg18
  let c0_i32_672 : BitVec 32 := 0#32
  let c1_i32_673 : BitVec 32 := 1#32
  let arg19 : BitVec 32 := Scf.iv c0_i32_672 c1_i32_673 k0_t7
  let v1045 : Index := Scalar.indexCast arg19
  ![v1044.toNat, v1045.toNat]
def k0_mult5 (v1046 : BitVec 32) : BitVec 32 :=
  v1046

def k0_off30 (v1046 : BitVec 32) : Fin 2 → Nat :=
  let v1047 : BitVec 32 := v1046
  let v1048 : Index := Scalar.indexCast v1047
  let c0_675 : Index := 0#32
  ![v1048.toNat, 0]

def k0_chk2 (v1046 : BitVec 32) : Prop :=
  (2 ∣ (k0_mult5 v1046).toNat) ∧
  (∀ a, (k0_off30 v1046) a + S2x128.size a ≤ S24832x128.size a)
theorem k0_mult5_dvd : ∀ (v1046 : BitVec 32) (k0_hw2 : k0_chk2 v1046), 2 ∣ (k0_mult5 v1046).toNat := fun v1046 k0_hw2 => k0_hw2.1
theorem k0_off30_inb : ∀ (v1046 : BitVec 32) (k0_hw2 : k0_chk2 v1046), ∀ a, (k0_off30 v1046) a + S2x128.size a ≤ S24832x128.size a := fun v1046 k0_hw2 => k0_hw2.2

def k0_mult6 (k0_t7 : Fin k0_t7_loop.trips) : BitVec 32 :=
  let c2_i32_676 : BitVec 32 := 2#32
  let c0_i32_672 : BitVec 32 := 0#32
  let c1_i32_673 : BitVec 32 := 1#32
  let arg19 : BitVec 32 := Scf.iv c0_i32_672 c1_i32_673 k0_t7
  let v1050 : BitVec 32 := Scalar.muli c2_i32_676 arg19
  v1050
def k0_off31 (k0_t6 : Fin k0_t6_loop.trips) (k0_t7 : Fin k0_t7_loop.trips) : Fin 3 → Nat :=
  let c0_i32_406 : BitVec 32 := 0#32
  let c1_i32_408 : BitVec 32 := 1#32
  let arg18 : BitVec 32 := Scf.iv c0_i32_406 c1_i32_408 k0_t6
  let v1052 : Index := Scalar.indexCast arg18
  let c2_i32_676 : BitVec 32 := 2#32
  let c0_i32_672 : BitVec 32 := 0#32
  let c1_i32_673 : BitVec 32 := 1#32
  let arg19 : BitVec 32 := Scf.iv c0_i32_672 c1_i32_673 k0_t7
  let v1050 : BitVec 32 := Scalar.muli c2_i32_676 arg19
  let v1051 : BitVec 32 := v1050
  let v1053 : Index := Scalar.indexCast v1051
  let c0_677 : Index := 0#32
  ![v1052.toNat, v1053.toNat, 0]
def k0_off32 (k0_t3 : Fin k0_t3_loop.trips) : Fin 4 → Nat :=
  let c107_i32_412 : BitVec 32 := 107#32
  let c0_i32_411 : BitVec 32 := 0#32
  let c2_i32_381 : BitVec 32 := 2#32
  let c0_i32_97 : BitVec 32 := 0#32
  let c1_i32_98 : BitVec 32 := 1#32
  let arg17 : BitVec 32 := Scf.iv c0_i32_97 c1_i32_98 k0_t3
  let v604 : BitVec 32 := Scalar.muli c2_i32_381 arg17
  let c1_i32_382 : BitVec 32 := 1#32
  let v605 : BitVec 32 := Scalar.addi v604 c1_i32_382
  let c1_i32_410 : BitVec 32 := 1#32
  let v635 : BitVec 32 := Scalar.subi v605 c1_i32_410
  let v636 : BitVec 32 := Scalar.maxsi c0_i32_411 v635
  let v637 : BitVec 32 := Scalar.minsi c107_i32_412 v636
  let c0_i32_416 : BitVec 32 := 0#32
  let c0_i32_417 : BitVec 32 := 0#32
  let c0_i32_418 : BitVec 32 := 0#32
  ![v637.toNat, 0, 0, 0]
def k0_cond2 (k0_t3 : Fin k0_t3_loop.trips) : BitVec 1 :=
  let c2_i32_381 : BitVec 32 := 2#32
  let c0_i32_97 : BitVec 32 := 0#32
  let c1_i32_98 : BitVec 32 := 1#32
  let arg17 : BitVec 32 := Scf.iv c0_i32_97 c1_i32_98 k0_t3
  let v604 : BitVec 32 := Scalar.muli c2_i32_381 arg17
  let c1_i32_382 : BitVec 32 := 1#32
  let v605 : BitVec 32 := Scalar.addi v604 c1_i32_382
  let c2_i32_383 : BitVec 32 := 2#32
  let v606 : BitVec 32 := Scalar.subi v605 c2_i32_383
  let c0_i32_384 : BitVec 32 := 0#32
  let v607 : BitVec 32 := Scalar.maxsi v606 c0_i32_384
  let c9_i32_385 : BitVec 32 := 9#32
  let v608 : BitVec 32 := Scalar.remsi v607 c9_i32_385
  let c8_i32_669 : BitVec 32 := 8#32
  let v1038 : BitVec 1 := Scalar.cmpi .eq v608 c8_i32_669
  let c2_i32_670 : BitVec 32 := 2#32
  let v1039 : BitVec 1 := Scalar.cmpi .sge v605 c2_i32_670
  let v1040 : BitVec 1 := Scalar.andi v1038 v1039
  let v1041 : BitVec 32 := Scalar.extui v1040
  let c0_i32_671 : BitVec 32 := 0#32
  let v1042 : BitVec 1 := Scalar.cmpi .ne v1041 c0_i32_671
  v1042

def k0_mult7 (k0_t3 : Fin k0_t3_loop.trips) : BitVec 32 :=
  let c2_i32_381 : BitVec 32 := 2#32
  let c0_i32_97 : BitVec 32 := 0#32
  let c1_i32_98 : BitVec 32 := 1#32
  let arg17 : BitVec 32 := Scf.iv c0_i32_97 c1_i32_98 k0_t3
  let v604 : BitVec 32 := Scalar.muli c2_i32_381 arg17
  let c1_i32_382 : BitVec 32 := 1#32
  let v605 : BitVec 32 := Scalar.addi v604 c1_i32_382
  let c2_i32_383 : BitVec 32 := 2#32
  let v606 : BitVec 32 := Scalar.subi v605 c2_i32_383
  let c0_i32_384 : BitVec 32 := 0#32
  let v607 : BitVec 32 := Scalar.maxsi v606 c0_i32_384
  let c9_i32_672 : BitVec 32 := 9#32
  let v1043 : BitVec 32 := Scalar.divsi v607 c9_i32_672
  let c128_i32 : BitVec 32 := 128#32
  let v1044 : BitVec 32 := Scalar.muli v1043 c128_i32
  v1044
def k0_off33 (k0_t3 : Fin k0_t3_loop.trips) : Fin 2 → Nat :=
  let c2_i32_381 : BitVec 32 := 2#32
  let c0_i32_97 : BitVec 32 := 0#32
  let c1_i32_98 : BitVec 32 := 1#32
  let arg17 : BitVec 32 := Scf.iv c0_i32_97 c1_i32_98 k0_t3
  let v604 : BitVec 32 := Scalar.muli c2_i32_381 arg17
  let c1_i32_382 : BitVec 32 := 1#32
  let v605 : BitVec 32 := Scalar.addi v604 c1_i32_382
  let c2_i32_383 : BitVec 32 := 2#32
  let v606 : BitVec 32 := Scalar.subi v605 c2_i32_383
  let c0_i32_384 : BitVec 32 := 0#32
  let v607 : BitVec 32 := Scalar.maxsi v606 c0_i32_384
  let c9_i32_672 : BitVec 32 := 9#32
  let v1043 : BitVec 32 := Scalar.divsi v607 c9_i32_672
  let c128_i32 : BitVec 32 := 128#32
  let v1044 : BitVec 32 := Scalar.muli v1043 c128_i32
  let v1045 : BitVec 32 := v1044
  let v1054 : Index := Scalar.indexCast v1045
  let c0_679 : Index := 0#32
  ![v1054.toNat, 0]
abbrev stage0_0 : Fin 1 → Memref sig .tc .vmem S1536x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S108x8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S108x4x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x2048x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1536x2048 : Shape := ⟨2, ![1536, 2048]⟩
abbrev S108x8x128 : Shape := ⟨3, ![108, 8, 128]⟩
abbrev S108x4x8x128 : Shape := ⟨4, ![108, 4, 8, 128]⟩
abbrev S9x2048x1024 : Shape := ⟨3, ![9, 2048, 1024]⟩
abbrev S1x1024 : Shape := ⟨2, ![1, 1024]⟩
abbrev S4 : Shape := ⟨1, ![4]⟩
abbrev S12x9x4x8x128 : Shape := ⟨5, ![12, 9, 4, 8, 128]⟩
abbrev S4x12x128x9x8 : Shape := ⟨5, ![4, 12, 128, 9, 8]⟩
abbrev S4x1536x9x8 : Shape := ⟨4, ![4, 1536, 9, 8]⟩
abbrev S12x9x8x128 : Shape := ⟨4, ![12, 9, 8, 128]⟩
abbrev S12x128x9x8 : Shape := ⟨4, ![12, 128, 9, 8]⟩
abbrev S1x1536x9x8 : Shape := ⟨4, ![1, 1536, 9, 8]⟩
abbrev S4x1x1x1 : Shape := ⟨4, ![4, 1, 1, 1]⟩
abbrev S_ : Shape := ⟨0, ![]⟩
abbrev S1568x2048 : Shape := ⟨2, ![1568, 2048]⟩
abbrev S12544x256 : Shape := ⟨2, ![12544, 256]⟩
abbrev S4x1536x9x8x1 : Shape := ⟨5, ![4, 1536, 9, 8, 1]⟩
abbrev S4x1536x9x8x256 : Shape := ⟨5, ![4, 1536, 9, 8, 256]⟩
abbrev S4x1536x18432 : Shape := ⟨3, ![4, 1536, 18432]⟩
abbrev S1536x1024 : Shape := ⟨2, ![1536, 1024]⟩
abbrev S1536x18432 : Shape := ⟨2, ![1536, 18432]⟩
abbrev S18432x1024 : Shape := ⟨2, ![18432, 1024]⟩

abbrev nBuf : Space → Nat
  | .hbm => 40
  | .vmem => 6
  | .smem => 0
  | _ => 0

abbrev bufTy : (tb : Table) → Fin (tcTables nBuf tb) → BufTy
  | .hbm, ⟨0, _⟩ => ⟨S1536x2048, .i8⟩
  | .hbm, ⟨1, _⟩ => ⟨S108x8x128, .i32⟩
  | .hbm, ⟨2, _⟩ => ⟨S108x4x8x128, .f32⟩
  | .hbm, ⟨3, _⟩ => ⟨S9x2048x1024, .fp8e4m3⟩
  | .hbm, ⟨4, _⟩ => ⟨S1x1024, .f32⟩
  | .hbm, ⟨5, _⟩ => ⟨S1x1024, .f32⟩
  | .hbm, ⟨6, _⟩ => ⟨S4, .i32⟩
  | .hbm, ⟨7, _⟩ => ⟨S12x9x4x8x128, .f32⟩
  | .hbm, ⟨8, _⟩ => ⟨S4x12x128x9x8, .f32⟩
  | .hbm, ⟨9, _⟩ => ⟨S4x1536x9x8, .f32⟩
  | .hbm, ⟨10, _⟩ => ⟨S12x9x8x128, .i32⟩
  | .hbm, ⟨11, _⟩ => ⟨S12x128x9x8, .i32⟩
  | .hbm, ⟨12, _⟩ => ⟨S1x1536x9x8, .i32⟩
  | .hbm, ⟨13, _⟩ => ⟨S1x1536x9x8, .i32⟩
  | .hbm, ⟨14, _⟩ => ⟨S4x1x1x1, .i32⟩
  | .hbm, ⟨15, _⟩ => ⟨S_, .i32⟩
  | .hbm, ⟨16, _⟩ => ⟨S1x1536x9x8, .i32⟩
  | .hbm, ⟨17, _⟩ => ⟨S1x1536x9x8, .i32⟩
  | .hbm, ⟨18, _⟩ => ⟨S_, .i32⟩
  | .hbm, ⟨19, _⟩ => ⟨S1x1536x9x8, .i32⟩
  | .hbm, ⟨20, _⟩ => ⟨S1x1536x9x8, .i32⟩
  | .hbm, ⟨21, _⟩ => ⟨S1x1536x9x8, .i32⟩
  | .hbm, ⟨22, _⟩ => ⟨S4x1536x9x8, .i32⟩
  | .hbm, ⟨23, _⟩ => ⟨S4x1536x9x8, .i32⟩
  | .hbm, ⟨24, _⟩ => ⟨S4x1536x9x8, .i32⟩
  | .hbm, ⟨25, _⟩ => ⟨S_, .i8⟩
  | .hbm, ⟨26, _⟩ => ⟨S1568x2048, .i8⟩
  | .hbm, ⟨27, _⟩ => ⟨S12544x256, .i8⟩
  | .hbm, ⟨28, _⟩ => ⟨S_, .i32⟩
  | .hbm, ⟨29, _⟩ => ⟨S4x1536x9x8, .i32⟩
  | .hbm, ⟨30, _⟩ => ⟨S4x1536x9x8, .i32⟩
  | .hbm, ⟨31, _⟩ => ⟨S4x1536x9x8, .i32⟩
  | .hbm, ⟨32, _⟩ => ⟨S4x1536x9x8, .i32⟩
  | .hbm, ⟨33, _⟩ => ⟨S4x1536x9x8x1, .i32⟩
  | .hbm, ⟨34, _⟩ => ⟨S4x1536x9x8x256, .i8⟩
  | .hbm, ⟨35, _⟩ => ⟨S4x1536x9x8x1, .f32⟩
  | .hbm, ⟨36, _⟩ => ⟨S4x1536x9x8x256, .f32⟩
  | .hbm, ⟨37, _⟩ => ⟨S4x1536x18432, .i8⟩
  | .hbm, ⟨38, _⟩ => ⟨S4x1536x18432, .f32⟩
  | .hbm, ⟨39, _⟩ => ⟨S1536x1024, .bf16⟩
  | .local _ .vmem, ⟨0, _⟩ => ⟨S4x1536x18432, .i8⟩
  | .local _ .vmem, ⟨1, _⟩ => ⟨S4x1536x18432, .f32⟩
  | .local _ .vmem, ⟨2, _⟩ => ⟨S9x2048x1024, .fp8e4m3⟩
  | .local _ .vmem, ⟨3, _⟩ => ⟨S1x1024, .f32⟩
  | .local _ .vmem, ⟨4, _⟩ => ⟨S1x1024, .f32⟩
  | .local _ .vmem, ⟨5, _⟩ => ⟨S1536x1024, .bf16⟩
  | _, _ => ⟨S1536x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x1536x18432 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1536x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x2048x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Offsets.lean ====
abbrev S1 : Shape := ⟨1, ![1]⟩
abbrev S1536x2048 : Shape := ⟨2, ![1536, 2048]⟩
abbrev S9x2048x216 : Shape := ⟨3, ![9, 2048, 216]⟩
abbrev S2x1x128 : Shape := ⟨3, ![2, 1, 128]⟩
abbrev S12x9x8x128 : Shape := ⟨4, ![12, 9, 8, 128]⟩
abbrev S12x9x4x8x128 : Shape := ⟨5, ![12, 9, 4, 8, 128]⟩
abbrev S2x1568x128 : Shape := ⟨3, ![2, 1568, 128]⟩
abbrev S2x1536x128 : Shape := ⟨3, ![2, 1536, 128]⟩
abbrev S256x128 : Shape := ⟨2, ![256, 128]⟩
abbrev S2x16x128 : Shape := ⟨3, ![2, 16, 128]⟩
abbrev S128x128 : Shape := ⟨2, ![128, 128]⟩
abbrev S128x2048 : Shape := ⟨2, ![128, 2048]⟩
abbrev S1x2048x216 : Shape := ⟨3, ![1, 2048, 216]⟩
abbrev S2048x216 : Shape := ⟨2, ![2048, 216]⟩
abbrev S128x216 : Shape := ⟨2, ![128, 216]⟩
abbrev S1x128x128 : Shape := ⟨3, ![1, 128, 128]⟩
abbrev S128x88 : Shape := ⟨2, ![128, 88]⟩
abbrev S1x128x88 : Shape := ⟨3, ![1, 128, 88]⟩
abbrev S8x128 : Shape := ⟨2, ![8, 128]⟩
abbrev S1x1x128 : Shape := ⟨3, ![1, 1, 128]⟩
abbrev S1x128 : Shape := ⟨2, ![1, 128]⟩
abbrev S1x1x8x128 : Shape := ⟨4, ![1, 1, 8, 128]⟩
abbrev S1x1x1x8x128 : Shape := ⟨5, ![1, 1, 1, 8, 128]⟩

abbrev nBuf : Space → Nat
  | .hbm => 6
  | .vmem => 8
  | .smem => 1
  | _ => 0

abbrev bufTy : (tb : Table) → Fin (tcTables nBuf tb) → BufTy
  | .hbm, ⟨0, _⟩ => ⟨S1, .f32⟩
  | .hbm, ⟨1, _⟩ => ⟨S1536x2048, .fp8e4m3⟩
  | .hbm, ⟨2, _⟩ => ⟨S9x2048x216, .bf16⟩
  | .hbm, ⟨3, _⟩ => ⟨S2x1x128, .f32⟩
  | .hbm, ⟨4, _⟩ => ⟨S12x9x8x128, .i32⟩
  | .hbm, ⟨5, _⟩ => ⟨S12x9x4x8x128, .f32⟩
  | .local _ .vmem, ⟨0, _⟩ => ⟨S1536x2048, .fp8e4m3⟩
  | .local _ .vmem, ⟨1, _⟩ => ⟨S9x2048x216, .bf16⟩
  | .local _ .vmem, ⟨2, _⟩ => ⟨S2x1x128, .f32⟩
  | .local _ .vmem, ⟨3, _⟩ => ⟨S12x9x8x128, .i32⟩
  | .local _ .vmem, ⟨4, _⟩ => ⟨S12x9x4x8x128, .f32⟩
  | .local _ .vmem, ⟨5, _⟩ => ⟨S2x1568x128, .f32⟩
  | .local _ .vmem, ⟨6, _⟩ => ⟨S2x1536x128, .f32⟩
  | .local _ .vmem, ⟨7, _⟩ => ⟨S256x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c12_i32 : BitVec 32 := 12#32
  let v9 : BitVec 32 := Scalar.addi c0_i32 c12_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v31 : BitVec 32 := Scalar.muli arg9 c128_i32
  v31
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v31 : BitVec 32 := Scalar.muli arg9 c128_i32
  let v32 : BitVec 32 := v31
  let v33 : Index := Scalar.indexCast v32
  let c0_79 : Index := 0#32
  ![v33.toNat, 0]
def k0_off2 (k0_t1 : Fin k0_t1_loop.trips) : Fin 3 → Nat :=
  let c0_84 : Index := 0#32
  let c16_i32 : BitVec 32 := 16#32
  let c0_i32 : BitVec 32 := 0#32
  let c1_i32 : BitVec 32 := 1#32
  let arg9 : BitVec 32 := Scf.iv c0_i32 c1_i32 k0_t1
  let c128_i32 : BitVec 32 := 128#32
  let v31 : BitVec 32 := Scalar.muli arg9 c128_i32
  let v32 : BitVec 32 := v31
  let v40 : BitVec 32 := Scalar.addi c16_i32 v32
  let v41 : Index := Scalar.indexCast v40
  let c0_85 : Index := 0#32
  ![0, v41.toNat, 0]
def k0_off3 (k0_t1 : Fin k0_t1_loop.trips) : Fin 3 → Nat :=
  let c1 : Index := 1#32
  let c16_i32_86 : BitVec 32 := 16#32
  let c0_i32 : BitVec 32 := 0#32
  let c1_i32 : BitVec 32 := 1#32
  let arg9 : BitVec 32 := Scf.iv c0_i32 c1_i32 k0_t1
  let c128_i32 : BitVec 32 := 128#32
  let v31 : BitVec 32 := Scalar.muli arg9 c128_i32
  let v32 : BitVec 32 := v31
  let v46 : BitVec 32 := Scalar.addi c16_i32_86 v32
  let v47 : Index := Scalar.indexCast v46
  let c0_87 : Index := 0#32
  ![1, v47.toNat, 0]
@[reducible] def k0_t2_loop : Scf.Loop 32 :=
  let c0_i32_6 : BitVec 32 := 0#32
  let c12_i32_7 : BitVec 32 := 12#32
  let v10 : BitVec 32 := Scalar.addi c0_i32_6 c12_i32_7
  let c1_i32_8 : BitVec 32 := 1#32
  ⟨c0_i32_6, v10, c1_i32_8⟩
def k0_off4 (k0_t2 : Fin k0_t2_loop.trips) : Fin 3 → Nat :=
  let c0_82 : Index := 0#32
  let c0_i32_6 : BitVec 32 := 0#32
  let c1_i32_8 : BitVec 32 := 1#32
  let arg9 : BitVec 32 := Scf.iv c0_i32_6 c1_i32_8 k0_t2
  let c128_i32 : BitVec 32 := 128#32
  let v31 : BitVec 32 := Scalar.muli arg9 c128_i32
  let c3_i32 : BitVec 32 := 3#32
  let v43 : BitVec 32 := Scalar.addi v31 c3_i32
  let v44 : Index := Scalar.indexCast v43
  let c0_83 : Index := 0#32
  ![0, v44.toNat, 0]
def k0_mult2 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c128_i32 : BitVec 32 := 128#32
  let v31 : BitVec 32 := Scalar.muli arg9 c128_i32
  v31
def k0_off5 (k0_t2 : Fin k0_t2_loop.trips) : Fin 3 → Nat :=
  let c0_85 : Index := 0#32
  let c0_i32_6 : BitVec 32 := 0#32
  let c1_i32_8 : BitVec 32 := 1#32
  let arg9 : BitVec 32 := Scf.iv c0_i32_6 c1_i32_8 k0_t2
  let c128_i32 : BitVec 32 := 128#32
  let v31 : BitVec 32 := Scalar.muli arg9 c128_i32
  let v49 : BitVec 32 := v31
  let v50 : Index := Scalar.indexCast v49
  let c0_86 : Index := 0#32
  ![0, v50.toNat, 0]
def k0_off6 (k0_t2 : Fin k0_t2_loop.trips) : Fin 3 → Nat :=
  let c1 : Index := 1#32
  let c0_i32_6 : BitVec 32 := 0#32
  let c1_i32_8 : BitVec 32 := 1#32
  let arg9 : BitVec 32 := Scf.iv c0_i32_6 c1_i32_8 k0_t2
  let c128_i32 : BitVec 32 := 128#32
  let v31 : BitVec 32 := Scalar.muli arg9 c128_i32
  let c3_i32_87 : BitVec 32 := 3#32
  let v54 : BitVec 32 := Scalar.addi v31 c3_i32_87
  let v55 : Index := Scalar.indexCast v54
  let c0_88 : Index := 0#32
  ![1, v55.toNat, 0]
def k0_mult3 (k0_t2 : Fin k0_t2_loop.trips) : BitVec 32 :=
  let c0_i32_6 : BitVec 32 := 0#32
  let c1_i32_8 : BitVec 32 := 1#32
  let arg9 : BitVec 32 := Scf.iv c0_i32_6 c1_i32_8 k0_t2
  let c128_i32 : BitVec 32 := 128#32
  let v31 : BitVec 32 := Scalar.muli arg9 c128_i32
  v31
def k0_off7 (k0_t2 : Fin k0_t2_loop.trips) : Fin 3 → Nat :=
  let c1_90 : Index := 1#32
  let c0_i32_6 : BitVec 32 := 0#32
  let c1_i32_8 : BitVec 32 := 1#32
  let arg9 : BitVec 32 := Scf.iv c0_i32_6 c1_i32_8 k0_t2
  let c128_i32 : BitVec 32 := 128#32
  let v31 : BitVec 32 := Scalar.muli arg9 c128_i32
  let v60 : BitVec 32 := v31
  let v61 : Index := Scalar.indexCast v60
  let c0_91 : Index := 0#32
  ![1, v61.toNat, 0]
@[reducible] def k0_t3_loop : Scf.Loop 32 :=
  let c0_i32_10 : BitVec 32 := 0#32
  let c12_i32_11 : BitVec 32 := 12#32
  let v11 : BitVec 32 := Scalar.addi c0_i32_10 c12_i32_11
  let c1_i32_12 : BitVec 32 := 1#32
  ⟨c0_i32_10, v11, c1_i32_12⟩
def k0_mult4 (k0_t3 : Fin k0_t3_loop.trips) : BitVec 32 :=
  let c0_i32_10 : BitVec 32 := 0#32
  let c1_i32_12 : BitVec 32 := 1#32
  let arg9 : BitVec 32 := Scf.iv c0_i32_10 c1_i32_12 k0_t3
  let c128_i32 : BitVec 32 := 128#32
  let v31 : BitVec 32 := Scalar.muli arg9 c128_i32
  v31
def k0_off8 (k0_t3 : Fin k0_t3_loop.trips) : Fin 2 → Nat :=
  let c0_i32_10 : BitVec 32 := 0#32
  let c1_i32_12 : BitVec 32 := 1#32
  let arg9 : BitVec 32 := Scf.iv c0_i32_10 c1_i32_12 k0_t3
  let c128_i32 : BitVec 32 := 128#32
  let v31 : BitVec 32 := Scalar.muli arg9 c128_i32
  let v32 : BitVec 32 := v31
  let v33 : Index := Scalar.indexCast v32
  let c0_79 : Index := 0#32
  ![v33.toNat, 0]
def k0_off9 (k0_t3 : Fin k0_t3_loop.trips) : Fin 3 → Nat :=
  let c0_83 : Index := 0#32
  let c16_i32 : BitVec 32 := 16#32
  let c0_i32_10 : BitVec 32 := 0#32
  let c1_i32_12 : BitVec 32 := 1#32
  let arg9 : BitVec 32 := Scf.iv c0_i32_10 c1_i32_12 k0_t3
  let c128_i32 : BitVec 32 := 128#32
  let v31 : BitVec 32 := Scalar.muli arg9 c128_i32
  let v32 : BitVec 32 := v31
  let v40 : BitVec 32 := Scalar.addi c16_i32 v32
  let v41 : Index := Scalar.indexCast v40
  let c0_84 : Index := 0#32
  ![0, v41.toNat, 0]
def k0_off10 (k0_t3 : Fin k0_t3_loop.trips) : Fin 3 → Nat :=
  let c1_86 : Index := 1#32
  let c16_i32_85 : BitVec 32 := 16#32
  let c0_i32_10 : BitVec 32 := 0#32
  let c1_i32_12 : BitVec 32 := 1#32
  let arg9 : BitVec 32 := Scf.iv c0_i32_10 c1_i32_12 k0_t3
  let c128_i32 : BitVec 32 := 128#32
  let v31 : BitVec 32 := Scalar.muli arg9 c128_i32
  let v32 : BitVec 32 := v31
  let v46 : BitVec 32 := Scalar.addi c16_i32_85 v32
  let v47 : Index := Scalar.indexCast v46
  let c0_87 : Index := 0#32
  ![1, v47.toNat, 0]
@[reducible] def k0_t4_loop : Scf.Loop 32 :=
  let c0_i32_14 : BitVec 32 := 0#32
  let c12_i32_15 : BitVec 32 := 12#32
  let v12 : BitVec 32 := Scalar.addi c0_i32_14 c12_i32_15
  let c1_i32_16 : BitVec 32 := 1#32
  ⟨c0_i32_14, v12, c1_i32_16⟩
def k0_off11 (k0_t4 : Fin k0_t4_loop.trips) : Fin 3 → Nat :=
  let c0_83 : Index := 0#32
  let c0_i32_14 : BitVec 32 := 0#32
  let c1_i32_16 : BitVec 32 := 1#32
  let arg9 : BitVec 32 := Scf.iv c0_i32_14 c1_i32_16 k0_t4
  let c128_i32 : BitVec 32 := 128#32
  let v31 : BitVec 32 := Scalar.muli arg9 c128_i32
  let c4_i32 : BitVec 32 := 4#32
  let v43 : BitVec 32 := Scalar.addi v31 c4_i32
  let v44 : Index := Scalar.indexCast v43
  let c0_84 : Index := 0#32
  ![0, v44.toNat, 0]
def k0_mult5 (k0_t4 : Fin k0_t4_loop.trips) : BitVec 32 :=
  let c0_i32_14 : BitVec 32 := 0#32
  let c1_i32_16 : BitVec 32 := 1#32
  let arg9 : BitVec 32 := Scf.iv c0_i32_14 c1_i32_16 k0_t4
  let c128_i32 : BitVec 32 := 128#32
  let v31 : BitVec 32 := Scalar.muli arg9 c128_i32
  v31
def k0_off12 (k0_t4 : Fin k0_t4_loop.trips) : Fin 3 → Nat :=
  let c0_86 : Index := 0#32
  let c0_i32_14 : BitVec 32 := 0#32
  let c1_i32_16 : BitVec 32 := 1#32
  let arg9 : BitVec 32 := Scf.iv c0_i32_14 c1_i32_16 k0_t4
  let c128_i32 : BitVec 32 := 128#32
  let v31 : BitVec 32 := Scalar.muli arg9 c128_i32
  let v49 : BitVec 32 := v31
  let v50 : Index := Scalar.indexCast v49
  let c0_87 : Index := 0#32
  ![0, v50.toNat, 0]
def k0_mult6 (k0_t4 : Fin k0_t4_loop.trips) : BitVec 32 :=
  let c0_i32_14 : BitVec 32 := 0#32
  let c1_i32_16 : BitVec 32 := 1#32
  let arg9 : BitVec 32 := Scf.iv c0_i32_14 c1_i32_16 k0_t4
  let c128_i32 : BitVec 32 := 128#32
  let v31 : BitVec 32 := Scalar.muli arg9 c128_i32
  v31
def k0_off13 (k0_t4 : Fin k0_t4_loop.trips) : Fin 3 → Nat :=
  let c1 : Index := 1#32
  let c0_i32_14 : BitVec 32 := 0#32
  let c1_i32_16 : BitVec 32 := 1#32
  let arg9 : BitVec 32 := Scf.iv c0_i32_14 c1_i32_16 k0_t4
  let c128_i32 : BitVec 32 := 128#32
  let v31 : BitVec 32 := Scalar.muli arg9 c128_i32
  let c4_i32_90 : BitVec 32 := 4#32
  let v59 : BitVec 32 := Scalar.addi v31 c4_i32_90
  let v60 : Index := Scalar.indexCast v59
  let c0_91 : Index := 0#32
  ![1, v60.toNat, 0]
def k0_mult7 (k0_t4 : Fin k0_t4_loop.trips) : BitVec 32 :=
  let c0_i32_14 : BitVec 32 := 0#32
  let c1_i32_16 : BitVec 32 := 1#32
  let arg9 : BitVec 32 := Scf.iv c0_i32_14 c1_i32_16 k0_t4
  let c128_i32 : BitVec 32 := 128#32
  let v31 : BitVec 32 := Scalar.muli arg9 c128_i32
  v31
def k0_off14 (k0_t4 : Fin k0_t4_loop.trips) : Fin 3 → Nat :=
  let c1_93 : Index := 1#32
  let c0_i32_14 : BitVec 32 := 0#32
  let c1_i32_16 : BitVec 32 := 1#32
  let arg9 : BitVec 32 := Scf.iv c0_i32_14 c1_i32_16 k0_t4
  let c128_i32 : BitVec 32 := 128#32
  let v31 : BitVec 32 := Scalar.muli arg9 c128_i32
  let v65 : BitVec 32 := v31
  let v66 : Index := Scalar.indexCast v65
  let c0_94 : Index := 0#32
  ![1, v66.toNat, 0]
def k0_mult8 (k0_t4 : Fin k0_t4_loop.trips) : BitVec 32 :=
  let c0_i32_14 : BitVec 32 := 0#32
  let c1_i32_16 : BitVec 32 := 1#32
  let arg9 : BitVec 32 := Scf.iv c0_i32_14 c1_i32_16 k0_t4
  let c128_i32 : BitVec 32 := 128#32
  let v31 : BitVec 32 := Scalar.muli arg9 c128_i32
  v31
@[reducible] def k0_t5_loop : Scf.Loop 32 :=
  let c0_i32_18 : BitVec 32 := 0#32
  let c12_i32_19 : BitVec 32 := 12#32
  let v13 : BitVec 32 := Scalar.addi c0_i32_18 c12_i32_19
  let c1_i32_20 : BitVec 32 := 1#32
  ⟨c0_i32_18, v13, c1_i32_20⟩
def k0_mult9 (k0_t5 : Fin k0_t5_loop.trips) : BitVec 32 :=
  let c0_i32_18 : BitVec 32 := 0#32
  let c1_i32_20 : BitVec 32 := 1#32
  let arg9 : BitVec 32 := Scf.iv c0_i32_18 c1_i32_20 k0_t5
  let c128_i32 : BitVec 32 := 128#32
  let v31 : BitVec 32 := Scalar.muli arg9 c128_i32
  v31
def k0_off15 (k0_t5 : Fin k0_t5_loop.trips) : Fin 2 → Nat :=
  let c0_i32_18 : BitVec 32 := 0#32
  let c1_i32_20 : BitVec 32 := 1#32
  let arg9 : BitVec 32 := Scf.iv c0_i32_18 c1_i32_20 k0_t5
  let c128_i32 : BitVec 32 := 128#32
  let v31 : BitVec 32 := Scalar.muli arg9 c128_i32
  let v32 : BitVec 32 := v31
  let v33 : Index := Scalar.indexCast v32
  let c0_79 : Index := 0#32
  ![v33.toNat, 0]
def k0_off16 (k0_t5 : Fin k0_t5_loop.trips) : Fin 3 → Nat :=
  let c0_83 : Index := 0#32
  let c16_i32 : BitVec 32 := 16#32
  let c0_i32_18 : BitVec 32 := 0#32
  let c1_i32_20 : BitVec 32 := 1#32
  let arg9 : BitVec 32 := Scf.iv c0_i32_18 c1_i32_20 k0_t5
  let c128_i32 : BitVec 32 := 128#32
  let v31 : BitVec 32 := Scalar.muli arg9 c128_i32
  let v32 : BitVec 32 := v31
  let v40 : BitVec 32 := Scalar.addi c16_i32 v32
  let v41 : Index := Scalar.indexCast v40
  let c0_84 : Index := 0#32
  ![0, v41.toNat, 0]
def k0_off17 (k0_t5 : Fin k0_t5_loop.trips) : Fin 3 → Nat :=
  let c1 : Index := 1#32
  let c16_i32_85 : BitVec 32 := 16#32
  let c0_i32_18 : BitVec 32 := 0#32
  let c1_i32_20 : BitVec 32 := 1#32
  let arg9 : BitVec 32 := Scf.iv c0_i32_18 c1_i32_20 k0_t5
  let c128_i32 : BitVec 32 := 128#32
  let v31 : BitVec 32 := Scalar.muli arg9 c128_i32
  let v32 : BitVec 32 := v31
  let v46 : BitVec 32 := Scalar.addi c16_i32_85 v32
  let v47 : Index := Scalar.indexCast v46
  let c0_86 : Index := 0#32
  ![1, v47.toNat, 0]
@[reducible] def k0_t6_loop : Scf.Loop 32 :=
  let c0_i32_22 : BitVec 32 := 0#32
  let c12_i32_23 : BitVec 32 := 12#32
  let v14 : BitVec 32 := Scalar.addi c0_i32_22 c12_i32_23
  let c1_i32_24 : BitVec 32 := 1#32
  ⟨c0_i32_22, v14, c1_i32_24⟩
def k0_off18 (k0_t6 : Fin k0_t6_loop.trips) : Fin 3 → Nat :=
  let c0_83 : Index := 0#32
  let c0_i32_22 : BitVec 32 := 0#32
  let c1_i32_24 : BitVec 32 := 1#32
  let arg9 : BitVec 32 := Scf.iv c0_i32_22 c1_i32_24 k0_t6
  let c128_i32 : BitVec 32 := 128#32
  let v31 : BitVec 32 := Scalar.muli arg9 c128_i32
  let c5_i32 : BitVec 32 := 5#32
  let v43 : BitVec 32 := Scalar.addi v31 c5_i32
  let v44 : Index := Scalar.indexCast v43
  let c0_84 : Index := 0#32
  ![0, v44.toNat, 0]
def k0_mult10 (k0_t6 : Fin k0_t6_loop.trips) : BitVec 32 :=
  let c0_i32_22 : BitVec 32 := 0#32
  let c1_i32_24 : BitVec 32 := 1#32
  let arg9 : BitVec 32 := Scf.iv c0_i32_22 c1_i32_24 k0_t6
  let c128_i32 : BitVec 32 := 128#32
  let v31 : BitVec 32 := Scalar.muli arg9 c128_i32
  v31
def k0_off19 (k0_t6 : Fin k0_t6_loop.trips) : Fin 3 → Nat :=
  let c0_86 : Index := 0#32
  let c0_i32_22 : BitVec 32 := 0#32
  let c1_i32_24 : BitVec 32 := 1#32
  let arg9 : BitVec 32 := Scf.iv c0_i32_22 c1_i32_24 k0_t6
  let c128_i32 : BitVec 32 := 128#32
  let v31 : BitVec 32 := Scalar.muli arg9 c128_i32
  let v49 : BitVec 32 := v31
  let v50 : Index := Scalar.indexCast v49
  let c0_87 : Index := 0#32
  ![0, v50.toNat, 0]
def k0_mult11 (k0_t6 : Fin k0_t6_loop.trips) : BitVec 32 :=
  let c0_i32_22 : BitVec 32 := 0#32
  let c1_i32_24 : BitVec 32 := 1#32
  let arg9 : BitVec 32 := Scf.iv c0_i32_22 c1_i32_24 k0_t6
  let c128_i32 : BitVec 32 := 128#32
  let v31 : BitVec 32 := Scalar.muli arg9 c128_i32
  v31
def k0_off20 (k0_t6 : Fin k0_t6_loop.trips) : Fin 3 → Nat :=
  let c1 : Index := 1#32
  let c0_i32_22 : BitVec 32 := 0#32
  let c1_i32_24 : BitVec 32 := 1#32
  let arg9 : BitVec 32 := Scf.iv c0_i32_22 c1_i32_24 k0_t6
  let c128_i32 : BitVec 32 := 128#32
  let v31 : BitVec 32 := Scalar.muli arg9 c128_i32
  let c5_i32_90 : BitVec 32 := 5#32
  let v59 : BitVec 32 := Scalar.addi v31 c5_i32_90
  let v60 : Index := Scalar.indexCast v59
  let c0_91 : Index := 0#32
  ![1, v60.toNat, 0]
def k0_mult12 (k0_t6 : Fin k0_t6_loop.trips) : BitVec 32 :=
  let c0_i32_22 : BitVec 32 := 0#32
  let c1_i32_24 : BitVec 32 := 1#32
  let arg9 : BitVec 32 := Scf.iv c0_i32_22 c1_i32_24 k0_t6
  let c128_i32 : BitVec 32 := 128#32
  let v31 : BitVec 32 := Scalar.muli arg9 c128_i32
  v31
def k0_off21 (k0_t6 : Fin k0_t6_loop.trips) : Fin 3 → Nat :=
  let c1_93 : Index := 1#32
  let c0_i32_22 : BitVec 32 := 0#32
  let c1_i32_24 : BitVec 32 := 1#32
  let arg9 : BitVec 32 := Scf.iv c0_i32_22 c1_i32_24 k0_t6
  let c128_i32 : BitVec 32 := 128#32
  let v31 : BitVec 32 := Scalar.muli arg9 c128_i32
  let v65 : BitVec 32 := v31
  let v66 : Index := Scalar.indexCast v65
  let c0_94 : Index := 0#32
  ![1, v66.toNat, 0]
def k0_mult13 (k0_t6 : Fin k0_t6_loop.trips) : BitVec 32 :=
  let c0_i32_22 : BitVec 32 := 0#32
  let c1_i32_24 : BitVec 32 := 1#32
  let arg9 : BitVec 32 := Scf.iv c0_i32_22 c1_i32_24 k0_t6
  let c128_i32 : BitVec 32 := 128#32
  let v31 : BitVec 32 := Scalar.muli arg9 c128_i32
  v31
@[reducible] def k0_t7_loop : Scf.Loop 32 :=
  let c0_i32_26 : BitVec 32 := 0#32
  let c12_i32_27 : BitVec 32 := 12#32
  let v15 : BitVec 32 := Scalar.addi c0_i32_26 c12_i32_27
  let c1_i32_28 : BitVec 32 := 1#32
  ⟨c0_i32_26, v15, c1_i32_28⟩
def k0_mult14 (k0_t7 : Fin k0_t7_loop.trips) : BitVec 32 :=
  let c0_i32_26 : BitVec 32 := 0#32
  let c1_i32_28 : BitVec 32 := 1#32
  let arg9 : BitVec 32 := Scf.iv c0_i32_26 c1_i32_28 k0_t7
  let c128_i32 : BitVec 32 := 128#32
  let v31 : BitVec 32 := Scalar.muli arg9 c128_i32
  v31
def k0_off22 (k0_t7 : Fin k0_t7_loop.trips) : Fin 2 → Nat :=
  let c0_i32_26 : BitVec 32 := 0#32
  let c1_i32_28 : BitVec 32 := 1#32
  let arg9 : BitVec 32 := Scf.iv c0_i32_26 c1_i32_28 k0_t7
  let c128_i32 : BitVec 32 := 128#32
  let v31 : BitVec 32 := Scalar.muli arg9 c128_i32
  let v32 : BitVec 32 := v31
  let v33 : Index := Scalar.indexCast v32
  let c0_79 : Index := 0#32
  ![v33.toNat, 0]
def k0_off23 (k0_t7 : Fin k0_t7_loop.trips) : Fin 3 → Nat :=
  let c0_83 : Index := 0#32
  let c16_i32 : BitVec 32 := 16#32
  let c0_i32_26 : BitVec 32 := 0#32
  let c1_i32_28 : BitVec 32 := 1#32
  let arg9 : BitVec 32 := Scf.iv c0_i32_26 c1_i32_28 k0_t7
  let c128_i32 : BitVec 32 := 128#32
  let v31 : BitVec 32 := Scalar.muli arg9 c128_i32
  let v32 : BitVec 32 := v31
  let v40 : BitVec 32 := Scalar.addi c16_i32 v32
  let v41 : Index := Scalar.indexCast v40
  let c0_84 : Index := 0#32
  ![0, v41.toNat, 0]
def k0_off24 (k0_t7 : Fin k0_t7_loop.trips) : Fin 3 → Nat :=
  let c1 : Index := 1#32
  let c16_i32_85 : BitVec 32 := 16#32
  let c0_i32_26 : BitVec 32 := 0#32
  let c1_i32_28 : BitVec 32 := 1#32
  let arg9 : BitVec 32 := Scf.iv c0_i32_26 c1_i32_28 k0_t7
  let c128_i32 : BitVec 32 := 128#32
  let v31 : BitVec 32 := Scalar.muli arg9 c128_i32
  let v32 : BitVec 32 := v31
  let v46 : BitVec 32 := Scalar.addi c16_i32_85 v32
  let v47 : Index := Scalar.indexCast v46
  let c0_86 : Index := 0#32
  ![1, v47.toNat, 0]
@[reducible] def k0_t8_loop : Scf.Loop 32 :=
  let c0_i32_30 : BitVec 32 := 0#32
  let c12_i32_31 : BitVec 32 := 12#32
  let v16 : BitVec 32 := Scalar.addi c0_i32_30 c12_i32_31
  let c1_i32_32 : BitVec 32 := 1#32
  ⟨c0_i32_30, v16, c1_i32_32⟩
def k0_off25 (k0_t8 : Fin k0_t8_loop.trips) : Fin 3 → Nat :=
  let c0_82 : Index := 0#32
  let c0_i32_30 : BitVec 32 := 0#32
  let c1_i32_32 : BitVec 32 := 1#32
  let arg9 : BitVec 32 := Scf.iv c0_i32_30 c1_i32_32 k0_t8
  let c128_i32 : BitVec 32 := 128#32
  let v31 : BitVec 32 := Scalar.muli arg9 c128_i32
  let c15_i32 : BitVec 32 := 15#32
  let v43 : BitVec 32 := Scalar.addi v31 c15_i32
  let v44 : Index := Scalar.indexCast v43
  let c0_83 : Index := 0#32
  ![0, v44.toNat, 0]
def k0_mult15 (k0_t8 : Fin k0_t8_loop.trips) : BitVec 32 :=
  let c0_i32_30 : BitVec 32 := 0#32
  let c1_i32_32 : BitVec 32 := 1#32
  let arg9 : BitVec 32 := Scf.iv c0_i32_30 c1_i32_32 k0_t8
  let c128_i32 : BitVec 32 := 128#32
  let v31 : BitVec 32 := Scalar.muli arg9 c128_i32
  v31
def k0_off26 (k0_t8 : Fin k0_t8_loop.trips) : Fin 3 → Nat :=
  let c0_85 : Index := 0#32
  let c0_i32_30 : BitVec 32 := 0#32
  let c1_i32_32 : BitVec 32 := 1#32
  let arg9 : BitVec 32 := Scf.iv c0_i32_30 c1_i32_32 k0_t8
  let c128_i32 : BitVec 32 := 128#32
  let v31 : BitVec 32 := Scalar.muli arg9 c128_i32
  let v49 : BitVec 32 := v31
  let v50 : Index := Scalar.indexCast v49
  let c0_86 : Index := 0#32
  ![0, v50.toNat, 0]
def k0_mult16 (k0_t8 : Fin k0_t8_loop.trips) : BitVec 32 :=
  let c0_i32_30 : BitVec 32 := 0#32
  let c1_i32_32 : BitVec 32 := 1#32
  let arg9 : BitVec 32 := Scf.iv c0_i32_30 c1_i32_32 k0_t8
  let c128_i32 : BitVec 32 := 128#32
  let v31 : BitVec 32 := Scalar.muli arg9 c128_i32
  v31
def k0_off27 (k0_t8 : Fin k0_t8_loop.trips) : Fin 3 → Nat :=
  let c1 : Index := 1#32
  let c0_i32_30 : BitVec 32 := 0#32
  let c1_i32_32 : BitVec 32 := 1#32
  let arg9 : BitVec 32 := Scf.iv c0_i32_30 c1_i32_32 k0_t8
  let c128_i32 : BitVec 32 := 128#32
  let v31 : BitVec 32 := Scalar.muli arg9 c128_i32
  let c15_i32_89 : BitVec 32 := 15#32
  let v59 : BitVec 32 := Scalar.addi v31 c15_i32_89
  let v60 : Index := Scalar.indexCast v59
  let c0_90 : Index := 0#32
  ![1, v60.toNat, 0]
def k0_mult17 (k0_t8 : Fin k0_t8_loop.trips) : BitVec 32 :=
  let c0_i32_30 : BitVec 32 := 0#32
  let c1_i32_32 : BitVec 32 := 1#32
  let arg9 : BitVec 32 := Scf.iv c0_i32_30 c1_i32_32 k0_t8
  let c128_i32 : BitVec 32 := 128#32
  let v31 : BitVec 32 := Scalar.muli arg9 c128_i32
  v31
def k0_off28 (k0_t8 : Fin k0_t8_loop.trips) : Fin 3 → Nat :=
  let c1_92 : Index := 1#32
  let c0_i32_30 : BitVec 32 := 0#32
  let c1_i32_32 : BitVec 32 := 1#32
  let arg9 : BitVec 32 := Scf.iv c0_i32_30 c1_i32_32 k0_t8
  let c128_i32 : BitVec 32 := 128#32
  let v31 : BitVec 32 := Scalar.muli arg9 c128_i32
  let v65 : BitVec 32 := v31
  let v66 : Index := Scalar.indexCast v65
  let c0_93 : Index := 0#32
  ![1, v66.toNat, 0]
def k0_mult18 (k0_t8 : Fin k0_t8_loop.trips) : BitVec 32 :=
  let c0_i32_30 : BitVec 32 := 0#32
  let c1_i32_32 : BitVec 32 := 1#32
  let arg9 : BitVec 32 := Scf.iv c0_i32_30 c1_i32_32 k0_t8
  let c128_i32 : BitVec 32 := 128#32
  let v31 : BitVec 32 := Scalar.muli arg9 c128_i32
  v31
@[reducible] def k0_t9_loop : Scf.Loop 32 :=
  let c0_i32_34 : BitVec 32 := 0#32
  let c12_i32_35 : BitVec 32 := 12#32
  let v17 : BitVec 32 := Scalar.addi c0_i32_34 c12_i32_35
  let c1_i32_36 : BitVec 32 := 1#32
  ⟨c0_i32_34, v17, c1_i32_36⟩
def k0_mult19 (k0_t9 : Fin k0_t9_loop.trips) : BitVec 32 :=
  let c0_i32_34 : BitVec 32 := 0#32
  let c1_i32_36 : BitVec 32 := 1#32
  let arg9 : BitVec 32 := Scf.iv c0_i32_34 c1_i32_36 k0_t9
  let c128_i32 : BitVec 32 := 128#32
  let v31 : BitVec 32 := Scalar.muli arg9 c128_i32
  v31
def k0_off29 (k0_t9 : Fin k0_t9_loop.trips) : Fin 2 → Nat :=
  let c0_i32_34 : BitVec 32 := 0#32
  let c1_i32_36 : BitVec 32 := 1#32
  let arg9 : BitVec 32 := Scf.iv c0_i32_34 c1_i32_36 k0_t9
  let c128_i32 : BitVec 32 := 128#32
  let v31 : BitVec 32 := Scalar.muli arg9 c128_i32
  let v32 : BitVec 32 := v31
  let v33 : Index := Scalar.indexCast v32
  let c0_79 : Index := 0#32
  ![v33.toNat, 0]
def k0_off30 (k0_t9 : Fin k0_t9_loop.trips) : Fin 3 → Nat :=
  let c0_83 : Index := 0#32
  let c16_i32 : BitVec 32 := 16#32
  let c0_i32_34 : BitVec 32 := 0#32
  let c1_i32_36 : BitVec 32 := 1#32
  let arg9 : BitVec 32 := Scf.iv c0_i32_34 c1_i32_36 k0_t9
  let c128_i32 : BitVec 32 := 128#32
  let v31 : BitVec 32 := Scalar.muli arg9 c128_i32
  let v32 : BitVec 32 := v31
  let v40 : BitVec 32 := Scalar.addi c16_i32 v32
  let v41 : Index := Scalar.indexCast v40
  let c0_84 : Index := 0#32
  ![0, v41.toNat, 0]
def k0_off31 (k0_t9 : Fin k0_t9_loop.trips) : Fin 3 → Nat :=
  let c1 : Index := 1#32
  let c16_i32_85 : BitVec 32 := 16#32
  let c0_i32_34 : BitVec 32 := 0#32
  let c1_i32_36 : BitVec 32 := 1#32
  let arg9 : BitVec 32 := Scf.iv c0_i32_34 c1_i32_36 k0_t9
  let c128_i32 : BitVec 32 := 128#32
  let v31 : BitVec 32 := Scalar.muli arg9 c128_i32
  let v32 : BitVec 32 := v31
  let v46 : BitVec 32 := Scalar.addi c16_i32_85 v32
  let v47 : Index := Scalar.indexCast v46
  let c0_86 : Index := 0#32
  ![1, v47.toNat, 0]
@[reducible] def k0_t10_loop : Scf.Loop 32 :=
  let c0_i32_38 : BitVec 32 := 0#32
  let c12_i32_39 : BitVec 32 := 12#32
  let v18 : BitVec 32 := Scalar.addi c0_i32_38 c12_i32_39
  let c1_i32_40 : BitVec 32 := 1#32
  ⟨c0_i32_38, v18, c1_i32_40⟩
def k0_off32 (k0_t10 : Fin k0_t10_loop.trips) : Fin 3 → Nat :=
  let c0_83 : Index := 0#32
  let c0_i32_38 : BitVec 32 := 0#32
  let c1_i32_40 : BitVec 32 := 1#32
  let arg9 : BitVec 32 := Scf.iv c0_i32_38 c1_i32_40 k0_t10
  let c128_i32 : BitVec 32 := 128#32
  let v31 : BitVec 32 := Scalar.muli arg9 c128_i32
  let c16_i32 : BitVec 32 := 16#32
  let v43 : BitVec 32 := Scalar.addi v31 c16_i32
  let v44 : Index := Scalar.indexCast v43
  let c0_84 : Index := 0#32
  ![0, v44.toNat, 0]
def k0_mult20 (k0_t10 : Fin k0_t10_loop.trips) : BitVec 32 :=
  let c0_i32_38 : BitVec 32 := 0#32
  let c1_i32_40 : BitVec 32 := 1#32
  let arg9 : BitVec 32 := Scf.iv c0_i32_38 c1_i32_40 k0_t10
  let c128_i32 : BitVec 32 := 128#32
  let v31 : BitVec 32 := Scalar.muli arg9 c128_i32
  v31
def k0_off33 (k0_t10 : Fin k0_t10_loop.trips) : Fin 3 → Nat :=
  let c0_86 : Index := 0#32
  let c0_i32_38 : BitVec 32 := 0#32
  let c1_i32_40 : BitVec 32 := 1#32
  let arg9 : BitVec 32 := Scf.iv c0_i32_38 c1_i32_40 k0_t10
  let c128_i32 : BitVec 32 := 128#32
  let v31 : BitVec 32 := Scalar.muli arg9 c128_i32
  let v49 : BitVec 32 := v31
  let v50 : Index := Scalar.indexCast v49
  let c0_87 : Index := 0#32
  ![0, v50.toNat, 0]
def k0_mult21 (k0_t10 : Fin k0_t10_loop.trips) : BitVec 32 :=
  let c0_i32_38 : BitVec 32 := 0#32
  let c1_i32_40 : BitVec 32 := 1#32
  let arg9 : BitVec 32 := Scf.iv c0_i32_38 c1_i32_40 k0_t10
  let c128_i32 : BitVec 32 := 128#32
  let v31 : BitVec 32 := Scalar.muli arg9 c128_i32
  v31
def k0_off34 (k0_t10 : Fin k0_t10_loop.trips) : Fin 3 → Nat :=
  let c1 : Index := 1#32
  let c0_i32_38 : BitVec 32 := 0#32
  let c1_i32_40 : BitVec 32 := 1#32
  let arg9 : BitVec 32 := Scf.iv c0_i32_38 c1_i32_40 k0_t10
  let c128_i32 : BitVec 32 := 128#32
  let v31 : BitVec 32 := Scalar.muli arg9 c128_i32
  let c16_i32_90 : BitVec 32 := 16#32
  let v59 : BitVec 32 := Scalar.addi v31 c16_i32_90
  let v60 : Index := Scalar.indexCast v59
  let c0_91 : Index := 0#32
  ![1, v60.toNat, 0]
def k0_mult22 (k0_t10 : Fin k0_t10_loop.trips) : BitVec 32 :=
  let c0_i32_38 : BitVec 32 := 0#32
  let c1_i32_40 : BitVec 32 := 1#32
  let arg9 : BitVec 32 := Scf.iv c0_i32_38 c1_i32_40 k0_t10
  let c128_i32 : BitVec 32 := 128#32
  let v31 : BitVec 32 := Scalar.muli arg9 c128_i32
  v31
def k0_off35 (k0_t10 : Fin k0_t10_loop.trips) : Fin 3 → Nat :=
  let c1_93 : Index := 1#32
  let c0_i32_38 : BitVec 32 := 0#32
  let c1_i32_40 : BitVec 32 := 1#32
  let arg9 : BitVec 32 := Scf.iv c0_i32_38 c1_i32_40 k0_t10
  let c128_i32 : BitVec 32 := 128#32
  let v31 : BitVec 32 := Scalar.muli arg9 c128_i32
  let v65 : BitVec 32 := v31
  let v66 : Index := Scalar.indexCast v65
  let c0_94 : Index := 0#32
  ![1, v66.toNat, 0]
def k0_mult23 (k0_t10 : Fin k0_t10_loop.trips) : BitVec 32 :=
  let c0_i32_38 : BitVec 32 := 0#32
  let c1_i32_40 : BitVec 32 := 1#32
  let arg9 : BitVec 32 := Scf.iv c0_i32_38 c1_i32_40 k0_t10
  let c128_i32 : BitVec 32 := 128#32
  let v31 : BitVec 32 := Scalar.muli arg9 c128_i32
  v31
@[reducible] def k0_t11_loop : Scf.Loop 32 :=
  let c0_i32_42 : BitVec 32 := 0#32
  let c12_i32_43 : BitVec 32 := 12#32
  let v19 : BitVec 32 := Scalar.addi c0_i32_42 c12_i32_43
  let c1_i32_44 : BitVec 32 := 1#32
  ⟨c0_i32_42, v19, c1_i32_44⟩
def k0_mult24 (k0_t11 : Fin k0_t11_loop.trips) : BitVec 32 :=
  let c0_i32_42 : BitVec 32 := 0#32
  let c1_i32_44 : BitVec 32 := 1#32
  let arg9 : BitVec 32 := Scf.iv c0_i32_42 c1_i32_44 k0_t11
  let c128_i32 : BitVec 32 := 128#32
  let v31 : BitVec 32 := Scalar.muli arg9 c128_i32
  v31
def k0_off36 (k0_t11 : Fin k0_t11_loop.trips) : Fin 2 → Nat :=
  let c0_i32_42 : BitVec 32 := 0#32
  let c1_i32_44 : BitVec 32 := 1#32
  let arg9 : BitVec 32 := Scf.iv c0_i32_42 c1_i32_44 k0_t11
  let c128_i32 : BitVec 32 := 128#32
  let v31 : BitVec 32 := Scalar.muli arg9 c128_i32
  let v32 : BitVec 32 := v31
  let v33 : Index := Scalar.indexCast v32
  let c0_79 : Index := 0#32
  ![v33.toNat, 0]
def k0_off37 (k0_t11 : Fin k0_t11_loop.trips) : Fin 3 → Nat :=
  let c0_83 : Index := 0#32
  let c16_i32 : BitVec 32 := 16#32
  let c0_i32_42 : BitVec 32 := 0#32
  let c1_i32_44 : BitVec 32 := 1#32
  let arg9 : BitVec 32 := Scf.iv c0_i32_42 c1_i32_44 k0_t11
  let c128_i32 : BitVec 32 := 128#32
  let v31 : BitVec 32 := Scalar.muli arg9 c128_i32
  let v32 : BitVec 32 := v31
  let v40 : BitVec 32 := Scalar.addi c16_i32 v32
  let v41 : Index := Scalar.indexCast v40
  let c0_84 : Index := 0#32
  ![0, v41.toNat, 0]
def k0_off38 (k0_t11 : Fin k0_t11_loop.trips) : Fin 3 → Nat :=
  let c1 : Index := 1#32
  let c16_i32_85 : BitVec 32 := 16#32
  let c0_i32_42 : BitVec 32 := 0#32
  let c1_i32_44 : BitVec 32 := 1#32
  let arg9 : BitVec 32 := Scf.iv c0_i32_42 c1_i32_44 k0_t11
  let c128_i32 : BitVec 32 := 128#32
  let v31 : BitVec 32 := Scalar.muli arg9 c128_i32
  let v32 : BitVec 32 := v31
  let v46 : BitVec 32 := Scalar.addi c16_i32_85 v32
  let v47 : Index := Scalar.indexCast v46
  let c0_86 : Index := 0#32
  ![1, v47.toNat, 0]
@[reducible] def k0_t12_loop : Scf.Loop 32 :=
  let c0_i32_46 : BitVec 32 := 0#32
  let c12_i32_47 : BitVec 32 := 12#32
  let v20 : BitVec 32 := Scalar.addi c0_i32_46 c12_i32_47
  let c1_i32_48 : BitVec 32 := 1#32
  ⟨c0_i32_46, v20, c1_i32_48⟩
def k0_off39 (k0_t12 : Fin k0_t12_loop.trips) : Fin 3 → Nat :=
  let c0_83 : Index := 0#32
  let c0_i32_46 : BitVec 32 := 0#32
  let c1_i32_48 : BitVec 32 := 1#32
  let arg9 : BitVec 32 := Scf.iv c0_i32_46 c1_i32_48 k0_t12
  let c128_i32 : BitVec 32 := 128#32
  let v31 : BitVec 32 := Scalar.muli arg9 c128_i32
  let c17_i32 : BitVec 32 := 17#32
  let v43 : BitVec 32 := Scalar.addi v31 c17_i32
  let v44 : Index := Scalar.indexCast v43
  let c0_84 : Index := 0#32
  ![0, v44.toNat, 0]
def k0_mult25 (k0_t12 : Fin k0_t12_loop.trips) : BitVec 32 :=
  let c0_i32_46 : BitVec 32 := 0#32
  let c1_i32_48 : BitVec 32 := 1#32
  let arg9 : BitVec 32 := Scf.iv c0_i32_46 c1_i32_48 k0_t12
  let c128_i32 : BitVec 32 := 128#32
  let v31 : BitVec 32 := Scalar.muli arg9 c128_i32
  v31
def k0_off40 (k0_t12 : Fin k0_t12_loop.trips) : Fin 3 → Nat :=
  let c0_86 : Index := 0#32
  let c0_i32_46 : BitVec 32 := 0#32
  let c1_i32_48 : BitVec 32 := 1#32
  let arg9 : BitVec 32 := Scf.iv c0_i32_46 c1_i32_48 k0_t12
  let c128_i32 : BitVec 32 := 128#32
  let v31 : BitVec 32 := Scalar.muli arg9 c128_i32
  let v49 : BitVec 32 := v31
  let v50 : Index := Scalar.indexCast v49
  let c0_87 : Index := 0#32
  ![0, v50.toNat, 0]
def k0_mult26 (k0_t12 : Fin k0_t12_loop.trips) : BitVec 32 :=
  let c0_i32_46 : BitVec 32 := 0#32
  let c1_i32_48 : BitVec 32 := 1#32
  let arg9 : BitVec 32 := Scf.iv c0_i32_46 c1_i32_48 k0_t12
  let c128_i32 : BitVec 32 := 128#32
  let v31 : BitVec 32 := Scalar.muli arg9 c128_i32
  v31
def k0_off41 (k0_t12 : Fin k0_t12_loop.trips) : Fin 3 → Nat :=
  let c1 : Index := 1#32
  let c0_i32_46 : BitVec 32 := 0#32
  let c1_i32_48 : BitVec 32 := 1#32
  let arg9 : BitVec 32 := Scf.iv c0_i32_46 c1_i32_48 k0_t12
  let c128_i32 : BitVec 32 := 128#32
  let v31 : BitVec 32 := Scalar.muli arg9 c128_i32
  let c17_i32_90 : BitVec 32 := 17#32
  let v59 : BitVec 32 := Scalar.addi v31 c17_i32_90
  let v60 : Index := Scalar.indexCast v59
  let c0_91 : Index := 0#32
  ![1, v60.toNat, 0]
def k0_mult27 (k0_t12 : Fin k0_t12_loop.trips) : BitVec 32 :=
  let c0_i32_46 : BitVec 32 := 0#32
  let c1_i32_48 : BitVec 32 := 1#32
  let arg9 : BitVec 32 := Scf.iv c0_i32_46 c1_i32_48 k0_t12
  let c128_i32 : BitVec 32 := 128#32
  let v31 : BitVec 32 := Scalar.muli arg9 c128_i32
  v31
def k0_off42 (k0_t12 : Fin k0_t12_loop.trips) : Fin 3 → Nat :=
  let c1_93 : Index := 1#32
  let c0_i32_46 : BitVec 32 := 0#32
  let c1_i32_48 : BitVec 32 := 1#32
  let arg9 : BitVec 32 := Scf.iv c0_i32_46 c1_i32_48 k0_t12
  let c128_i32 : BitVec 32 := 128#32
  let v31 : BitVec 32 := Scalar.muli arg9 c128_i32
  let v65 : BitVec 32 := v31
  let v66 : Index := Scalar.indexCast v65
  let c0_94 : Index := 0#32
  ![1, v66.toNat, 0]
def k0_mult28 (k0_t12 : Fin k0_t12_loop.trips) : BitVec 32 :=
  let c0_i32_46 : BitVec 32 := 0#32
  let c1_i32_48 : BitVec 32 := 1#32
  let arg9 : BitVec 32 := Scf.iv c0_i32_46 c1_i32_48 k0_t12
  let c128_i32 : BitVec 32 := 128#32
  let v31 : BitVec 32 := Scalar.muli arg9 c128_i32
  v31
@[reducible] def k0_t13_loop : Scf.Loop 32 :=
  let c0_i32_50 : BitVec 32 := 0#32
  let c12_i32_51 : BitVec 32 := 12#32
  let v21 : BitVec 32 := Scalar.addi c0_i32_50 c12_i32_51
  let c1_i32_52 : BitVec 32 := 1#32
  ⟨c0_i32_50, v21, c1_i32_52⟩
def k0_mult29 (k0_t13 : Fin k0_t13_loop.trips) : BitVec 32 :=
  let c0_i32_50 : BitVec 32 := 0#32
  let c1_i32_52 : BitVec 32 := 1#32
  let arg9 : BitVec 32 := Scf.iv c0_i32_50 c1_i32_52 k0_t13
  let c128_i32 : BitVec 32 := 128#32
  let v31 : BitVec 32 := Scalar.muli arg9 c128_i32
  v31
def k0_off43 (k0_t13 : Fin k0_t13_loop.trips) : Fin 2 → Nat :=
  let c0_i32_50 : BitVec 32 := 0#32
  let c1_i32_52 : BitVec 32 := 1#32
  let arg9 : BitVec 32 := Scf.iv c0_i32_50 c1_i32_52 k0_t13
  let c128_i32 : BitVec 32 := 128#32
  let v31 : BitVec 32 := Scalar.muli arg9 c128_i32
  let v32 : BitVec 32 := v31
  let v33 : Index := Scalar.indexCast v32
  let c0_79 : Index := 0#32
  ![v33.toNat, 0]
def k0_off44 (k0_t13 : Fin k0_t13_loop.trips) : Fin 3 → Nat :=
  let c0_83 : Index := 0#32
  let c16_i32 : BitVec 32 := 16#32
  let c0_i32_50 : BitVec 32 := 0#32
  let c1_i32_52 : BitVec 32 := 1#32
  let arg9 : BitVec 32 := Scf.iv c0_i32_50 c1_i32_52 k0_t13
  let c128_i32 : BitVec 32 := 128#32
  let v31 : BitVec 32 := Scalar.muli arg9 c128_i32
  let v32 : BitVec 32 := v31
  let v40 : BitVec 32 := Scalar.addi c16_i32 v32
  let v41 : Index := Scalar.indexCast v40
  let c0_84 : Index := 0#32
  ![0, v41.toNat, 0]
def k0_off45 (k0_t13 : Fin k0_t13_loop.trips) : Fin 3 → Nat :=
  let c1 : Index := 1#32
  let c16_i32_85 : BitVec 32 := 16#32
  let c0_i32_50 : BitVec 32 := 0#32
  let c1_i32_52 : BitVec 32 := 1#32
  let arg9 : BitVec 32 := Scf.iv c0_i32_50 c1_i32_52 k0_t13
  let c128_i32 : BitVec 32 := 128#32
  let v31 : BitVec 32 := Scalar.muli arg9 c128_i32
  let v32 : BitVec 32 := v31
  let v46 : BitVec 32 := Scalar.addi c16_i32_85 v32
  let v47 : Index := Scalar.indexCast v46
  let c0_86 : Index := 0#32
  ![1, v47.toNat, 0]
@[reducible] def k0_t14_loop : Scf.Loop 32 :=
  let c0_i32_54 : BitVec 32 := 0#32
  let c12_i32_55 : BitVec 32 := 12#32
  let v22 : BitVec 32 := Scalar.addi c0_i32_54 c12_i32_55
  let c1_i32_56 : BitVec 32 := 1#32
  ⟨c0_i32_54, v22, c1_i32_56⟩
def k0_off46 (k0_t14 : Fin k0_t14_loop.trips) : Fin 3 → Nat :=
  let c0_82 : Index := 0#32
  let c0_i32_54 : BitVec 32 := 0#32
  let c1_i32_56 : BitVec 32 := 1#32
  let arg9 : BitVec 32 := Scf.iv c0_i32_54 c1_i32_56 k0_t14
  let c128_i32 : BitVec 32 := 128#32
  let v31 : BitVec 32 := Scalar.muli arg9 c128_i32
  let c27_i32 : BitVec 32 := 27#32
  let v43 : BitVec 32 := Scalar.addi v31 c27_i32
  let v44 : Index := Scalar.indexCast v43
  let c0_83 : Index := 0#32
  ![0, v44.toNat, 0]
def k0_mult30 (k0_t14 : Fin k0_t14_loop.trips) : BitVec 32 :=
  let c0_i32_54 : BitVec 32 := 0#32
  let c1_i32_56 : BitVec 32 := 1#32
  let arg9 : BitVec 32 := Scf.iv c0_i32_54 c1_i32_56 k0_t14
  let c128_i32 : BitVec 32 := 128#32
  let v31 : BitVec 32 := Scalar.muli arg9 c128_i32
  v31
def k0_off47 (k0_t14 : Fin k0_t14_loop.trips) : Fin 3 → Nat :=
  let c0_85 : Index := 0#32
  let c0_i32_54 : BitVec 32 := 0#32
  let c1_i32_56 : BitVec 32 := 1#32
  let arg9 : BitVec 32 := Scf.iv c0_i32_54 c1_i32_56 k0_t14
  let c128_i32 : BitVec 32 := 128#32
  let v31 : BitVec 32 := Scalar.muli arg9 c128_i32
  let v49 : BitVec 32 := v31
  let v50 : Index := Scalar.indexCast v49
  let c0_86 : Index := 0#32
  ![0, v50.toNat, 0]
def k0_mult31 (k0_t14 : Fin k0_t14_loop.trips) : BitVec 32 :=
  let c0_i32_54 : BitVec 32 := 0#32
  let c1_i32_56 : BitVec 32 := 1#32
  let arg9 : BitVec 32 := Scf.iv c0_i32_54 c1_i32_56 k0_t14
  let c128_i32 : BitVec 32 := 128#32
  let v31 : BitVec 32 := Scalar.muli arg9 c128_i32
  v31
def k0_off48 (k0_t14 : Fin k0_t14_loop.trips) : Fin 3 → Nat :=
  let c1 : Index := 1#32
  let c0_i32_54 : BitVec 32 := 0#32
  let c1_i32_56 : BitVec 32 := 1#32
  let arg9 : BitVec 32 := Scf.iv c0_i32_54 c1_i32_56 k0_t14
  let c128_i32 : BitVec 32 := 128#32
  let v31 : BitVec 32 := Scalar.muli arg9 c128_i32
  let c27_i32_89 : BitVec 32 := 27#32
  let v59 : BitVec 32 := Scalar.addi v31 c27_i32_89
  let v60 : Index := Scalar.indexCast v59
  let c0_90 : Index := 0#32
  ![1, v60.toNat, 0]
def k0_mult32 (k0_t14 : Fin k0_t14_loop.trips) : BitVec 32 :=
  let c0_i32_54 : BitVec 32 := 0#32
  let c1_i32_56 : BitVec 32 := 1#32
  let arg9 : BitVec 32 := Scf.iv c0_i32_54 c1_i32_56 k0_t14
  let c128_i32 : BitVec 32 := 128#32
  let v31 : BitVec 32 := Scalar.muli arg9 c128_i32
  v31
def k0_off49 (k0_t14 : Fin k0_t14_loop.trips) : Fin 3 → Nat :=
  let c1_92 : Index := 1#32
  let c0_i32_54 : BitVec 32 := 0#32
  let c1_i32_56 : BitVec 32 := 1#32
  let arg9 : BitVec 32 := Scf.iv c0_i32_54 c1_i32_56 k0_t14
  let c128_i32 : BitVec 32 := 128#32
  let v31 : BitVec 32 := Scalar.muli arg9 c128_i32
  let v65 : BitVec 32 := v31
  let v66 : Index := Scalar.indexCast v65
  let c0_93 : Index := 0#32
  ![1, v66.toNat, 0]
def k0_mult33 (k0_t14 : Fin k0_t14_loop.trips) : BitVec 32 :=
  let c0_i32_54 : BitVec 32 := 0#32
  let c1_i32_56 : BitVec 32 := 1#32
  let arg9 : BitVec 32 := Scf.iv c0_i32_54 c1_i32_56 k0_t14
  let c128_i32 : BitVec 32 := 128#32
  let v31 : BitVec 32 := Scalar.muli arg9 c128_i32
  v31
@[reducible] def k0_t15_loop : Scf.Loop 32 :=
  let c0_i32_58 : BitVec 32 := 0#32
  let c12_i32_59 : BitVec 32 := 12#32
  let v23 : BitVec 32 := Scalar.addi c0_i32_58 c12_i32_59
  let c1_i32_60 : BitVec 32 := 1#32
  ⟨c0_i32_58, v23, c1_i32_60⟩
def k0_mult34 (k0_t15 : Fin k0_t15_loop.trips) : BitVec 32 :=
  let c0_i32_58 : BitVec 32 := 0#32
  let c1_i32_60 : BitVec 32 := 1#32
  let arg9 : BitVec 32 := Scf.iv c0_i32_58 c1_i32_60 k0_t15
  let c128_i32 : BitVec 32 := 128#32
  let v31 : BitVec 32 := Scalar.muli arg9 c128_i32
  v31
def k0_off50 (k0_t15 : Fin k0_t15_loop.trips) : Fin 2 → Nat :=
  let c0_i32_58 : BitVec 32 := 0#32
  let c1_i32_60 : BitVec 32 := 1#32
  let arg9 : BitVec 32 := Scf.iv c0_i32_58 c1_i32_60 k0_t15
  let c128_i32 : BitVec 32 := 128#32
  let v31 : BitVec 32 := Scalar.muli arg9 c128_i32
  let v32 : BitVec 32 := v31
  let v33 : Index := Scalar.indexCast v32
  let c0_79 : Index := 0#32
  ![v33.toNat, 0]
def k0_off51 (k0_t15 : Fin k0_t15_loop.trips) : Fin 3 → Nat :=
  let c0_83 : Index := 0#32
  let c16_i32 : BitVec 32 := 16#32
  let c0_i32_58 : BitVec 32 := 0#32
  let c1_i32_60 : BitVec 32 := 1#32
  let arg9 : BitVec 32 := Scf.iv c0_i32_58 c1_i32_60 k0_t15
  let c128_i32 : BitVec 32 := 128#32
  let v31 : BitVec 32 := Scalar.muli arg9 c128_i32
  let v32 : BitVec 32 := v31
  let v40 : BitVec 32 := Scalar.addi c16_i32 v32
  let v41 : Index := Scalar.indexCast v40
  let c0_84 : Index := 0#32
  ![0, v41.toNat, 0]
def k0_off52 (k0_t15 : Fin k0_t15_loop.trips) : Fin 3 → Nat :=
  let c1 : Index := 1#32
  let c16_i32_85 : BitVec 32 := 16#32
  let c0_i32_58 : BitVec 32 := 0#32
  let c1_i32_60 : BitVec 32 := 1#32
  let arg9 : BitVec 32 := Scf.iv c0_i32_58 c1_i32_60 k0_t15
  let c128_i32 : BitVec 32 := 128#32
  let v31 : BitVec 32 := Scalar.muli arg9 c128_i32
  let v32 : BitVec 32 := v31
  let v46 : BitVec 32 := Scalar.addi c16_i32_85 v32
  let v47 : Index := Scalar.indexCast v46
  let c0_86 : Index := 0#32
  ![1, v47.toNat, 0]
@[reducible] def k0_t16_loop : Scf.Loop 32 :=
  let c0_i32_62 : BitVec 32 := 0#32
  let c12_i32_63 : BitVec 32 := 12#32
  let v24 : BitVec 32 := Scalar.addi c0_i32_62 c12_i32_63
  let c1_i32_64 : BitVec 32 := 1#32
  ⟨c0_i32_62, v24, c1_i32_64⟩
def k0_off53 (k0_t16 : Fin k0_t16_loop.trips) : Fin 3 → Nat :=
  let c0_83 : Index := 0#32
  let c0_i32_62 : BitVec 32 := 0#32
  let c1_i32_64 : BitVec 32 := 1#32
  let arg9 : BitVec 32 := Scf.iv c0_i32_62 c1_i32_64 k0_t16
  let c128_i32 : BitVec 32 := 128#32
  let v31 : BitVec 32 := Scalar.muli arg9 c128_i32
  let c28_i32 : BitVec 32 := 28#32
  let v43 : BitVec 32 := Scalar.addi v31 c28_i32
  let v44 : Index := Scalar.indexCast v43
  let c0_84 : Index := 0#32
  ![0, v44.toNat, 0]
def k0_mult35 (k0_t16 : Fin k0_t16_loop.trips) : BitVec 32 :=
  let c0_i32_62 : BitVec 32 := 0#32
  let c1_i32_64 : BitVec 32 := 1#32
  let arg9 : BitVec 32 := Scf.iv c0_i32_62 c1_i32_64 k0_t16
  let c128_i32 : BitVec 32 := 128#32
  let v31 : BitVec 32 := Scalar.muli arg9 c128_i32
  v31
def k0_off54 (k0_t16 : Fin k0_t16_loop.trips) : Fin 3 → Nat :=
  let c0_86 : Index := 0#32
  let c0_i32_62 : BitVec 32 := 0#32
  let c1_i32_64 : BitVec 32 := 1#32
  let arg9 : BitVec 32 := Scf.iv c0_i32_62 c1_i32_64 k0_t16
  let c128_i32 : BitVec 32 := 128#32
  let v31 : BitVec 32 := Scalar.muli arg9 c128_i32
  let v49 : BitVec 32 := v31
  let v50 : Index := Scalar.indexCast v49
  let c0_87 : Index := 0#32
  ![0, v50.toNat, 0]
def k0_mult36 (k0_t16 : Fin k0_t16_loop.trips) : BitVec 32 :=
  let c0_i32_62 : BitVec 32 := 0#32
  let c1_i32_64 : BitVec 32 := 1#32
  let arg9 : BitVec 32 := Scf.iv c0_i32_62 c1_i32_64 k0_t16
  let c128_i32 : BitVec 32 := 128#32
  let v31 : BitVec 32 := Scalar.muli arg9 c128_i32
  v31
def k0_off55 (k0_t16 : Fin k0_t16_loop.trips) : Fin 3 → Nat :=
  let c1 : Index := 1#32
  let c0_i32_62 : BitVec 32 := 0#32
  let c1_i32_64 : BitVec 32 := 1#32
  let arg9 : BitVec 32 := Scf.iv c0_i32_62 c1_i32_64 k0_t16
  let c128_i32 : BitVec 32 := 128#32
  let v31 : BitVec 32 := Scalar.muli arg9 c128_i32
  let c28_i32_90 : BitVec 32 := 28#32
  let v59 : BitVec 32 := Scalar.addi v31 c28_i32_90
  let v60 : Index := Scalar.indexCast v59
  let c0_91 : Index := 0#32
  ![1, v60.toNat, 0]
def k0_mult37 (k0_t16 : Fin k0_t16_loop.trips) : BitVec 32 :=
  let c0_i32_62 : BitVec 32 := 0#32
  let c1_i32_64 : BitVec 32 := 1#32
  let arg9 : BitVec 32 := Scf.iv c0_i32_62 c1_i32_64 k0_t16
  let c128_i32 : BitVec 32 := 128#32
  let v31 : BitVec 32 := Scalar.muli arg9 c128_i32
  v31
def k0_off56 (k0_t16 : Fin k0_t16_loop.trips) : Fin 3 → Nat :=
  let c1_93 : Index := 1#32
  let c0_i32_62 : BitVec 32 := 0#32
  let c1_i32_64 : BitVec 32 := 1#32
  let arg9 : BitVec 32 := Scf.iv c0_i32_62 c1_i32_64 k0_t16
  let c128_i32 : BitVec 32 := 128#32
  let v31 : BitVec 32 := Scalar.muli arg9 c128_i32
  let v65 : BitVec 32 := v31
  let v66 : Index := Scalar.indexCast v65
  let c0_94 : Index := 0#32
  ![1, v66.toNat, 0]
def k0_mult38 (k0_t16 : Fin k0_t16_loop.trips) : BitVec 32 :=
  let c0_i32_62 : BitVec 32 := 0#32
  let c1_i32_64 : BitVec 32 := 1#32
  let arg9 : BitVec 32 := Scf.iv c0_i32_62 c1_i32_64 k0_t16
  let c128_i32 : BitVec 32 := 128#32
  let v31 : BitVec 32 := Scalar.muli arg9 c128_i32
  v31
@[reducible] def k0_t17_loop : Scf.Loop 32 :=
  let c0_i32_66 : BitVec 32 := 0#32
  let c12_i32_67 : BitVec 32 := 12#32
  let v25 : BitVec 32 := Scalar.addi c0_i32_66 c12_i32_67
  let c1_i32_68 : BitVec 32 := 1#32
  ⟨c0_i32_66, v25, c1_i32_68⟩
def k0_mult39 (k0_t17 : Fin k0_t17_loop.trips) : BitVec 32 :=
  let c0_i32_66 : BitVec 32 := 0#32
  let c1_i32_68 : BitVec 32 := 1#32
  let arg9 : BitVec 32 := Scf.iv c0_i32_66 c1_i32_68 k0_t17
  let c128_i32 : BitVec 32 := 128#32
  let v31 : BitVec 32 := Scalar.muli arg9 c128_i32
  v31
def k0_off57 (k0_t17 : Fin k0_t17_loop.trips) : Fin 2 → Nat :=
  let c0_i32_66 : BitVec 32 := 0#32
  let c1_i32_68 : BitVec 32 := 1#32
  let arg9 : BitVec 32 := Scf.iv c0_i32_66 c1_i32_68 k0_t17
  let c128_i32 : BitVec 32 := 128#32
  let v31 : BitVec 32 := Scalar.muli arg9 c128_i32
  let v32 : BitVec 32 := v31
  let v33 : Index := Scalar.indexCast v32
  let c0_79 : Index := 0#32
  ![v33.toNat, 0]
def k0_off58 (k0_t17 : Fin k0_t17_loop.trips) : Fin 3 → Nat :=
  let c0_83 : Index := 0#32
  let c16_i32 : BitVec 32 := 16#32
  let c0_i32_66 : BitVec 32 := 0#32
  let c1_i32_68 : BitVec 32 := 1#32
  let arg9 : BitVec 32 := Scf.iv c0_i32_66 c1_i32_68 k0_t17
  let c128_i32 : BitVec 32 := 128#32
  let v31 : BitVec 32 := Scalar.muli arg9 c128_i32
  let v32 : BitVec 32 := v31
  let v40 : BitVec 32 := Scalar.addi c16_i32 v32
  let v41 : Index := Scalar.indexCast v40
  let c0_84 : Index := 0#32
  ![0, v41.toNat, 0]
def k0_off59 (k0_t17 : Fin k0_t17_loop.trips) : Fin 3 → Nat :=
  let c1 : Index := 1#32
  let c16_i32_85 : BitVec 32 := 16#32
  let c0_i32_66 : BitVec 32 := 0#32
  let c1_i32_68 : BitVec 32 := 1#32
  let arg9 : BitVec 32 := Scf.iv c0_i32_66 c1_i32_68 k0_t17
  let c128_i32 : BitVec 32 := 128#32
  let v31 : BitVec 32 := Scalar.muli arg9 c128_i32
  let v32 : BitVec 32 := v31
  let v46 : BitVec 32 := Scalar.addi c16_i32_85 v32
  let v47 : Index := Scalar.indexCast v46
  let c0_86 : Index := 0#32
  ![1, v47.toNat, 0]
@[reducible] def k0_t18_loop : Scf.Loop 32 :=
  let c0_i32_70 : BitVec 32 := 0#32
  let c12_i32_71 : BitVec 32 := 12#32
  let v26 : BitVec 32 := Scalar.addi c0_i32_70 c12_i32_71
  let c1_i32_72 : BitVec 32 := 1#32
  ⟨c0_i32_70, v26, c1_i32_72⟩
def k0_off60 (k0_t18 : Fin k0_t18_loop.trips) : Fin 3 → Nat :=
  let c0_83 : Index := 0#32
  let c0_i32_70 : BitVec 32 := 0#32
  let c1_i32_72 : BitVec 32 := 1#32
  let arg9 : BitVec 32 := Scf.iv c0_i32_70 c1_i32_72 k0_t18
  let c128_i32 : BitVec 32 := 128#32
  let v31 : BitVec 32 := Scalar.muli arg9 c128_i32
  let c29_i32 : BitVec 32 := 29#32
  let v43 : BitVec 32 := Scalar.addi v31 c29_i32
  let v44 : Index := Scalar.indexCast v43
  let c0_84 : Index := 0#32
  ![0, v44.toNat, 0]
def k0_mult40 (k0_t18 : Fin k0_t18_loop.trips) : BitVec 32 :=
  let c0_i32_70 : BitVec 32 := 0#32
  let c1_i32_72 : BitVec 32 := 1#32
  let arg9 : BitVec 32 := Scf.iv c0_i32_70 c1_i32_72 k0_t18
  let c128_i32 : BitVec 32 := 128#32
  let v31 : BitVec 32 := Scalar.muli arg9 c128_i32
  v31
def k0_off61 (k0_t18 : Fin k0_t18_loop.trips) : Fin 3 → Nat :=
  let c0_86 : Index := 0#32
  let c0_i32_70 : BitVec 32 := 0#32
  let c1_i32_72 : BitVec 32 := 1#32
  let arg9 : BitVec 32 := Scf.iv c0_i32_70 c1_i32_72 k0_t18
  let c128_i32 : BitVec 32 := 128#32
  let v31 : BitVec 32 := Scalar.muli arg9 c128_i32
  let v49 : BitVec 32 := v31
  let v50 : Index := Scalar.indexCast v49
  let c0_87 : Index := 0#32
  ![0, v50.toNat, 0]
def k0_mult41 (k0_t18 : Fin k0_t18_loop.trips) : BitVec 32 :=
  let c0_i32_70 : BitVec 32 := 0#32
  let c1_i32_72 : BitVec 32 := 1#32
  let arg9 : BitVec 32 := Scf.iv c0_i32_70 c1_i32_72 k0_t18
  let c128_i32 : BitVec 32 := 128#32
  let v31 : BitVec 32 := Scalar.muli arg9 c128_i32
  v31
def k0_off62 (k0_t18 : Fin k0_t18_loop.trips) : Fin 3 → Nat :=
  let c1 : Index := 1#32
  let c0_i32_70 : BitVec 32 := 0#32
  let c1_i32_72 : BitVec 32 := 1#32
  let arg9 : BitVec 32 := Scf.iv c0_i32_70 c1_i32_72 k0_t18
  let c128_i32 : BitVec 32 := 128#32
  let v31 : BitVec 32 := Scalar.muli arg9 c128_i32
  let c29_i32_90 : BitVec 32 := 29#32
  let v59 : BitVec 32 := Scalar.addi v31 c29_i32_90
  let v60 : Index := Scalar.indexCast v59
  let c0_91 : Index := 0#32
  ![1, v60.toNat, 0]
def k0_mult42 (k0_t18 : Fin k0_t18_loop.trips) : BitVec 32 :=
  let c0_i32_70 : BitVec 32 := 0#32
  let c1_i32_72 : BitVec 32 := 1#32
  let arg9 : BitVec 32 := Scf.iv c0_i32_70 c1_i32_72 k0_t18
  let c128_i32 : BitVec 32 := 128#32
  let v31 : BitVec 32 := Scalar.muli arg9 c128_i32
  v31
def k0_off63 (k0_t18 : Fin k0_t18_loop.trips) : Fin 3 → Nat :=
  let c1_93 : Index := 1#32
  let c0_i32_70 : BitVec 32 := 0#32
  let c1_i32_72 : BitVec 32 := 1#32
  let arg9 : BitVec 32 := Scf.iv c0_i32_70 c1_i32_72 k0_t18
  let c128_i32 : BitVec 32 := 128#32
  let v31 : BitVec 32 := Scalar.muli arg9 c128_i32
  let v65 : BitVec 32 := v31
  let v66 : Index := Scalar.indexCast v65
  let c0_94 : Index := 0#32
  ![1, v66.toNat, 0]
def k0_mult43 (k0_t18 : Fin k0_t18_loop.trips) : BitVec 32 :=
  let c0_i32_70 : BitVec 32 := 0#32
  let c1_i32_72 : BitVec 32 := 1#32
  let arg9 : BitVec 32 := Scf.iv c0_i32_70 c1_i32_72 k0_t18
  let c128_i32 : BitVec 32 := 128#32
  let v31 : BitVec 32 := Scalar.muli arg9 c128_i32
  v31
@[reducible] def k0_t19_loop : Scf.Loop 32 :=
  let c0_i32_75 : BitVec 32 := 0#32
  let c12_i32_76 : BitVec 32 := 12#32
  let v30 : BitVec 32 := Scalar.addi c0_i32_75 c12_i32_76
  let c1_i32_77 : BitVec 32 := 1#32
  ⟨c0_i32_75, v30, c1_i32_77⟩
def k0_mult44 (k0_t19 : Fin k0_t19_loop.trips) : BitVec 32 :=
  let c0_i32_75 : BitVec 32 := 0#32
  let c1_i32_77 : BitVec 32 := 1#32
  let arg9 : BitVec 32 := Scf.iv c0_i32_75 c1_i32_77 k0_t19
  let c128_i32 : BitVec 32 := 128#32
  let v31 : BitVec 32 := Scalar.muli arg9 c128_i32
  v31
def k0_off64 (k0_t19 : Fin k0_t19_loop.trips) : Fin 3 → Nat :=
  let c0_79 : Index := 0#32
  let c0_i32_75 : BitVec 32 := 0#32
  let c1_i32_77 : BitVec 32 := 1#32
  let arg9 : BitVec 32 := Scf.iv c0_i32_75 c1_i32_77 k0_t19
  let c128_i32 : BitVec 32 := 128#32
  let v31 : BitVec 32 := Scalar.muli arg9 c128_i32
  let v32 : BitVec 32 := v31
  let v33 : Index := Scalar.indexCast v32
  let c0_80 : Index := 0#32
  ![0, v33.toNat, 0]
def k0_off65 (k0_t19 : Fin k0_t19_loop.trips) : Fin 3 → Nat :=
  let c1 : Index := 1#32
  let c0_i32_75 : BitVec 32 := 0#32
  let c1_i32_77 : BitVec 32 := 1#32
  let arg9 : BitVec 32 := Scf.iv c0_i32_75 c1_i32_77 k0_t19
  let c128_i32 : BitVec 32 := 128#32
  let v31 : BitVec 32 := Scalar.muli arg9 c128_i32
  let v32 : BitVec 32 := v31
  let v46 : Index := Scalar.indexCast v32
  let c0_86 : Index := 0#32
  ![1, v46.toNat, 0]
def k0_off66 (k0_t19 : Fin k0_t19_loop.trips) : Fin 4 → Nat :=
  let c0_i32_75 : BitVec 32 := 0#32
  let c1_i32_77 : BitVec 32 := 1#32
  let arg9 : BitVec 32 := Scf.iv c0_i32_75 c1_i32_77 k0_t19
  let v135 : Index := Scalar.indexCast arg9
  let c0_119 : Index := 0#32
  let c0_120 : Index := 0#32
  let c0_121 : Index := 0#32
  ![v135.toNat, 0, 0, 0]
def k0_off67 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v141 : Index := Scalar.indexCast arg9
  let c0_122 : Index := 0#32
  let c0_123 : Index := 0#32
  let c0_124 : Index := 0#32
  let c0_125 : Index := 0#32
  ![v141.toNat, 0, 0, 0, 0]
def k0_off68 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v147 : Index := Scalar.indexCast arg9
  let c0_126 : Index := 0#32
  let c1_127 : Index := 1#32
  let c0_128 : Index := 0#32
  let c0_129 : Index := 0#32
  ![v147.toNat, 0, 1, 0, 0]
def k0_off69 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v153 : Index := Scalar.indexCast arg9
  let c0_130 : Index := 0#32
  let c2 : Index := 2#32
  let c0_131 : Index := 0#32
  let c0_132 : Index := 0#32
  ![v153.toNat, 0, 2, 0, 0]
def k0_off70 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v159 : Index := Scalar.indexCast arg9
  let c0_133 : Index := 0#32
  let c3 : Index := 3#32
  let c0_134 : Index := 0#32
  let c0_135 : Index := 0#32
  ![v159.toNat, 0, 3, 0, 0]
def k0_off71 (k0_t19 : Fin k0_t19_loop.trips) : Fin 4 → Nat :=
  let c0_i32_75 : BitVec 32 := 0#32
  let c1_i32_77 : BitVec 32 := 1#32
  let arg9 : BitVec 32 := Scf.iv c0_i32_75 c1_i32_77 k0_t19
  let v231 : Index := Scalar.indexCast arg9
  let c1_165 : Index := 1#32
  let c0_166 : Index := 0#32
  let c0_167 : Index := 0#32
  ![v231.toNat, 1, 0, 0]
def k0_off72 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v237 : Index := Scalar.indexCast arg9
  let c1_168 : Index := 1#32
  let c0_169 : Index := 0#32
  let c0_170 : Index := 0#32
  let c0_171 : Index := 0#32
  ![v237.toNat, 1, 0, 0, 0]
def k0_off73 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v243 : Index := Scalar.indexCast arg9
  let c1_172 : Index := 1#32
  let c1_173 : Index := 1#32
  let c0_174 : Index := 0#32
  let c0_175 : Index := 0#32
  ![v243.toNat, 1, 1, 0, 0]
def k0_off74 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v249 : Index := Scalar.indexCast arg9
  let c1_176 : Index := 1#32
  let c2_177 : Index := 2#32
  let c0_178 : Index := 0#32
  let c0_179 : Index := 0#32
  ![v249.toNat, 1, 2, 0, 0]
def k0_off75 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v255 : Index := Scalar.indexCast arg9
  let c1_180 : Index := 1#32
  let c3_181 : Index := 3#32
  let c0_182 : Index := 0#32
  let c0_183 : Index := 0#32
  ![v255.toNat, 1, 3, 0, 0]
def k0_off76 (k0_t19 : Fin k0_t19_loop.trips) : Fin 4 → Nat :=
  let c0_i32_75 : BitVec 32 := 0#32
  let c1_i32_77 : BitVec 32 := 1#32
  let arg9 : BitVec 32 := Scf.iv c0_i32_75 c1_i32_77 k0_t19
  let v327 : Index := Scalar.indexCast arg9
  let c2_211 : Index := 2#32
  let c0_212 : Index := 0#32
  let c0_213 : Index := 0#32
  ![v327.toNat, 2, 0, 0]
def k0_off77 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v333 : Index := Scalar.indexCast arg9
  let c2_214 : Index := 2#32
  let c0_215 : Index := 0#32
  let c0_216 : Index := 0#32
  let c0_217 : Index := 0#32
  ![v333.toNat, 2, 0, 0, 0]
def k0_off78 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v339 : Index := Scalar.indexCast arg9
  let c2_218 : Index := 2#32
  let c1_219 : Index := 1#32
  let c0_220 : Index := 0#32
  let c0_221 : Index := 0#32
  ![v339.toNat, 2, 1, 0, 0]
def k0_off79 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v345 : Index := Scalar.indexCast arg9
  let c2_222 : Index := 2#32
  let c2_223 : Index := 2#32
  let c0_224 : Index := 0#32
  let c0_225 : Index := 0#32
  ![v345.toNat, 2, 2, 0, 0]
def k0_off80 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v351 : Index := Scalar.indexCast arg9
  let c2_226 : Index := 2#32
  let c3_227 : Index := 3#32
  let c0_228 : Index := 0#32
  let c0_229 : Index := 0#32
  ![v351.toNat, 2, 3, 0, 0]
def k0_off81 (k0_t19 : Fin k0_t19_loop.trips) : Fin 4 → Nat :=
  let c0_i32_75 : BitVec 32 := 0#32
  let c1_i32_77 : BitVec 32 := 1#32
  let arg9 : BitVec 32 := Scf.iv c0_i32_75 c1_i32_77 k0_t19
  let v423 : Index := Scalar.indexCast arg9
  let c3_257 : Index := 3#32
  let c0_258 : Index := 0#32
  let c0_259 : Index := 0#32
  ![v423.toNat, 3, 0, 0]
def k0_off82 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v429 : Index := Scalar.indexCast arg9
  let c3_260 : Index := 3#32
  let c0_261 : Index := 0#32
  let c0_262 : Index := 0#32
  let c0_263 : Index := 0#32
  ![v429.toNat, 3, 0, 0, 0]
def k0_off83 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v435 : Index := Scalar.indexCast arg9
  let c3_264 : Index := 3#32
  let c1_265 : Index := 1#32
  let c0_266 : Index := 0#32
  let c0_267 : Index := 0#32
  ![v435.toNat, 3, 1, 0, 0]
def k0_off84 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v441 : Index := Scalar.indexCast arg9
  let c3_268 : Index := 3#32
  let c2_269 : Index := 2#32
  let c0_270 : Index := 0#32
  let c0_271 : Index := 0#32
  ![v441.toNat, 3, 2, 0, 0]
def k0_off85 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v447 : Index := Scalar.indexCast arg9
  let c3_272 : Index := 3#32
  let c3_273 : Index := 3#32
  let c0_274 : Index := 0#32
  let c0_275 : Index := 0#32
  ![v447.toNat, 3, 3, 0, 0]
def k0_off86 (k0_t19 : Fin k0_t19_loop.trips) : Fin 4 → Nat :=
  let c0_i32_75 : BitVec 32 := 0#32
  let c1_i32_77 : BitVec 32 := 1#32
  let arg9 : BitVec 32 := Scf.iv c0_i32_75 c1_i32_77 k0_t19
  let v519 : Index := Scalar.indexCast arg9
  let c4_303 : Index := 4#32
  let c0_304 : Index := 0#32
  let c0_305 : Index := 0#32
  ![v519.toNat, 4, 0, 0]
def k0_off87 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v525 : Index := Scalar.indexCast arg9
  let c4_306 : Index := 4#32
  let c0_307 : Index := 0#32
  let c0_308 : Index := 0#32
  let c0_309 : Index := 0#32
  ![v525.toNat, 4, 0, 0, 0]
def k0_off88 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v531 : Index := Scalar.indexCast arg9
  let c4_310 : Index := 4#32
  let c1_311 : Index := 1#32
  let c0_312 : Index := 0#32
  let c0_313 : Index := 0#32
  ![v531.toNat, 4, 1, 0, 0]
def k0_off89 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v537 : Index := Scalar.indexCast arg9
  let c4_314 : Index := 4#32
  let c2_315 : Index := 2#32
  let c0_316 : Index := 0#32
  let c0_317 : Index := 0#32
  ![v537.toNat, 4, 2, 0, 0]
def k0_off90 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v543 : Index := Scalar.indexCast arg9
  let c4_318 : Index := 4#32
  let c3_319 : Index := 3#32
  let c0_320 : Index := 0#32
  let c0_321 : Index := 0#32
  ![v543.toNat, 4, 3, 0, 0]
def k0_off91 (k0_t19 : Fin k0_t19_loop.trips) : Fin 4 → Nat :=
  let c0_i32_75 : BitVec 32 := 0#32
  let c1_i32_77 : BitVec 32 := 1#32
  let arg9 : BitVec 32 := Scf.iv c0_i32_75 c1_i32_77 k0_t19
  let v615 : Index := Scalar.indexCast arg9
  let c5_349 : Index := 5#32
  let c0_350 : Index := 0#32
  let c0_351 : Index := 0#32
  ![v615.toNat, 5, 0, 0]
def k0_off92 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v621 : Index := Scalar.indexCast arg9
  let c5_352 : Index := 5#32
  let c0_353 : Index := 0#32
  let c0_354 : Index := 0#32
  let c0_355 : Index := 0#32
  ![v621.toNat, 5, 0, 0, 0]
def k0_off93 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v627 : Index := Scalar.indexCast arg9
  let c5_356 : Index := 5#32
  let c1_357 : Index := 1#32
  let c0_358 : Index := 0#32
  let c0_359 : Index := 0#32
  ![v627.toNat, 5, 1, 0, 0]
def k0_off94 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v633 : Index := Scalar.indexCast arg9
  let c5_360 : Index := 5#32
  let c2_361 : Index := 2#32
  let c0_362 : Index := 0#32
  let c0_363 : Index := 0#32
  ![v633.toNat, 5, 2, 0, 0]
def k0_off95 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v639 : Index := Scalar.indexCast arg9
  let c5_364 : Index := 5#32
  let c3_365 : Index := 3#32
  let c0_366 : Index := 0#32
  let c0_367 : Index := 0#32
  ![v639.toNat, 5, 3, 0, 0]
def k0_off96 (k0_t19 : Fin k0_t19_loop.trips) : Fin 4 → Nat :=
  let c0_i32_75 : BitVec 32 := 0#32
  let c1_i32_77 : BitVec 32 := 1#32
  let arg9 : BitVec 32 := Scf.iv c0_i32_75 c1_i32_77 k0_t19
  let v711 : Index := Scalar.indexCast arg9
  let c6_395 : Index := 6#32
  let c0_396 : Index := 0#32
  let c0_397 : Index := 0#32
  ![v711.toNat, 6, 0, 0]
def k0_off97 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v717 : Index := Scalar.indexCast arg9
  let c6_398 : Index := 6#32
  let c0_399 : Index := 0#32
  let c0_400 : Index := 0#32
  let c0_401 : Index := 0#32
  ![v717.toNat, 6, 0, 0, 0]
def k0_off98 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v723 : Index := Scalar.indexCast arg9
  let c6_402 : Index := 6#32
  let c1_403 : Index := 1#32
  let c0_404 : Index := 0#32
  let c0_405 : Index := 0#32
  ![v723.toNat, 6, 1, 0, 0]
def k0_off99 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v729 : Index := Scalar.indexCast arg9
  let c6_406 : Index := 6#32
  let c2_407 : Index := 2#32
  let c0_408 : Index := 0#32
  let c0_409 : Index := 0#32
  ![v729.toNat, 6, 2, 0, 0]
def k0_off100 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v735 : Index := Scalar.indexCast arg9
  let c6_410 : Index := 6#32
  let c3_411 : Index := 3#32
  let c0_412 : Index := 0#32
  let c0_413 : Index := 0#32
  ![v735.toNat, 6, 3, 0, 0]
def k0_off101 (k0_t19 : Fin k0_t19_loop.trips) : Fin 4 → Nat :=
  let c0_i32_75 : BitVec 32 := 0#32
  let c1_i32_77 : BitVec 32 := 1#32
  let arg9 : BitVec 32 := Scf.iv c0_i32_75 c1_i32_77 k0_t19
  let v807 : Index := Scalar.indexCast arg9
  let c7_441 : Index := 7#32
  let c0_442 : Index := 0#32
  let c0_443 : Index := 0#32
  ![v807.toNat, 7, 0, 0]
def k0_off102 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v813 : Index := Scalar.indexCast arg9
  let c7_444 : Index := 7#32
  let c0_445 : Index := 0#32
  let c0_446 : Index := 0#32
  let c0_447 : Index := 0#32
  ![v813.toNat, 7, 0, 0, 0]
def k0_off103 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v819 : Index := Scalar.indexCast arg9
  let c7_448 : Index := 7#32
  let c1_449 : Index := 1#32
  let c0_450 : Index := 0#32
  let c0_451 : Index := 0#32
  ![v819.toNat, 7, 1, 0, 0]
def k0_off104 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v825 : Index := Scalar.indexCast arg9
  let c7_452 : Index := 7#32
  let c2_453 : Index := 2#32
  let c0_454 : Index := 0#32
  let c0_455 : Index := 0#32
  ![v825.toNat, 7, 2, 0, 0]
def k0_off105 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v831 : Index := Scalar.indexCast arg9
  let c7_456 : Index := 7#32
  let c3_457 : Index := 3#32
  let c0_458 : Index := 0#32
  let c0_459 : Index := 0#32
  ![v831.toNat, 7, 3, 0, 0]
def k0_off106 (k0_t19 : Fin k0_t19_loop.trips) : Fin 4 → Nat :=
  let c0_i32_75 : BitVec 32 := 0#32
  let c1_i32_77 : BitVec 32 := 1#32
  let arg9 : BitVec 32 := Scf.iv c0_i32_75 c1_i32_77 k0_t19
  let v903 : Index := Scalar.indexCast arg9
  let c8_487 : Index := 8#32
  let c0_488 : Index := 0#32
  let c0_489 : Index := 0#32
  ![v903.toNat, 8, 0, 0]
def k0_off107 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v909 : Index := Scalar.indexCast arg9
  let c8_490 : Index := 8#32
  let c0_491 : Index := 0#32
  let c0_492 : Index := 0#32
  let c0_493 : Index := 0#32
  ![v909.toNat, 8, 0, 0, 0]
def k0_off108 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v915 : Index := Scalar.indexCast arg9
  let c8_494 : Index := 8#32
  let c1_495 : Index := 1#32
  let c0_496 : Index := 0#32
  let c0_497 : Index := 0#32
  ![v915.toNat, 8, 1, 0, 0]
def k0_off109 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v921 : Index := Scalar.indexCast arg9
  let c8_498 : Index := 8#32
  let c2_499 : Index := 2#32
  let c0_500 : Index := 0#32
  let c0_501 : Index := 0#32
  ![v921.toNat, 8, 2, 0, 0]
def k0_off110 (k0_t19 : Fin k0_t19_loop.trips) : Fin 5 → Nat :=
  let c0_i32_75 : BitVec 32 := 0#32
  let c1_i32_77 : BitVec 32 := 1#32
  let arg9 : BitVec 32 := Scf.iv c0_i32_75 c1_i32_77 k0_t19
  let v927 : Index := Scalar.indexCast arg9
  let c8_502 : Index := 8#32
  let c3_503 : Index := 3#32
  let c0_504 : Index := 0#32
  let c0_505 : Index := 0#32
  ![v927.toNat, 8, 3, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x2048x216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x9x8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x9x4x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== OffsetsReferenceIdeal.lean ====
abbrev S1 : Shape := ⟨1, ![1]⟩
abbrev S1536x2048 : Shape := ⟨2, ![1536, 2048]⟩
abbrev S9x2048x216 : Shape := ⟨3, ![9, 2048, 216]⟩
abbrev S2x1x128 : Shape := ⟨3, ![2, 1, 128]⟩
abbrev S1x1 : Shape := ⟨2, ![1, 1]⟩
abbrev S1x256 : Shape := ⟨2, ![1, 256]⟩
abbrev S1x216 : Shape := ⟨2, ![1, 216]⟩
abbrev S12x9x8x128 : Shape := ⟨4, ![12, 9, 8, 128]⟩
abbrev S12x9x4x8x128 : Shape := ⟨5, ![12, 9, 4, 8, 128]⟩
abbrev S128x12x2048 : Shape := ⟨3, ![128, 12, 2048]⟩
abbrev S1x12x2048 : Shape := ⟨3, ![1, 12, 2048]⟩
abbrev S129x12x2048 : Shape := ⟨3, ![129, 12, 2048]⟩
abbrev S130x12x2048 : Shape := ⟨3, ![130, 12, 2048]⟩
abbrev S130x1x2048 : Shape := ⟨3, ![130, 1, 2048]⟩
abbrev S130x13x2048 : Shape := ⟨3, ![130, 13, 2048]⟩
abbrev S130x14x2048 : Shape := ⟨3, ![130, 14, 2048]⟩
abbrev S1536x216 : Shape := ⟨2, ![1536, 216]⟩
abbrev S1x2048x216 : Shape := ⟨3, ![1, 2048, 216]⟩
abbrev S2048x216 : Shape := ⟨2, ![2048, 216]⟩
abbrev S1536x144 : Shape := ⟨2, ![1536, 144]⟩
abbrev S12x128x8x9x2 : Shape := ⟨5, ![12, 128, 8, 9, 2]⟩
abbrev S1536x72 : Shape := ⟨2, ![1536, 72]⟩
abbrev S12x128x8x9 : Shape := ⟨4, ![12, 128, 8, 9]⟩
abbrev S12x128x8x9x1 : Shape := ⟨5, ![12, 128, 8, 9, 1]⟩
abbrev S12x9x1x8x128 : Shape := ⟨5, ![12, 9, 1, 8, 128]⟩

abbrev nBuf : Space → Nat
  | .hbm => 9
  | .vmem => 6
  | .smem => 0
  | _ => 0

abbrev bufTy : (tb : Table) → Fin (tcTables nBuf tb) → BufTy
  | .hbm, ⟨0, _⟩ => ⟨S1, .f32⟩
  | .hbm, ⟨1, _⟩ => ⟨S1536x2048, .fp8e4m3⟩
  | .hbm, ⟨2, _⟩ => ⟨S9x2048x216, .bf16⟩
  | .hbm, ⟨3, _⟩ => ⟨S2x1x128, .f32⟩
  | .hbm, ⟨4, _⟩ => ⟨S1x1, .f32⟩
  | .hbm, ⟨5, _⟩ => ⟨S1x256, .f32⟩
  | .hbm, ⟨6, _⟩ => ⟨S1x216, .f32⟩
  | .hbm, ⟨7, _⟩ => ⟨S12x9x8x128, .i32⟩
  | .hbm, ⟨8, _⟩ => ⟨S12x9x4x8x128, .f32⟩
  | .local _ .vmem, ⟨0, _⟩ => ⟨S1536x2048, .fp8e4m3⟩
  | .local _ .vmem, ⟨1, _⟩ => ⟨S9x2048x216, .bf16⟩
  | .local _ .vmem, ⟨2, _⟩ => ⟨S1x1, .f32⟩
  | .local _ .vmem, ⟨3, _⟩ => ⟨S1x216, .f32⟩
  | .local _ .vmem, ⟨4, _⟩ => ⟨S12x9x8x128, .i32⟩
  | .local _ .vmem, ⟨5, _⟩ => ⟨S12x9x4x8x128, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x2048x216 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x9x8x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x9x4x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Words.lean ====
/- What the precondition says of an index word: it is even and names a row of its own group's part of the table. -/
module

public import proofs.«01_k».proof.Pre_words_in_table
public import Idealize.ShloMosaic.Lib.ValueIdxCore
public import Idealize.ShloMosaic.Lib.WordCmp

@[expose] public section

noncomputable section

namespace Cert.Proof.Words

open Idealize.ShloMosaic Cert.Pre_words_in_table

variable {F : FTy → Type} [FloatOps F]

/-- The precondition decoded at a word. -/
theorem word_facts [Facts] (a0 : IVec S1536x2048 8) (A : IVec S108x8x128 32) (a2 : FVec F S108x4x8x128 .f32) (a3 : FVec F S9x2048x1024 .fp8e4m3) (a4 a5 : FVec F S1x1024 .f32)
    (h : fn a0 A a2 a3 a4 a5 = fun _ => 1#1) (y : S108x8x128.Idx) :
    (A y).toNat % 2 = 0 ∧ 3104 * (y 1).val ≤ (A y).toNat ∧ (A y).toNat < 3104 * (y 1).val + 3104 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [fn, andi, cmpi, muli, addi, broadcastInDim, constantI, iotaInDim, IntOp.cmpi, andi_ofBool, ofBool_eq_one, Bool.and_eq_true] at e
  obtain ⟨⟨h1, h2⟩, h3⟩ := e
  have hg : (y 1).val < 8 := (y 1).isLt
  have key : ∀ (w : BitVec 32) (g : ℕ), g < 8 → (IntOp.andi w 1#32 == 0#32) = true → (IntOp.muli 3104#32 (BitVec.ofNat 32 g)).sle w = true →
      w.slt (IntOp.addi (IntOp.muli 3104#32 (BitVec.ofNat 32 g)) 3104#32) = true → w.toNat % 2 = 0 ∧ 3104 * g ≤ w.toNat ∧ w.toNat < 3104 * g + 3104 := by
    intro w g hg a b c
    have e0 : (IntOp.muli 3104#32 (BitVec.ofNat 32 g)).toNat = 3104 * g := by
      show (3104#32 * BitVec.ofNat 32 g).toNat = _
      rw [BitVec.toNat_mul, BitVec.toNat_ofNat, BitVec.toNat_ofNat]; omega
    have e1 : (IntOp.addi (IntOp.muli 3104#32 (BitVec.ofNat 32 g)) 3104#32).toNat = 3104 * g + 3104 := by
      show (IntOp.muli 3104#32 (BitVec.ofNat 32 g) + 3104#32).toNat = _
      rw [BitVec.toNat_add, e0, BitVec.toNat_ofNat]; omega
    have e2 : w.toNat % 2 = 0 := by
      have a' : w &&& 1#32 = 0#32 := beq_iff_eq.mp a
      have := congrArg BitVec.toNat a'
      rw [BitVec.toNat_and] at this
      simpa [Nat.and_one_is_mod] using this
    simp only [BitVec.sle, BitVec.slt, decide_eq_true_eq, BitVec.toInt, e0, e1] at b c
    have := w.isLt
    refine ⟨e2, ?_, ?_⟩ <;> · split at b <;> split at c <;> omega
  exact key (A y) (y 1).val hg h1 h2 h3

end Cert.Proof.Words

end
-- ==== Proof.IBase.lean ====
/- Names shared by the run of the deformable product: the resource algebra, and the contents of the gathered rows. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds beside the counters the body's own transfers use -/

/-- The ghost state: the pipeline's cells beside counters. -/
abbrev UU (nD : Nat) (τ : Topo) : Type := UR sig nD τ × Counters
/-- The pipeline's cells within it. -/
abbrev EP : Emb (UR sig nD τ) (MT nD τ sig Unit (Elt F) ℕ (UU nD τ) ℕ) := embL
/-- No variants are used: every loop is counted. -/
abbrev 𝒱₀ : Variants := Variants.none

omit [FloatOps F] in
/-- Equal assertions entail one another. -/
theorem entails_of_eq {P Q : sProp (MT nD τ sig Unit (Elt F) ℕ (UU nD τ) ℕ)} (e : P = Q) : P ⊢ Q := e ▸ .rfl

/-- A memref of the core held whole at values `X`. -/
abbrev at_ (c : Dev nD) {sp : Space} {s : Shape} {e : EltTy} (m : Memref sig .tc sp s e) (X : s.Idx → Elt F e) :
    sProp (MT nD τ sig Unit (Elt F) ℕ (UU nD τ) ℕ) :=
  m.view.loc (c : Thread nD τ) ↦[m.view.set]{fullShare} m.view.rep X

/-! ## The gathered rows -/

/-- Row `a`, lane `b` of the table, zero outside it. -/
def tabAt (T : S24832x128.Idx → BitVec 32) (a : ℕ) (b : Fin 128) : BitVec 32 :=
  if h : a < 24832 then T (ix2 ⟨a, h⟩ b) else 0#32

/-- What a half's gather leaves: row `r` of group `g` is table row `I[g, r / 2] + r % 2`. -/
def gathered (T : S24832x128.Idx → BitVec 32) (I : S8x128.Idx → BitVec 32) : S8x256x128.Idx → BitVec 32 := fun y =>
  tabAt T ((I (ix2 (y 0) ⟨(y 1).val / 2, by have := (y 1).isLt; change _ < 256 at this; show _ < 128; omega⟩)).toNat + (y 1).val % 2) (y 2)

/-- The same with `g` groups done and `j` pairs of the next, the rest as before. -/
def gatheredTo (T : S24832x128.Idx → BitVec 32) (I : S8x128.Idx → BitVec 32) (S0 : S8x256x128.Idx → BitVec 32) (g j : ℕ) :
    S8x256x128.Idx → BitVec 32 := fun y =>
  if (y 0).val < g ∨ ((y 0).val = g ∧ (y 1).val < 2 * j) then gathered T I y else S0 y

/-- Before the first copy the gather buffer is as it was. -/
theorem gatheredTo_zero (T I S0) : gatheredTo T I S0 0 0 = S0 := by
  funext y; unfold gatheredTo; rw [if_neg]; omega

/-- After a group's last lane comes the next group's first. -/
theorem gatheredTo_next (T I S0) (g : ℕ) : gatheredTo T I S0 g 128 = gatheredTo T I S0 (g + 1) 0 := by
  funext y; unfold gatheredTo
  have := (y 1).isLt; change _ < 256 at this
  congr 1; apply propext; omega

/-- After all groups the gather buffer holds the gathered rows. -/
theorem gatheredTo_all (T I S0) : gatheredTo T I S0 8 0 = gathered T I := by
  funext y; unfold gatheredTo
  have := (y 0).isLt; change _ < 8 at this
  rw [if_pos (Or.inl this)]

end Cert.Proof.KernelIdeal

end
-- ==== Proof.IState.lean ====
/- What the buffers hold, as functions of the operands and of the half-step reached. -/
module

public import proofs.«01_k».proof.Proof.IBase
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- A step's row of a 108-row operand: the last row from then on. -/
def cl (n : ℕ) : Fin 108 := ⟨min n 107, by omega⟩
/-- One chunk's index words. -/
def rowI (A : S108x8x128.Idx → BitVec 32) (b : Fin 108) : S8x128.Idx → BitVec 32 := fun y => A (ix3 b (y 0) (y 1))
/-- The gathered even (`r = 0`) or odd (`r = 1`) rows of group `g`. -/
def srow (S : S8x256x128.Idx → BitVec 32) (g : Fin 8) (r : Fin 2) : Vec F S1x128x128 .i32 := fun y =>
  S (ix3 g ⟨2 * (y 1).val + r.val, by have := (y 1).isLt; change _ < 128 at this; have := r.isLt; show _ < 256; omega⟩ (y 2))
/-- Corner `q`'s weights of group `g` in chunk `b`. -/
def wrow (Z : Vec F S108x4x8x128 .f32) (b : Fin 108) (q : Fin 4) (g : Fin 8) : Vec F S1x1x128 .f32 := fun y => Z (ix4 b q g (y 2))
/-- One group's interpolated columns. -/
def colG (m0 m1 : Vec F S1x128x128 .i32) (wa wb wc wd : Vec F S1x1x128 .f32) : FVec F S128x256 .bf16 :=
  k0_pay43 (k0_pay40 m0 wa wb) (k0_pay41 m1) (k0_pay42 m1) wc wd
/-- The corner that half `h` of row `r` holds in group `g`: odd groups lie swapped in the table. -/
def corner (g : Fin 8) (r h : Fin 2) : Fin 4 := ⟨2 * r.val + (if g.val % 2 = 0 then h.val else 1 - h.val), by have := r.isLt; have := h.isLt; split <;> omega⟩
/-- Group `g`'s columns from the gathered rows. -/
def colS (S : S8x256x128.Idx → BitVec 32) (Z : Vec F S108x4x8x128 .f32) (b : Fin 108) (g : Fin 8) : FVec F S128x256 .bf16 :=
  colG (srow S g 0) (srow S g 1) (wrow Z b (corner g 0 0) g) (wrow Z b (corner g 0 1) g) (wrow Z b (corner g 1 0) g) (wrow Z b (corner g 1 1) g)
/-- All interpolated columns of a chunk. -/
def colF (S : S8x256x128.Idx → BitVec 32) (Z : Vec F S108x4x8x128 .f32) (b : Fin 108) : Vec F S128x2048 .bf16 := fun y =>
  colS S Z b ⟨(y 1).val / 256, by have := (y 1).isLt; change _ < 2048 at this; omega⟩
    (ix2 (y 0) ⟨(y 1).val % 256, by show _ % 256 < 256; omega⟩)
/-- One tap's weight codes. -/
def wtap (Wc : Vec F S9x2048x1024 .fp8e4m3) (k : Fin 9) : Vec F S1x2048x1024 .fp8e4m3 := fun y => Wc (ix3 k (y 1) (y 2))
/-- The accumulator after one more tap's product, started anew at tap 0. -/
def accNext (n : ℕ) (C : Vec F S128x2048 .bf16) (Wc : Vec F S9x2048x1024 .fp8e4m3) (acc : Vec F S128x1024 .f32) : FVec F S128x1024 .f32 :=
  shapeCast S128x1024 (addf (if n % 9 = 0 then broadcast S128x1024 (Scalar.ofBits .f32 0x00000000#32) else acc)
    (matmul dot_S128x2048_S2048x1024_S128x1024_1_0_0_1_n_n none C
      (extf .bf16 (shapeCast S2048x1024 (wtap Wc ⟨n % 9, Nat.mod_lt _ (by decide)⟩) shapeCasts_S1x2048x1024_S2048x1024) bitsLt_fp8e4m3_bf16)
      (constant S128x1024 .f32 0x00000000#32))) shapeCasts_S128x1024_S128x1024

section Run
variable (T : S24832x128.Idx → BitVec 32) (A : S108x8x128.Idx → BitVec 32) (Z : Vec F S108x4x8x128 .f32) (Wc : Vec F S9x2048x1024 .fp8e4m3)

/-- The rows gathered before half-step `i`. -/
def Sst : ℕ → S8x256x128.Idx → BitVec 32
  | 0 => fun _ => 0#32
  | i + 1 => gathered T (rowI A (cl i))
/-- The columns interpolated before half-step `i`. -/
def Cst : ℕ → Vec F S128x2048 .bf16
  | 0 => k0_pay1
  | i + 1 => colF (Sst T A i) Z (cl (i - 1))
/-- The accumulator before half-step `i`. -/
def Acc : ℕ → Vec F S128x1024 .f32
  | 0 => k0_pay2
  | i + 1 => accNext (i - 2) (Cst T A Z i) Wc (Acc i)
/-- The result's blocks written before half-step `i`. -/
def Yok (sc bias : Vec F S1x1024 .f32) (i : ℕ) (Y : Vec F S1536x1024 .bf16) : Prop :=
  ∀ b : Fin 12, 9 * b.val + 10 < i → ∀ (n : Fin 128) (o : Fin 1024),
    Y (ix2 ⟨128 * b.val + n.val, by have := b.isLt; have := n.isLt; omega⟩ o) = k0_pay3 (Acc T A Z Wc (9 * b.val + 11)) sc bias (ix2 n o)
end Run

end Cert.Proof.KernelIdeal

end
-- ==== Proof.ILoads.lean ====
/- What the loads and the products of one trip read, in terms of the values held. -/
module

public import proofs.«01_k».proof.Proof.IState
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section
variable (arg1 : Memref sig .tc .vmem S108x8x128 .i32) (arg2 : Memref sig .tc .vmem S108x4x8x128 .f32) (arg3 : Memref sig .tc .vmem S9x2048x1024 .fp8e4m3)
  (arg10 : Memref sig .tc .vmem S8x256x128 .i32) (arg12 : Memref sig .tc .vmem S128x2048 .bf16) (arg6 : Memref sig .tc .vmem S1536x1024 .bf16)

/-- Every second row of a group, read from the gathered rows. -/
theorem load_srow (S : S8x256x128.Idx → BitVec 32) (g : Fin 8) (r : Fin 2) {off : Fin 3 → ℕ} (ho : off = ![g.val, r.val, 0]) (inb) :
    View.readAt (Elt F) arg10.view ⟨off, S1x128x128.size, ![1, 2, 1], inb⟩ (arg10.view.rep S) = srow (F := F) S g r := by
  subst ho
  funext y
  refine (congrFun (View.read_rep (Val := Elt F) arg10.view S) _).trans ?_
  unfold srow
  refine congrArg S (funext fun a => Fin.ext ?_)
  match a with
  | ⟨0, _⟩ => have : (y 0).val < 1 := (y 0).isLt; show g.val + 1 * (y 0).val = g.val; omega
  | ⟨1, _⟩ => show r.val + 2 * (y 1).val = 2 * (y 1).val + r.val; omega
  | ⟨2, _⟩ => show 0 + 1 * (y 2).val = (y 2).val; omega

/-- A group's weights for one corner, read through the chunk's slice. -/
theorem load_wrow (Z : Vec F S108x4x8x128 .f32) (b : Fin 108) (q : Fin 4) (g : Fin 8) {off : Fin 4 → ℕ} (ho : off = ![b.val, 0, 0, 0]) (inb)
    {off' : Fin 3 → ℕ} (ho' : off' = ![q.val, g.val, 0]) (inb') :
    View.readAt (Elt F) ((arg2.slice (Rect.unit (s := S108x4x8x128) off S1x4x8x128.size inb) (fun _ => rfl)).squeeze S4x8x128 squeezes_S1x4x8x128_S4x8x128).view
      (Rect.unit (s := S4x8x128) off' S1x1x128.size inb').toLoadRect (arg2.view.rep Z) = wrow Z b q g := by
  subst ho ho'
  funext y
  have hy0 : (y 0).val < 1 := (y 0).isLt
  have hy1 : (y 1).val < 1 := (y 1).isLt
  refine (congrFun (Memref.read_squeeze_slice (Val := Elt F) arg2 (Rect.unit (s := S108x4x8x128) ![b.val, 0, 0, 0] S1x4x8x128.size inb) (fun _ => rfl)
    squeezes_S1x4x8x128_S4x8x128 (show S1x4x8x128.ShapeCasts S4x8x128 by decide) (arg2.view.rep Z)) _).trans ?_
  have e : (Rect.unit (s := S4x8x128) ![q.val, g.val, 0] S1x1x128.size inb').toLoadRect.idx y = ix3 q g (y 2) := by
    funext a
    refine Fin.ext ?_
    match a with
    | ⟨0, _⟩ => show q.val + 1 * (y 0).val = q.val; omega
    | ⟨1, _⟩ => show g.val + 1 * (y 1).val = g.val; omega
    | ⟨2, _⟩ => show 0 + 1 * (y 2).val = (y 2).val; omega
  rw [e]
  refine (shapeCast_1abc_abc_apply (m := 4) (a := 8) (b := 128) _ _ q g (y 2)).trans ?_
  refine (congrFun (View.read_rep (Val := Elt F) arg2.view Z) _).trans ?_
  unfold wrow
  refine congrArg Z (funext fun a => Fin.ext ?_)
  match a with
  | ⟨0, _⟩ => show b.val + 1 * 0 = b.val; omega
  | ⟨1, _⟩ => show 0 + 1 * q.val = q.val; omega
  | ⟨2, _⟩ => show 0 + 1 * g.val = g.val; omega
  | ⟨3, _⟩ => show 0 + 1 * (y 2).val = (y 2).val; omega

/-- One tap's weight codes. -/
theorem load_wtap (Wc : Vec F S9x2048x1024 .fp8e4m3) (k : Fin 9) {off : Fin 3 → ℕ} (ho : off = ![k.val, 0, 0]) (inb) :
    View.readAt (Elt F) arg3.view (Rect.unit (s := S9x2048x1024) off S1x2048x1024.size inb).toLoadRect (arg3.view.rep Wc) = wtap Wc k := by
  subst ho
  funext y
  have hy0 : (y 0).val < 1 := (y 0).isLt
  refine (congrFun (View.read_rep (Val := Elt F) arg3.view Wc) _).trans ?_
  unfold wtap
  refine congrArg Wc (funext fun a => Fin.ext ?_)
  match a with
  | ⟨0, _⟩ => show k.val + 1 * (y 0).val = k.val; omega
  | ⟨1, _⟩ => show 0 + 1 * (y 1).val = (y 1).val; omega
  | ⟨2, _⟩ => show 0 + 1 * (y 2).val = (y 2).val; omega

/-- A row of the index words, as the copy carries it. -/
theorem load_rowI (A : S108x8x128.Idx → BitVec 32) (b : Fin 108) {off : Fin 3 → ℕ} (ho : off = ![b.val, 0, 0]) (inb) :
    View.read (Elt F) ((arg1.slice (Rect.unit (s := S108x8x128) off S1x8x128.size inb) (fun _ => rfl)).squeeze S8x128 squeezes_S1x8x128_S8x128).view
      (arg1.view.rep A) = rowI A b := by
  subst ho
  funext y
  refine (congrFun (Memref.read_squeeze_slice (Val := Elt F) arg1 (Rect.unit (s := S108x8x128) ![b.val, 0, 0] S1x8x128.size inb) (fun _ => rfl)
    squeezes_S1x8x128_S8x128 (show S1x8x128.ShapeCasts S8x128 by decide) (arg1.view.rep A)) _).trans ?_
  obtain ⟨i, j, rfl⟩ : ∃ i j, y = ix2 i j := ⟨y 0, y 1, eq_ix2 y⟩
  refine (shapeCast_1ab_ab_apply (a := 8) (b := 128) _ _ i j).trans ?_
  refine (congrFun (View.read_rep (Val := Elt F) arg1.view A) _).trans ?_
  unfold rowI
  refine congrArg A (funext fun a => Fin.ext ?_)
  match a with
  | ⟨0, _⟩ => show b.val + 1 * 0 = b.val; omega
  | ⟨1, _⟩ => show 0 + 1 * i.val = i.val; omega
  | ⟨2, _⟩ => show 0 + 1 * j.val = j.val; omega

/-- Eight stores of 256 columns each leave the columns of the last store to each. -/
theorem cols_value (g : arg12.view.ty.Contents (Elt F)) (P : Fin 8 → FVec F S128x256 .bf16) (S : S8x256x128.Idx → BitVec 32) (Z : Vec F S108x4x8x128 .f32) (b : Fin 108)
    (hP : ∀ k, P k = colS S Z b k) :
    arg12.view.read (Elt F) (arg12.view.writes (Elt F) g
      [⟨Rect.unit (s := S128x2048) ![0, 1792] S128x256.size inb_S128x2048_S128x256_0_1792, P 7⟩, ⟨Rect.unit (s := S128x2048) ![0, 1536] S128x256.size inb_S128x2048_S128x256_0_1536, P 6⟩,
       ⟨Rect.unit (s := S128x2048) ![0, 1280] S128x256.size inb_S128x2048_S128x256_0_1280, P 5⟩, ⟨Rect.unit (s := S128x2048) ![0, 1024] S128x256.size inb_S128x2048_S128x256_0_1024, P 4⟩,
       ⟨Rect.unit (s := S128x2048) ![0, 768] S128x256.size inb_S128x2048_S128x256_0_768, P 3⟩, ⟨Rect.unit (s := S128x2048) ![0, 512] S128x256.size inb_S128x2048_S128x256_0_512, P 2⟩,
       ⟨Rect.unit (s := S128x2048) ![0, 256] S128x256.size inb_S128x2048_S128x256_0_256, P 1⟩, ⟨Rect.unit (s := S128x2048) ![0, 0] S128x256.size inb_S128x2048_S128x256_0_0, P 0⟩])
      = colF S Z b := by
  funext y
  have h0 : (y 0).val < 128 := (y 0).isLt
  have h1 : (y 1).val < 2048 := (y 1).isLt
  have hit : ∀ (k : Fin 8) (hk : (y 1).val / 256 = k.val) (L) (inb : ∀ a, (![0, 256 * k.val] : Fin 2 → ℕ) a + S128x256.size a ≤ S128x2048.size a),
      arg12.view.read (Elt F) (arg12.view.writes (Elt F) g (⟨Rect.unit (s := S128x2048) ![0, 256 * k.val] S128x256.size inb, P k⟩ :: L)) y = colF S Z b y := fun k hk L inb => by
    refine (View.read_writes_cons_unit_of_mem (Val := Elt F) arg12.view g inb (P k) L y (ix2 (y 0) ⟨(y 1).val % 256, by show _ % 256 < 256; omega⟩) rfl (fun a => by
      match a with
      | ⟨0, _⟩ => show (y 0).val = 0 + (y 0).val; omega
      | ⟨1, _⟩ => show (y 1).val = 256 * k.val + (y 1).val % 256; omega)).trans ?_
    rw [hP]; unfold colF
    have e : (⟨(y 1).val / 256, by omega⟩ : Fin 8) = k := Fin.ext hk
    exact congrArg (fun q => colS S Z b q _) e.symm
  have miss : ∀ (k : Fin 8) (hk : (y 1).val / 256 ≠ k.val) (L) (inb : ∀ a, (![0, 256 * k.val] : Fin 2 → ℕ) a + S128x256.size a ≤ S128x2048.size a),
      arg12.view.read (Elt F) (arg12.view.writes (Elt F) g (⟨Rect.unit (s := S128x2048) ![0, 256 * k.val] S128x256.size inb, P k⟩ :: L)) y
        = arg12.view.read (Elt F) (arg12.view.writes (Elt F) g L) y := fun k hk L inb =>
    View.read_writes_cons_unit_of_not_mem (Val := Elt F) arg12.view g inb (P k) L y rfl 1 (by show (y 1).val < 256 * k.val ∨ 256 * k.val + 256 ≤ (y 1).val; omega)
  by_cases h7 : (y 1).val / 256 = 7; · exact hit 7 h7 _ _
  refine (miss 7 h7 _ _).trans ?_
  by_cases h6 : (y 1).val / 256 = 6; · exact hit 6 h6 _ _
  refine (miss 6 h6 _ _).trans ?_
  by_cases h5 : (y 1).val / 256 = 5; · exact hit 5 h5 _ _
  refine (miss 5 h5 _ _).trans ?_
  by_cases h4 : (y 1).val / 256 = 4; · exact hit 4 h4 _ _
  refine (miss 4 h4 _ _).trans ?_
  by_cases h3 : (y 1).val / 256 = 3; · exact hit 3 h3 _ _
  refine (miss 3 h3 _ _).trans ?_
  by_cases h2 : (y 1).val / 256 = 2; · exact hit 2 h2 _ _
  refine (miss 2 h2 _ _).trans ?_
  by_cases h1' : (y 1).val / 256 = 1; · exact hit 1 h1' _ _
  refine (miss 1 h1' _ _).trans ?_
  exact hit 0 (by show (y 1).val / 256 = 0; omega) _ _

/-- The same with the eight payloads apart. -/
theorem cols_value8 (g : arg12.view.ty.Contents (Elt F)) (P0 P1 P2 P3 P4 P5 P6 P7 : FVec F S128x256 .bf16) (S : S8x256x128.Idx → BitVec 32) (Z : Vec F S108x4x8x128 .f32) (b : Fin 108)
    (h0 : P0 = colS S Z b 0) (h1 : P1 = colS S Z b 1) (h2 : P2 = colS S Z b 2) (h3 : P3 = colS S Z b 3) (h4 : P4 = colS S Z b 4) (h5 : P5 = colS S Z b 5) (h6 : P6 = colS S Z b 6) (h7 : P7 = colS S Z b 7) :
    arg12.view.read (Elt F) (arg12.view.writes (Elt F) g [⟨Rect.unit (s := S128x2048) ![0, 1792] S128x256.size inb_S128x2048_S128x256_0_1792, P7⟩, ⟨Rect.unit (s := S128x2048) ![0, 1536] S128x256.size inb_S128x2048_S128x256_0_1536, P6⟩, ⟨Rect.unit (s := S128x2048) ![0, 1280] S128x256.size inb_S128x2048_S128x256_0_1280, P5⟩, ⟨Rect.unit (s := S128x2048) ![0, 1024] S128x256.size inb_S128x2048_S128x256_0_1024, P4⟩, ⟨Rect.unit (s := S128x2048) ![0, 768] S128x256.size inb_S128x2048_S128x256_0_768, P3⟩, ⟨Rect.unit (s := S128x2048) ![0, 512] S128x256.size inb_S128x2048_S128x256_0_512, P2⟩, ⟨Rect.unit (s := S128x2048) ![0, 256] S128x256.size inb_S128x2048_S128x256_0_256, P1⟩, ⟨Rect.unit (s := S128x2048) ![0, 0] S128x256.size inb_S128x2048_S128x256_0_0, P0⟩]) = colF S Z b := by
  subst h0 h1 h2 h3 h4 h5 h6 h7
  exact cols_value arg12 g (fun k => colS S Z b k) S Z b (fun _ => rfl)

end

/-- The tap of the product in an even step. -/
theorem tapE : ∀ t3 : Fin k0_t3_loop.trips, k0_off19 t3 = ![(2 * t3.val - 2) % 9, 0, 0] := by decide +kernel
/-- The tap of the product in an odd step. -/
theorem tapO : ∀ t3 : Fin k0_t3_loop.trips, k0_off27 t3 = ![(2 * t3.val + 1 - 2) % 9, 0, 0] := by decide +kernel
/-- The weights' row that an even step's interpolation reads. -/
theorem rowE : ∀ t3 : Fin k0_t3_loop.trips, k0_off25 t3 = ![(cl (2 * t3.val - 1)).val, 0, 0, 0] := by decide +kernel
/-- The weights' row that an odd step's interpolation reads. -/
theorem rowO : ∀ t3 : Fin k0_t3_loop.trips, k0_off32 t3 = ![(cl (2 * t3.val + 1 - 1)).val, 0, 0, 0] := by decide +kernel
/-- The index row that the second half of a trip gathers by. -/
theorem off28 : ∀ t3 : Fin k0_t3_loop.trips, k0_off28 t3 = ![(cl (2 * (t3.val + 1))).val, 0, 0] := by decide +kernel
/-- An even step stores a result just when it finishes the ninth tap. -/
theorem condE : ∀ t3 : Fin k0_t3_loop.trips, k0_cond1 t3 = 1#1 ↔ (2 ≤ 2 * t3.val ∧ (2 * t3.val - 2) % 9 = 8) := by decide +kernel
/-- An odd step stores a result just when it finishes the ninth tap. -/
theorem condO : ∀ t3 : Fin k0_t3_loop.trips, k0_cond2 t3 = 1#1 ↔ (2 ≤ 2 * t3.val + 1 ∧ (2 * t3.val + 1 - 2) % 9 = 8) := by decide +kernel
/-- The rows of the result that an even step stores. -/
theorem outE : ∀ t3 : Fin k0_t3_loop.trips, k0_cond1 t3 = 1#1 → k0_off26 t3 = ![128 * ((2 * t3.val - 2) / 9), 0] := by decide +kernel
/-- The rows of the result that an odd step stores. -/
theorem outO : ∀ t3 : Fin k0_t3_loop.trips, k0_cond2 t3 = 1#1 → k0_off33 t3 = ![128 * ((2 * t3.val + 1 - 2) / 9), 0] := by decide +kernel
/-- Whether an even step starts a new accumulation. -/
theorem zeroE : ∀ t3 : Fin k0_t3_loop.trips, Scalar.cmpi .eq (Scalar.remsi (Scalar.maxsi (Scalar.subi (Scalar.muli 2#32 (Scf.iv 0#32 1#32 t3)) 2#32) 0#32) 9#32) 0#32
    = if (2 * t3.val - 2) % 9 = 0 then 1#1 else 0#1 := by decide +kernel
/-- Whether an odd step starts a new accumulation. -/
theorem zeroO : ∀ t3 : Fin k0_t3_loop.trips, Scalar.cmpi .eq (Scalar.remsi (Scalar.maxsi (Scalar.subi (Scalar.addi (Scalar.muli 2#32 (Scf.iv 0#32 1#32 t3)) 1#32) 2#32) 0#32) 9#32) 0#32
    = if (2 * t3.val + 1 - 2) % 9 = 0 then 1#1 else 0#1 := by decide +kernel

omit [FloatOps F] in
/-- A select by a decided bit is a choice. -/
theorem select_ite {α : Type} (p : Prop) [Decidable p] (a b : α) : Scalar.select (if p then 1#1 else 0#1) a b = if p then a else b := by
  split <;> rfl

/-- The even half's product and accumulation. -/
theorem accE (t3 : Fin k0_t3_loop.trips) (C : Vec F S128x2048 .bf16) (Wc : Vec F S9x2048x1024 .fp8e4m3) (acc : Vec F S128x1024 .f32) :
    k0_pay38 0#32 1#32 t3 C (wtap Wc ⟨(2 * t3.val - 2) % 9, Nat.mod_lt _ (by decide)⟩) acc = accNext (2 * t3.val - 2) C Wc acc := by
  unfold k0_pay38 accNext
  dsimp only
  rw [zeroE, select_ite]
/-- The odd half's product and accumulation. -/
theorem accO (t3 : Fin k0_t3_loop.trips) (C : Vec F S128x2048 .bf16) (Wc : Vec F S9x2048x1024 .fp8e4m3) (acc : Vec F S128x1024 .f32) :
    k0_pay77 (Scf.iv 0#32 1#32 t3) C (wtap Wc ⟨(2 * t3.val + 1 - 2) % 9, Nat.mod_lt _ (by decide)⟩) acc = accNext (2 * t3.val + 1 - 2) C Wc acc := by
  unfold k0_pay77 accNext
  dsimp only
  rw [zeroO, select_ite]

/-- The result's blocks after a half-step that stores the finished block. -/
theorem yok_store (arg6 : Memref sig .tc .vmem S1536x1024 .bf16) (T : S24832x128.Idx → BitVec 32) (A : S108x8x128.Idx → BitVec 32) (Z : Vec F S108x4x8x128 .f32)
    (Wc : Vec F S9x2048x1024 .fp8e4m3) (sc bias : Vec F S1x1024 .f32) (i : ℕ) (hi : i < 110) (h : 2 ≤ i ∧ (i - 2) % 9 = 8) (Y : Vec F S1536x1024 .bf16)
    (hY : Yok T A Z Wc sc bias i Y) {off : Fin 2 → ℕ} (ho : off = ![128 * ((i - 2) / 9), 0]) (inb : ∀ a, off a + S128x1024.size a ≤ S1536x1024.size a)
    (P : FVec F S128x1024 .bf16) (hP : P = k0_pay3 (Acc T A Z Wc (i + 1)) sc bias) :
    Yok T A Z Wc sc bias (i + 1) (arg6.view.read (Elt F) (arg6.view.writes (Elt F) (arg6.view.rep Y) [⟨Rect.unit (s := S1536x1024) off S128x1024.size inb, P⟩])) := by
  intro b hb n o
  have hn := n.isLt
  have ho' := o.isLt
  by_cases hc : 9 * b.val + 10 < i
  · refine (View.read_writes_cons_unit_of_not_mem (Val := Elt F) arg6.view _ inb P [] _ ho 0 (Or.inl (by show 128 * b.val + n.val < 128 * ((i - 2) / 9); omega))).trans ?_
    have hr : arg6.view.read (Elt F) (arg6.view.writes (Elt F) (arg6.view.rep Y) []) = Y := by
      rw [View.writes]; exact View.read_rep (Val := Elt F) arg6.view Y
    rw [hr]
    exact hY b hc n o
  · have hi' : 9 * b.val + 10 = i := by omega
    refine (View.read_writes_cons_unit_of_mem (Val := Elt F) arg6.view _ inb P [] _ (ix2 n o) ho (fun a => by
      match a with
      | ⟨0, _⟩ => show 128 * b.val + n.val = 128 * ((i - 2) / 9) + n.val; omega
      | ⟨1, _⟩ => show o.val = 0 + o.val; omega)).trans ?_
    subst hi'
    exact congrFun hP _

/-- A half-step that stores no block leaves the blocks as they are. -/
theorem yok_keep (T : S24832x128.Idx → BitVec 32) (A : S108x8x128.Idx → BitVec 32) (Z : Vec F S108x4x8x128 .f32)
    (Wc : Vec F S9x2048x1024 .fp8e4m3) (sc bias : Vec F S1x1024 .f32) (i : ℕ) (h : ¬ (2 ≤ i ∧ (i - 2) % 9 = 8)) (Y : Vec F S1536x1024 .bf16)
    (hY : Yok T A Z Wc sc bias i Y) : Yok T A Z Wc sc bias (i + 1) Y := fun b hb n o => hY b (by omega) n o

end Cert.Proof.KernelIdeal

end
-- ==== Proof.ITable.lean ====
/- The packed input and the table of pixel pairs built from it. -/
module

public import proofs.«01_k».proof.Proof.ILoads
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- Row `n`, lane `l` of the table: the words of a pixel and of its right neighbour side by side, group after group, the rows of an odd group turned by half. -/
def tabG (Q : S4x1584x128.Idx → BitVec 32) (n : ℕ) (hn : n < 24832) (l : Fin 128) : BitVec 32 :=
  if n / 3104 % 2 = 0 then
    if l.val < 64 then Q (ix3 ⟨n / 3104 / 2, by omega⟩ ⟨n % 3104 / 2 + 12 * (n % 2), by omega⟩ l)
    else Q (ix3 ⟨n / 3104 / 2, by omega⟩ ⟨n % 3104 / 2 + 12 * (n % 2) + 1, by omega⟩ ⟨(l.val + 64) % 128, Nat.mod_lt _ (by decide)⟩)
  else
    if l.val < 64 then Q (ix3 ⟨n / 3104 / 2, by omega⟩ ⟨n % 3104 / 2 + 12 * (n % 2) + 1, by omega⟩ ⟨(l.val + 64) % 128, Nat.mod_lt _ (by decide)⟩)
    else Q (ix3 ⟨n / 3104 / 2, by omega⟩ ⟨n % 3104 / 2 + 12 * (n % 2), by omega⟩ l)
/-- The whole table. -/
def tabF (Q : S4x1584x128.Idx → BitVec 32) : S24832x128.Idx → BitVec 32 := fun y => tabG Q (y 0).val (y 0).isLt (y 1)

omit [FloatOps F] in
/-- A word of an even group's part of the table. -/
theorem tabG_even (Q : S4x1584x128.Idx → BitVec 32) {n : ℕ} (hn : n < 24832) (k m r : ℕ) (l : Fin 128) (h1 : n / 3104 = 2 * k) (h2 : n % 3104 / 2 = m) (h3 : n % 2 = r)
    (hk : k < 4) (hm : m + 12 * r + 1 < 1584) :
    tabG Q n hn l = if l.val < 64 then Q (ix3 ⟨k, hk⟩ ⟨m + 12 * r, by omega⟩ l) else Q (ix3 ⟨k, hk⟩ ⟨m + 12 * r + 1, hm⟩ ⟨(l.val + 64) % 128, Nat.mod_lt _ (by decide)⟩) := by
  subst h2 h3
  obtain rfl : k = n / 3104 / 2 := by omega
  unfold tabG
  rw [if_pos (by omega)]
omit [FloatOps F] in
/-- A word of an odd group's part of the table. -/
theorem tabG_odd (Q : S4x1584x128.Idx → BitVec 32) {n : ℕ} (hn : n < 24832) (k m r : ℕ) (l : Fin 128) (h1 : n / 3104 = 2 * k + 1) (h2 : n % 3104 / 2 = m) (h3 : n % 2 = r)
    (hk : k < 4) (hm : m + 12 * r + 1 < 1584) :
    tabG Q n hn l = if l.val < 64 then Q (ix3 ⟨k, hk⟩ ⟨m + 12 * r + 1, hm⟩ ⟨(l.val + 64) % 128, Nat.mod_lt _ (by decide)⟩) else Q (ix3 ⟨k, hk⟩ ⟨m + 12 * r, by omega⟩ l) := by
  subst h2 h3
  obtain rfl : k = n / 3104 / 2 := by omega
  unfold tabG
  rw [if_neg (by omega)]

/-- The low lanes of the first rows, the high lanes of the second turned by half a row, `128` rows at a time. -/
def selE128 (a b : S1x128x128.Idx → BitVec 32) : S128x128.Idx → BitVec 32 :=
  shapeCast S128x128 (select k0_pay120 (shapeCast S128x128 a shapeCasts_S1x128x128_S128x128)
    (dynamicRotate 1 64#32 none (shapeCast S128x128 b shapeCasts_S1x128x128_S128x128) rotates_S128x128_d1)) shapeCasts_S128x128_S128x128
/-- The other way round. -/
def selO128 (a b : S1x128x128.Idx → BitVec 32) : S128x128.Idx → BitVec 32 :=
  shapeCast S128x128 (select k0_pay120 (dynamicRotate 1 64#32 none (shapeCast S128x128 b shapeCasts_S1x128x128_S128x128) rotates_S128x128_d1)
    (shapeCast S128x128 a shapeCasts_S1x128x128_S128x128)) shapeCasts_S128x128_S128x128

/-- The lane mask picks the lower half of the lanes (128 rows). -/
theorem mask128 (i : Fin 128) (l : Fin 128) : k0_pay120 (ix2 i l) = if l.val < 64 then 1#1 else 0#1 := by
  have h : ∀ l : Fin 128, IntOp.cmpi .slt (BitVec.ofNat 32 (0 * 128 + l.val)) 64#32 = if l.val < 64 then 1#1 else 0#1 := by decide
  exact h l

/-- A rotation by 64 lanes (128 rows). -/
theorem rot128 (b : S1x128x128.Idx → BitVec 32) (i : Fin 128) (l : Fin 128) :
    dynamicRotate 1 64#32 none (shapeCast S128x128 b shapeCasts_S1x128x128_S128x128) rotates_S128x128_d1 (ix2 i l)
      = b (ix3 0 i ⟨(l.val + 64) % 128, Nat.mod_lt _ (by decide)⟩) := by
  refine (dynamicRotate_apply 1 64#32 _ _ (ix2 i l) (ix2 i ⟨(l.val + 64) % 128, Nat.mod_lt _ (by decide)⟩) fun a => ?_).trans
    (shapeCast_1ab_ab_apply (a := 128) (b := 128) _ _ i _)
  match a with
  | ⟨0, _⟩ => rfl
  | ⟨1, _⟩ => show (l.val + 64) % 128 = (l.val + 128 - 64 % 128) % 128; omega

/-- A packed word of an even group (128 rows). -/
theorem selE128_apply (a b : S1x128x128.Idx → BitVec 32) (i : Fin 128) (l : Fin 128) :
    selE128 a b (ix2 i l) = if l.val < 64 then a (ix3 0 i l) else b (ix3 0 i ⟨(l.val + 64) % 128, Nat.mod_lt _ (by decide)⟩) := by
  unfold selE128
  rw [shapeCast_self]
  show Scalar.select (k0_pay120 (ix2 i l)) _ _ = _
  rw [mask128, select_ite, rot128]
  refine if_congr Iff.rfl ?_ rfl
  exact shapeCast_1ab_ab_apply (a := 128) (b := 128) _ _ i l
/-- A packed word of an odd group (128 rows). -/
theorem selO128_apply (a b : S1x128x128.Idx → BitVec 32) (i : Fin 128) (l : Fin 128) :
    selO128 a b (ix2 i l) = if l.val < 64 then b (ix3 0 i ⟨(l.val + 64) % 128, Nat.mod_lt _ (by decide)⟩) else a (ix3 0 i l) := by
  unfold selO128
  rw [shapeCast_self]
  show Scalar.select (k0_pay120 (ix2 i l)) _ _ = _
  rw [mask128, select_ite, rot128]
  refine if_congr Iff.rfl rfl ?_
  exact shapeCast_1ab_ab_apply (a := 128) (b := 128) _ _ i l

/-- Rows of one channel block of the packed input, as loaded. -/
theorem load_xw128 (arg7 : Memref sig .tc .vmem S4x1584x128 .i32) (Q : S4x1584x128.Idx → BitVec 32) (k : Fin 4) (a : ℕ) (ha : a + 128 ≤ 1584) {off : Fin 3 → ℕ} (ho : off = ![k.val, a, 0]) (inb) (i : Fin 128) (l : Fin 128) :
    View.readAt (Elt F) arg7.view (Rect.unit (s := S4x1584x128) off S1x128x128.size inb).toLoadRect (arg7.view.rep Q) (ix3 0 i l) = Q (ix3 k ⟨a + i.val, by have := i.isLt; omega⟩ l) := by
  subst ho
  refine (congrFun (View.read_rep (Val := Elt F) arg7.view Q) _).trans ?_
  refine congrArg Q (funext fun b => Fin.ext ?_)
  match b with
  | ⟨0, _⟩ => show k.val + 1 * 0 = k.val; omega
  | ⟨1, _⟩ => show a + 1 * i.val = a + i.val; omega
  | ⟨2, _⟩ => show 0 + 1 * l.val = l.val; omega

/-- What a list of stores into the table leaves: in every stored (group, row) the rows `n0 ≤ m < n0 + 128` as meant, all else as before. -/
def Good128 (arg8 : Memref sig .tc .vmem S24832x128 .i32) (f : arg8.view.ty.Contents (Elt F)) (W : S24832x128.Idx → BitVec 32) (n0 : ℕ)
    (L : List (View.Piece (Elt F) S24832x128 .i32)) (D : ℕ → ℕ → Bool) : Prop :=
  ∀ y : S24832x128.Idx, arg8.view.read (Elt F) (arg8.view.writes (Elt F) f L) y
    = if D ((y 0).val / 3104) ((y 0).val % 2) = true ∧ n0 ≤ (y 0).val % 3104 / 2 ∧ (y 0).val % 3104 / 2 < n0 + 128 then W y else arg8.view.read (Elt F) f y

/-- With no stores made every word reads as before (128 rows). -/
theorem good128_nil (arg8 : Memref sig .tc .vmem S24832x128 .i32) (f : arg8.view.ty.Contents (Elt F)) (W) (n0 : ℕ) : Good128 arg8 f W n0 [] (fun _ _ => false) := by
  intro y
  rw [if_neg (by simp), View.writes]

/-- One more good store keeps the stores good (128 rows). -/
theorem good128_cons (arg8 : Memref sig .tc .vmem S24832x128 .i32) (f : arg8.view.ty.Contents (Elt F)) (W) (n0 : ℕ) (hn0 : n0 + 128 ≤ 1552)
    {L : List (View.Piece (Elt F) S24832x128 .i32)} {D : ℕ → ℕ → Bool} (h : Good128 arg8 f W n0 L D) (g : Fin 8) (r : Fin 2)
    {off : Fin 2 → ℕ} (ho : off = ![3104 * g.val + 2 * n0 + r.val, 0]) (inb) (P : S128x128.Idx → BitVec 32)
    (hP : ∀ (i : Fin 128) (l : Fin 128), P (ix2 i l) = W (ix2 ⟨3104 * g.val + 2 * (n0 + i.val) + r.val, by have := g.isLt; have := r.isLt; have := i.isLt; omega⟩ l)) :
    Good128 arg8 f W n0 (⟨⟨⟨off, S128x128.size, ![2, 1], inb⟩, spos_2_1⟩, P⟩ :: L) (fun a b => (a == g.val && b == r.val) || D a b) := by
  subst ho
  intro y
  have h0 : (y 0).val < 24832 := (y 0).isLt
  have h1 : (y 1).val < 128 := (y 1).isLt
  have hg := g.isLt
  have hr := r.isLt
  by_cases hc : ((y 0).val / 3104 = g.val ∧ (y 0).val % 2 = r.val) ∧ n0 ≤ (y 0).val % 3104 / 2 ∧ (y 0).val % 3104 / 2 < n0 + 128
  · rw [if_pos ⟨by simp [hc.1.1, hc.1.2], hc.2⟩]
    have hi : (y 0).val % 3104 / 2 - n0 < 128 := by omega
    let R : Rect S24832x128 := ⟨⟨![3104 * g.val + 2 * n0 + r.val, 0], S128x128.size, ![2, 1], inb⟩, spos_2_1⟩
    have hy : R.emb (ix2 (⟨(y 0).val % 3104 / 2 - n0, hi⟩ : Fin 128) (⟨(y 1).val, h1⟩ : Fin 128)) = y := funext fun a => Fin.ext (by
      match a with
      | ⟨0, _⟩ => show 3104 * g.val + 2 * n0 + r.val + 2 * ((y 0).val % 3104 / 2 - n0) = (y 0).val; omega
      | ⟨1, _⟩ => show 0 + 1 * (y 1).val = (y 1).val; omega)
    refine (congrArg (arg8.view.read (Elt F) (arg8.view.writes (Elt F) f (⟨R, P⟩ :: L))) hy.symm).trans ((View.read_writes_cons_emb arg8.view f R P L _).trans ?_)
    refine (hP _ _).trans (congrArg W (funext fun a => Fin.ext ?_))
    match a with
    | ⟨0, _⟩ => show 3104 * g.val + 2 * (n0 + ((y 0).val % 3104 / 2 - n0)) + r.val = (y 0).val; omega
    | ⟨1, _⟩ => rfl
  · have hy : y ∉ Finset.univ.map (⟨⟨![3104 * g.val + 2 * n0 + r.val, 0], S128x128.size, ![2, 1], inb⟩, spos_2_1⟩ : Rect S24832x128).emb := by
      intro hm
      obtain ⟨x, -, hx⟩ := Finset.mem_map.1 hm
      have hx0 : (x 0).val < 128 := (x 0).isLt
      have e : 3104 * g.val + 2 * n0 + r.val + 2 * (x 0).val = (y 0).val := congrArg (fun z : S24832x128.Idx => (z 0).val) hx
      omega
    rw [View.writes_cons]
    refine (View.read_slice_write_of_not_mem _ _ _ _ hy).trans ((h y).trans ?_)
    refine if_congr ?_ rfl rfl
    constructor
    · rintro ⟨hd, hh⟩; exact ⟨by simp [hd], hh⟩
    · rintro ⟨hd, hh⟩
      refine ⟨?_, hh⟩
      simp only [Bool.or_eq_true, Bool.and_eq_true, beq_iff_eq] at hd
      rcases hd with hd | hd
      · exact absurd ⟨hd, hh⟩ hc
      · exact hd

/-- An even group's store. -/
theorem good128_even (arg7 : Memref sig .tc .vmem S4x1584x128 .i32) (Q : S4x1584x128.Idx → BitVec 32) (arg8 : Memref sig .tc .vmem S24832x128 .i32) (f : arg8.view.ty.Contents (Elt F)) (n0 : ℕ) (hn0 : n0 + 128 ≤ 1552)
    {L : List (View.Piece (Elt F) S24832x128 .i32)} {D : ℕ → ℕ → Bool} (h : Good128 arg8 f (tabF Q) n0 L D) (k : Fin 4) (r : Fin 2)
    {off : Fin 2 → ℕ} (ho : off = ![3104 * (2 * k.val) + 2 * n0 + r.val, 0]) (inb)
    {oc : Fin 3 → ℕ} (hc : oc = ![k.val, n0 + 12 * r.val, 0]) (ic) {on : Fin 3 → ℕ} (hn : on = ![k.val, n0 + 12 * r.val + 1, 0]) (inn) (P : S128x128.Idx → BitVec 32)
    (hP : P = selE128 (View.readAt (Elt F) arg7.view (Rect.unit (s := S4x1584x128) oc S1x128x128.size ic).toLoadRect (arg7.view.rep Q))
      (View.readAt (Elt F) arg7.view (Rect.unit (s := S4x1584x128) on S1x128x128.size inn).toLoadRect (arg7.view.rep Q))) :
    Good128 arg8 f (tabF Q) n0 (⟨⟨⟨off, S128x128.size, ![2, 1], inb⟩, spos_2_1⟩, P⟩ :: L) (fun a b => (a == 2 * k.val && b == r.val) || D a b) := by
  have hk := k.isLt
  have hr := r.isLt
  refine good128_cons arg8 f (tabF Q) n0 hn0 h ⟨2 * k.val, by omega⟩ r ho inb P fun i l => ?_
  have hi := i.isLt
  have hl := l.isLt
  rw [hP, selE128_apply, load_xw128 arg7 Q k (n0 + 12 * r.val) (by omega) hc ic, load_xw128 arg7 Q k (n0 + 12 * r.val + 1) (by omega) hn inn]
  unfold tabF
  have e1 : (3104 * (2 * k.val) + 2 * (n0 + i.val) + r.val) / 3104 = 2 * k.val := by omega
  have e2 : (3104 * (2 * k.val) + 2 * (n0 + i.val) + r.val) % 3104 / 2 = n0 + i.val := by omega
  have e3 : (3104 * (2 * k.val) + 2 * (n0 + i.val) + r.val) % 2 = r.val := by omega
  refine Eq.trans ?_ (tabG_even Q _ k.val (n0 + i.val) r.val l e1 e2 e3 (by omega) (by omega)).symm
  by_cases hc' : l.val < 64
  · rw [if_pos hc', if_pos hc']
    refine congrArg Q (funext fun a => Fin.ext ?_)
    match a with
    | ⟨0, _⟩ => rfl
    | ⟨1, _⟩ => show n0 + 12 * r.val + i.val = n0 + i.val + 12 * r.val; omega
    | ⟨2, _⟩ => rfl
  · rw [if_neg hc', if_neg hc']
    refine congrArg Q (funext fun a => Fin.ext ?_)
    match a with
    | ⟨0, _⟩ => rfl
    | ⟨1, _⟩ => show n0 + 12 * r.val + 1 + i.val = n0 + i.val + 12 * r.val + 1; omega
    | ⟨2, _⟩ => rfl

/-- An odd group's store. -/
theorem good128_odd (arg7 : Memref sig .tc .vmem S4x1584x128 .i32) (Q : S4x1584x128.Idx → BitVec 32) (arg8 : Memref sig .tc .vmem S24832x128 .i32) (f : arg8.view.ty.Contents (Elt F)) (n0 : ℕ) (hn0 : n0 + 128 ≤ 1552)
    {L : List (View.Piece (Elt F) S24832x128 .i32)} {D : ℕ → ℕ → Bool} (h : Good128 arg8 f (tabF Q) n0 L D) (k : Fin 4) (r : Fin 2)
    {off : Fin 2 → ℕ} (ho : off = ![3104 * (2 * k.val + 1) + 2 * n0 + r.val, 0]) (inb)
    {oc : Fin 3 → ℕ} (hc : oc = ![k.val, n0 + 12 * r.val, 0]) (ic) {on : Fin 3 → ℕ} (hn : on = ![k.val, n0 + 12 * r.val + 1, 0]) (inn) (P : S128x128.Idx → BitVec 32)
    (hP : P = selO128 (View.readAt (Elt F) arg7.view (Rect.unit (s := S4x1584x128) oc S1x128x128.size ic).toLoadRect (arg7.view.rep Q))
      (View.readAt (Elt F) arg7.view (Rect.unit (s := S4x1584x128) on S1x128x128.size inn).toLoadRect (arg7.view.rep Q))) :
    Good128 arg8 f (tabF Q) n0 (⟨⟨⟨off, S128x128.size, ![2, 1], inb⟩, spos_2_1⟩, P⟩ :: L) (fun a b => (a == 2 * k.val + 1 && b == r.val) || D a b) := by
  have hk := k.isLt
  have hr := r.isLt
  refine good128_cons arg8 f (tabF Q) n0 hn0 h ⟨2 * k.val + 1, by omega⟩ r ho inb P fun i l => ?_
  have hi := i.isLt
  have hl := l.isLt
  rw [hP, selO128_apply, load_xw128 arg7 Q k (n0 + 12 * r.val) (by omega) hc ic, load_xw128 arg7 Q k (n0 + 12 * r.val + 1) (by omega) hn inn]
  unfold tabF
  have e1 : (3104 * (2 * k.val + 1) + 2 * (n0 + i.val) + r.val) / 3104 = 2 * k.val + 1 := by omega
  have e2 : (3104 * (2 * k.val + 1) + 2 * (n0 + i.val) + r.val) % 3104 / 2 = n0 + i.val := by omega
  have e3 : (3104 * (2 * k.val + 1) + 2 * (n0 + i.val) + r.val) % 2 = r.val := by omega
  refine Eq.trans ?_ (tabG_odd Q _ k.val (n0 + i.val) r.val l e1 e2 e3 (by omega) (by omega)).symm
  by_cases hc' : l.val < 64
  · rw [if_pos hc', if_pos hc']
    refine congrArg Q (funext fun a => Fin.ext ?_)
    match a with
    | ⟨0, _⟩ => rfl
    | ⟨1, _⟩ => show n0 + 12 * r.val + 1 + i.val = n0 + i.val + 12 * r.val + 1; omega
    | ⟨2, _⟩ => rfl
  · rw [if_neg hc', if_neg hc']
    refine congrArg Q (funext fun a => Fin.ext ?_)
    match a with
    | ⟨0, _⟩ => rfl
    | ⟨1, _⟩ => show n0 + 12 * r.val + i.val = n0 + i.val + 12 * r.val; omega
    | ⟨2, _⟩ => rfl

/-- The low lanes of the first rows, the high lanes of the second turned by half a row, `16` rows at a time. -/
def selE16 (a b : S1x16x128.Idx → BitVec 32) : S16x128.Idx → BitVec 32 :=
  shapeCast S16x128 (select (extractStridedSlice S16x128 ![0, 0] k0_pay120 slices_S128x128_o0_0_S16x128) (shapeCast S16x128 a shapeCasts_S1x16x128_S16x128)
    (dynamicRotate 1 64#32 none (shapeCast S16x128 b shapeCasts_S1x16x128_S16x128) rotates_S16x128_d1)) shapeCasts_S16x128_S16x128
/-- The other way round. -/
def selO16 (a b : S1x16x128.Idx → BitVec 32) : S16x128.Idx → BitVec 32 :=
  shapeCast S16x128 (select (extractStridedSlice S16x128 ![0, 0] k0_pay120 slices_S128x128_o0_0_S16x128) (dynamicRotate 1 64#32 none (shapeCast S16x128 b shapeCasts_S1x16x128_S16x128) rotates_S16x128_d1)
    (shapeCast S16x128 a shapeCasts_S1x16x128_S16x128)) shapeCasts_S16x128_S16x128

/-- The lane mask picks the lower half of the lanes (16 rows). -/
theorem mask16 (i : Fin 16) (l : Fin 128) : (extractStridedSlice S16x128 ![0, 0] k0_pay120 slices_S128x128_o0_0_S16x128) (ix2 i l) = if l.val < 64 then 1#1 else 0#1 := by
  refine Eq.trans (congrArg k0_pay120 (?_ : _ = ix2 (⟨i.val, by have := i.isLt; omega⟩ : Fin 128) l)) (mask128 ⟨i.val, by have := i.isLt; omega⟩ l)
  funext a
  refine Fin.ext ?_
  match a with
  | ⟨0, _⟩ => show 0 + i.val = i.val; omega
  | ⟨1, _⟩ => show 0 + l.val = l.val; omega

/-- A rotation by 64 lanes (16 rows). -/
theorem rot16 (b : S1x16x128.Idx → BitVec 32) (i : Fin 16) (l : Fin 128) :
    dynamicRotate 1 64#32 none (shapeCast S16x128 b shapeCasts_S1x16x128_S16x128) rotates_S16x128_d1 (ix2 i l)
      = b (ix3 0 i ⟨(l.val + 64) % 128, Nat.mod_lt _ (by decide)⟩) := by
  refine (dynamicRotate_apply 1 64#32 _ _ (ix2 i l) (ix2 i ⟨(l.val + 64) % 128, Nat.mod_lt _ (by decide)⟩) fun a => ?_).trans
    (shapeCast_1ab_ab_apply (a := 16) (b := 128) _ _ i _)
  match a with
  | ⟨0, _⟩ => rfl
  | ⟨1, _⟩ => show (l.val + 64) % 128 = (l.val + 128 - 64 % 128) % 128; omega

/-- A packed word of an even group (16 rows). -/
theorem selE16_apply (a b : S1x16x128.Idx → BitVec 32) (i : Fin 16) (l : Fin 128) :
    selE16 a b (ix2 i l) = if l.val < 64 then a (ix3 0 i l) else b (ix3 0 i ⟨(l.val + 64) % 128, Nat.mod_lt _ (by decide)⟩) := by
  unfold selE16
  rw [shapeCast_self]
  show Scalar.select ((extractStridedSlice S16x128 ![0, 0] k0_pay120 slices_S128x128_o0_0_S16x128) (ix2 i l)) _ _ = _
  rw [mask16, select_ite, rot16]
  refine if_congr Iff.rfl ?_ rfl
  exact shapeCast_1ab_ab_apply (a := 16) (b := 128) _ _ i l
/-- A packed word of an odd group (16 rows). -/
theorem selO16_apply (a b : S1x16x128.Idx → BitVec 32) (i : Fin 16) (l : Fin 128) :
    selO16 a b (ix2 i l) = if l.val < 64 then b (ix3 0 i ⟨(l.val + 64) % 128, Nat.mod_lt _ (by decide)⟩) else a (ix3 0 i l) := by
  unfold selO16
  rw [shapeCast_self]
  show Scalar.select ((extractStridedSlice S16x128 ![0, 0] k0_pay120 slices_S128x128_o0_0_S16x128) (ix2 i l)) _ _ = _
  rw [mask16, select_ite, rot16]
  refine if_congr Iff.rfl rfl ?_
  exact shapeCast_1ab_ab_apply (a := 16) (b := 128) _ _ i l

/-- Rows of one channel block of the packed input, as loaded. -/
theorem load_xw16 (arg7 : Memref sig .tc .vmem S4x1584x128 .i32) (Q : S4x1584x128.Idx → BitVec 32) (k : Fin 4) (a : ℕ) (ha : a + 16 ≤ 1584) {off : Fin 3 → ℕ} (ho : off = ![k.val, a, 0]) (inb) (i : Fin 16) (l : Fin 128) :
    View.readAt (Elt F) arg7.view (Rect.unit (s := S4x1584x128) off S1x16x128.size inb).toLoadRect (arg7.view.rep Q) (ix3 0 i l) = Q (ix3 k ⟨a + i.val, by have := i.isLt; omega⟩ l) := by
  subst ho
  refine (congrFun (View.read_rep (Val := Elt F) arg7.view Q) _).trans ?_
  refine congrArg Q (funext fun b => Fin.ext ?_)
  match b with
  | ⟨0, _⟩ => show k.val + 1 * 0 = k.val; omega
  | ⟨1, _⟩ => show a + 1 * i.val = a + i.val; omega
  | ⟨2, _⟩ => show 0 + 1 * l.val = l.val; omega

/-- What a list of stores into the table leaves: in every stored (group, row) the rows `n0 ≤ m < n0 + 16` as meant, all else as before. -/
def Good16 (arg8 : Memref sig .tc .vmem S24832x128 .i32) (f : arg8.view.ty.Contents (Elt F)) (W : S24832x128.Idx → BitVec 32) (n0 : ℕ)
    (L : List (View.Piece (Elt F) S24832x128 .i32)) (D : ℕ → ℕ → Bool) : Prop :=
  ∀ y : S24832x128.Idx, arg8.view.read (Elt F) (arg8.view.writes (Elt F) f L) y
    = if D ((y 0).val / 3104) ((y 0).val % 2) = true ∧ n0 ≤ (y 0).val % 3104 / 2 ∧ (y 0).val % 3104 / 2 < n0 + 16 then W y else arg8.view.read (Elt F) f y

/-- With no stores made every word reads as before (16 rows). -/
theorem good16_nil (arg8 : Memref sig .tc .vmem S24832x128 .i32) (f : arg8.view.ty.Contents (Elt F)) (W) (n0 : ℕ) : Good16 arg8 f W n0 [] (fun _ _ => false) := by
  intro y
  rw [if_neg (by simp), View.writes]

/-- One more good store keeps the stores good (16 rows). -/
theorem good16_cons (arg8 : Memref sig .tc .vmem S24832x128 .i32) (f : arg8.view.ty.Contents (Elt F)) (W) (n0 : ℕ) (hn0 : n0 + 16 ≤ 1552)
    {L : List (View.Piece (Elt F) S24832x128 .i32)} {D : ℕ → ℕ → Bool} (h : Good16 arg8 f W n0 L D) (g : Fin 8) (r : Fin 2)
    {off : Fin 2 → ℕ} (ho : off = ![3104 * g.val + 2 * n0 + r.val, 0]) (inb) (P : S16x128.Idx → BitVec 32)
    (hP : ∀ (i : Fin 16) (l : Fin 128), P (ix2 i l) = W (ix2 ⟨3104 * g.val + 2 * (n0 + i.val) + r.val, by have := g.isLt; have := r.isLt; have := i.isLt; omega⟩ l)) :
    Good16 arg8 f W n0 (⟨⟨⟨off, S16x128.size, ![2, 1], inb⟩, spos_2_1⟩, P⟩ :: L) (fun a b => (a == g.val && b == r.val) || D a b) := by
  subst ho
  intro y
  have h0 : (y 0).val < 24832 := (y 0).isLt
  have h1 : (y 1).val < 128 := (y 1).isLt
  have hg := g.isLt
  have hr := r.isLt
  by_cases hc : ((y 0).val / 3104 = g.val ∧ (y 0).val % 2 = r.val) ∧ n0 ≤ (y 0).val % 3104 / 2 ∧ (y 0).val % 3104 / 2 < n0 + 16
  · rw [if_pos ⟨by simp [hc.1.1, hc.1.2], hc.2⟩]
    have hi : (y 0).val % 3104 / 2 - n0 < 16 := by omega
    let R : Rect S24832x128 := ⟨⟨![3104 * g.val + 2 * n0 + r.val, 0], S16x128.size, ![2, 1], inb⟩, spos_2_1⟩
    have hy : R.emb (ix2 (⟨(y 0).val % 3104 / 2 - n0, hi⟩ : Fin 16) (⟨(y 1).val, h1⟩ : Fin 128)) = y := funext fun a => Fin.ext (by
      match a with
      | ⟨0, _⟩ => show 3104 * g.val + 2 * n0 + r.val + 2 * ((y 0).val % 3104 / 2 - n0) = (y 0).val; omega
      | ⟨1, _⟩ => show 0 + 1 * (y 1).val = (y 1).val; omega)
    refine (congrArg (arg8.view.read (Elt F) (arg8.view.writes (Elt F) f (⟨R, P⟩ :: L))) hy.symm).trans ((View.read_writes_cons_emb arg8.view f R P L _).trans ?_)
    refine (hP _ _).trans (congrArg W (funext fun a => Fin.ext ?_))
    match a with
    | ⟨0, _⟩ => show 3104 * g.val + 2 * (n0 + ((y 0).val % 3104 / 2 - n0)) + r.val = (y 0).val; omega
    | ⟨1, _⟩ => rfl
  · have hy : y ∉ Finset.univ.map (⟨⟨![3104 * g.val + 2 * n0 + r.val, 0], S16x128.size, ![2, 1], inb⟩, spos_2_1⟩ : Rect S24832x128).emb := by
      intro hm
      obtain ⟨x, -, hx⟩ := Finset.mem_map.1 hm
      have hx0 : (x 0).val < 16 := (x 0).isLt
      have e : 3104 * g.val + 2 * n0 + r.val + 2 * (x 0).val = (y 0).val := congrArg (fun z : S24832x128.Idx => (z 0).val) hx
      omega
    rw [View.writes_cons]
    refine (View.read_slice_write_of_not_mem _ _ _ _ hy).trans ((h y).trans ?_)
    refine if_congr ?_ rfl rfl
    constructor
    · rintro ⟨hd, hh⟩; exact ⟨by simp [hd], hh⟩
    · rintro ⟨hd, hh⟩
      refine ⟨?_, hh⟩
      simp only [Bool.or_eq_true, Bool.and_eq_true, beq_iff_eq] at hd
      rcases hd with hd | hd
      · exact absurd ⟨hd, hh⟩ hc
      · exact hd

/-- An even group's store. -/
theorem good16_even (arg7 : Memref sig .tc .vmem S4x1584x128 .i32) (Q : S4x1584x128.Idx → BitVec 32) (arg8 : Memref sig .tc .vmem S24832x128 .i32) (f : arg8.view.ty.Contents (Elt F)) (n0 : ℕ) (hn0 : n0 + 16 ≤ 1552)
    {L : List (View.Piece (Elt F) S24832x128 .i32)} {D : ℕ → ℕ → Bool} (h : Good16 arg8 f (tabF Q) n0 L D) (k : Fin 4) (r : Fin 2)
    {off : Fin 2 → ℕ} (ho : off = ![3104 * (2 * k.val) + 2 * n0 + r.val, 0]) (inb)
    {oc : Fin 3 → ℕ} (hc : oc = ![k.val, n0 + 12 * r.val, 0]) (ic) {on : Fin 3 → ℕ} (hn : on = ![k.val, n0 + 12 * r.val + 1, 0]) (inn) (P : S16x128.Idx → BitVec 32)
    (hP : P = selE16 (View.readAt (Elt F) arg7.view (Rect.unit (s := S4x1584x128) oc S1x16x128.size ic).toLoadRect (arg7.view.rep Q))
      (View.readAt (Elt F) arg7.view (Rect.unit (s := S4x1584x128) on S1x16x128.size inn).toLoadRect (arg7.view.rep Q))) :
    Good16 arg8 f (tabF Q) n0 (⟨⟨⟨off, S16x128.size, ![2, 1], inb⟩, spos_2_1⟩, P⟩ :: L) (fun a b => (a == 2 * k.val && b == r.val) || D a b) := by
  have hk := k.isLt
  have hr := r.isLt
  refine good16_cons arg8 f (tabF Q) n0 hn0 h ⟨2 * k.val, by omega⟩ r ho inb P fun i l => ?_
  have hi := i.isLt
  have hl := l.isLt
  rw [hP, selE16_apply, load_xw16 arg7 Q k (n0 + 12 * r.val) (by omega) hc ic, load_xw16 arg7 Q k (n0 + 12 * r.val + 1) (by omega) hn inn]
  unfold tabF
  have e1 : (3104 * (2 * k.val) + 2 * (n0 + i.val) + r.val) / 3104 = 2 * k.val := by omega
  have e2 : (3104 * (2 * k.val) + 2 * (n0 + i.val) + r.val) % 3104 / 2 = n0 + i.val := by omega
  have e3 : (3104 * (2 * k.val) + 2 * (n0 + i.val) + r.val) % 2 = r.val := by omega
  refine Eq.trans ?_ (tabG_even Q _ k.val (n0 + i.val) r.val l e1 e2 e3 (by omega) (by omega)).symm
  by_cases hc' : l.val < 64
  · rw [if_pos hc', if_pos hc']
    refine congrArg Q (funext fun a => Fin.ext ?_)
    match a with
    | ⟨0, _⟩ => rfl
    | ⟨1, _⟩ => show n0 + 12 * r.val + i.val = n0 + i.val + 12 * r.val; omega
    | ⟨2, _⟩ => rfl
  · rw [if_neg hc', if_neg hc']
    refine congrArg Q (funext fun a => Fin.ext ?_)
    match a with
    | ⟨0, _⟩ => rfl
    | ⟨1, _⟩ => show n0 + 12 * r.val + 1 + i.val = n0 + i.val + 12 * r.val + 1; omega
    | ⟨2, _⟩ => rfl

/-- An odd group's store. -/
theorem good16_odd (arg7 : Memref sig .tc .vmem S4x1584x128 .i32) (Q : S4x1584x128.Idx → BitVec 32) (arg8 : Memref sig .tc .vmem S24832x128 .i32) (f : arg8.view.ty.Contents (Elt F)) (n0 : ℕ) (hn0 : n0 + 16 ≤ 1552)
    {L : List (View.Piece (Elt F) S24832x128 .i32)} {D : ℕ → ℕ → Bool} (h : Good16 arg8 f (tabF Q) n0 L D) (k : Fin 4) (r : Fin 2)
    {off : Fin 2 → ℕ} (ho : off = ![3104 * (2 * k.val + 1) + 2 * n0 + r.val, 0]) (inb)
    {oc : Fin 3 → ℕ} (hc : oc = ![k.val, n0 + 12 * r.val, 0]) (ic) {on : Fin 3 → ℕ} (hn : on = ![k.val, n0 + 12 * r.val + 1, 0]) (inn) (P : S16x128.Idx → BitVec 32)
    (hP : P = selO16 (View.readAt (Elt F) arg7.view (Rect.unit (s := S4x1584x128) oc S1x16x128.size ic).toLoadRect (arg7.view.rep Q))
      (View.readAt (Elt F) arg7.view (Rect.unit (s := S4x1584x128) on S1x16x128.size inn).toLoadRect (arg7.view.rep Q))) :
    Good16 arg8 f (tabF Q) n0 (⟨⟨⟨off, S16x128.size, ![2, 1], inb⟩, spos_2_1⟩, P⟩ :: L) (fun a b => (a == 2 * k.val + 1 && b == r.val) || D a b) := by
  have hk := k.isLt
  have hr := r.isLt
  refine good16_cons arg8 f (tabF Q) n0 hn0 h ⟨2 * k.val + 1, by omega⟩ r ho inb P fun i l => ?_
  have hi := i.isLt
  have hl := l.isLt
  rw [hP, selO16_apply, load_xw16 arg7 Q k (n0 + 12 * r.val) (by omega) hc ic, load_xw16 arg7 Q k (n0 + 12 * r.val + 1) (by omega) hn inn]
  unfold tabF
  have e1 : (3104 * (2 * k.val + 1) + 2 * (n0 + i.val) + r.val) / 3104 = 2 * k.val + 1 := by omega
  have e2 : (3104 * (2 * k.val + 1) + 2 * (n0 + i.val) + r.val) % 3104 / 2 = n0 + i.val := by omega
  have e3 : (3104 * (2 * k.val + 1) + 2 * (n0 + i.val) + r.val) % 2 = r.val := by omega
  refine Eq.trans ?_ (tabG_odd Q _ k.val (n0 + i.val) r.val l e1 e2 e3 (by omega) (by omega)).symm
  by_cases hc' : l.val < 64
  · rw [if_pos hc', if_pos hc']
    refine congrArg Q (funext fun a => Fin.ext ?_)
    match a with
    | ⟨0, _⟩ => rfl
    | ⟨1, _⟩ => show n0 + 12 * r.val + 1 + i.val = n0 + i.val + 12 * r.val + 1; omega
    | ⟨2, _⟩ => rfl
  · rw [if_neg hc', if_neg hc']
    refine congrArg Q (funext fun a => Fin.ext ?_)
    match a with
    | ⟨0, _⟩ => rfl
    | ⟨1, _⟩ => show n0 + 12 * r.val + i.val = n0 + i.val + 12 * r.val; omega
    | ⟨2, _⟩ => rfl

/-- A block of the input's bytes: 128 pixels, 512 channels. -/
def xsl (X : Vec F S1536x2048 .i8) (b : ℕ) (hb : b < 12) (k : Fin 4) : Vec F S128x512 .i8 := fun y =>
  X (ix2 ⟨128 * b + (y 0).val, by have := (y 0).isLt; change _ < 128 at this; omega⟩ ⟨512 * k.val + (y 1).val, by have := (y 1).isLt; change _ < 512 at this; have := k.isLt; omega⟩)
/-- The packed input: four channels to a word, sixteen rows of zeros before the first pixel and the rest after the last. -/
def xwF (X : Vec F S1536x2048 .i8) : S4x1584x128.Idx → BitVec 32 := fun y =>
  if h : 16 ≤ (y 1).val ∧ (y 1).val < 1552 then
    k0_pay4 (xsl X (((y 1).val - 16) / 128) (by omega) (y 0)) (ix3 0 ⟨((y 1).val - 16) % 128, Nat.mod_lt _ (by decide)⟩ (y 2))
  else 0#32
/-- The packed input with `n` blocks of pixels in place. -/
def XwOk (X : Vec F S1536x2048 .i8) (n : ℕ) (Q : S4x1584x128.Idx → BitVec 32) : Prop :=
  ∀ y : S4x1584x128.Idx, (y 1).val < 16 + 128 * n ∨ 1552 ≤ (y 1).val → Q y = xwF X y
/-- The table with `n` blocks of rows in place. -/
def TbOk (Q : S4x1584x128.Idx → BitVec 32) (n : ℕ) (T : S24832x128.Idx → BitVec 32) : Prop :=
  ∀ y : S24832x128.Idx, (y 0).val % 3104 / 2 < 128 * n → T y = tabF Q y

/-- The pieces of x that a trip of the packing reads. -/
theorem offX0 : ∀ t : Fin k0_t1_loop.trips, k0_off2 t = ![128 * t.val, 0] ∧ k0_off4 t = ![128 * t.val, 512] ∧ k0_off6 t = ![128 * t.val, 1024] ∧ k0_off8 t = ![128 * t.val, 1536] := by decide +kernel
/-- The rows of the packed words that a trip of the packing stores. -/
theorem offX1 : ∀ t : Fin k0_t1_loop.trips, k0_off3 t = ![0, 16 + 128 * t.val, 0] ∧ k0_off5 t = ![1, 16 + 128 * t.val, 0] ∧ k0_off7 t = ![2, 16 + 128 * t.val, 0] ∧ k0_off9 t = ![3, 16 + 128 * t.val, 0] := by decide +kernel

/-- A block of bytes as loaded. -/
theorem load_x (arg0 : Memref sig .tc .vmem S1536x2048 .i8) (X : Vec F S1536x2048 .i8) (b : ℕ) (hb : b < 12) (k : Fin 4) {off : Fin 2 → ℕ} (ho : off = ![128 * b, 512 * k.val]) (inb) :
    View.readAt (Elt F) arg0.view (Rect.unit (s := S1536x2048) off S128x512.size inb).toLoadRect (arg0.view.rep X) = xsl X b hb k := by
  subst ho
  funext y
  refine (congrFun (View.read_rep (Val := Elt F) arg0.view X) _).trans ?_
  refine congrArg X (funext fun a => Fin.ext ?_)
  match a with
  | ⟨0, _⟩ => show 128 * b + 1 * (y 0).val = 128 * b + (y 0).val; omega
  | ⟨1, _⟩ => show 512 * k.val + 1 * (y 1).val = 512 * k.val + (y 1).val; omega

/-- The packed input within block `b`. -/
theorem xwF_at (X : Vec F S1536x2048 .i8) (b : ℕ) (hb : b < 12) (k : Fin 4) (d : Fin 128) (l : Fin 128) (y : S4x1584x128.Idx) (h0 : (y 0).val = k.val) (h1 : (y 1).val = 16 + 128 * b + d.val) (h2 : (y 2).val = l.val) :
    xwF X y = k0_pay4 (xsl X b hb k) (ix3 0 d l) := by
  have hd := d.isLt
  have key : ∀ (b' : ℕ) (hb' : b' < 12) (k' : Fin 4) (d' : Fin 128) (l' : Fin 128), b' = b → k' = k → d' = d → l' = l →
      k0_pay4 (xsl X b' hb' k') (ix3 0 d' l') = k0_pay4 (xsl X b hb k) (ix3 0 d l) := fun b' hb' k' d' l' e1 e2 e3 e4 => by subst e1 e2 e3 e4; rfl
  unfold xwF
  rw [dif_pos (by omega)]
  exact key _ _ _ _ _ (by omega) (Fin.ext h0) (Fin.ext (by show ((y 1).val - 16) % 128 = d.val; omega)) (Fin.ext h2)

/-- One block of pixels packed: the four stores of a trip. -/
theorem xw_step (arg7 : Memref sig .tc .vmem S4x1584x128 .i32) (X : Vec F S1536x2048 .i8) (b : ℕ) (hb : b < 12) (Q : S4x1584x128.Idx → BitVec 32) (hQ : XwOk X b Q)
    {o0 o1 o2 o3 : Fin 3 → ℕ} (h0 : o0 = ![0, 16 + 128 * b, 0]) (h1 : o1 = ![1, 16 + 128 * b, 0]) (h2 : o2 = ![2, 16 + 128 * b, 0]) (h3 : o3 = ![3, 16 + 128 * b, 0]) (i0 i1 i2 i3)
    (P0 P1 P2 P3 : S1x128x128.Idx → BitVec 32) (e0 : P0 = k0_pay4 (xsl X b hb 0)) (e1 : P1 = k0_pay4 (xsl X b hb 1)) (e2 : P2 = k0_pay4 (xsl X b hb 2)) (e3 : P3 = k0_pay4 (xsl X b hb 3)) :
    XwOk X (b + 1) (arg7.view.read (Elt F) (arg7.view.writes (Elt F) (arg7.view.rep Q)
      [⟨Rect.unit (s := S4x1584x128) o3 S1x128x128.size i3, P3⟩, ⟨Rect.unit (s := S4x1584x128) o2 S1x128x128.size i2, P2⟩,
       ⟨Rect.unit (s := S4x1584x128) o1 S1x128x128.size i1, P1⟩, ⟨Rect.unit (s := S4x1584x128) o0 S1x128x128.size i0, P0⟩])) := by
  intro y hy
  have hy0 : (y 0).val < 4 := (y 0).isLt
  have hy1 : (y 1).val < 1584 := (y 1).isLt
  have hy2 : (y 2).val < 128 := (y 2).isLt
  have hr : arg7.view.read (Elt F) (arg7.view.writes (Elt F) (arg7.view.rep Q) []) = Q := by
    rw [View.writes]; exact View.read_rep (Val := Elt F) arg7.view Q
  by_cases hc : 16 + 128 * b ≤ (y 1).val ∧ (y 1).val < 16 + 128 * (b + 1)
  · have hit : ∀ (k : Fin 4) (hk : (y 0).val = k.val) (L) (o : Fin 3 → ℕ) (ho : o = ![k.val, 16 + 128 * b, 0]) (inb) (P : S1x128x128.Idx → BitVec 32) (hP : P = k0_pay4 (xsl X b hb k)),
        arg7.view.read (Elt F) (arg7.view.writes (Elt F) (arg7.view.rep Q) (⟨Rect.unit (s := S4x1584x128) o S1x128x128.size inb, P⟩ :: L)) y = xwF X y := fun k hk L o ho inb P hP => by
      refine (View.read_writes_cons_unit_of_mem (Val := Elt F) arg7.view _ inb P L y (ix3 0 ⟨(y 1).val - (16 + 128 * b), by show _ < 128; omega⟩ (y 2)) ho (fun a => by
        match a with
        | ⟨0, _⟩ => show (y 0).val = k.val + 0; omega
        | ⟨1, _⟩ => show (y 1).val = 16 + 128 * b + ((y 1).val - (16 + 128 * b)); omega
        | ⟨2, _⟩ => show (y 2).val = 0 + (y 2).val; omega)).trans ?_
      rw [hP]
      exact (xwF_at X b hb k ⟨(y 1).val - (16 + 128 * b), by omega⟩ (y 2) y hk (by show (y 1).val = 16 + 128 * b + ((y 1).val - (16 + 128 * b)); omega) rfl).symm
    have miss : ∀ (k : Fin 4) (hk : (y 0).val ≠ k.val) (L) (o : Fin 3 → ℕ) (ho : o = ![k.val, 16 + 128 * b, 0]) (inb) (P : S1x128x128.Idx → BitVec 32),
        arg7.view.read (Elt F) (arg7.view.writes (Elt F) (arg7.view.rep Q) (⟨Rect.unit (s := S4x1584x128) o S1x128x128.size inb, P⟩ :: L)) y
          = arg7.view.read (Elt F) (arg7.view.writes (Elt F) (arg7.view.rep Q) L) y := fun k hk L o ho inb P =>
      View.read_writes_cons_unit_of_not_mem (Val := Elt F) arg7.view _ inb P L y ho 0 (by show (y 0).val < k.val ∨ k.val + 1 ≤ (y 0).val; omega)
    by_cases c3 : (y 0).val = 3; · exact hit 3 c3 _ o3 h3 i3 P3 e3
    refine (miss 3 c3 _ o3 h3 i3 P3).trans ?_
    by_cases c2 : (y 0).val = 2; · exact hit 2 c2 _ o2 h2 i2 P2 e2
    refine (miss 2 c2 _ o2 h2 i2 P2).trans ?_
    by_cases c1 : (y 0).val = 1; · exact hit 1 c1 _ o1 h1 i1 P1 e1
    refine (miss 1 c1 _ o1 h1 i1 P1).trans ?_
    exact hit 0 (by show (y 0).val = 0; omega) _ o0 h0 i0 P0 e0
  · have miss : ∀ (k : ℕ) (L) (o : Fin 3 → ℕ) (ho : o = ![k, 16 + 128 * b, 0]) (inb) (P : S1x128x128.Idx → BitVec 32),
        arg7.view.read (Elt F) (arg7.view.writes (Elt F) (arg7.view.rep Q) (⟨Rect.unit (s := S4x1584x128) o S1x128x128.size inb, P⟩ :: L)) y
          = arg7.view.read (Elt F) (arg7.view.writes (Elt F) (arg7.view.rep Q) L) y := fun k L o ho inb P =>
      View.read_writes_cons_unit_of_not_mem (Val := Elt F) arg7.view _ inb P L y ho 1 (by show (y 1).val < 16 + 128 * b ∨ 16 + 128 * b + 128 ≤ (y 1).val; omega)
    refine (miss 3 _ o3 h3 i3 P3).trans ((miss 2 _ o2 h2 i2 P2).trans ((miss 1 _ o1 h1 i1 P1).trans ((miss 0 _ o0 h0 i0 P0).trans ?_)))
    rw [hr]
    exact hQ y (by omega)

end Cert.Proof.KernelIdeal

end
-- ==== Proof.IBuild.lean ====
/- One trip of the packing loop and one of the loop that lays out the table. -/
module

public import proofs.«01_k».proof.Proof.ITable
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- Where channel part 0 of a row is read in the packing of the table. -/
theorem offC0 : ∀ (t2 : Fin k0_t2_loop.trips) (r : Fin 2), k0_off10 t2 (BitVec.ofNat 32 (12 * r.val)) = ![((0 : Fin 4)).val, 128 * t2.val + 12 * r.val, 0] := by decide +kernel
/-- Where channel part 0 of the row after it is read. -/
theorem offN0 : ∀ (t2 : Fin k0_t2_loop.trips) (r : Fin 2), k0_off11 t2 (BitVec.ofNat 32 (12 * r.val)) = ![((0 : Fin 4)).val, 128 * t2.val + 12 * r.val + 1, 0] := by decide +kernel
/-- Where channel part 1 of a row is read in the packing of the table. -/
theorem offC1 : ∀ (t2 : Fin k0_t2_loop.trips) (r : Fin 2), k0_off13 t2 (BitVec.ofNat 32 (12 * r.val)) = ![((1 : Fin 4)).val, 128 * t2.val + 12 * r.val, 0] := by decide +kernel
/-- Where channel part 1 of the row after it is read. -/
theorem offN1 : ∀ (t2 : Fin k0_t2_loop.trips) (r : Fin 2), k0_off14 t2 (BitVec.ofNat 32 (12 * r.val)) = ![((1 : Fin 4)).val, 128 * t2.val + 12 * r.val + 1, 0] := by decide +kernel
/-- Where channel part 2 of a row is read in the packing of the table. -/
theorem offC2 : ∀ (t2 : Fin k0_t2_loop.trips) (r : Fin 2), k0_off15 t2 (BitVec.ofNat 32 (12 * r.val)) = ![((2 : Fin 4)).val, 128 * t2.val + 12 * r.val, 0] := by decide +kernel
/-- Where channel part 2 of the row after it is read. -/
theorem offN2 : ∀ (t2 : Fin k0_t2_loop.trips) (r : Fin 2), k0_off16 t2 (BitVec.ofNat 32 (12 * r.val)) = ![((2 : Fin 4)).val, 128 * t2.val + 12 * r.val + 1, 0] := by decide +kernel
/-- Where channel part 3 of a row is read in the packing of the table. -/
theorem offC3 : ∀ (t2 : Fin k0_t2_loop.trips) (r : Fin 2), k0_off17 t2 (BitVec.ofNat 32 (12 * r.val)) = ![((3 : Fin 4)).val, 128 * t2.val + 12 * r.val, 0] := by decide +kernel
/-- Where channel part 3 of the row after it is read. -/
theorem offN3 : ∀ (t2 : Fin k0_t2_loop.trips) (r : Fin 2), k0_off18 t2 (BitVec.ofNat 32 (12 * r.val)) = ![((3 : Fin 4)).val, 128 * t2.val + 12 * r.val + 1, 0] := by decide +kernel

/-- Where the rows of an even group's part of the table are stored. -/
theorem offTE : ∀ (t2 : Fin k0_t2_loop.trips) (k : Fin 4) (r : Fin 2), k0_off12 t2 (BitVec.ofNat 32 (1552 * (2 * k.val))) (BitVec.ofNat 32 r.val) = ![3104 * (2 * k.val) + 2 * (128 * t2.val) + r.val, 0] := by decide +kernel
/-- Where the rows of an odd group's part of the table are stored. -/
theorem offTO : ∀ (t2 : Fin k0_t2_loop.trips) (k : Fin 4) (r : Fin 2), k0_off12 t2 (BitVec.ofNat 32 (1552 * (2 * k.val + 1))) (BitVec.ofNat 32 r.val) = ![3104 * (2 * k.val + 1) + 2 * (128 * t2.val) + r.val, 0] := by decide +kernel

/-- With all sixteen stores made, one more block of rows is in place. -/
theorem tb_of_good (arg8 : Memref sig .tc .vmem S24832x128 .i32) (Q : S4x1584x128.Idx → BitVec 32) (T : S24832x128.Idx → BitVec 32) (n : ℕ) (hT : TbOk Q n T)
    {L : List (View.Piece (Elt F) S24832x128 .i32)} {D : ℕ → ℕ → Bool} (h : Good128 (F := F) arg8 (arg8.view.rep T) (tabF Q) (128 * n) L D) (hD : ∀ (g : Fin 8) (r : Fin 2), D g.val r.val = true) :
    TbOk Q (n + 1) (arg8.view.read (Elt F) (arg8.view.writes (Elt F) (arg8.view.rep T) L)) := by
  intro y hy
  have h0 : (y 0).val < 24832 := (y 0).isLt
  refine (h y).trans ?_
  by_cases hc : 128 * n ≤ (y 0).val % 3104 / 2
  · exact if_pos ⟨hD ⟨(y 0).val / 3104, by omega⟩ ⟨(y 0).val % 2, by omega⟩, hc, by omega⟩
  · rw [if_neg (fun hh => hc hh.2.1)]
    exact (congrFun (View.read_rep (Val := Elt F) arg8.view T) y).trans (hT y (by omega))

/-- With the last sixteen rows of every group the table is whole. -/
theorem tab_of_good (arg8 : Memref sig .tc .vmem S24832x128 .i32) (Q : S4x1584x128.Idx → BitVec 32) (T : S24832x128.Idx → BitVec 32) (hT : TbOk Q 12 T)
    {L : List (View.Piece (Elt F) S24832x128 .i32)} {D : ℕ → ℕ → Bool} (h : Good16 (F := F) arg8 (arg8.view.rep T) (tabF Q) 1536 L D) (hD : ∀ (g : Fin 8) (r : Fin 2), D g.val r.val = true) :
    arg8.view.read (Elt F) (arg8.view.writes (Elt F) (arg8.view.rep T) L) = tabF Q := by
  funext y
  have h0 : (y 0).val < 24832 := (y 0).isLt
  refine (h y).trans ?_
  by_cases hc : 1536 ≤ (y 0).val % 3104 / 2
  · exact if_pos ⟨hD ⟨(y 0).val / 3104, by omega⟩ ⟨(y 0).val % 2, by omega⟩, hc, by omega⟩
  · rw [if_neg (fun hh => hc hh.2.1)]
    exact (congrFun (View.read_rep (Val := Elt F) arg8.view T) y).trans (hT y (by omega))

section
variable (c : Dev nD)
  (arg0 : Memref sig .tc .vmem S1536x2048 .i8) (harg0 : arg0.IsWhole)
  (arg1 : Memref sig .tc .vmem S108x8x128 .i32) (harg1 : arg1.IsWhole)
  (arg2 : Memref sig .tc .vmem S108x4x8x128 .f32) (harg2 : arg2.IsWhole)
  (arg3 : Memref sig .tc .vmem S9x2048x1024 .fp8e4m3) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1536x1024 .bf16) (harg6 : arg6.IsWhole)
  (arg7 : Memref sig .tc .vmem S4x1584x128 .i32) (harg7 : arg7.IsWhole)
  (arg8 : Memref sig .tc .vmem S24832x128 .i32) (harg8 : arg8.IsWhole)
  (arg9 : Memref sig .tc .vmem S8x256x128 .i32) (harg9 : arg9.IsWhole)
  (arg10 : Memref sig .tc .vmem S8x256x128 .i32) (harg10 : arg10.IsWhole)
  (arg11 : Memref sig .tc .vmem S128x2048 .bf16) (harg11 : arg11.IsWhole)
  (arg12 : Memref sig .tc .vmem S128x2048 .bf16) (harg12 : arg12.IsWhole)
  (arg13 : Memref sig .tc .vmem S128x1024 .f32) (harg13 : arg13.IsWhole)
  (arg14 : Memref sig .tc .smem S8x128 .i32) (harg14 : arg14.IsWhole)
  (arg15 : Memref sig .tc .smem S8x128 .i32) (harg15 : arg15.IsWhole)
  (arg16 : DmaSems sig S2)

set_option maxHeartbeats 4000000 in
set_option maxRecDepth 20000 in
/-- A trip of the packing loop puts one block of pixels in place. -/
theorem packTrip (X : Vec F S1536x2048 .i8) (t1 : Fin k0_t1_loop.trips) :
    iprop(∃ Q, ⌜XwOk X t1.val Q⌝ ∗ at_ c arg0 X ∗ at_ (F := F) c arg7 Q)
      ⊢ wp frame (wpE (defs₀ (F := F)) 𝒱₀ (c : Thread nD τ) none) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 t1 ())
        fun _ => iprop(∃ Q, ⌜XwOk X (t1.val + 1) Q⌝ ∗ at_ c arg0 X ∗ at_ (F := F) c arg7 Q) := by
  have ht : t1.val < 12 := Nat.lt_of_lt_of_eq t1.isLt (by decide)
  unfold k0_t1_body
  iintro ⟨%Q, %hQ, H0, H7⟩
  sl_exec
  sl_step
  iexists _
  isplitr
  rotate_left
  · isplitl [H0]; · iexact H0
    iapply (pointsTo_rep_of_read (c : Thread nD τ) arg7 _ fullShare _ rfl) $$ H7
  · ipureintro
    have e0 := load_x arg0 X t1.val ht 0 (offX0 t1).1 (k0_off2_inb t1)
    have e1 := load_x arg0 X t1.val ht 1 (offX0 t1).2.1 (k0_off4_inb t1)
    have e2 := load_x arg0 X t1.val ht 2 (offX0 t1).2.2.1 (k0_off6_inb t1)
    have e3 := load_x arg0 X t1.val ht 3 (offX0 t1).2.2.2 (k0_off8_inb t1)
    exact xw_step arg7 X t1.val ht Q hQ (offX1 t1).1 (offX1 t1).2.1 (offX1 t1).2.2.1 (offX1 t1).2.2.2 _ _ _ _ _ _ _ _
      (congrArg k0_pay4 e0) (congrArg k0_pay5 e1) (congrArg k0_pay6 e2) (congrArg (fun v => k0_pay119 (k0_pay7 v)) e3)

set_option maxHeartbeats 4000000 in
set_option maxRecDepth 20000 in
/-- A trip of the table's loop puts one block of rows of every group in place. -/
theorem buildTrip (Q : S4x1584x128.Idx → BitVec 32) (t2 : Fin k0_t2_loop.trips) :
    iprop(∃ T, ⌜TbOk Q t2.val T⌝ ∗ at_ (F := F) c arg7 Q ∗ at_ (F := F) c arg8 T)
      ⊢ wp frame (wpE (defs₀ (F := F)) 𝒱₀ (c : Thread nD τ) none) Set.univ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 t2 ())
        fun _ => iprop(∃ T, ⌜TbOk Q (t2.val + 1) T⌝ ∗ at_ (F := F) c arg7 Q ∗ at_ (F := F) c arg8 T) := by
  have ht : t2.val < 12 := Nat.lt_of_lt_of_eq t2.isLt (by decide)
  unfold k0_t2_body
  iintro ⟨%T, %hT, H7, H8⟩
  sl_exec
  sl_step
  iexists _
  isplitr
  rotate_left
  · isplitl [H7]; · iexact H7
    iapply (pointsTo_rep_of_read (c : Thread nD τ) arg8 _ fullShare _ rfl) $$ H8
  · ipureintro
    refine tb_of_good arg8 Q T t2.val hT (D := fun a b => ((a == 7 && b == 1) || ((a == 6 && b == 1) || ((a == 7 && b == 0) || ((a == 6 && b == 0) || ((a == 5 && b == 1) || ((a == 4 && b == 1) || ((a == 5 && b == 0) || ((a == 4 && b == 0) || ((a == 3 && b == 1) || ((a == 2 && b == 1) || ((a == 3 && b == 0) || ((a == 2 && b == 0) || ((a == 1 && b == 1) || ((a == 0 && b == 1) || ((a == 1 && b == 0) || ((a == 0 && b == 0) || false))))))))))))))))) ?_ (by decide)
    refine good128_odd arg7 Q arg8 _ _ (by omega) ?_ 3 1 (offTO t2 3 1) _ (offC3 t2 1) (k0_off17_inb t2 1) (offN3 t2 1) (k0_off18_inb t2 1) _ rfl
    refine good128_even arg7 Q arg8 _ _ (by omega) ?_ 3 1 (offTE t2 3 1) _ (offC3 t2 1) (k0_off17_inb t2 1) (offN3 t2 1) (k0_off18_inb t2 1) _ rfl
    refine good128_odd arg7 Q arg8 _ _ (by omega) ?_ 3 0 (offTO t2 3 0) _ (offC3 t2 0) (k0_off17_inb t2 0) (offN3 t2 0) (k0_off18_inb t2 0) _ rfl
    refine good128_even arg7 Q arg8 _ _ (by omega) ?_ 3 0 (offTE t2 3 0) _ (offC3 t2 0) (k0_off17_inb t2 0) (offN3 t2 0) (k0_off18_inb t2 0) _ rfl
    refine good128_odd arg7 Q arg8 _ _ (by omega) ?_ 2 1 (offTO t2 2 1) _ (offC2 t2 1) (k0_off15_inb t2 1) (offN2 t2 1) (k0_off16_inb t2 1) _ rfl
    refine good128_even arg7 Q arg8 _ _ (by omega) ?_ 2 1 (offTE t2 2 1) _ (offC2 t2 1) (k0_off15_inb t2 1) (offN2 t2 1) (k0_off16_inb t2 1) _ rfl
    refine good128_odd arg7 Q arg8 _ _ (by omega) ?_ 2 0 (offTO t2 2 0) _ (offC2 t2 0) (k0_off15_inb t2 0) (offN2 t2 0) (k0_off16_inb t2 0) _ rfl
    refine good128_even arg7 Q arg8 _ _ (by omega) ?_ 2 0 (offTE t2 2 0) _ (offC2 t2 0) (k0_off15_inb t2 0) (offN2 t2 0) (k0_off16_inb t2 0) _ rfl
    refine good128_odd arg7 Q arg8 _ _ (by omega) ?_ 1 1 (offTO t2 1 1) _ (offC1 t2 1) (k0_off13_inb t2 1) (offN1 t2 1) (k0_off14_inb t2 1) _ rfl
    refine good128_even arg7 Q arg8 _ _ (by omega) ?_ 1 1 (offTE t2 1 1) _ (offC1 t2 1) (k0_off13_inb t2 1) (offN1 t2 1) (k0_off14_inb t2 1) _ rfl
    refine good128_odd arg7 Q arg8 _ _ (by omega) ?_ 1 0 (offTO t2 1 0) _ (offC1 t2 0) (k0_off13_inb t2 0) (offN1 t2 0) (k0_off14_inb t2 0) _ rfl
    refine good128_even arg7 Q arg8 _ _ (by omega) ?_ 1 0 (offTE t2 1 0) _ (offC1 t2 0) (k0_off13_inb t2 0) (offN1 t2 0) (k0_off14_inb t2 0) _ rfl
    refine good128_odd arg7 Q arg8 _ _ (by omega) ?_ 0 1 (offTO t2 0 1) _ (offC0 t2 1) (k0_off10_inb t2 1) (offN0 t2 1) (k0_off11_inb t2 1) _ rfl
    refine good128_even arg7 Q arg8 _ _ (by omega) ?_ 0 1 (offTE t2 0 1) _ (offC0 t2 1) (k0_off10_inb t2 1) (offN0 t2 1) (k0_off11_inb t2 1) _ rfl
    refine good128_odd arg7 Q arg8 _ _ (by omega) ?_ 0 0 (offTO t2 0 0) _ (offC0 t2 0) (k0_off10_inb t2 0) (offN0 t2 0) (k0_off11_inb t2 0) _ rfl
    refine good128_even arg7 Q arg8 _ _ (by omega) ?_ 0 0 (offTE t2 0 0) _ (offC0 t2 0) (k0_off10_inb t2 0) (offN0 t2 0) (k0_off11_inb t2 0) _ rfl
    exact good128_nil arg8 _ _ _
end

end Cert.Proof.KernelIdeal

end
-- ==== Proof.IGather.lean ====
/- The gather loops: each trip copies the two table rows that an index word names. -/
module

public import proofs.«01_k».proof.Proof.IBase
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- A window of two table rows, read as rows of the table. -/
theorem row_value (T : S24832x128.Idx → BitVec 32) (w : BitVec 32) (hb : w.toNat + 2 ≤ 24832) {off : Fin 2 → ℕ} (ho : off = ![w.toNat, 0])
    (inb : ∀ a, off a + S2x128.size a ≤ S24832x128.size a) (a : Fin 2) (b : Fin 128) :
    VecWindow.window T off S2x128.size inb (ix2 a b) = tabAt T (w.toNat + a.val) b := by
  subst ho
  have ha := a.isLt
  unfold tabAt
  rw [dif_pos (by omega)]
  refine congrArg T (funext fun d => Fin.ext ?_)
  match d with
  | ⟨0, _⟩ => show w.toNat + 1 * a.val = w.toNat + a.val; omega
  | ⟨1, _⟩ => show 0 + 1 * b.val = b.val; omega

/-- The contents after one more pair is stored. -/
theorem pair_value {κ : Kind} {sp : Space} (m : Memref sig κ sp S8x256x128 .i32) (T : S24832x128.Idx → BitVec 32) (I : S8x128.Idx → BitVec 32)
    (S0 : S8x256x128.Idx → BitVec 32) (g : Fin 8) (j : Fin 128) {off : Fin 3 → ℕ} (inb : ∀ a, off a + S1x2x128.size a ≤ S8x256x128.size a)
    (ho : off = ![g.val, 2 * j.val, 0]) (P : S1x2x128.Idx → BitVec 32)
    (hP : ∀ (a : Fin 2) (b : Fin 128), P (ix3 0 a b) = tabAt T ((I (ix2 g j)).toNat + a.val) b) :
    m.view.read (Elt F) (m.view.writes (Elt F) (m.view.rep (gatheredTo T I S0 g.val j.val)) [⟨Rect.unit (s := S8x256x128) off S1x2x128.size inb, P⟩])
      = gatheredTo T I S0 g.val (j.val + 1) := by
  funext y
  have h0 : (y 0).val < 8 := (y 0).isLt
  have h1 : (y 1).val < 256 := (y 1).isLt
  have h2 : (y 2).val < 128 := (y 2).isLt
  by_cases hy : (y 0).val = g.val ∧ (y 1).val / 2 = j.val
  · have ha : (y 1).val - 2 * j.val < 2 := by omega
    rw [View.read_writes_cons_unit_of_mem (Val := Elt F) m.view _ inb P [] y (ix3 0 ⟨(y 1).val - 2 * j.val, ha⟩ ⟨(y 2).val, h2⟩) ho (fun a => by
      match a with
      | ⟨0, _⟩ => show (y 0).val = g.val + 0; omega
      | ⟨1, _⟩ => show (y 1).val = 2 * j.val + ((y 1).val - 2 * j.val); omega
      | ⟨2, _⟩ => show (y 2).val = 0 + (y 2).val; omega), hP]
    unfold gatheredTo gathered
    rw [if_pos (by omega)]
    have e1 : (⟨(y 1).val / 2, by omega⟩ : Fin 128) = j := Fin.ext hy.2
    have e0 : y 0 = g := Fin.ext hy.1
    show tabAt T ((I (ix2 g j)).toNat + ((y 1).val - 2 * j.val)) (y 2) = tabAt T ((I (ix2 (y 0) ⟨(y 1).val / 2, _⟩)).toNat + (y 1).val % 2) (y 2)
    rw [e1, e0]; congr 2; omega
  · have hn : m.view.read (Elt F) (m.view.writes (Elt F) (m.view.rep (gatheredTo T I S0 g.val j.val)) [⟨Rect.unit (s := S8x256x128) off S1x2x128.size inb, P⟩]) y
        = gatheredTo T I S0 g.val j.val y := by
      by_cases hg : (y 0).val = g.val
      · rw [View.read_writes_cons_unit_of_not_mem (Val := Elt F) m.view _ inb P [] y ho 1 (by show (y 1).val < 2 * j.val ∨ 2 * j.val + 2 ≤ (y 1).val; omega), View.writes_nil, View.read_rep]
      · rw [View.read_writes_cons_unit_of_not_mem (Val := Elt F) m.view _ inb P [] y ho 0 (by show (y 0).val < g.val ∨ g.val + 1 ≤ (y 0).val; omega), View.writes_nil, View.read_rep]
    rw [hn]; unfold gatheredTo; congr 1; apply propext; omega
section Gather

variable (c : Dev nD)
  (arg0 : Memref sig .tc .vmem S1536x2048 .i8) (harg0 : arg0.IsWhole)
  (arg1 : Memref sig .tc .vmem S108x8x128 .i32) (harg1 : arg1.IsWhole)
  (arg2 : Memref sig .tc .vmem S108x4x8x128 .f32) (harg2 : arg2.IsWhole)
  (arg3 : Memref sig .tc .vmem S9x2048x1024 .fp8e4m3) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1536x1024 .bf16) (harg6 : arg6.IsWhole)
  (arg7 : Memref sig .tc .vmem S4x1584x128 .i32) (harg7 : arg7.IsWhole)
  (arg8 : Memref sig .tc .vmem S24832x128 .i32) (harg8 : arg8.IsWhole)
  (arg9 : Memref sig .tc .vmem S8x256x128 .i32) (harg9 : arg9.IsWhole)
  (arg10 : Memref sig .tc .vmem S8x256x128 .i32) (harg10 : arg10.IsWhole)
  (arg11 : Memref sig .tc .vmem S128x2048 .bf16) (harg11 : arg11.IsWhole)
  (arg12 : Memref sig .tc .vmem S128x2048 .bf16) (harg12 : arg12.IsWhole)
  (arg13 : Memref sig .tc .vmem S128x1024 .f32) (harg13 : arg13.IsWhole)
  (arg14 : Memref sig .tc .smem S8x128 .i32) (harg14 : arg14.IsWhole)
  (arg15 : Memref sig .tc .smem S8x128 .i32) (harg15 : arg15.IsWhole)
  (arg16 : DmaSems sig S2)
  (T : S24832x128.Idx → BitVec 32) (I : S8x128.Idx → BitVec 32) (S0 : S8x256x128.Idx → BitVec 32)

/-- One pair of rows gathered by an even half. -/
theorem pairE (hI : ∀ y, k0_chk1 (I y)) (t3 : Fin k0_t3_loop.trips) (v166 c0 : BitVec 32) (t4 : Fin k0_t4_loop.trips) (t5 : Fin k0_t5_loop.trips) :
    iprop(at_ (F := F) c arg14 I ∗ at_ c arg8 T ∗ at_ c arg9 (gatheredTo T I S0 t4.val t5.val))
      ⊢ wp frame (wpE (defs₀ (F := F)) 𝒱₀ (c : Thread nD τ) none) Set.univ (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 t3 v166 c0 t4 t5 ())
        fun _ => iprop(at_ c arg14 I ∗ at_ c arg8 T ∗ at_ c arg9 (gatheredTo T I S0 t4.val (t5.val + 1))) := by
  unfold k0_t5_body
  iintro ⟨HI, HT, HS⟩
  sl_exec
  have hw : pairE.sl.r (F := F) arg14 I t4 t5 = I (ix2 ⟨t4.val, t4.isLt⟩ ⟨t5.val, t5.isLt⟩) := by
    unfold pairE.sl.r
    refine (congrFun (View.readAt_rep_unit (Val := Elt F) arg14.view I (k0_off22_inb t4 t5) (k0_off22_eq t4 t5) (by rw [← k0_off22_eq]; exact k0_off22_inb t4 t5)) _).trans ?_
    refine congrArg I (funext fun a => Fin.ext ?_)
    match a with
    | ⟨0, _⟩ => rfl
    | ⟨1, _⟩ => rfl
  have hc : k0_chk1 (pairE.sl.r (F := F) arg14 I t4 t5) := hw ▸ hI _
  sl_exec
  sl_step
  isplitl [HI]; · iexact HI
  isplitl [HT]; · iexact HT
  iapply (pointsTo_rep_of_read (c : Thread nD τ) arg9 _ fullShare _ ?_) $$ [HS]
  rotate_left
  · iexact HS
  · exact pair_value arg9 T I S0 ⟨t4.val, t4.isLt⟩ ⟨t5.val, t5.isLt⟩ _ (k0_off24_eq t4 t5) _ fun a b => by
      unfold k0_pay39
      refine (shapeCast_ab_1ab_apply (a := 2) (b := 128) _ _ (0 : Fin 1) a b).trans ?_
      refine (congrFun (View.readAt_rep_unit (Val := Elt F) arg8.view T hc.2 rfl hc.2) (ix2 a b)).trans ?_
      exact (row_value T _ (hc.2 0) rfl _ a b).trans (congrArg (fun w : BitVec 32 => tabAt T (w.toNat + a.val) b) hw)

/-- The gather of one group's 128 pairs. -/
theorem groupE (hI : ∀ y, k0_chk1 (I y)) (t3 : Fin k0_t3_loop.trips) (v166 c0 : BitVec 32) (t4 : Fin k0_t4_loop.trips) :
    iprop(at_ (F := F) c arg14 I ∗ at_ c arg8 T ∗ at_ c arg9 (gatheredTo T I S0 t4.val 0))
      ⊢ wp frame (wpE (defs₀ (F := F)) 𝒱₀ (c : Thread nD τ) none) Set.univ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 t3 v166 c0 t4 ())
        fun _ => iprop(at_ c arg14 I ∗ at_ c arg8 T ∗ at_ c arg9 (gatheredTo T I S0 (t4.val + 1) 0)) := by
  unfold k0_t4_body
  iintro ⟨HI, HT, HS⟩
  sl_for (fun k _ => iprop(at_ c arg14 I ∗ at_ c arg8 T ∗ at_ c arg9 (gatheredTo T I S0 t4.val k))) $$ [HI HT HS]
  case region =>
    intro k a
    exact pairE c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 T I S0 hI t3 v166 c0 t4 k
  · isplitl [HI]; · iexact HI
    isplitl [HT]; · iexact HT
    iexact HS
  iintro %a ⟨HI, HT, HS⟩
  sl_step
  isplitl [HI]; · iexact HI
  isplitl [HT]; · iexact HT
  iapply (entails_of_eq (congrArg (at_ (F := F) c arg9) ((congrArg (gatheredTo T I S0 t4.val) (by decide : Scf.trips k0_t5_loop.lb k0_t5_loop.ub k0_t5_loop.st = 128)).trans (gatheredTo_next T I S0 t4.val)))) $$ HS

/-- One pair of rows gathered by an odd half. -/
theorem pairO (hI : ∀ y, k0_chk1 (I y)) (t3 : Fin k0_t3_loop.trips) (v605 : BitVec 32) (t6 : Fin k0_t6_loop.trips) (t7 : Fin k0_t7_loop.trips) :
    iprop(at_ (F := F) c arg15 I ∗ at_ c arg8 T ∗ at_ c arg10 (gatheredTo T I S0 t6.val t7.val))
      ⊢ wp frame (wpE (defs₀ (F := F)) 𝒱₀ (c : Thread nD τ) none) Set.univ (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 t3 v605 t6 t7 ())
        fun _ => iprop(at_ c arg15 I ∗ at_ c arg8 T ∗ at_ c arg10 (gatheredTo T I S0 t6.val (t7.val + 1))) := by
  unfold k0_t7_body
  iintro ⟨HI, HT, HS⟩
  sl_exec
  have hw : pairO.sl.r (F := F) arg15 I t6 t7 = I (ix2 ⟨t6.val, t6.isLt⟩ ⟨t7.val, t7.isLt⟩) := by
    unfold pairO.sl.r
    refine (congrFun (View.readAt_rep_unit (Val := Elt F) arg15.view I (k0_off29_inb t6 t7) (k0_off29_eq t6 t7) (by rw [← k0_off29_eq]; exact k0_off29_inb t6 t7)) _).trans ?_
    refine congrArg I (funext fun a => Fin.ext ?_)
    match a with
    | ⟨0, _⟩ => rfl
    | ⟨1, _⟩ => rfl
  have hc : k0_chk2 (pairO.sl.r (F := F) arg15 I t6 t7) := hw ▸ hI _
  sl_exec
  sl_step
  isplitl [HI]; · iexact HI
  isplitl [HT]; · iexact HT
  iapply (pointsTo_rep_of_read (c : Thread nD τ) arg10 _ fullShare _ ?_) $$ [HS]
  rotate_left
  · iexact HS
  · exact pair_value arg10 T I S0 ⟨t6.val, t6.isLt⟩ ⟨t7.val, t7.isLt⟩ _ (k0_off31_eq t6 t7) _ fun a b => by
      unfold k0_pay78
      refine (shapeCast_ab_1ab_apply (a := 2) (b := 128) _ _ (0 : Fin 1) a b).trans ?_
      refine (congrFun (View.readAt_rep_unit (Val := Elt F) arg8.view T hc.2 rfl hc.2) (ix2 a b)).trans ?_
      exact (row_value T _ (hc.2 0) rfl _ a b).trans (congrArg (fun w : BitVec 32 => tabAt T (w.toNat + a.val) b) hw)

/-- The gather of one group's 128 pairs. -/
theorem groupO (hI : ∀ y, k0_chk2 (I y)) (t3 : Fin k0_t3_loop.trips) (v605 : BitVec 32) (t6 : Fin k0_t6_loop.trips) :
    iprop(at_ (F := F) c arg15 I ∗ at_ c arg8 T ∗ at_ c arg10 (gatheredTo T I S0 t6.val 0))
      ⊢ wp frame (wpE (defs₀ (F := F)) 𝒱₀ (c : Thread nD τ) none) Set.univ (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 t3 v605 t6 ())
        fun _ => iprop(at_ c arg15 I ∗ at_ c arg8 T ∗ at_ c arg10 (gatheredTo T I S0 (t6.val + 1) 0)) := by
  unfold k0_t6_body
  iintro ⟨HI, HT, HS⟩
  sl_for (fun k _ => iprop(at_ c arg15 I ∗ at_ c arg8 T ∗ at_ c arg10 (gatheredTo T I S0 t6.val k))) $$ [HI HT HS]
  case region =>
    intro k a
    exact pairO c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 T I S0 hI t3 v605 t6 k
  · isplitl [HI]; · iexact HI
    isplitl [HT]; · iexact HT
    iexact HS
  iintro %a ⟨HI, HT, HS⟩
  sl_step
  isplitl [HI]; · iexact HI
  isplitl [HT]; · iexact HT
  iapply (entails_of_eq (congrArg (at_ (F := F) c arg10) ((congrArg (gatheredTo T I S0 t6.val) (by decide : Scf.trips k0_t7_loop.lb k0_t7_loop.ub k0_t7_loop.st = 128)).trans (gatheredTo_next T I S0 t6.val)))) $$ HS

end Gather

end Cert.Proof.KernelIdeal

end
-- ==== Proof.IRows.lean ====
/- Rows of the index operand, the copies that carry them, and the columns of one chunk. -/
module

public import proofs.«01_k».proof.Proof.IGather
public import proofs.«01_k».proof.Proof.ILoads
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The semaphore of the even copies. -/
abbrev sm0 (arg16 : DmaSems sig S2) : DmaSems sig S_ := (arg16.slice (Rect.unit (s := S2) ![0] S1.size inb_S2_S1_0)).squeeze S_ squeezes_S1_S_
/-- The semaphore of the odd copies. -/
abbrev sm1 (arg16 : DmaSems sig S2) : DmaSems sig S_ := (arg16.slice (Rect.unit (s := S2) ![1] S1.size inb_S2_S1_1)).squeeze S_ squeezes_S1_S_
/-- Row `b` of the index operand, as the kernel slices it. -/
abbrev rowM (arg1 : Memref sig .tc .vmem S108x8x128 .i32) (b : Fin 108) : Memref sig .tc .vmem S8x128 .i32 :=
  (arg1.slice (Rect.unit (s := S108x8x128) ![b.val, 0, 0] S1x8x128.size (by
    have := b.isLt; intro a
    match a with
    | ⟨0, _⟩ => show b.val + 1 ≤ 108; omega
    | ⟨1, _⟩ => show 0 + 8 ≤ 8; omega
    | ⟨2, _⟩ => show 0 + 128 ≤ 128; omega)) (fun _ => rfl)).squeeze S8x128 squeezes_S1x8x128_S8x128
/-- Its elements within the operand's buffer. -/
abbrev rowSet (arg1 : Memref sig .tc .vmem S108x8x128 .i32) (b : Fin 108) : Finset arg1.view.ty.Idx := (rowM arg1 b).view.set
/-- A chunk's index row lies in the index block. -/
theorem rowSet_sub (arg1 : Memref sig .tc .vmem S108x8x128 .i32) (b : Fin 108) : rowSet arg1 b ⊆ arg1.view.set := by
  show ((arg1.view.slice _).reshape _ _).set ⊆ _
  rw [View.set_reshape]
  exact View.set_slice_subset _ _
/-- A chunk's index row is the place its load names. -/
theorem rowSet_eq (arg1 : Memref sig .tc .vmem S108x8x128 .i32) (b : Fin 108) {off : Fin 3 → ℕ} (h : ∀ a, off a + S1x8x128.size a ≤ S108x8x128.size a)
    (e : off = ![b.val, 0, 0]) :
    rowSet arg1 b = ((arg1.slice (Rect.unit (s := S108x8x128) off S1x8x128.size h) (fun _ => rfl)).squeeze S8x128 squeezes_S1x8x128_S8x128).view.set := by
  subst e; rfl

/-- Columns from loads that read a group's rows and weights. -/
theorem col_of (S : S8x256x128.Idx → BitVec 32) (Z : Vec F S108x4x8x128 .f32) (b : Fin 108) (g : Fin 8) {s0 s1 : Vec F S1x128x128 .i32} {w0 w1 w2 w3 : Vec F S1x1x128 .f32}
    (h0 : s0 = srow (F := F) S g 0) (h1 : s1 = srow (F := F) S g 1) (e0 : w0 = wrow Z b (corner g 0 0) g) (e1 : w1 = wrow Z b (corner g 0 1) g)
    (e2 : w2 = wrow Z b (corner g 1 0) g) (e3 : w3 = wrow Z b (corner g 1 1) g) : colG s0 s1 w0 w1 w2 w3 = colS S Z b g := by
  subst h0 h1 e0 e1 e2 e3; rfl

/-- What the state before half-step `i` says of the result's blocks survives the half-step's guarded store. -/
theorem y_step (c : Dev nD) (arg6 : Memref sig .tc .vmem S1536x1024 .bf16) (T : S24832x128.Idx → BitVec 32) (A : S108x8x128.Idx → BitVec 32) (Z : Vec F S108x4x8x128 .f32)
    (Wc : Vec F S9x2048x1024 .fp8e4m3) (sc bias : Vec F S1x1024 .f32) (i : ℕ) (hi : i < 110) (p : Prop) [Decidable p] (hp : p ↔ (2 ≤ i ∧ (i - 2) % 9 = 8)) (Y : Vec F S1536x1024 .bf16)
    (hY : Yok T A Z Wc sc bias i Y) (off : Fin 2 → ℕ) (ho : p → off = ![128 * ((i - 2) / 9), 0]) (inb : p → ∀ a, off a + S128x1024.size a ≤ S1536x1024.size a)
    (P : FVec F S128x1024 .bf16) (hP : P = k0_pay3 (Acc T A Z Wc (i + 1)) sc bias) :
    (arg6.view.loc (c : Thread nD τ) ↦[arg6.view.set]{fullShare}
        (if hc : p then arg6.view.writes (Elt F) (arg6.view.rep Y) [⟨Rect.unit (s := S1536x1024) off S128x1024.size (inb hc), P⟩] else arg6.view.rep Y) : sProp 𝕄)
      ⊢ iprop(∃ Y', ⌜Yok T A Z Wc sc bias (i + 1) Y'⌝ ∗ at_ c arg6 Y') := by
  by_cases hc : p
  · rw [dif_pos hc]
    iintro H
    iexists _
    isplitr
    · ipureintro; exact yok_store arg6 T A Z Wc sc bias i hi (hp.1 hc) Y hY (ho hc) (inb hc) P hP
    · iapply (pointsTo_rep_of_read (c : Thread nD τ) arg6 _ fullShare _ rfl) $$ H
  · rw [dif_neg hc]
    iintro H
    iexists Y
    isplitr
    · ipureintro; exact yok_keep T A Z Wc sc bias i (fun h => hc (hp.2 h)) Y hY
    · iexact H

end Cert.Proof.KernelIdeal

end
-- ==== Proof.ITrip.lean ====
/- One trip of the main loop. -/
module

public import proofs.«01_k».proof.Proof.IRows
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section

variable (c : Dev nD)
  (arg0 : Memref sig .tc .vmem S1536x2048 .i8) (harg0 : arg0.IsWhole)
  (arg1 : Memref sig .tc .vmem S108x8x128 .i32) (harg1 : arg1.IsWhole)
  (arg2 : Memref sig .tc .vmem S108x4x8x128 .f32) (harg2 : arg2.IsWhole)
  (arg3 : Memref sig .tc .vmem S9x2048x1024 .fp8e4m3) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1536x1024 .bf16) (harg6 : arg6.IsWhole)
  (arg7 : Memref sig .tc .vmem S4x1584x128 .i32) (harg7 : arg7.IsWhole)
  (arg8 : Memref sig .tc .vmem S24832x128 .i32) (harg8 : arg8.IsWhole)
  (arg9 : Memref sig .tc .vmem S8x256x128 .i32) (harg9 : arg9.IsWhole)
  (arg10 : Memref sig .tc .vmem S8x256x128 .i32) (harg10 : arg10.IsWhole)
  (arg11 : Memref sig .tc .vmem S128x2048 .bf16) (harg11 : arg11.IsWhole)
  (arg12 : Memref sig .tc .vmem S128x2048 .bf16) (harg12 : arg12.IsWhole)
  (arg13 : Memref sig .tc .vmem S128x1024 .f32) (harg13 : arg13.IsWhole)
  (arg14 : Memref sig .tc .smem S8x128 .i32) (harg14 : arg14.IsWhole)
  (arg15 : Memref sig .tc .smem S8x128 .i32) (harg15 : arg15.IsWhole)
  (arg16 : DmaSems sig S2)
  (T : S24832x128.Idx → BitVec 32) (A : S108x8x128.Idx → BitVec 32) (Z : Vec F S108x4x8x128 .f32) (Wc : Vec F S9x2048x1024 .fp8e4m3)
  (sc bias : Vec F S1x1024 .f32)

/-- What holds between two trips of the main loop, before trip `s`. -/
def inv (s : ℕ) : sProp 𝕄 :=
  iprop(∃ R0 C1 Y X15, ⌜Yok T A Z Wc sc bias (2 * s) Y⌝
      ∗ Transfers.Flight countersEmb (c : Thread nD τ) (SemLoc.dma ((arg16.slice (Rect.unit (s := S2) ![0] S1.size inb_S2_S1_0)).squeeze S_ squeezes_S1_S_).sem) () 128
        iprop(at_ c arg14 (rowI A (cl (2 * s))) ∗ (arg1.view.loc (c : Thread nD τ) ↦[rowSet arg1 (cl (2 * s))]{fullShare} arg1.view.rep A))
      ∗ (arg1.view.loc (c : Thread nD τ) ↦[arg1.view.set \ rowSet arg1 (cl (2 * s))]{fullShare} arg1.view.rep A)
      ∗ at_ c arg2 Z ∗ at_ c arg3 Wc ∗ at_ c arg4 sc ∗ at_ c arg5 bias ∗ at_ c arg6 Y ∗ at_ c arg8 T ∗ at_ (F := F) c arg9 R0 ∗ at_ c arg10 (Sst T A (2 * s))
      ∗ at_ c arg11 (Cst T A Z (2 * s)) ∗ at_ c arg12 C1 ∗ at_ c arg13 (Acc T A Z Wc (2 * s)) ∗ at_ (F := F) c arg15 X15
      ∗ semVal ((c : Thread nD τ), SemLoc.dma ((arg16.slice (Rect.unit (s := S2) ![1] S1.size inb_S2_S1_1)).squeeze S_ squeezes_S1_S_).sem) 0 ∗ (∃ W, owes (c : Thread nD τ) 0 W))

set_option maxHeartbeats 4000000 in
set_option pp.maxSteps 30000 in
set_option pp.deepTerms false in
set_option pp.deepTerms.threshold 40 in
set_option maxRecDepth 20000 in
/-- One trip: both half-steps gather, interpolate and accumulate, and a finished block of the result is stored. -/
theorem trip (hA1 : ∀ y, k0_chk1 (A y)) (hA2 : ∀ y, k0_chk2 (A y)) (t3 : Fin k0_t3_loop.trips) :
    inv c arg1 arg2 arg3 arg4 arg5 arg6 arg8 arg9 arg10 arg11 arg12 arg13 arg14 arg15 arg16 T A Z Wc sc bias t3.val
      ⊢ wp frame (wpE (defs₀ (F := F)) 𝒱₀ (c : Thread nD τ) none) Set.univ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 t3 ())
        fun _ => inv c arg1 arg2 arg3 arg4 arg5 arg6 arg8 arg9 arg10 arg11 arg12 arg13 arg14 arg15 arg16 T A Z Wc sc bias (t3.val + 1) := by
  have ht : t3.val < 55 := Nat.lt_of_lt_of_eq t3.isLt (by decide)
  unfold inv k0_t3_body k0_part32
  rw [rowSet_eq arg1 (cl (2 * t3.val)) (k0_off20_inb t3) (k0_off20_eq t3),
    rowSet_eq arg1 (cl (2 * (t3.val + 1))) (k0_off28_inb t3) (off28 t3)]
  iintro ⟨%R0, %C1, %Y, %X15, %hY, HF, H1, H2, H3, H4, H5, H6, H8, H9, H10, H11, H12, H13, H15, Hs, ⟨%W, HW⟩⟩
  sl_exec
  sl_for (fun k _ => iprop(at_ (F := F) c arg14 (rowI A (cl (2 * t3.val))) ∗ at_ c arg8 T ∗ at_ c arg9 (gatheredTo T (rowI A (cl (2 * t3.val))) R0 k 0))) $$ [HF_dst H8 H9]
  case region =>
    intro k a
    exact groupE c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 T (rowI A (cl (2 * t3.val))) R0 (fun y => hA1 _) t3 _ _ k
  · isplitl [HF_dst]; · iexact HF_dst
    isplitl [H8]; · iexact H8
    iapply (entails_of_eq (congrArg (at_ (F := F) c arg9) (gatheredTo_zero T (rowI A (cl (2 * t3.val))) R0).symm)) $$ H9
  iintro %a ⟨HF_dst, H8, H9⟩
  ihave H9 := (entails_of_eq (congrArg (at_ (F := F) c arg9) ((congrArg (fun k => gatheredTo T (rowI A (cl (2 * t3.val))) R0 k 0) (by decide : Scf.trips k0_t4_loop.lb k0_t4_loop.ub k0_t4_loop.st = 8)).trans (gatheredTo_all T (rowI A (cl (2 * t3.val))) R0)))) $$ H9
  sl_exec
  have h12 : arg12.view.read (Elt F) (arg12.view.writes (Elt F) arg12.view.junk (trip.sl.H12_8 arg2 arg10 T A Z t3)) = Cst T A Z (2 * t3.val + 1) := by
    delta trip.sl.H12_8
    refine cols_value8 arg12 _ _ _ _ _ _ _ _ _ (Sst T A (2 * t3.val)) Z (cl (2 * t3.val - 1)) ?_ ?_ ?_ ?_ ?_ ?_ ?_ ?_
    · exact Eq.trans (by rfl) (col_of (Sst T A (2 * t3.val)) Z (cl (2 * t3.val - 1)) 0 (load_srow arg10 (Sst T A (2 * t3.val)) 0 0 rfl inb_S8x256x128_S1x128x128_0_0_0_s_1_2_1) (load_srow arg10 (Sst T A (2 * t3.val)) 0 1 rfl inb_S8x256x128_S1x128x128_0_1_0_s_1_2_1) (load_wrow arg2 Z (cl (2 * t3.val - 1)) 0 0 (rowE t3) (k0_off25_inb t3) rfl inb_S4x8x128_S1x1x128_0_0_0) (load_wrow arg2 Z (cl (2 * t3.val - 1)) 1 0 (rowE t3) (k0_off25_inb t3) rfl inb_S4x8x128_S1x1x128_1_0_0) (load_wrow arg2 Z (cl (2 * t3.val - 1)) 2 0 (rowE t3) (k0_off25_inb t3) rfl inb_S4x8x128_S1x1x128_2_0_0) (load_wrow arg2 Z (cl (2 * t3.val - 1)) 3 0 (rowE t3) (k0_off25_inb t3) rfl inb_S4x8x128_S1x1x128_3_0_0))
    · exact Eq.trans (by rfl) (col_of (Sst T A (2 * t3.val)) Z (cl (2 * t3.val - 1)) 1 (load_srow arg10 (Sst T A (2 * t3.val)) 1 0 rfl inb_S8x256x128_S1x128x128_1_0_0_s_1_2_1) (load_srow arg10 (Sst T A (2 * t3.val)) 1 1 rfl inb_S8x256x128_S1x128x128_1_1_0_s_1_2_1) (load_wrow arg2 Z (cl (2 * t3.val - 1)) 1 1 (rowE t3) (k0_off25_inb t3) rfl inb_S4x8x128_S1x1x128_1_1_0) (load_wrow arg2 Z (cl (2 * t3.val - 1)) 0 1 (rowE t3) (k0_off25_inb t3) rfl inb_S4x8x128_S1x1x128_0_1_0) (load_wrow arg2 Z (cl (2 * t3.val - 1)) 3 1 (rowE t3) (k0_off25_inb t3) rfl inb_S4x8x128_S1x1x128_3_1_0) (load_wrow arg2 Z (cl (2 * t3.val - 1)) 2 1 (rowE t3) (k0_off25_inb t3) rfl inb_S4x8x128_S1x1x128_2_1_0))
    · exact Eq.trans (by rfl) (col_of (Sst T A (2 * t3.val)) Z (cl (2 * t3.val - 1)) 2 (load_srow arg10 (Sst T A (2 * t3.val)) 2 0 rfl inb_S8x256x128_S1x128x128_2_0_0_s_1_2_1) (load_srow arg10 (Sst T A (2 * t3.val)) 2 1 rfl inb_S8x256x128_S1x128x128_2_1_0_s_1_2_1) (load_wrow arg2 Z (cl (2 * t3.val - 1)) 0 2 (rowE t3) (k0_off25_inb t3) rfl inb_S4x8x128_S1x1x128_0_2_0) (load_wrow arg2 Z (cl (2 * t3.val - 1)) 1 2 (rowE t3) (k0_off25_inb t3) rfl inb_S4x8x128_S1x1x128_1_2_0) (load_wrow arg2 Z (cl (2 * t3.val - 1)) 2 2 (rowE t3) (k0_off25_inb t3) rfl inb_S4x8x128_S1x1x128_2_2_0) (load_wrow arg2 Z (cl (2 * t3.val - 1)) 3 2 (rowE t3) (k0_off25_inb t3) rfl inb_S4x8x128_S1x1x128_3_2_0))
    · exact Eq.trans (by rfl) (col_of (Sst T A (2 * t3.val)) Z (cl (2 * t3.val - 1)) 3 (load_srow arg10 (Sst T A (2 * t3.val)) 3 0 rfl inb_S8x256x128_S1x128x128_3_0_0_s_1_2_1) (load_srow arg10 (Sst T A (2 * t3.val)) 3 1 rfl inb_S8x256x128_S1x128x128_3_1_0_s_1_2_1) (load_wrow arg2 Z (cl (2 * t3.val - 1)) 1 3 (rowE t3) (k0_off25_inb t3) rfl inb_S4x8x128_S1x1x128_1_3_0) (load_wrow arg2 Z (cl (2 * t3.val - 1)) 0 3 (rowE t3) (k0_off25_inb t3) rfl inb_S4x8x128_S1x1x128_0_3_0) (load_wrow arg2 Z (cl (2 * t3.val - 1)) 3 3 (rowE t3) (k0_off25_inb t3) rfl inb_S4x8x128_S1x1x128_3_3_0) (load_wrow arg2 Z (cl (2 * t3.val - 1)) 2 3 (rowE t3) (k0_off25_inb t3) rfl inb_S4x8x128_S1x1x128_2_3_0))
    · exact Eq.trans (by rfl) (col_of (Sst T A (2 * t3.val)) Z (cl (2 * t3.val - 1)) 4 (load_srow arg10 (Sst T A (2 * t3.val)) 4 0 rfl inb_S8x256x128_S1x128x128_4_0_0_s_1_2_1) (load_srow arg10 (Sst T A (2 * t3.val)) 4 1 rfl inb_S8x256x128_S1x128x128_4_1_0_s_1_2_1) (load_wrow arg2 Z (cl (2 * t3.val - 1)) 0 4 (rowE t3) (k0_off25_inb t3) rfl inb_S4x8x128_S1x1x128_0_4_0) (load_wrow arg2 Z (cl (2 * t3.val - 1)) 1 4 (rowE t3) (k0_off25_inb t3) rfl inb_S4x8x128_S1x1x128_1_4_0) (load_wrow arg2 Z (cl (2 * t3.val - 1)) 2 4 (rowE t3) (k0_off25_inb t3) rfl inb_S4x8x128_S1x1x128_2_4_0) (load_wrow arg2 Z (cl (2 * t3.val - 1)) 3 4 (rowE t3) (k0_off25_inb t3) rfl inb_S4x8x128_S1x1x128_3_4_0))
    · exact Eq.trans (by rfl) (col_of (Sst T A (2 * t3.val)) Z (cl (2 * t3.val - 1)) 5 (load_srow arg10 (Sst T A (2 * t3.val)) 5 0 rfl inb_S8x256x128_S1x128x128_5_0_0_s_1_2_1) (load_srow arg10 (Sst T A (2 * t3.val)) 5 1 rfl inb_S8x256x128_S1x128x128_5_1_0_s_1_2_1) (load_wrow arg2 Z (cl (2 * t3.val - 1)) 1 5 (rowE t3) (k0_off25_inb t3) rfl inb_S4x8x128_S1x1x128_1_5_0) (load_wrow arg2 Z (cl (2 * t3.val - 1)) 0 5 (rowE t3) (k0_off25_inb t3) rfl inb_S4x8x128_S1x1x128_0_5_0) (load_wrow arg2 Z (cl (2 * t3.val - 1)) 3 5 (rowE t3) (k0_off25_inb t3) rfl inb_S4x8x128_S1x1x128_3_5_0) (load_wrow arg2 Z (cl (2 * t3.val - 1)) 2 5 (rowE t3) (k0_off25_inb t3) rfl inb_S4x8x128_S1x1x128_2_5_0))
    · exact Eq.trans (by rfl) (col_of (Sst T A (2 * t3.val)) Z (cl (2 * t3.val - 1)) 6 (load_srow arg10 (Sst T A (2 * t3.val)) 6 0 rfl inb_S8x256x128_S1x128x128_6_0_0_s_1_2_1) (load_srow arg10 (Sst T A (2 * t3.val)) 6 1 rfl inb_S8x256x128_S1x128x128_6_1_0_s_1_2_1) (load_wrow arg2 Z (cl (2 * t3.val - 1)) 0 6 (rowE t3) (k0_off25_inb t3) rfl inb_S4x8x128_S1x1x128_0_6_0) (load_wrow arg2 Z (cl (2 * t3.val - 1)) 1 6 (rowE t3) (k0_off25_inb t3) rfl inb_S4x8x128_S1x1x128_1_6_0) (load_wrow arg2 Z (cl (2 * t3.val - 1)) 2 6 (rowE t3) (k0_off25_inb t3) rfl inb_S4x8x128_S1x1x128_2_6_0) (load_wrow arg2 Z (cl (2 * t3.val - 1)) 3 6 (rowE t3) (k0_off25_inb t3) rfl inb_S4x8x128_S1x1x128_3_6_0))
    · exact Eq.trans (by rfl) (col_of (Sst T A (2 * t3.val)) Z (cl (2 * t3.val - 1)) 7 (load_srow arg10 (Sst T A (2 * t3.val)) 7 0 rfl inb_S8x256x128_S1x128x128_7_0_0_s_1_2_1) (load_srow arg10 (Sst T A (2 * t3.val)) 7 1 rfl inb_S8x256x128_S1x128x128_7_1_0_s_1_2_1) (load_wrow arg2 Z (cl (2 * t3.val - 1)) 1 7 (rowE t3) (k0_off25_inb t3) rfl inb_S4x8x128_S1x1x128_1_7_0) (load_wrow arg2 Z (cl (2 * t3.val - 1)) 0 7 (rowE t3) (k0_off25_inb t3) rfl inb_S4x8x128_S1x1x128_0_7_0) (load_wrow arg2 Z (cl (2 * t3.val - 1)) 3 7 (rowE t3) (k0_off25_inb t3) rfl inb_S4x8x128_S1x1x128_3_7_0) (load_wrow arg2 Z (cl (2 * t3.val - 1)) 2 7 (rowE t3) (k0_off25_inb t3) rfl inb_S4x8x128_S1x1x128_2_7_0))

  ihave H12 := (pointsTo_rep_of_read (c : Thread nD τ) arg12 _ fullShare (Cst T A Z (2 * t3.val + 1)) h12) $$ H12
  have e1 : trip.sl.v609 arg2 arg10 arg12 T A Z t3 = Cst T A Z (2 * t3.val + 1) := by
    delta trip.sl.v609
    exact (View.readAt_full (Val := Elt F) arg12.view _ _).trans h12
  have e2 : trip.sl.v1046 arg3 arg11 arg13 T A Z Wc t3 = Acc T A Z Wc (2 * t3.val + 1) := by
    delta trip.sl.v1046 trip.sl.H13_1
    refine (View.readCov_full (Val := Elt F) arg13.view _ _ _ _).trans ?_
    rw [load_wtap arg3 Wc ⟨_, Nat.mod_lt _ (by decide)⟩ (tapE t3) (k0_off19_inb t3), View.readAt_rep_full, View.readAt_rep_full]
    exact accE t3 _ _ _
  ihave H13 := (pointsTo_rep_of_read (c : Thread nD τ) arg13 _ fullShare (Acc T A Z Wc (2 * t3.val + 2)) ?h13) $$ H13
  case h13 =>
    refine (View.read_writes_full (Val := Elt F) arg13.view _ _ _ _).trans ?_
    rw [e1, e2, load_wtap arg3 Wc ⟨_, Nat.mod_lt _ (by decide)⟩ (tapO t3) (k0_off27_inb t3)]
    exact accO t3 _ _ _
  rw [e2]
  ihave H15 := (pointsTo_rep_of_read (c : Thread nD τ) arg15 _ fullShare (rowI A (cl (2 * t3.val + 1))) ?h15) $$ H15
  case h15 =>
    refine (View.read_writes_full (Val := Elt F) arg15.view _ _ _ _).trans ?_
    delta trip.sl.dma5
    exact load_rowI arg1 A (cl (2 * t3.val + 1)) (k0_off21_eq t3) (k0_off21_inb t3)
  ihave H6 := (y_step c arg6 T A Z Wc sc bias (2 * t3.val) (by omega) (k0_cond1 t3 = 1#1) (condE t3) Y hY (k0_off26 t3) (outE t3) (k0_off26_inb t3) _ ?h6) $$ H6
  case h6 =>
    rw [View.readAt_rep_full, View.readAt_rep_full]
    rfl
  icases H6 with ⟨%Y1, %hY1, H6⟩
  sl_for (fun k _ => iprop(at_ (F := F) c arg15 (rowI A (cl (2 * t3.val + 1))) ∗ at_ c arg8 T ∗ at_ c arg10 (gatheredTo T (rowI A (cl (2 * t3.val + 1))) (Sst T A (2 * t3.val)) k 0))) $$ [H15 H8 H10]
  case region =>
    intro k a
    exact groupO c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 T (rowI A (cl (2 * t3.val + 1))) (Sst T A (2 * t3.val)) (fun y => hA2 _) t3 _ k
  · isplitl [H15]; · iexact H15
    isplitl [H8]; · iexact H8
    iapply (entails_of_eq (congrArg (at_ (F := F) c arg10) (gatheredTo_zero T (rowI A (cl (2 * t3.val + 1))) (Sst T A (2 * t3.val))).symm)) $$ H10
  iintro %a2 ⟨H15, H8, H10⟩
  ihave H10 := (entails_of_eq (congrArg (at_ (F := F) c arg10) ((congrArg (fun k => gatheredTo T (rowI A (cl (2 * t3.val + 1))) (Sst T A (2 * t3.val)) k 0) (by decide : Scf.trips k0_t6_loop.lb k0_t6_loop.ub k0_t6_loop.st = 8)).trans (gatheredTo_all T (rowI A (cl (2 * t3.val + 1))) (Sst T A (2 * t3.val)))))) $$ H10
  sl_exec
  have h11 : arg11.view.read (Elt F) (arg11.view.writes (Elt F) (arg11.view.rep (Cst T A Z (2 * t3.val))) (trip.sl.H11_8 arg2 arg9 T A Z t3)) = Cst T A Z (2 * t3.val + 2) := by
    delta trip.sl.H11_8
    refine cols_value8 arg11 _ _ _ _ _ _ _ _ _ (Sst T A (2 * t3.val + 1)) Z (cl (2 * t3.val + 1 - 1)) ?_ ?_ ?_ ?_ ?_ ?_ ?_ ?_
    · exact Eq.trans (by rfl) (col_of (Sst T A (2 * t3.val + 1)) Z (cl (2 * t3.val + 1 - 1)) 0 (load_srow arg9 (Sst T A (2 * t3.val + 1)) 0 0 rfl inb_S8x256x128_S1x128x128_0_0_0_s_1_2_1) (load_srow arg9 (Sst T A (2 * t3.val + 1)) 0 1 rfl inb_S8x256x128_S1x128x128_0_1_0_s_1_2_1) (load_wrow arg2 Z (cl (2 * t3.val + 1 - 1)) 0 0 (rowO t3) (k0_off32_inb t3) rfl inb_S4x8x128_S1x1x128_0_0_0) (load_wrow arg2 Z (cl (2 * t3.val + 1 - 1)) 1 0 (rowO t3) (k0_off32_inb t3) rfl inb_S4x8x128_S1x1x128_1_0_0) (load_wrow arg2 Z (cl (2 * t3.val + 1 - 1)) 2 0 (rowO t3) (k0_off32_inb t3) rfl inb_S4x8x128_S1x1x128_2_0_0) (load_wrow arg2 Z (cl (2 * t3.val + 1 - 1)) 3 0 (rowO t3) (k0_off32_inb t3) rfl inb_S4x8x128_S1x1x128_3_0_0))
    · exact Eq.trans (by rfl) (col_of (Sst T A (2 * t3.val + 1)) Z (cl (2 * t3.val + 1 - 1)) 1 (load_srow arg9 (Sst T A (2 * t3.val + 1)) 1 0 rfl inb_S8x256x128_S1x128x128_1_0_0_s_1_2_1) (load_srow arg9 (Sst T A (2 * t3.val + 1)) 1 1 rfl inb_S8x256x128_S1x128x128_1_1_0_s_1_2_1) (load_wrow arg2 Z (cl (2 * t3.val + 1 - 1)) 1 1 (rowO t3) (k0_off32_inb t3) rfl inb_S4x8x128_S1x1x128_1_1_0) (load_wrow arg2 Z (cl (2 * t3.val + 1 - 1)) 0 1 (rowO t3) (k0_off32_inb t3) rfl inb_S4x8x128_S1x1x128_0_1_0) (load_wrow arg2 Z (cl (2 * t3.val + 1 - 1)) 3 1 (rowO t3) (k0_off32_inb t3) rfl inb_S4x8x128_S1x1x128_3_1_0) (load_wrow arg2 Z (cl (2 * t3.val + 1 - 1)) 2 1 (rowO t3) (k0_off32_inb t3) rfl inb_S4x8x128_S1x1x128_2_1_0))
    · exact Eq.trans (by rfl) (col_of (Sst T A (2 * t3.val + 1)) Z (cl (2 * t3.val + 1 - 1)) 2 (load_srow arg9 (Sst T A (2 * t3.val + 1)) 2 0 rfl inb_S8x256x128_S1x128x128_2_0_0_s_1_2_1) (load_srow arg9 (Sst T A (2 * t3.val + 1)) 2 1 rfl inb_S8x256x128_S1x128x128_2_1_0_s_1_2_1) (load_wrow arg2 Z (cl (2 * t3.val + 1 - 1)) 0 2 (rowO t3) (k0_off32_inb t3) rfl inb_S4x8x128_S1x1x128_0_2_0) (load_wrow arg2 Z (cl (2 * t3.val + 1 - 1)) 1 2 (rowO t3) (k0_off32_inb t3) rfl inb_S4x8x128_S1x1x128_1_2_0) (load_wrow arg2 Z (cl (2 * t3.val + 1 - 1)) 2 2 (rowO t3) (k0_off32_inb t3) rfl inb_S4x8x128_S1x1x128_2_2_0) (load_wrow arg2 Z (cl (2 * t3.val + 1 - 1)) 3 2 (rowO t3) (k0_off32_inb t3) rfl inb_S4x8x128_S1x1x128_3_2_0))
    · exact Eq.trans (by rfl) (col_of (Sst T A (2 * t3.val + 1)) Z (cl (2 * t3.val + 1 - 1)) 3 (load_srow arg9 (Sst T A (2 * t3.val + 1)) 3 0 rfl inb_S8x256x128_S1x128x128_3_0_0_s_1_2_1) (load_srow arg9 (Sst T A (2 * t3.val + 1)) 3 1 rfl inb_S8x256x128_S1x128x128_3_1_0_s_1_2_1) (load_wrow arg2 Z (cl (2 * t3.val + 1 - 1)) 1 3 (rowO t3) (k0_off32_inb t3) rfl inb_S4x8x128_S1x1x128_1_3_0) (load_wrow arg2 Z (cl (2 * t3.val + 1 - 1)) 0 3 (rowO t3) (k0_off32_inb t3) rfl inb_S4x8x128_S1x1x128_0_3_0) (load_wrow arg2 Z (cl (2 * t3.val + 1 - 1)) 3 3 (rowO t3) (k0_off32_inb t3) rfl inb_S4x8x128_S1x1x128_3_3_0) (load_wrow arg2 Z (cl (2 * t3.val + 1 - 1)) 2 3 (rowO t3) (k0_off32_inb t3) rfl inb_S4x8x128_S1x1x128_2_3_0))
    · exact Eq.trans (by rfl) (col_of (Sst T A (2 * t3.val + 1)) Z (cl (2 * t3.val + 1 - 1)) 4 (load_srow arg9 (Sst T A (2 * t3.val + 1)) 4 0 rfl inb_S8x256x128_S1x128x128_4_0_0_s_1_2_1) (load_srow arg9 (Sst T A (2 * t3.val + 1)) 4 1 rfl inb_S8x256x128_S1x128x128_4_1_0_s_1_2_1) (load_wrow arg2 Z (cl (2 * t3.val + 1 - 1)) 0 4 (rowO t3) (k0_off32_inb t3) rfl inb_S4x8x128_S1x1x128_0_4_0) (load_wrow arg2 Z (cl (2 * t3.val + 1 - 1)) 1 4 (rowO t3) (k0_off32_inb t3) rfl inb_S4x8x128_S1x1x128_1_4_0) (load_wrow arg2 Z (cl (2 * t3.val + 1 - 1)) 2 4 (rowO t3) (k0_off32_inb t3) rfl inb_S4x8x128_S1x1x128_2_4_0) (load_wrow arg2 Z (cl (2 * t3.val + 1 - 1)) 3 4 (rowO t3) (k0_off32_inb t3) rfl inb_S4x8x128_S1x1x128_3_4_0))
    · exact Eq.trans (by rfl) (col_of (Sst T A (2 * t3.val + 1)) Z (cl (2 * t3.val + 1 - 1)) 5 (load_srow arg9 (Sst T A (2 * t3.val + 1)) 5 0 rfl inb_S8x256x128_S1x128x128_5_0_0_s_1_2_1) (load_srow arg9 (Sst T A (2 * t3.val + 1)) 5 1 rfl inb_S8x256x128_S1x128x128_5_1_0_s_1_2_1) (load_wrow arg2 Z (cl (2 * t3.val + 1 - 1)) 1 5 (rowO t3) (k0_off32_inb t3) rfl inb_S4x8x128_S1x1x128_1_5_0) (load_wrow arg2 Z (cl (2 * t3.val + 1 - 1)) 0 5 (rowO t3) (k0_off32_inb t3) rfl inb_S4x8x128_S1x1x128_0_5_0) (load_wrow arg2 Z (cl (2 * t3.val + 1 - 1)) 3 5 (rowO t3) (k0_off32_inb t3) rfl inb_S4x8x128_S1x1x128_3_5_0) (load_wrow arg2 Z (cl (2 * t3.val + 1 - 1)) 2 5 (rowO t3) (k0_off32_inb t3) rfl inb_S4x8x128_S1x1x128_2_5_0))
    · exact Eq.trans (by rfl) (col_of (Sst T A (2 * t3.val + 1)) Z (cl (2 * t3.val + 1 - 1)) 6 (load_srow arg9 (Sst T A (2 * t3.val + 1)) 6 0 rfl inb_S8x256x128_S1x128x128_6_0_0_s_1_2_1) (load_srow arg9 (Sst T A (2 * t3.val + 1)) 6 1 rfl inb_S8x256x128_S1x128x128_6_1_0_s_1_2_1) (load_wrow arg2 Z (cl (2 * t3.val + 1 - 1)) 0 6 (rowO t3) (k0_off32_inb t3) rfl inb_S4x8x128_S1x1x128_0_6_0) (load_wrow arg2 Z (cl (2 * t3.val + 1 - 1)) 1 6 (rowO t3) (k0_off32_inb t3) rfl inb_S4x8x128_S1x1x128_1_6_0) (load_wrow arg2 Z (cl (2 * t3.val + 1 - 1)) 2 6 (rowO t3) (k0_off32_inb t3) rfl inb_S4x8x128_S1x1x128_2_6_0) (load_wrow arg2 Z (cl (2 * t3.val + 1 - 1)) 3 6 (rowO t3) (k0_off32_inb t3) rfl inb_S4x8x128_S1x1x128_3_6_0))
    · exact Eq.trans (by rfl) (col_of (Sst T A (2 * t3.val + 1)) Z (cl (2 * t3.val + 1 - 1)) 7 (load_srow arg9 (Sst T A (2 * t3.val + 1)) 7 0 rfl inb_S8x256x128_S1x128x128_7_0_0_s_1_2_1) (load_srow arg9 (Sst T A (2 * t3.val + 1)) 7 1 rfl inb_S8x256x128_S1x128x128_7_1_0_s_1_2_1) (load_wrow arg2 Z (cl (2 * t3.val + 1 - 1)) 1 7 (rowO t3) (k0_off32_inb t3) rfl inb_S4x8x128_S1x1x128_1_7_0) (load_wrow arg2 Z (cl (2 * t3.val + 1 - 1)) 0 7 (rowO t3) (k0_off32_inb t3) rfl inb_S4x8x128_S1x1x128_0_7_0) (load_wrow arg2 Z (cl (2 * t3.val + 1 - 1)) 3 7 (rowO t3) (k0_off32_inb t3) rfl inb_S4x8x128_S1x1x128_3_7_0) (load_wrow arg2 Z (cl (2 * t3.val + 1 - 1)) 2 7 (rowO t3) (k0_off32_inb t3) rfl inb_S4x8x128_S1x1x128_2_7_0))

  ihave H11 := (pointsTo_rep_of_read (c : Thread nD τ) arg11 _ fullShare (Cst T A Z (2 * t3.val + 2)) h11) $$ H11
  have e3 : trip.sl.v1046_1 c arg13 T A Z Wc t3 = Acc T A Z Wc (2 * t3.val + 2) := by
    delta trip.sl.v1046_1
    exact View.readAt_rep_full (Val := Elt F) arg13.view _ _
  rw [e3]
  ihave H6 := (y_step c arg6 T A Z Wc sc bias (2 * t3.val + 1) (by omega) (k0_cond2 t3 = 1#1) (condO t3) Y1 hY1 (k0_off33 t3) (outO t3) (k0_off33_inb t3) _ ?h6b) $$ H6
  case h6b =>
    rw [View.readAt_rep_full, View.readAt_rep_full]
  icases H6 with ⟨%Y2, %hY2, H6⟩
  ihave HF := (Transfers.Flight_mono (D' := iprop(at_ c arg14 (rowI A (cl (2 * (t3.val + 1)))) ∗ (arg1.view.loc (c : Thread nD τ) ↦[((arg1.slice (Rect.unit (s := S108x8x128) (k0_off28 t3) S1x8x128.size (k0_off28_inb t3)) (fun _ => rfl)).squeeze S8x128 squeezes_S1x8x128_S8x128).view.set]{fullShare} arg1.view.rep A))) ?_) $$ HF
  case h =>
    iintro ⟨Ha, Hb⟩
    isplitl [Ha]
    · iapply (pointsTo_rep_of_read (c : Thread nD τ) arg14 _ fullShare (rowI A (cl (2 * (t3.val + 1)))) ?h14) $$ [Ha]
      rotate_left
      · iexact Ha
      · refine (View.read_writes_full (Val := Elt F) arg14.view _ _ _ _).trans ?_
        delta trip.sl.dma74
        exact load_rowI arg1 A (cl (2 * (t3.val + 1))) (off28 t3) (k0_off28_inb t3)
    · iexact Hb
  sl_step
  iexists _; iexists _; iexists Y2; iexists _
  isplitr
  · ipureintro; exact hY2
  isplitl [HF]; · iexact HF
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [Hs]; · iexact Hs
  iexists _; iexact HW
end

end Cert.Proof.KernelIdeal

end
-- ==== Proof.IBody.lean ====
/- The whole body of the deformable product. -/
module

public import proofs.«01_k».proof.Proof.IBuild
public import proofs.«01_k».proof.Proof.ITrip
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The gather before the loop reads the index row of chunk 0. -/
theorem rowFirst : k0_off1 0#32 = ![(cl 0).val, 0, 0] := by decide +kernel
/-- The trip after the last reads the last chunk's index row again. -/
theorem rowLast : k0_off1 110#32 = ![(cl (2 * 55)).val, 0, 0] := by decide +kernel

/-- With the border rows zeroed no block of pixels is asked for yet. -/
theorem zeros_ok (arg7 : Memref sig .tc .vmem S4x1584x128 .i32) (X : Vec F S1536x2048 .i8) (f : arg7.view.ty.Contents (Elt F)) (i0 i1 i2) (P0 P1 P2 : S4x16x128.Idx → BitVec 32)
    (h0 : ∀ i, P0 i = 0#32) (h1 : ∀ i, P1 i = 0#32) (h2 : ∀ i, P2 i = 0#32) :
    XwOk X 0 (arg7.view.read (Elt F) (arg7.view.writes (Elt F) f
      [⟨Rect.unit (s := S4x1584x128) ![0, 1568, 0] S4x16x128.size i2, P2⟩, ⟨Rect.unit (s := S4x1584x128) ![0, 1552, 0] S4x16x128.size i1, P1⟩, ⟨Rect.unit (s := S4x1584x128) ![0, 0, 0] S4x16x128.size i0, P0⟩])) := by
  intro y hy
  have hy0 : (y 0).val < 4 := (y 0).isLt
  have hy1 : (y 1).val < 1584 := (y 1).isLt
  have hy2 : (y 2).val < 128 := (y 2).isLt
  have hx : xwF X y = 0#32 := by
    unfold xwF
    rw [dif_neg (by omega)]
  rw [hx]
  have mem : ∀ (s : ℕ) (L) (inb) (P : S4x16x128.Idx → BitVec 32) (hP : ∀ i, P i = 0#32), s ≤ (y 1).val → (y 1).val < s + 16 →
      arg7.view.read (Elt F) (arg7.view.writes (Elt F) f (⟨Rect.unit (s := S4x1584x128) ![0, s, 0] S4x16x128.size inb, P⟩ :: L)) y = 0#32 := fun s L inb P hP l1 l2 =>
    (View.read_writes_cons_unit_of_mem (Val := Elt F) arg7.view _ inb P L y (ix3 ⟨(y 0).val, hy0⟩ ⟨(y 1).val - s, by omega⟩ ⟨(y 2).val, hy2⟩) rfl (fun a => by
      match a with
      | ⟨0, _⟩ => show (y 0).val = 0 + (y 0).val; omega
      | ⟨1, _⟩ => show (y 1).val = s + ((y 1).val - s); omega
      | ⟨2, _⟩ => show (y 2).val = 0 + (y 2).val; omega)).trans (hP _)
  have out : ∀ (s : ℕ) (L) (inb) (P : S4x16x128.Idx → BitVec 32), ((y 1).val < s ∨ s + 16 ≤ (y 1).val) →
      arg7.view.read (Elt F) (arg7.view.writes (Elt F) f (⟨Rect.unit (s := S4x1584x128) ![0, s, 0] S4x16x128.size inb, P⟩ :: L)) y = arg7.view.read (Elt F) (arg7.view.writes (Elt F) f L) y := fun s L inb P l =>
    View.read_writes_cons_unit_of_not_mem (Val := Elt F) arg7.view _ inb P L y rfl ⟨1, by decide⟩ (by
      show (y 1).val < s ∨ s + 16 ≤ (y 1).val; exact l)
  by_cases a : 1568 ≤ (y 1).val
  · exact mem 1568 _ _ _ h2 a (by omega)
  · rw [out 1568 _ _ _ (by omega)]
    by_cases b : 1552 ≤ (y 1).val
    · exact mem 1552 _ _ _ h1 b (by omega)
    · rw [out 1552 _ _ _ (by omega)]
      exact mem 0 _ _ _ h0 (by omega) (by omega)

section
variable (c : Dev nD)
  (arg0 : Memref sig .tc .vmem S1536x2048 .i8) (harg0 : arg0.IsWhole)
  (arg1 : Memref sig .tc .vmem S108x8x128 .i32) (harg1 : arg1.IsWhole)
  (arg2 : Memref sig .tc .vmem S108x4x8x128 .f32) (harg2 : arg2.IsWhole)
  (arg3 : Memref sig .tc .vmem S9x2048x1024 .fp8e4m3) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1536x1024 .bf16) (harg6 : arg6.IsWhole)
  (arg7 : Memref sig .tc .vmem S4x1584x128 .i32) (harg7 : arg7.IsWhole)
  (arg8 : Memref sig .tc .vmem S24832x128 .i32) (harg8 : arg8.IsWhole)
  (arg9 : Memref sig .tc .vmem S8x256x128 .i32) (harg9 : arg9.IsWhole)
  (arg10 : Memref sig .tc .vmem S8x256x128 .i32) (harg10 : arg10.IsWhole)
  (arg11 : Memref sig .tc .vmem S128x2048 .bf16) (harg11 : arg11.IsWhole)
  (arg12 : Memref sig .tc .vmem S128x2048 .bf16) (harg12 : arg12.IsWhole)
  (arg13 : Memref sig .tc .vmem S128x1024 .f32) (harg13 : arg13.IsWhole)
  (arg14 : Memref sig .tc .smem S8x128 .i32) (harg14 : arg14.IsWhole)
  (arg15 : Memref sig .tc .smem S8x128 .i32) (harg15 : arg15.IsWhole)
  (arg16 : DmaSems sig S2)

/-- The table the body lays out from the input's bytes. -/
abbrev tab (X : Vec F S1536x2048 .i8) : S24832x128.Idx → BitVec 32 := tabF (xwF X)

set_option maxHeartbeats 8000000 in
set_option pp.maxSteps 30000 in
set_option pp.deepTerms false in
set_option pp.deepTerms.threshold 40 in
set_option maxRecDepth 20000 in
/-- The body leaves its operands, and in the result every block's last accumulator scaled and rounded. -/
theorem body (X : Vec F S1536x2048 .i8) (A : S108x8x128.Idx → BitVec 32) (Z : Vec F S108x4x8x128 .f32) (Wc : Vec F S9x2048x1024 .fp8e4m3)
    (sc bias : Vec F S1x1024 .f32) (hA1 : ∀ y, k0_chk1 (A y)) (hA2 : ∀ y, k0_chk2 (A y)) :
    iprop(at_ c arg0 X ∗ at_ (F := F) c arg1 A ∗ at_ c arg2 Z ∗ at_ c arg3 Wc ∗ at_ c arg4 sc ∗ at_ c arg5 bias
      ∗ (∃ Y, at_ (F := F) c arg6 Y) ∗ (∃ Y, at_ (F := F) c arg7 Y) ∗ (∃ Y, at_ (F := F) c arg8 Y) ∗ (∃ Y, at_ (F := F) c arg9 Y) ∗ (∃ Y, at_ (F := F) c arg10 Y)
      ∗ (∃ Y, at_ (F := F) c arg11 Y) ∗ (∃ Y, at_ (F := F) c arg12 Y) ∗ (∃ Y, at_ (F := F) c arg13 Y) ∗ (∃ Y, at_ (F := F) c arg14 Y) ∗ (∃ Y, at_ (F := F) c arg15 Y)
      ∗ semVal ((c : Thread nD τ), SemLoc.dma ((arg16.slice (Rect.unit (s := S2) ![0] S1.size inb_S2_S1_0)).squeeze S_ squeezes_S1_S_).sem) 0
      ∗ semVal ((c : Thread nD τ), SemLoc.dma ((arg16.slice (Rect.unit (s := S2) ![1] S1.size inb_S2_S1_1)).squeeze S_ squeezes_S1_S_).sem) 0
      ∗ (∃ W, owes (c : Thread nD τ) 0 W))
      ⊢ wp frame (wpE (defs₀ (F := F)) 𝒱₀ (c : Thread nD τ) none) Set.univ (cc0_deform_skel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16)
        fun _ => iprop(∃ Y, ⌜Yok (tab X) A Z Wc sc bias 110 Y⌝ ∗ at_ c arg0 X ∗ at_ (F := F) c arg1 A ∗ at_ c arg2 Z ∗ at_ c arg3 Wc ∗ at_ c arg4 sc ∗ at_ c arg5 bias
          ∗ at_ (F := F) c arg6 Y ∗ (∃ Y, at_ (F := F) c arg7 Y) ∗ (∃ Y, at_ (F := F) c arg8 Y) ∗ (∃ Y, at_ (F := F) c arg9 Y) ∗ (∃ Y, at_ (F := F) c arg10 Y)
          ∗ (∃ Y, at_ (F := F) c arg11 Y) ∗ (∃ Y, at_ (F := F) c arg12 Y) ∗ (∃ Y, at_ (F := F) c arg13 Y) ∗ (∃ Y, at_ (F := F) c arg14 Y) ∗ (∃ Y, at_ (F := F) c arg15 Y)
          ∗ semVal ((c : Thread nD τ), SemLoc.dma ((arg16.slice (Rect.unit (s := S2) ![0] S1.size inb_S2_S1_0)).squeeze S_ squeezes_S1_S_).sem) 0
          ∗ semVal ((c : Thread nD τ), SemLoc.dma ((arg16.slice (Rect.unit (s := S2) ![1] S1.size inb_S2_S1_1)).squeeze S_ squeezes_S1_S_).sem) 0
          ∗ (∃ W, owes (c : Thread nD τ) 0 W)) := by
  unfold cc0_deform_skel
  iintro ⟨H0, H1, H2, H3, H4, H5, ⟨%Y6, H6⟩, ⟨%Y7, H7⟩, ⟨%Y8, H8⟩, ⟨%Y9, H9⟩, ⟨%Y10, H10⟩, ⟨%Y11, H11⟩, ⟨%Y12, H12⟩, ⟨%Y13, H13⟩, ⟨%Y14, H14⟩, ⟨%Y15, H15⟩, Hs0, Hs1, ⟨%W, HW⟩⟩
  sl_exec
  sl_for (fun k _ => iprop(∃ Q, ⌜XwOk X k Q⌝ ∗ at_ c arg0 X ∗ at_ (F := F) c arg7 Q)) $$ [H0 H7]
  case region => intro k a; exact packTrip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X k
  · iexists _
    isplitr
    rotate_left
    · isplitl [H0]; · iexact H0
      iapply (pointsTo_rep_of_read (c : Thread nD τ) arg7 _ fullShare _ rfl) $$ H7
    · ipureintro
      delta body.sl.v5
      exact zeros_ok arg7 X _ _ _ _ _ _ _ (fun _ => rfl) (fun _ => rfl) (fun _ => rfl)
  iintro %a ⟨%Q, %hQ, H0, H7⟩
  obtain rfl : Q = xwF X := funext fun y => hQ y (by
    have := (y 1).isLt
    rw [(by decide : Scf.trips k0_t1_loop.lb k0_t1_loop.ub k0_t1_loop.st = 12)]
    omega)
  sl_exec
  sl_for (fun k _ => iprop(∃ T, ⌜TbOk (xwF X) k T⌝ ∗ at_ (F := F) c arg7 (xwF X) ∗ at_ (F := F) c arg8 T)) $$ [H7 H8]
  case region => intro k a; exact buildTrip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (xwF X) k
  · iexists _
    isplitr
    rotate_left
    · isplitl [H7]; · iexact H7
      iexact H8
    · ipureintro
      intro y hy; omega
  iintro %a2 ⟨%T, %hT, H7, H8⟩
  rw [(by decide : Scf.trips k0_t2_loop.lb k0_t2_loop.ub k0_t2_loop.st = 12)] at hT
  sl_exec

  ihave H8 := (pointsTo_rep_of_read (c : Thread nD τ) arg8 _ fullShare (tab X) ?h8) $$ H8
  case h8 =>
    refine tab_of_good (F := F) arg8 (xwF X) T hT (D := fun a b => ((a == 7 && b == 1) || ((a == 6 && b == 1) || ((a == 7 && b == 0) || ((a == 6 && b == 0) || ((a == 5 && b == 1) || ((a == 4 && b == 1) || ((a == 5 && b == 0) || ((a == 4 && b == 0) || ((a == 3 && b == 1) || ((a == 2 && b == 1) || ((a == 3 && b == 0) || ((a == 2 && b == 0) || ((a == 1 && b == 1) || ((a == 0 && b == 1) || ((a == 1 && b == 0) || ((a == 0 && b == 0) || false))))))))))))))))) ?_ (by decide)
    delta body.sl.H8_11 body.sl.v119 body.sl.v109 body.sl.v121
    refine good16_odd arg7 (xwF X) arg8 _ 1536 (by omega) ?_ 3 1 rfl _ rfl inb_S4x1584x128_S1x16x128_3_1548_0 rfl inb_S4x1584x128_S1x16x128_3_1549_0 _ rfl
    refine good16_even arg7 (xwF X) arg8 _ 1536 (by omega) ?_ 3 1 rfl _ rfl inb_S4x1584x128_S1x16x128_3_1548_0 rfl inb_S4x1584x128_S1x16x128_3_1549_0 _ rfl
    refine good16_odd arg7 (xwF X) arg8 _ 1536 (by omega) ?_ 3 0 rfl _ rfl inb_S4x1584x128_S1x16x128_3_1536_0 rfl inb_S4x1584x128_S1x16x128_3_1537_0 _ rfl
    refine good16_even arg7 (xwF X) arg8 _ 1536 (by omega) ?_ 3 0 rfl _ rfl inb_S4x1584x128_S1x16x128_3_1536_0 rfl inb_S4x1584x128_S1x16x128_3_1537_0 _ rfl
    refine good16_odd arg7 (xwF X) arg8 _ 1536 (by omega) ?_ 2 1 rfl _ rfl inb_S4x1584x128_S1x16x128_2_1548_0 rfl inb_S4x1584x128_S1x16x128_2_1549_0 _ rfl
    refine good16_even arg7 (xwF X) arg8 _ 1536 (by omega) ?_ 2 1 rfl _ rfl inb_S4x1584x128_S1x16x128_2_1548_0 rfl inb_S4x1584x128_S1x16x128_2_1549_0 _ rfl
    refine good16_odd arg7 (xwF X) arg8 _ 1536 (by omega) ?_ 2 0 rfl _ rfl inb_S4x1584x128_S1x16x128_2_1536_0 rfl inb_S4x1584x128_S1x16x128_2_1537_0 _ rfl
    refine good16_even arg7 (xwF X) arg8 _ 1536 (by omega) ?_ 2 0 rfl _ rfl inb_S4x1584x128_S1x16x128_2_1536_0 rfl inb_S4x1584x128_S1x16x128_2_1537_0 _ rfl
    refine good16_odd arg7 (xwF X) arg8 _ 1536 (by omega) ?_ 1 1 rfl _ rfl inb_S4x1584x128_S1x16x128_1_1548_0 rfl inb_S4x1584x128_S1x16x128_1_1549_0 _ rfl
    refine good16_even arg7 (xwF X) arg8 _ 1536 (by omega) ?_ 1 1 rfl _ rfl inb_S4x1584x128_S1x16x128_1_1548_0 rfl inb_S4x1584x128_S1x16x128_1_1549_0 _ rfl
    refine good16_odd arg7 (xwF X) arg8 _ 1536 (by omega) ?_ 1 0 rfl _ rfl inb_S4x1584x128_S1x16x128_1_1536_0 rfl inb_S4x1584x128_S1x16x128_1_1537_0 _ rfl
    refine good16_even arg7 (xwF X) arg8 _ 1536 (by omega) ?_ 1 0 rfl _ rfl inb_S4x1584x128_S1x16x128_1_1536_0 rfl inb_S4x1584x128_S1x16x128_1_1537_0 _ rfl
    refine good16_odd arg7 (xwF X) arg8 _ 1536 (by omega) ?_ 0 1 rfl _ rfl inb_S4x1584x128_S1x16x128_0_1548_0 rfl inb_S4x1584x128_S1x16x128_0_1549_0 _ rfl
    refine good16_even arg7 (xwF X) arg8 _ 1536 (by omega) ?_ 0 1 rfl _ rfl inb_S4x1584x128_S1x16x128_0_1548_0 rfl inb_S4x1584x128_S1x16x128_0_1549_0 _ rfl
    refine good16_odd arg7 (xwF X) arg8 _ 1536 (by omega) ?_ 0 0 rfl _ rfl inb_S4x1584x128_S1x16x128_0_1536_0 rfl inb_S4x1584x128_S1x16x128_0_1537_0 _ rfl
    refine good16_even arg7 (xwF X) arg8 _ 1536 (by omega) ?_ 0 0 rfl _ rfl inb_S4x1584x128_S1x16x128_0_1536_0 rfl inb_S4x1584x128_S1x16x128_0_1537_0 _ rfl
    exact good16_nil arg8 _ _ _
  ihave H9 := (pointsTo_rep_of_read (c : Thread nD τ) arg9 _ fullShare _ rfl) $$ H9
  ihave H12 := (pointsTo_rep_of_read (c : Thread nD τ) arg12 _ fullShare _ rfl) $$ H12
  ihave H10 := (pointsTo_rep_of_read (c : Thread nD τ) arg10 _ fullShare (Sst (tab X) A (2 * 0)) ?h10) $$ H10
  case h10 =>
    delta body.sl.H10_1
    refine (View.read_writes_full (Val := Elt F) arg10.view _ _ _ _).trans ?_
    rfl
  ihave H11 := (pointsTo_rep_of_read (c : Thread nD τ) arg11 _ fullShare (Cst (tab X) A Z (2 * 0)) ?h11) $$ H11
  case h11 =>
    delta body.sl.H11_1
    refine (View.read_writes_full (Val := Elt F) arg11.view _ _ _ _).trans ?_
    rfl
  ihave H13 := (pointsTo_rep_of_read (c : Thread nD τ) arg13 _ fullShare (Acc (tab X) A Z Wc (2 * 0)) ?h13) $$ H13
  case h13 =>
    delta body.sl.H13_1
    refine (View.read_writes_full (Val := Elt F) arg13.view _ _ _ _).trans ?_
    rfl
  ihave HF := (Transfers.Flight_mono (D' := iprop(at_ c arg14 (rowI A (cl (2 * 0))) ∗ (arg1.view.loc (c : Thread nD τ) ↦[rowSet arg1 (cl (2 * 0))]{fullShare} arg1.view.rep A))) ?_) $$ Hs0
  case h =>
    iintro ⟨Ha, Hb⟩
    isplitl [Ha]
    · iapply (pointsTo_rep_of_read (c : Thread nD τ) arg14 _ fullShare (rowI A (cl (2 * 0))) ?h14) $$ [Ha]
      rotate_left
      · iexact Ha
      · refine (View.read_writes_full (Val := Elt F) arg14.view _ _ _ _).trans ?_
        delta body.sl.dma0
        exact load_rowI arg1 A (cl (2 * 0)) rfl _
    · iexact Hb
  sl_for (fun k _ => inv c arg1 arg2 arg3 arg4 arg5 arg6 arg8 arg9 arg10 arg11 arg12 arg13 arg14 arg15 arg16 (tab X) A Z Wc sc bias k) $$ [HF H1 H2 H3 H4 H5 H6 H8 H9 H10 H11 H12 H13 H15 Hs1 HW]
  case region => intro k a; exact trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (tab X) A Z Wc sc bias hA1 hA2 k
  · unfold inv
    iexists _; iexists _; iexists Y6; iexists Y15
    isplitr
    · ipureintro; intro b hb; omega
    isplitl [HF]; · iexact HF
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    isplitl [H12]; · iexact H12
    isplitl [H13]; · iexact H13
    isplitl [H15]; · iexact H15
    isplitl [Hs1]; · iexact Hs1
    iexists W; iexact HW
  rw [(by decide : Scf.trips k0_t3_loop.lb k0_t3_loop.ub k0_t3_loop.st = 55)]
  unfold inv
  rw [rowSet_eq arg1 (cl (2 * 55)) (off := ![107, 0, 0]) (by decide) (by decide)]
  iintro %a3 ⟨%R0, %C1, %Y, %X15, %hY, HF, H1, H2, H3, H4, H5, H6, H8, H9, H10, H11, H12, H13, H15, Hs1, ⟨%W2, HW⟩⟩
  sl_exec
  sl_step
  iexists Y
  isplitr
  · ipureintro; exact hY
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HF_dst]; · iexists _; iexact HF_dst
  isplitl [H15]; · iexists _; iexact H15
  isplitl [HF]; · iexact HF
  isplitl [Hs1]; · iexact Hs1
  iexists _; iexact HW
end

end Cert.Proof.KernelIdeal

end
-- ==== Proof.ILaunch.lean ====
/- The deformable product launched: the region around the body. -/
module

public import proofs.«01_k».proof.Proof.IBody
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The result: every block its last accumulator, scaled and rounded. -/
def yOut (T : S24832x128.Idx → BitVec 32) (A : S108x8x128.Idx → BitVec 32) (Z : Vec F S108x4x8x128 .f32) (Wc : Vec F S9x2048x1024 .fp8e4m3) (sc bias : Vec F S1x1024 .f32) :
    Vec F S1536x1024 .bf16 := fun y =>
  k0_pay3 (Acc T A Z Wc (9 * ((y 0).val / 128) + 11)) sc bias (ix2 ⟨(y 0).val % 128, Nat.mod_lt _ (by decide)⟩ (y 1))

/-- A result right up to the last chunk is the whole result. -/
theorem yok_eq {T : S24832x128.Idx → BitVec 32} {A : S108x8x128.Idx → BitVec 32} {Z : Vec F S108x4x8x128 .f32} {Wc : Vec F S9x2048x1024 .fp8e4m3} {sc bias : Vec F S1x1024 .f32}
    {Y : Vec F S1536x1024 .bf16} (h : Yok T A Z Wc sc bias 110 Y) : Y = yOut T A Z Wc sc bias := by
  funext y
  have h0 : (y 0).val < 1536 := (y 0).isLt
  have e := h ⟨(y 0).val / 128, by omega⟩ (by show 9 * ((y 0).val / 128) + 10 < 110; omega) ⟨(y 0).val % 128, Nat.mod_lt _ (by decide)⟩ (y 1)
  refine Eq.trans (congrArg Y ?_) e
  funext a
  match a with
  | ⟨0, _⟩ => exact Fin.ext (show (y 0).val = 128 * ((y 0).val / 128) + (y 0).val % 128 by omega)
  | ⟨1, _⟩ => rfl

section
variable (m : (ℓ : Loc nD τ sig) → Buf (Elt F) ℓ) (ρ : Dev nD → PrngReg)

/-- The body's two transfer semaphores. -/
abbrev osem : Fin 2 → SemLoc sig
  | 0 => SemLoc.dma ((cc0_scratch9.slice (Rect.unit (s := S2) ![0] S1.size inb_S2_S1_0)).squeeze S_ squeezes_S1_S_).sem
  | 1 => SemLoc.dma ((cc0_scratch9.slice (Rect.unit (s := S2) ![1] S1.size inb_S2_S1_1)).squeeze S_ squeezes_S1_S_).sem
/-- The semaphores of the call are its own. -/
theorem ownSemFacts : Pipeline.OwnSemFacts spec0 osem := by decide

omit [FloatOps F] in
/-- A conjunction over two is the two. -/
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] in
/-- The call's own semaphores at zero, one by one. -/
theorem ownSems0_eq (c : Dev nD) : (Pipeline.ownSems0 (Ix := Unit) (Name := ℕ) (U := UU nD τ) (Lvl := ℕ) (Val := Elt F) (τ := τ) osem c : sProp 𝕄)
    = iprop(semVal ((c : Thread nD τ), osem 0) 0 ∗ semVal ((c : Thread nD τ), osem 1) 0) := by
  unfold Pipeline.ownSems0; rw [bigSep_fin2]

/-- The scratch buffers at anything and the semaphores at zero. -/
def Φ (c : Dev nD) : sProp 𝕄 := iprop((∃ Y, at_ (F := F) c (Memref.whole cc0_scratch0) Y)
      ∗ (∃ Y, at_ (F := F) c (Memref.whole cc0_scratch1) Y)
      ∗ (∃ Y, at_ (F := F) c (Memref.whole cc0_scratch2) Y)
      ∗ (∃ Y, at_ (F := F) c (Memref.whole cc0_scratch3) Y)
      ∗ (∃ Y, at_ (F := F) c (Memref.whole cc0_scratch4) Y)
      ∗ (∃ Y, at_ (F := F) c (Memref.whole cc0_scratch5) Y)
      ∗ (∃ Y, at_ (F := F) c (Memref.whole cc0_scratch6) Y)
      ∗ (∃ Y, at_ (F := F) c (Memref.whole cc0_scratch7) Y)
      ∗ (∃ Y, at_ (F := F) c (Memref.whole cc0_scratch8) Y)
      ∗ semVal ((c : Thread nD τ), osem 0) 0 ∗ semVal ((c : Thread nD τ), osem 1) 0)

/-- A scratch buffer whole, as a memref held at values. -/
theorem buf_at (c : Dev nD) (b : Ref sig .tc) : iprop(∃ f : Buf (Elt F) ((c : Thread nD τ).loc b), ((c : Thread nD τ).loc b) ↦{fullShare} f)
    ⊢ (iprop(∃ Y, at_ (F := F) c (Memref.whole b) Y) : sProp 𝕄) := by
  iintro ⟨%f, H⟩
  iexists (Memref.whole b).view.read (Elt F) f
  iapply (pointsTo_rep_of_read (c : Thread nD τ) (Memref.whole b) f fullShare _ rfl)
  rw [show (Memref.whole b).view.set = Finset.univ from View.set_whole b]
  iexact H
/-- A buffer held with some contents. -/
theorem at_buf (c : Dev nD) (b : Ref sig .tc) : (iprop(∃ Y, at_ (F := F) c (Memref.whole b) Y) : sProp 𝕄)
    ⊢ iprop(∃ f : Buf (Elt F) ((c : Thread nD τ).loc b), ((c : Thread nD τ).loc b) ↦{fullShare} f) := by
  iintro ⟨%Y, H⟩
  iexists (Memref.whole b).view.rep Y
  ihave H := (entails_of_eq (congrArg (fun S => ((Memref.whole b).view.loc (c : Thread nD τ) ↦[S]{fullShare} (Memref.whole b).view.rep Y : sProp 𝕄)) (View.set_whole b))) $$ H
  iexact H

/-- Every index word is even and its row pair lies in the table. -/
def PreOK : Prop := ∀ (c : Dev nD) (y : S108x8x128.Idx), k0_chk1 (m ((c : Thread nD τ).loc main_arg1) y) ∧ k0_chk2 (m ((c : Thread nD τ).loc main_arg1) y)

/-- What the body leaves in the result's staging buffer. -/
def outAt (c : Dev nD) (t : Fin cfg0.N) : (cfg0.win 6).block.Idx → Elt F (cfg0.win 6).elt :=
  yOut (tab (iblk m c 0 t)) (iblk m c 1 t) (iblk m c 2 t) (iblk m c 3 t) (iblk m c 4 t) (iblk m c 5 t)

/-- What the pipeline holds: the blocks before the body and after it. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Φ c
  q _ := fullShare
  owed _ := 0

/-- Window 0 holds its argument before the body. -/
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
/-- Window 0 holds its argument after the body. -/
theorem after_w0 (c : Dev nD) (t : Fin cfg0.N) : (dats m 0 c).after 0 t = iblk m c 0 t := by dsimp only [dats]

/-- Window 1 holds its argument before the body. -/
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
/-- Window 1 holds its argument after the body. -/
theorem after_w1 (c : Dev nD) (t : Fin cfg0.N) : (dats m 0 c).after 1 t = iblk m c 1 t := by dsimp only [dats]

/-- Window 2 holds its argument before the body. -/
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
/-- Window 2 holds its argument after the body. -/
theorem after_w2 (c : Dev nD) (t : Fin cfg0.N) : (dats m 0 c).after 2 t = iblk m c 2 t := by dsimp only [dats]

/-- Window 3 holds its argument before the body. -/
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
/-- Window 3 holds its argument after the body. -/
theorem after_w3 (c : Dev nD) (t : Fin cfg0.N) : (dats m 0 c).after 3 t = iblk m c 3 t := by dsimp only [dats]

/-- Window 4 holds its argument before the body. -/
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
/-- Window 4 holds its argument after the body. -/
theorem after_w4 (c : Dev nD) (t : Fin cfg0.N) : (dats m 0 c).after 4 t = iblk m c 4 t := by dsimp only [dats]

/-- Window 5 holds its argument before the body. -/
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
/-- Window 5 holds its argument after the body. -/
theorem after_w5 (c : Dev nD) (t : Fin cfg0.N) : (dats m 0 c).after 5 t = iblk m c 5 t := by dsimp only [dats]
/-- The body leaves the result in window 6. -/
theorem after_w6 (c : Dev nD) (t : Fin cfg0.N) : (dats m 0 c).after 6 t = outAt m c t := by dsimp only [dats]

/-- The call's label runs the body. -/
theorem defs_tc : (defs₀ (F := F)) .tc cfg0.body
    = fun a => cc0_deform (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 := rfl
/-- The program the label runs is the body over the staged blocks. -/
theorem prog_eq (t : Fin cfg0.N) : (defs₀ (F := F)) .tc cfg0.body (cfg0.bodyArgs t (cfg0.slots t)) = cc0_deform_skel (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 :=
  (congrFun defs_tc _).trans rfl

set_option backward.isDefEq.respectTransparency.types false in
/-- The body run on the point's staging buffers. -/
theorem body_obligation (h : PreOK m) (c : Dev nD) : BodyObligation (dats (F := F) m 0 c) (defs₀ (F := F)) 𝒱₀ () Set.univ := fun t => by
  rw [bigSep_W0, bigSep_W0]
  dsimp only
  simp only [before_w0, before_w1, before_w2, before_w3, before_w4, before_w5, after_w0, after_w1, after_w2, after_w3, after_w4, after_w5, after_w6]
  rw [show (dats m 0 c).Φ t.castSucc = Φ c from rfl, show (dats m 0 c).Φ t.succ = Φ c from rfl]
  unfold Dat.owesAt Pipeline.owesWithin
  rw [show (dats m 0 c).owed t.castSucc = 0 from rfl, show (dats m 0 c).owed t.succ = 0 from rfl]
  unfold owns Φ
  iintro ⟨⟨HS0, HS1, HS2, HS3, HS4, HS5, HS6, HS7, HS8, Hc0, Hc1⟩, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, -, H6⟩⟩
  ihave H0 := (pointsTo_rep_of_read (c : Thread nD τ) (st0_0 t) g0 fullShare _ hg0) $$ H0
  ihave H1 := (pointsTo_rep_of_read (c : Thread nD τ) (st0_1 t) g1 fullShare _ hg1) $$ H1
  ihave H2 := (pointsTo_rep_of_read (c : Thread nD τ) (st0_2 t) g2 fullShare _ hg2) $$ H2
  ihave H3 := (pointsTo_rep_of_read (c : Thread nD τ) (st0_3 t) g3 fullShare _ hg3) $$ H3
  ihave H4 := (pointsTo_rep_of_read (c : Thread nD τ) (st0_4 t) g4 fullShare _ hg4) $$ H4
  ihave H5 := (pointsTo_rep_of_read (c : Thread nD τ) (st0_5 t) g5 fullShare _ hg5) $$ H5
  ihave H6 := (pointsTo_rep_of_read (c : Thread nD τ) (st0_6 t) g6 fullShare _ rfl) $$ H6
  sl_rw [prog_eq t]
  iapply wp_wand_r
  isplitl [H0 H1 H2 H3 H4 H5 H6 HS0 HS1 HS2 HS3 HS4 HS5 HS6 HS7 HS8 Hc0 Hc1 HW]
  · iapply (body c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9
      (iblk m c 0 t) (iblk m c 1 t) (iblk m c 2 t) (iblk m c 3 t) (iblk m c 4 t) (iblk m c 5 t) (fun y => (h c _).1) (fun y => (h c _).2))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [Hc0]; · iexact Hc0
    isplitl [Hc1]; · iexact Hc1
    iexists W; iexact HW
  · iintro %u ⟨%Y, %hY, H0, H1, H2, H3, H4, H5, H6, HS0, HS1, HS2, HS3, HS4, HS5, HS6, HS7, HS8, Hc0, Hc1, ⟨%W', HW⟩⟩
    isplitl [HS0 HS1 HS2 HS3 HS4 HS5 HS6 HS7 HS8 Hc0 Hc1]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [Hc0]; · iexact Hc0
      iexact Hc1
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    iexists _; isplitr; · ipureintro; exact (View.read_rep _ _).trans (yok_eq hY)
    iexact H6

/-- The ghost state at the start. -/
def u₀ : UU nD τ := (initOf (Pipeline.cells cfgs Cert.KernelIdeal.Gen.cellOf_inj) (Pipeline.launchToks cfgs Cert.KernelIdeal.Gen.cellOf_inj), 1)

set_option backward.isDefEq.respectTransparency.types false in
/-- Every execution of the program ends, its arrays at the pipeline's final contents and every semaphore at zero. -/
theorem run_main (h : PreOK m) : θ_run defs (onTc (τ := τ) (main (F := F))) (s₀ m ρ)
    (fun r => (∀ c : Dev nD, ∀ w : Fin cfg0.W, r.2.mem ((cfg0.win w).arr.view.loc (c : Thread nD τ)) = (dats m 0 c).arrAt w cfg0.N) ∧ r.2.sem = fun _ => 0) :=
  Pipeline.θ_run_region_kit_quiescent cfgs (dats m) () (0 : Fin 1) launch0 ownSemFacts EP defs₀ 𝒱₀ m ρ main
    (hbody := fun c => (body_obligation m h c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun c => Pipeline.ownSems0 osem c) (Y := fun _ => iprop(emp)) (Z := fun _ => iprop(emp))
    (hX := fun c => by
      iintro ⟨-, HS, -, -, -⟩; imodintro
      isplitl [HS]; · iexact HS
      iempintro)
    (hin := fun c => by
      rw [scopedRest0_eq, show (dats m 0 c).Φ 0 = Φ c from rfl, ownSems0_eq]
      unfold Φ
      iintro ⟨⟨Hc0, Hc1⟩, HS0, HS1, HS2, HS3, HS4, HS5, HS6, HS7, HS8⟩
      isplitl [HS0]; · iapply (buf_at c cc0_scratch0); iexact HS0
      isplitl [HS1]; · iapply (buf_at c cc0_scratch1); iexact HS1
      isplitl [HS2]; · iapply (buf_at c cc0_scratch2); iexact HS2
      isplitl [HS3]; · iapply (buf_at c cc0_scratch3); iexact HS3
      isplitl [HS4]; · iapply (buf_at c cc0_scratch4); iexact HS4
      isplitl [HS5]; · iapply (buf_at c cc0_scratch5); iexact HS5
      isplitl [HS6]; · iapply (buf_at c cc0_scratch6); iexact HS6
      isplitl [HS7]; · iapply (buf_at c cc0_scratch7); iexact HS7
      isplitl [HS8]; · iapply (buf_at c cc0_scratch8); iexact HS8
      isplitl [Hc0]; · iexact Hc0
      iexact Hc1)
    (hout := fun c => by
      rw [scopedRest0_eq, show (dats m 0 c).Φ (Fin.last cfg0.N) = Φ c from rfl, ownSems0_eq]
      unfold Φ
      iintro ⟨HS0, HS1, HS2, HS3, HS4, HS5, HS6, HS7, HS8, Hc0, Hc1⟩
      isplitl []; · iempintro
      isplitl [Hc0 Hc1]
      · isplitl [Hc0]; · iexact Hc0
        iexact Hc1
      isplitl [HS0]; · iapply (at_buf c cc0_scratch0); iexact HS0
      isplitl [HS1]; · iapply (at_buf c cc0_scratch1); iexact HS1
      isplitl [HS2]; · iapply (at_buf c cc0_scratch2); iexact HS2
      isplitl [HS3]; · iapply (at_buf c cc0_scratch3); iexact HS3
      isplitl [HS4]; · iapply (at_buf c cc0_scratch4); iexact HS4
      isplitl [HS5]; · iapply (at_buf c cc0_scratch5); iexact HS5
      isplitl [HS6]; · iapply (at_buf c cc0_scratch6); iexact HS6
      isplitl [HS7]; · iapply (at_buf c cc0_scratch7); iexact HS7
      iapply (at_buf c cc0_scratch8); iexact HS8)
    (QY := fun _ _ => True)
    (hY := fun c s' => by
      iintro ⟨-, -, HSI⟩
      imodintro
      isplitr; · ipureintro; trivial
      iexact HSI)
    (hQ := fun _ hh hz => ⟨fun c w => (hh c).1 w, hz⟩)

/-- An argument's array ends as it was. -/
theorem final_in (c : Dev nD) (w : Fin cfg0.W) (hw : (cfg0.win w).isOut = false) :
    (dats m 0 c).arrAt w cfg0.N = m ((cfg0.win w).arr.view.loc (c : Thread nD τ)) :=
  (dats (F := F) m 0 c).arrAt_in w hw _
end

end Cert.Proof.KernelIdeal

end
-- ==== Proof.IRun.lean ====
/- What a run of the deformable product leaves in memory. -/
module

public import proofs.«01_k».proof.Proof.ILaunch
public import Idealize.ShloMosaic.Lib.Pipeline.ValueKit
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section
variable (m : (ℓ : Loc nD τ sig) → Buf (Elt F) ℓ) (ρ : Dev nD → PrngReg)

/-- A word that is even and two rows short of the table's end meets the body's checks. -/
theorem chk_of (w : BitVec 32) (h2 : w.toNat % 2 = 0) (hb : w.toNat + 2 ≤ 24832) : k0_chk1 w ∧ k0_chk2 w := by
  have e : (∀ a, (![w.toNat, 0] : Fin 2 → ℕ) a + S2x128.size a ≤ S24832x128.size a) := fun a => by
    match a with
    | ⟨0, _⟩ => exact hb
    | ⟨1, _⟩ => show 0 + 128 ≤ 128; omega
  exact ⟨⟨Nat.dvd_of_mod_eq_zero h2, e⟩, ⟨Nat.dvd_of_mod_eq_zero h2, e⟩⟩

/-- Index words even and within their own group's part of the table pass the checks. -/
theorem pre_ok (h : ∀ (c : Dev nD) (y : S108x8x128.Idx), (m ((c : Thread nD τ).loc main_arg1) y).toNat % 2 = 0
      ∧ 3104 * (y 1).val ≤ (m ((c : Thread nD τ).loc main_arg1) y).toNat ∧ (m ((c : Thread nD τ).loc main_arg1) y).toNat < 3104 * (y 1).val + 3104) : PreOK m := fun c y => by
  obtain ⟨h1, h2, h3⟩ := h c y
  have hy : (y 1).val < 8 := (y 1).isLt
  exact chk_of _ h1 (by omega)

/-- A run of the program ends with its arguments as they were and every semaphore at zero. -/
theorem frame_run (h : PreOK m) : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun r hh => ⟨fun c => ⟨(hh.1 c 0).trans (final_in m c 0 rfl), (hh.1 c 1).trans (final_in m c 1 rfl), (hh.1 c 2).trans (final_in m c 2 rfl),
    (hh.1 c 3).trans (final_in m c 3 rfl), (hh.1 c 4).trans (final_in m c 4 rfl), (hh.1 c 5).trans (final_in m c 5 rfl)⟩, hh.2⟩) (run_main m ρ h)

/-- The block of window 0 is the whole argument. -/
theorem iblk0 (c : Dev nD) : iblk m c 0 t0_0 = m ((c : Thread nD τ).loc main_arg0) := by
  show (win0_0.blk t0_0).view.read (Elt F) (m ((c : Thread nD τ).loc main_arg0)) = _
  exact Memref.read_access_unit_zero (Elt F) main_arg0
    (show (fun a => (win0_0.index t0_0) a * main_arg0.ty.shape.size a) = fun _ => 0 from
      funext fun a => by fin_cases a <;> decide) (fun a => by fin_cases a <;> decide) _

/-- The block of window 1 is the whole argument. -/
theorem iblk1 (c : Dev nD) : iblk m c 1 t0_0 = m ((c : Thread nD τ).loc main_arg1) := by
  show (win0_1.blk t0_0).view.read (Elt F) (m ((c : Thread nD τ).loc main_arg1)) = _
  exact Memref.read_access_unit_zero (Elt F) main_arg1
    (show (fun a => (win0_1.index t0_0) a * main_arg1.ty.shape.size a) = fun _ => 0 from
      funext fun a => by fin_cases a <;> decide) (fun a => by fin_cases a <;> decide) _

/-- The block of window 2 is the whole argument. -/
theorem iblk2 (c : Dev nD) : iblk m c 2 t0_0 = m ((c : Thread nD τ).loc main_arg2) := by
  show (win0_2.blk t0_0).view.read (Elt F) (m ((c : Thread nD τ).loc main_arg2)) = _
  exact Memref.read_access_unit_zero (Elt F) main_arg2
    (show (fun a => (win0_2.index t0_0) a * main_arg2.ty.shape.size a) = fun _ => 0 from
      funext fun a => by fin_cases a <;> decide) (fun a => by fin_cases a <;> decide) _

/-- The block of window 3 is the whole argument. -/
theorem iblk3 (c : Dev nD) : iblk m c 3 t0_0 = m ((c : Thread nD τ).loc main_arg3) := by
  show (win0_3.blk t0_0).view.read (Elt F) (m ((c : Thread nD τ).loc main_arg3)) = _
  exact Memref.read_access_unit_zero (Elt F) main_arg3
    (show (fun a => (win0_3.index t0_0) a * main_arg3.ty.shape.size a) = fun _ => 0 from
      funext fun a => by fin_cases a <;> decide) (fun a => by fin_cases a <;> decide) _

/-- The block of window 4 is the whole argument. -/
theorem iblk4 (c : Dev nD) : iblk m c 4 t0_0 = m ((c : Thread nD τ).loc main_arg4) := by
  show (win0_4.blk t0_0).view.read (Elt F) (m ((c : Thread nD τ).loc main_arg4)) = _
  exact Memref.read_access_unit_zero (Elt F) main_arg4
    (show (fun a => (win0_4.index t0_0) a * main_arg4.ty.shape.size a) = fun _ => 0 from
      funext fun a => by fin_cases a <;> decide) (fun a => by fin_cases a <;> decide) _

/-- The block of window 5 is the whole argument. -/
theorem iblk5 (c : Dev nD) : iblk m c 5 t0_0 = m ((c : Thread nD τ).loc main_arg5) := by
  show (win0_5.blk t0_0).view.read (Elt F) (m ((c : Thread nD τ).loc main_arg5)) = _
  exact Memref.read_access_unit_zero (Elt F) main_arg5
    (show (fun a => (win0_5.index t0_0) a * main_arg5.ty.shape.size a) = fun _ => 0 from
      funext fun a => by fin_cases a <;> decide) (fun a => by fin_cases a <;> decide) _

/-- The result at the end. -/
theorem final_out (c : Dev nD) : (dats m 0 c).arrAt 6 cfg0.N
    = yOut (tab (m ((c : Thread nD τ).loc main_arg0))) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_after_last 6 t0_0 (by decide +kernel) _ fun j => ?_
  blk_simp
  rw [after_w6]
  unfold outAt
  rw [iblk0, iblk1, iblk2, iblk3, iblk4, iblk5]

/-- A run ends with the result the body's, the arguments as they were. -/
theorem value_run (h : PreOK m) : θ_run defs (onTc (τ := τ) (main (F := F))) ⟨m, fun _ => 0, ρ⟩ (fun r => ∀ c : Dev nD,
      r.2.mem ((c : Thread nD τ).loc main_v0) = yOut (tab (m ((c : Thread nD τ).loc main_arg0))) (m ((c : Thread nD τ).loc main_arg1)) (m ((c : Thread nD τ).loc main_arg2)) (m ((c : Thread nD τ).loc main_arg3))
        (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r hh c => ⟨(hh.1 c 6).trans (final_out m c), (hh.1 c 0).trans (final_in m c 0 rfl), (hh.1 c 1).trans (final_in m c 1 rfl), (hh.1 c 2).trans (final_in m c 2 rfl),
    (hh.1 c 3).trans (final_in m c 3 rfl), (hh.1 c 4).trans (final_in m c 4 rfl), (hh.1 c 5).trans (final_in m c 5 rfl)⟩) (run_main m ρ h)
end

end Cert.Proof.KernelIdeal

end
-- ==== Proof.Bytes.lean ====
/- The bytes of the table: which channel of which pixel each byte of each word is. -/
module

public import proofs.«01_k».proof.Proof.ITable
public import Idealize.ShloMosaic.Lib.BitcastFour
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.Values

open Cert.KernelIdeal Cert.KernelIdeal.Gen Cert.Proof.KernelIdeal
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Byte `b` of a word, the lowest first. -/
def byteOf (w : BitVec 32) (b : ℕ) : BitVec 8 := w.extractLsb' (8 * b) 8

/-- The bytes of the zero word are zero. -/
theorem byteOf_zero (b : ℕ) : byteOf 0#32 b = 0#8 := by
  apply BitVec.eq_of_getLsbD_eq
  intro i hi
  simp [byteOf]

/-- Words read as bytes: row `r` of the bytes is byte `r % 4` of row `r / 4` of the words. -/
theorem unpack_apply (v : S64x128.Idx → BitVec 32) (r : Fin 256) (l : Fin 128) :
    bitcast S256x128 8 v bitcasts_S64x128_w32_S256x128_w8 (ix2 r l) = byteOf (v (ix2 ⟨r.val / 4, by have := r.isLt; omega⟩ l)) (r.val % 4) := by
  apply BitVec.eq_of_getLsbD_eq
  intro i hi
  rw [bitcast_getLsbD v _ _ i hi (by decide)]
  unfold byteOf
  rw [BitVec.getLsbD_extractLsb']
  simp only [hi, decide_true, Bool.true_and]
  have hrow : S256x128.row (ix2 r l) = r.val := rfl
  have e2 : (S256x128.row (ix2 r l) * 8 + i) % 32 = 8 * (r.val % 4) + i := by rw [hrow]; omega
  have e1 : (S256x128.row (ix2 r l) * 8 + i) / 32 = r.val / 4 := by rw [hrow]; omega
  rw [e2]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- A byte widened to a word and cut back is the byte. -/
theorem trunc_sext (y : BitVec 8) : BitVec.setWidth 8 (BitVec.signExtend 32 y) = y := by
  apply BitVec.eq_of_getLsbD_eq
  intro j hj
  rw [BitVec.getLsbD_setWidth, BitVec.getLsbD_signExtend]
  simp [hj, show j < 32 by omega]

/-- Bytes packed into words: byte `b` of the word of pixel `i` and lane `l` is channel `4 l + b` of the block. -/
theorem pack_apply (x : Vec Ideal S128x512 .i8) (i l : Fin 128) (b : Fin 4) :
    byteOf (k0_pay4 (F := Ideal) x (ix3 0 i l)) b.val = x (ix2 i ⟨4 * l.val + b.val, by have := l.isLt; have := b.isLt; omega⟩) := by
  apply BitVec.eq_of_getLsbD_eq
  intro q hq
  unfold byteOf k0_pay4
  dsimp only
  rw [BitVec.getLsbD_extractLsb', shapeCast_ab_1ab_apply (a := 128) (b := 128), transpose_ix2_apply (a := 128) (b := 128)]
  simp only [hq, decide_true, Bool.true_and]
  have hb := b.isLt
  have hl := l.isLt
  rw [show 8 * b.val + q = 8 * b.val + q from rfl,
    bitcast_8_32_getLsbD_ix2 (R := 512) (r := 128) (n := 128) _ _ l i (8 * b.val + q) (by omega) ⟨4 * l.val + b.val, by omega⟩ (by show 4 * l.val + b.val = 4 * l.val + (8 * b.val + q) / 8; omega)]
  rw [show (8 * b.val + q) % 8 = q by omega]
  refine congrArg (fun w : BitVec 8 => w.getLsbD q) ?_
  show BitVec.setWidth 8 (transpose S512x128 [1, 0] (extsi 32 x natLt_8_32) transposes_S128x512_p1_0_S512x128 (ix2 _ i)) = _
  rw [transpose_ix2_apply (a := 128) (b := 512)]
  show BitVec.setWidth 8 (BitVec.signExtend 32 (x _)) = _
  exact trunc_sext _

/-- Channel `ch` of row `r` of the input with sixteen rows of zeros in front of it and after it. -/
def padX (X : Vec Ideal S1536x2048 .i8) (r : ℕ) (ch : Fin 2048) : BitVec 8 :=
  if h : 16 ≤ r ∧ r < 1552 then X (ix2 ⟨r - 16, by omega⟩ ch) else 0#8

/-- The packed input's bytes. -/
theorem xw_byte (X : Vec Ideal S1536x2048 .i8) (k : Fin 4) (r : ℕ) (hr : r < 1584) (l : Fin 128) (b : Fin 4) (ch : Fin 2048) (hch : ch.val = 512 * k.val + 4 * l.val + b.val) :
    byteOf (xwF X (ix3 k ⟨r, hr⟩ l)) b.val = padX X r ch := by
  unfold xwF padX
  show byteOf (if h : 16 ≤ r ∧ r < 1552 then _ else _) _ = _
  by_cases h : 16 ≤ r ∧ r < 1552
  · rw [dif_pos h, dif_pos h]
    refine (pack_apply _ _ _ b).trans ?_
    unfold xsl
    refine congrArg X (funext fun a => Fin.ext ?_)
    match a with
    | ⟨0, _⟩ => show 128 * ((r - 16) / 128) + (r - 16) % 128 = r - 16; omega
    | ⟨1, _⟩ => show 512 * k.val + (4 * l.val + b.val) = ch.val; omega
  · rw [dif_neg h, dif_neg h, byteOf_zero]

/-- The corner of the four that lies in half `h` of row `r`, as a distance in pixels. -/
def off (q : Fin 4) : ℕ := 12 * (q.val / 2) + q.val % 2

/-- The table's bytes: in group `g`, at the rows of pixel `p`, the channels of the four corners. -/
theorem tab_byte (X : Vec Ideal S1536x2048 .i8) (g : Fin 8) (p : ℕ) (hp : p < 1552) (r h : Fin 2) (l : ℕ) (hl : l < 64) (b : Fin 4) (n : ℕ) (hn : n < 24832) (e : n = 3104 * g.val + 2 * p + r.val)
    (l' : Fin 128) (hl' : l'.val = 64 * h.val + l) (ch : Fin 2048) (hch : ch.val = 256 * g.val + (4 * l + b.val)) :
    byteOf (tabG (xwF X) n hn l') b.val = padX X (p + off (corner g r h)) ch := by
  have hg := g.isLt
  have hr := r.isLt
  have hh := h.isLt
  have hb := b.isLt
  have hoff : off (corner g r h) = 12 * r.val + (if g.val % 2 = 0 then h.val else 1 - h.val) := by
    unfold off corner
    dsimp only
    split <;> omega
  rw [hoff]
  by_cases hpar : g.val % 2 = 0
  · rw [if_pos hpar, tabG_even (xwF X) hn (g.val / 2) p r.val l' (by omega) (by omega) (by omega) (by omega) (by omega)]
    by_cases h0 : h.val = 0
    · rw [if_pos (by omega)]
      rw [show p + (12 * r.val + h.val) = p + 12 * r.val by omega]
      exact xw_byte X _ _ _ _ b ch (by show ch.val = 512 * (g.val / 2) + 4 * l'.val + b.val; omega)
    · rw [if_neg (by omega)]
      rw [show p + (12 * r.val + h.val) = p + 12 * r.val + 1 by omega]
      exact xw_byte X _ _ _ _ b ch (by show ch.val = 512 * (g.val / 2) + 4 * ((l'.val + 64) % 128) + b.val; omega)
  · rw [if_neg hpar, tabG_odd (xwF X) hn (g.val / 2) p r.val l' (by omega) (by omega) (by omega) (by omega) (by omega)]
    by_cases h0 : h.val = 0
    · rw [if_pos (by omega)]
      rw [show p + (12 * r.val + (1 - h.val)) = p + 12 * r.val + 1 by omega]
      exact xw_byte X _ _ _ _ b ch (by show ch.val = 512 * (g.val / 2) + 4 * ((l'.val + 64) % 128) + b.val; omega)
    · rw [if_neg (by omega)]
      rw [show p + (12 * r.val + (1 - h.val)) = p + 12 * r.val by omega]
      exact xw_byte X _ _ _ _ b ch (by show ch.val = 512 * (g.val / 2) + 4 * l'.val + b.val; omega)

end Cert.Proof.Values

end
-- ==== Proof.Cols.lean ====
/- The interpolated columns over the extended reals: the weighted sum of the four corners. -/
module

public import proofs.«01_k».proof.Proof.Bytes
public import proofs.«01_k».proof.Proof.IState
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.Values

open Cert.KernelIdeal Cert.KernelIdeal.Gen Cert.Proof.KernelIdeal
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The value of a byte read as an 8-bit float. -/
def f8 (b : BitVec 8) : EReal := FloatOps.ofBits (F := Ideal) .fp8e4m3 b

/-- Half of the rows' words as numbers: column `c` is byte `c % 4` of lane `o + c / 4`. -/
theorem half_apply (m0 : Vec Ideal S1x128x128 .i32) (o : ℕ) (hs : S128x128.Slices ![o, 0] S64x128) (c : Fin 256) (n : Fin 128) (l : Fin 128) (hl : l.val = o + c.val / 4) :
    extf (F := Ideal) .f32 (bitcastToFloat .fp8e4m3 (bitcast S256x128 8 (extractStridedSlice S64x128 ![o, 0]
      (transpose S128x128 [1, 0] (shapeCast S128x128 m0 shapeCasts_S1x128x128_S128x128) transposes_S128x128_p1_0_S128x128) hs) bitcasts_S64x128_w32_S256x128_w8)) bitsLt_fp8e4m3_f32 (ix2 c n)
      = f8 (byteOf (m0 (ix3 0 n l)) (c.val % 4)) := by
  show f8 (bitcast S256x128 8 _ bitcasts_S64x128_w32_S256x128_w8 (ix2 c n)) = _
  rw [unpack_apply, slice2_axis0_apply (n0 := 128) (n1 := 128) (m := 64) o _ _ _ _ l hl, transpose_ix2_apply (a := 128) (b := 128), shapeCast_1ab_ab_apply (a := 128) (b := 128)]

/-- One corner's weights, over all channels. -/
theorem weight_apply (w : Vec Ideal S1x1x128 .f32) (c : Fin 256) (n : Fin 128) :
    broadcastTo S256x128 (shapeCast S1x128 w shapeCasts_S1x1x128_S1x128) broadcasts_S1x128_S256x128 (ix2 c n) = w (ix3 0 0 n) := by
  rw [broadcastTo_1b_ab_apply (a := 256) (b := 128), shapeCast_1ab_ab_apply (a := 1) (b := 128)]

/-- One group's columns: the four halves weighted and added. -/
theorem colG_apply (m0 m1 : Vec Ideal S1x128x128 .i32) (wa wb wc wd : Vec Ideal S1x1x128 .f32) (n : Fin 128) (c : Fin 256) :
    colG (F := Ideal) m0 m1 wa wb wc wd (ix2 n c)
      = f8 (byteOf (m0 (ix3 0 n ⟨c.val / 4, by have := c.isLt; omega⟩)) (c.val % 4)) * wa (ix3 0 0 n)
        + f8 (byteOf (m0 (ix3 0 n ⟨64 + c.val / 4, by have := c.isLt; omega⟩)) (c.val % 4)) * wb (ix3 0 0 n)
        + f8 (byteOf (m1 (ix3 0 n ⟨c.val / 4, by have := c.isLt; omega⟩)) (c.val % 4)) * wc (ix3 0 0 n)
        + f8 (byteOf (m1 (ix3 0 n ⟨64 + c.val / 4, by have := c.isLt; omega⟩)) (c.val % 4)) * wd (ix3 0 0 n) := by
  unfold colG k0_pay43 k0_pay42 k0_pay41 k0_pay40
  dsimp only
  rw [shapeCast_self, transpose_ix2_apply (a := 256) (b := 128)]
  have h1 := half_apply m0 0 slices_S128x128_o0_0_S64x128 c n ⟨c.val / 4, by have := c.isLt; omega⟩ (Nat.zero_add _).symm
  have h2 := half_apply m0 64 slices_S128x128_o64_0_S64x128 c n ⟨64 + c.val / 4, by have := c.isLt; omega⟩ rfl
  have h3 := half_apply m1 0 slices_S128x128_o0_0_S64x128 c n ⟨c.val / 4, by have := c.isLt; omega⟩ (Nat.zero_add _).symm
  have h4 := half_apply m1 64 slices_S128x128_o64_0_S64x128 c n ⟨64 + c.val / 4, by have := c.isLt; omega⟩ rfl
  rw [← h1, ← h2, ← h3, ← h4, ← weight_apply wa c n, ← weight_apply wb c n, ← weight_apply wc c n, ← weight_apply wd c n]
  rfl

/-- The padded pixel that an index word names: its half, counted from the group's own part of the table. -/
def pix (A : S108x8x128.Idx → BitVec 32) (b : Fin 108) (g : Fin 8) (n : Fin 128) : ℕ := (A (ix3 b g n)).toNat / 2 - 1552 * g.val

/-- One interpolated element: channel `ch` of the four pixels around the named one, each by its weight, added. -/
def mid (X : Vec Ideal S1536x2048 .i8) (A : S108x8x128.Idx → BitVec 32) (Z : Vec Ideal S108x4x8x128 .f32) (b : Fin 108) (n : Fin 128) (g : Fin 8) (ch : Fin 2048) : EReal :=
  ∑ q : Fin 4, f8 (padX X (pix A b g n + off q) ch) * Z (ix4 b q g n)

/-- An index word is even and names a place in its own group's part of the table. -/
def WordOk (A : S108x8x128.Idx → BitVec 32) : Prop :=
  ∀ y : S108x8x128.Idx, (A y).toNat % 2 = 0 ∧ 3104 * (y 1).val ≤ (A y).toNat ∧ (A y).toNat < 3104 * (y 1).val + 3104

/-- The byte that the columns of chunk `b` take from half `h` of gathered row `r`. -/
theorem row_byte (X : Vec Ideal S1536x2048 .i8) (A : S108x8x128.Idx → BitVec 32) (hA : WordOk A) (b : Fin 108) (n : Fin 128) (g : Fin 8) (r h : Fin 2) (c : Fin 256)
    (l : Fin 128) (hl : l.val = 64 * h.val + c.val / 4) (ch : Fin 2048) (hch : ch.val = 256 * g.val + c.val) :
    byteOf (srow (F := Ideal) (gathered (tabF (xwF X)) (rowI A b)) g r (ix3 0 n l)) (c.val % 4) = padX X (pix A b g n + off (corner g r h)) ch := by
  obtain ⟨h1, h2, h3⟩ := hA (ix3 b g n)
  change 3104 * g.val ≤ _ at h2
  change _ < 3104 * g.val + 3104 at h3
  have hg := g.isLt
  have hr := r.isLt
  have hc := c.isLt
  have hn := n.isLt
  have e : ∀ hx, rowI A b (ix2 g ⟨(2 * n.val + r.val) / 2, hx⟩) = A (ix3 b g n) := fun hx => by
    unfold rowI
    exact congrArg (fun k => A (ix3 b g k)) (Fin.ext (by show (2 * n.val + r.val) / 2 = n.val; omega))
  have hm : (2 * n.val + r.val) % 2 = r.val := by omega
  unfold srow gathered
  show byteOf (tabAt _ ((rowI A b (ix2 g ⟨(2 * n.val + r.val) / 2, _⟩)).toNat + (2 * n.val + r.val) % 2) l) _ = _
  rw [e, hm]
  unfold tabAt
  rw [dif_pos (by omega)]
  refine tab_byte X g (pix A b g n) (by unfold pix; omega) r h (c.val / 4) (by omega) ⟨c.val % 4, by omega⟩ _ _ (by show (A (ix3 b g n)).toNat + r.val = _; unfold pix; omega) l hl ch ?_
  show ch.val = 256 * g.val + (4 * (c.val / 4) + c.val % 4)
  omega

/-- All columns of a chunk: every element is the weighted sum of its four corners, whichever way the group lies. -/
theorem colF_apply (X : Vec Ideal S1536x2048 .i8) (A : S108x8x128.Idx → BitVec 32) (Z : Vec Ideal S108x4x8x128 .f32) (hA : WordOk A) (b : Fin 108) (n : Fin 128) (ch : Fin 2048) :
    colF (F := Ideal) (gathered (tabF (xwF X)) (rowI A b)) Z b (ix2 n ch) = mid X A Z b n ⟨ch.val / 256, by have := ch.isLt; omega⟩ ch := by
  have hch := ch.isLt
  unfold colF
  show colS _ Z b ⟨ch.val / 256, _⟩ (ix2 n ⟨ch.val % 256, _⟩) = _
  generalize hg : (⟨ch.val / 256, by omega⟩ : Fin 8) = g
  generalize hc : (⟨ch.val % 256, by omega⟩ : Fin 256) = c
  have hgv : g.val = ch.val / 256 := by rw [← hg]
  have hcv : c.val = ch.val % 256 := by rw [← hc]
  have e : ch.val = 256 * g.val + c.val := by omega
  unfold colS
  rw [colG_apply]
  rw [row_byte X A hA b n g 0 0 c _ (by show c.val / 4 = 64 * 0 + c.val / 4; omega) ch e, row_byte X A hA b n g 0 1 c _ (by show 64 + c.val / 4 = 64 * 1 + c.val / 4; omega) ch e,
    row_byte X A hA b n g 1 0 c _ (by show c.val / 4 = 64 * 0 + c.val / 4; omega) ch e, row_byte X A hA b n g 1 1 c _ (by show 64 + c.val / 4 = 64 * 1 + c.val / 4; omega) ch e]
  unfold mid
  rw [Fin.sum_univ_four]
  show _ * Z (ix4 b (corner g 0 0) g n) + _ * Z (ix4 b (corner g 0 1) g n) + _ * Z (ix4 b (corner g 1 0) g n) + _ * Z (ix4 b (corner g 1 1) g n) = _
  by_cases hp : g.val % 2 = 0
  · have c0 : corner g 0 0 = 0 := Fin.ext (by unfold corner; dsimp only; rw [if_pos hp]; rfl)
    have c1 : corner g 0 1 = 1 := Fin.ext (by unfold corner; dsimp only; rw [if_pos hp]; rfl)
    have c2 : corner g 1 0 = 2 := Fin.ext (by unfold corner; dsimp only; rw [if_pos hp]; rfl)
    have c3 : corner g 1 1 = 3 := Fin.ext (by unfold corner; dsimp only; rw [if_pos hp]; rfl)
    rw [c0, c1, c2, c3]
  · have c0 : corner g 0 0 = 1 := Fin.ext (by unfold corner; dsimp only; rw [if_neg hp]; rfl)
    have c1 : corner g 0 1 = 0 := Fin.ext (by unfold corner; dsimp only; rw [if_neg hp]; rfl)
    have c2 : corner g 1 0 = 3 := Fin.ext (by unfold corner; dsimp only; rw [if_neg hp]; rfl)
    have c3 : corner g 1 1 = 2 := Fin.ext (by unfold corner; dsimp only; rw [if_neg hp]; rfl)
    rw [c0, c1, c2, c3, add_assoc, add_comm (_ * Z (ix4 b 3 g n)), add_comm (_ * Z (ix4 b 1 g n)), ← add_assoc]

end Cert.Proof.Values

end
-- ==== Proof.Sums.lean ====
/- The accumulator and the result over the extended reals: one sum over taps and channels. -/
module

public import proofs.«01_k».proof.Proof.Cols
public import proofs.«01_k».proof.Proof.ILaunch
public import Idealize.ShloMosaic.Lib.MatmulPlain
public import Idealize.ShloMosaic.PureOps.Ideal.Laws
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.Values

open Cert.KernelIdeal Cert.KernelIdeal.Gen Cert.Proof.KernelIdeal
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The accumulator's next value at an element: nothing (tap 0) or what it was, and one tap's product. -/
theorem accNext_apply (i : ℕ) (C : Vec Ideal S128x2048 .bf16) (Wc : Vec Ideal S9x2048x1024 .fp8e4m3) (acc : Vec Ideal S128x1024 .f32) (n : Fin 128) (o : Fin 1024) :
    accNext (F := Ideal) i C Wc acc (ix2 n o) = (if i % 9 = 0 then 0 else acc (ix2 n o)) + ∑ ch : Fin 2048, (C (ix2 n ch) : EReal) * Wc (ix3 ⟨i % 9, Nat.mod_lt _ (by decide)⟩ ch o) := by
  unfold accNext
  rw [shapeCast_self]
  have hm : matmul (F := Ideal) (φ₁ := .bf16) (φ₂ := .bf16) dot_S128x2048_S2048x1024_S128x1024_1_0_0_1_n_n none C
      (extf .bf16 (shapeCast S2048x1024 (wtap Wc ⟨i % 9, Nat.mod_lt _ (by decide)⟩) shapeCasts_S1x2048x1024_S2048x1024) bitsLt_fp8e4m3_bf16)
      (constant S128x1024 .f32 0x00000000#32) (ix2 n o) = ∑ ch : Fin 2048, (C (ix2 n ch) : EReal) * Wc (ix3 ⟨i % 9, Nat.mod_lt _ (by decide)⟩ ch o) := by
    refine (Ideal.matmul_plain_apply (M := 128) (K := 2048) (N := 1024) none C _ _ n o).trans ?_
    show Ideal.ofBits .f32 0x00000000#32 + _ = _
    rw [Ideal.ofBits_zero_f32, zero_add]
    refine Finset.sum_congr rfl fun ch _ => congrArg (C (ix2 n ch) * ·) ?_
    show shapeCast S2048x1024 (wtap Wc ⟨i % 9, Nat.mod_lt _ (by decide)⟩) shapeCasts_S1x2048x1024_S2048x1024 (ix2 ch o) = _
    exact (shapeCast_1ab_ab_apply (a := 2048) (b := 1024) _ _ ch o).trans rfl
  rw [← hm]
  show ((if i % 9 = 0 then broadcast S128x1024 (Scalar.ofBits (F := Ideal) .f32 0x00000000#32) else acc : Vec Ideal S128x1024 .f32) (ix2 n o) + _ : EReal) = _
  refine congrArg (· + _) ?_
  split
  · exact Ideal.ofBits_zero_f32
  · rfl

/-- The chunk of tap `k` in block `b` of pixels. -/
def chunk (b : Fin 12) (k : Fin 9) : Fin 108 := ⟨9 * b.val + k.val, by have := b.isLt; have := k.isLt; omega⟩

/-- One tap's product at an element of block `b`. -/
def tapSum (X : Vec Ideal S1536x2048 .i8) (A : S108x8x128.Idx → BitVec 32) (Z : Vec Ideal S108x4x8x128 .f32) (Wc : Vec Ideal S9x2048x1024 .fp8e4m3) (b : Fin 12) (n : Fin 128) (o : Fin 1024) (k : Fin 9) : EReal :=
  ∑ ch : Fin 2048, mid X A Z (chunk b k) n ⟨ch.val / 256, by have := ch.isLt; omega⟩ ch * Wc (ix3 k ch o)

/-- After tap `k` of block `b` the accumulator is the sum of the block's taps up to `k`. -/
theorem acc_taps (X : Vec Ideal S1536x2048 .i8) (A : S108x8x128.Idx → BitVec 32) (Z : Vec Ideal S108x4x8x128 .f32) (Wc : Vec Ideal S9x2048x1024 .fp8e4m3) (hA : WordOk A) (b : Fin 12) (n : Fin 128) (o : Fin 1024) :
    ∀ k : ℕ, k < 9 → Acc (F := Ideal) (tabF (xwF X)) A Z Wc (9 * b.val + 2 + k + 1) (ix2 n o)
      = ∑ j ∈ Finset.range (k + 1), if h : j < 9 then tapSum X A Z Wc b n o ⟨j, h⟩ else 0 := by
  have hb := b.isLt
  have step : ∀ k : ℕ, ∀ hk : k < 9, Acc (F := Ideal) (tabF (xwF X)) A Z Wc (9 * b.val + 2 + k + 1) (ix2 n o)
      = (if k = 0 then 0 else Acc (F := Ideal) (tabF (xwF X)) A Z Wc (9 * b.val + 2 + k) (ix2 n o)) + tapSum X A Z Wc b n o ⟨k, hk⟩ := fun k hk => by
    show accNext (9 * b.val + 2 + k - 2) _ Wc _ (ix2 n o) = _
    rw [accNext_apply]
    have e : (9 * b.val + 2 + k - 2) % 9 = k := by omega
    refine congrArg₂ (· + ·) (if_congr (by rw [e]) rfl rfl) ?_
    unfold tapSum
    refine Finset.sum_congr rfl fun ch _ => ?_
    have hc : cl (9 * b.val + k) = chunk b ⟨k, hk⟩ := Fin.ext (by show min (9 * b.val + k) 107 = 9 * b.val + k; omega)
    have hC : Cst (F := Ideal) (tabF (xwF X)) A Z (9 * b.val + 2 + k) = colF (F := Ideal) (gathered (tabF (xwF X)) (rowI A (chunk b ⟨k, hk⟩))) Z (chunk b ⟨k, hk⟩) := by
      rw [show 9 * b.val + 2 + k = 9 * b.val + k + 1 + 1 by omega, ← hc]
      rfl
    rw [hC, colF_apply X A Z hA]
    refine congrArg (_ * ·) (congrArg (fun q => Wc (ix3 q ch o)) (Fin.ext e))
  intro k
  induction k with
  | zero =>
    intro hk
    rw [step 0 hk, if_pos rfl, zero_add, Finset.sum_range_one, dif_pos hk]
  | succ k ih =>
    intro hk
    rw [step (k + 1) hk, if_neg (Nat.succ_ne_zero k), Finset.sum_range_succ, dif_pos hk]
    exact congrArg (· + _) (ih (by omega))

/-- The result as the problem writes it: for pixel `p` and output `o`, the sum over taps and channels of interpolated element times weight, then scale and bias. -/
def outM (X : Vec Ideal S1536x2048 .i8) (A : S108x8x128.Idx → BitVec 32) (Z : Vec Ideal S108x4x8x128 .f32) (Wc : Vec Ideal S9x2048x1024 .fp8e4m3) (sc bias : Vec Ideal S1x1024 .f32) : Vec Ideal S1536x1024 .bf16 := fun y =>
  ((∑ k : Fin 9, tapSum X A Z Wc ⟨(y 0).val / 128, by have := (y 0).isLt; change _ < 1536 at this; omega⟩ ⟨(y 0).val % 128, Nat.mod_lt _ (by decide)⟩ (y 1) k) * sc (ix2 0 (y 1)) + bias (ix2 0 (y 1)) : EReal)

/-- What the kernel leaves is that result. -/
theorem yOut_eq (X : Vec Ideal S1536x2048 .i8) (A : S108x8x128.Idx → BitVec 32) (Z : Vec Ideal S108x4x8x128 .f32) (Wc : Vec Ideal S9x2048x1024 .fp8e4m3) (sc bias : Vec Ideal S1x1024 .f32) (hA : WordOk A) :
    yOut (F := Ideal) (tabF (xwF X)) A Z Wc sc bias = outM X A Z Wc sc bias := by
  funext y
  unfold yOut outM k0_pay3
  dsimp only
  have h := acc_taps X A Z Wc hA ⟨(y 0).val / 128, by have := (y 0).isLt; change _ < 1536 at this; omega⟩ ⟨(y 0).val % 128, Nat.mod_lt _ (by decide)⟩ (y 1) 8 (by decide)
  rw [Finset.sum_range] at h
  have h' : Acc (F := Ideal) (tabF (xwF X)) A Z Wc (9 * ((y 0).val / 128) + 11) (ix2 ⟨(y 0).val % 128, Nat.mod_lt _ (by decide)⟩ (y 1)) = _ := h
  have h2 : ∀ w : Vec Ideal S1x1024 .f32, broadcastTo S128x1024 w broadcasts_S1x1024_S128x1024 (ix2 ⟨(y 0).val % 128, Nat.mod_lt _ (by decide)⟩ (y 1)) = w (ix2 0 (y 1)) :=
    fun w => broadcastTo_1b_ab_apply (a := 128) (b := 1024) w _ _ _
  show Acc (F := Ideal) (tabF (xwF X)) A Z Wc (9 * ((y 0).val / 128) + 11) (ix2 ⟨(y 0).val % 128, Nat.mod_lt _ (by decide)⟩ (y 1)) * broadcastTo S128x1024 sc broadcasts_S1x1024_S128x1024 _ + broadcastTo S128x1024 bias broadcasts_S1x1024_S128x1024 _ = _
  rw [h2, h2, h']
  refine congrArg (· * _ + _) (Finset.sum_congr rfl fun k _ => ?_)
  rw [dif_pos k.isLt]

end Cert.Proof.Values

end
-- ==== Proof.RHost.lean ====
/- What the reference gathers before its arithmetic: the bytes of the four corners and their weights. -/
module

public import proofs.«01_k».proof.Proof.Gen.ReferenceIdeal.Value
public import proofs.«01_k».proof.Proof.Cols
public import Idealize.ShloMosaic.Lib.StableHlo.Run
public import Idealize.ShloMosaic.Lib.StableHlo.Predicate
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.Reference

open Cert.ReferenceIdeal Cert.ReferenceIdeal.Gen Cert.ReferenceIdeal.Value
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Values (padX off pix WordOk)

/-! ## The arrays in the reference's own words -/

/-- The input with sixteen rows of zeros before and after, a row for every pixel and group. -/
def rowsH (X : Vec Ideal S1536x2048 .i8) : Vec Ideal S12544x256 .i8 :=
  shapeCast S12544x256 (pad S1568x2048 ![16, 0] ![16, 0] ![0, 0] X (constantI S_ 8 0#8) pads_S1536x2048_S1568x2048_16160_000 h_S_) shapeCasts_S1568x2048_S12544x256
/-- The index words by pixel, tap and group. -/
def firstH (A : S108x8x128.Idx → BitVec 32) : S1x1536x9x8.Idx → BitVec 32 :=
  shapeCast S1x1536x9x8 (transpose S12x128x9x8 [0, 3, 1, 2] (shapeCast S12x9x8x128 A shapeCasts_S108x8x128_S12x9x8x128) transposes_S12x9x8x128_S12x128x9x8_0_3_1_2) shapeCasts_S12x128x9x8_S1x1536x9x8
/-- Half of each index word, counted from the start of its group's table. -/
def halfH (A : S108x8x128.Idx → BitVec 32) : S1x1536x9x8.Idx → BitVec 32 :=
  subi (Host.divsi (firstH A) (broadcastInDim S1x1536x9x8 ![] bcast_S_S1x1536x9x8 (constantI S_ 32 2#32)))
    (muli (iotaInDim S1x1536x9x8 32 3) (broadcastInDim S1x1536x9x8 ![] bcast_S_S1x1536x9x8 (constantI S_ 32 1552#32)))
/-- One array for all four corners. -/
def wideH (x : S1x1536x9x8.Idx → BitVec 32) : S4x1536x9x8.Idx → BitVec 32 :=
  broadcastInDim S4x1536x9x8 ![0, 1, 2, 3] bcast_S1x1536x9x8_S4x1536x9x8_0_1_2_3 x
/-- Each corner's distance from the first. -/
def cornersH : S4x1536x9x8.Idx → BitVec 32 :=
  broadcastInDim S4x1536x9x8 ![0, 1, 2, 3] bcast_S4x1x1x1_S4x1536x9x8_0_1_2_3 (shapeCast S4x1x1x1 (fun i => lit0 (S4.rowMajor i)) shapeCasts_S4_S4x1x1x1)
/-- The row that every corner, pixel, tap and group reads. -/
def rowH (A : S108x8x128.Idx → BitVec 32) : S4x1536x9x8.Idx → BitVec 32 :=
  addi (muli (addi (wideH (halfH A)) cornersH) (broadcastInDim S4x1536x9x8 ![] bcast_S_S4x1536x9x8 (constantI S_ 32 8#32)))
    (wideH (iotaInDim S1x1536x9x8 32 3))
/-- The gathered bytes. -/
def bytesH (X : Vec Ideal S1536x2048 .i8) (A : S108x8x128.Idx → BitVec 32) : Vec Ideal S4x1536x18432 .i8 :=
  shapeCast S4x1536x18432 (Host.gather gather_S12544x256_S4x1536x9x8x1_S4x1536x9x8x256_4_0_n_n_0_4_1256 (rowsH X)
    (broadcastInDim S4x1536x9x8x1 ![0, 1, 2, 3] bcast_S4x1536x9x8_S4x1536x9x8x1_0_1_2_3 (rowH A))) shapeCasts_S4x1536x9x8x256_S4x1536x18432
/-- The weights, over all channels of their group. -/
def weightsH (Z : Vec Ideal S108x4x8x128 .f32) : Vec Ideal S4x1536x18432 .f32 :=
  shapeCast S4x1536x18432 (broadcastInDim S4x1536x9x8x256 ![0, 1, 2, 3, 4] bcast_S4x1536x9x8x1_S4x1536x9x8x256_0_1_2_3_4
    (broadcastInDim S4x1536x9x8x1 ![0, 1, 2, 3] bcast_S4x1536x9x8_S4x1536x9x8x1_0_1_2_3
      (shapeCast S4x1536x9x8 (transpose S4x12x128x9x8 [2, 0, 4, 1, 3] (shapeCast S12x9x4x8x128 Z shapeCasts_S108x4x8x128_S12x9x4x8x128) transposes_S12x9x4x8x128_S4x12x128x9x8_2_0_4_1_3)
        shapeCasts_S4x12x128x9x8_S4x1536x9x8))) shapeCasts_S4x1536x9x8x256_S4x1536x18432

section
variable (m : (ℓ : Loc nD τ sig) → Buf (Elt Ideal) ℓ)
/-- The gathered bytes as the reference's call takes them. -/
theorem V_bytes (c : Dev nD) : V m c main_v26 = bytesH (m ((c : Thread nD τ).loc main_arg0)) (m ((c : Thread nD τ).loc main_arg1)) := by
  dsimp only [V, hostOps0]
  after_results
  rfl
/-- The repeated weights as the reference's call takes them. -/
theorem V_weights (c : Dev nD) : V m c main_v27 = weightsH (m ((c : Thread nD τ).loc main_arg2)) := by
  dsimp only [V, hostOps0]
  after_results
  rfl
end

/-! ## The same, element by element -/

/-- Pixel `p`'s chunk at tap `k`. -/
def chunkP (p : Fin 1536) (k : Fin 9) : Fin 108 := ⟨9 * (p.val / 128) + k.val, by have := p.isLt; have := k.isLt; omega⟩
/-- Pixel `p`'s lane. -/
def laneP (p : Fin 1536) : Fin 128 := ⟨p.val % 128, Nat.mod_lt _ (by decide)⟩

/-- The rows the reference gathers from. -/
theorem rowsH_apply (X : Vec Ideal S1536x2048 .i8) (r : ℕ) (g : Fin 8) (c : Fin 256) (n : Fin 12544) (hn : n.val = r * 8 + g.val) (ch : Fin 2048) (hch : ch.val = 256 * g.val + c.val) :
    rowsH X (ix2 n c) = padX X r ch := by
  have hn' := n.isLt
  have hg := g.isLt
  have hc := c.isLt
  unfold rowsH padX
  refine (shapeCast_apply _ _ (ix2 n c) (ix2 ⟨r, by omega⟩ ch) ?_).trans ?_
  · rw [Shape.rowMajor_val_two, Shape.rowMajor_val_two]
    show r * 2048 + ch.val = n.val * 256 + c.val
    omega
  by_cases h : 16 ≤ r ∧ r < 1552
  · rw [dif_pos h]
    refine pad_apply_of_inside _ _ _ _ _ _ _ _ (ix2 ⟨r - 16, by omega⟩ ch) fun a => ?_
    match a with
    | ⟨0, _⟩ => show r = 16 + (r - 16) * 1; omega
    | ⟨1, _⟩ => show ch.val = 0 + ch.val * 1; omega
  · rw [dif_neg h]
    refine (pad_apply_of_not_inside _ _ _ _ _ _ _ _ ⟨0, by decide⟩ fun h' => h ?_).trans rfl
    obtain ⟨h1, h2, h3⟩ := h'
    change 16 ≤ r at h1
    change (r - 16) / 1 < 1536 at h3
    omega

/-- The index words by pixel, tap and group. -/
theorem firstH_apply (A : S108x8x128.Idx → BitVec 32) (p : Fin 1536) (k : Fin 9) (g : Fin 8) : firstH A (ix4 0 p k g) = A (ix3 (chunkP p k) g (laneP p)) := by
  have hp := p.isLt
  unfold firstH
  refine (shapeCast_apply _ _ (ix4 0 p k g) (ix4 ⟨p.val / 128, by omega⟩ (laneP p) k g) ?_).trans ?_
  · rw [Shape.rowMajor_val_four, Shape.rowMajor_val_four]
    show ((p.val / 128 * 128 + p.val % 128) * 9 + k.val) * 8 + g.val = ((0 * 1536 + p.val) * 9 + k.val) * 8 + g.val
    omega
  refine (transpose_apply _ _ _ _ (ix4 ⟨p.val / 128, by omega⟩ k g (laneP p)) fun b => ?_).trans ?_
  · match b with
    | ⟨0, _⟩ => rfl
    | ⟨1, _⟩ => rfl
    | ⟨2, _⟩ => rfl
    | ⟨3, _⟩ => rfl
  refine shapeCast_apply _ _ _ _ ?_
  rw [Shape.rowMajor_val_four, Shape.rowMajor_val_three]
  show ((9 * (p.val / 128) + k.val) * 8 + g.val) * 128 + p.val % 128 = ((p.val / 128 * 9 + k.val) * 8 + g.val) * 128 + p.val % 128
  omega

/-- The corners' distances as the reference lists them. -/
theorem corner_word (q : Fin 4) : lit0 q = BitVec.ofNat 32 (off q) := by
  revert q; decide

/-- An index word halved, with a corner's step, names a row. -/
theorem row_word (w : BitVec 32) (g : Fin 8) (q : Fin 4) (h1 : 1552 * g.val ≤ w.toNat) (h2 : w.toNat < 1552 * g.val + 1552) :
    (((w - BitVec.ofNat 32 g.val * 1552#32) + BitVec.ofNat 32 (off q)) * 8#32 + BitVec.ofNat 32 g.val).toNat = (w.toNat - 1552 * g.val + off q) * 8 + g.val := by
  have ho : off q ≤ 13 := by revert q; decide
  have hg := g.isLt
  generalize off q = o at ho ⊢
  simp only [BitVec.toNat_add, BitVec.toNat_mul, BitVec.toNat_sub, BitVec.toNat_ofNat]
  omega

/-- The same word for every corner. -/
theorem wideH_apply (x : S1x1536x9x8.Idx → BitVec 32) (q : Fin 4) (p : Fin 1536) (k : Fin 9) (g : Fin 8) : wideH x (ix4 q p k g) = x (ix4 0 p k g) :=
  broadcastInDim_apply _ _ _ _ _ fun a => by
    match a with
    | ⟨0, _⟩ => rfl
    | ⟨1, _⟩ => rfl
    | ⟨2, _⟩ => rfl
    | ⟨3, _⟩ => rfl

/-- The four corners' steps. -/
theorem cornersH_apply (q : Fin 4) (p : Fin 1536) (k : Fin 9) (g : Fin 8) : cornersH (ix4 q p k g) = BitVec.ofNat 32 (off q) := by
  refine (broadcastInDim_apply _ _ _ _ (ix4 q 0 0 0) fun a => ?_).trans ?_
  · match a with
    | ⟨0, _⟩ => rfl
    | ⟨1, _⟩ => rfl
    | ⟨2, _⟩ => rfl
    | ⟨3, _⟩ => rfl
  refine (shapeCast_apply _ _ _ (ix1 q) ?_).trans ?_
  · rw [Shape.rowMajor_val_one, Shape.rowMajor_val_four]
    show q.val = ((q.val * 1 + 0) * 1 + 0) * 1 + 0
    omega
  · exact (congrArg lit0 (Fin.ext (Shape.rowMajor_val_one _))).trans (corner_word q)

/-- The index words halved, less the start of their group. -/
theorem halfH_apply (A : S108x8x128.Idx → BitVec 32) (p : Fin 1536) (k : Fin 9) (g : Fin 8) :
    halfH A (ix4 0 p k g) = IntOp.divsi .host (firstH A (ix4 0 p k g)) 2#32 - BitVec.ofNat 32 g.val * 1552#32 := rfl

/-- The row gathered for a corner. -/
theorem rowH_apply (A : S108x8x128.Idx → BitVec 32) (hA : WordOk A) (q : Fin 4) (p : Fin 1536) (k : Fin 9) (g : Fin 8) :
    (rowH A (ix4 q p k g)).toNat = (pix A (chunkP p k) g (laneP p) + off q) * 8 + g.val := by
  obtain ⟨h1, h2, h3⟩ := hA (ix3 (chunkP p k) g (laneP p))
  change 3104 * g.val ≤ _ at h2
  change _ < 3104 * g.val + 3104 at h3
  have hg := g.isLt
  have hw : (IntOp.divsi .host (firstH A (ix4 0 p k g)) 2#32).toNat = (A (ix3 (chunkP p k) g (laneP p))).toNat / 2 := by
    rw [firstH_apply]; exact StableHlo.Predicate.divsi_two _ _ (by omega)
  have hr : rowH A (ix4 q p k g) = (wideH (halfH A) (ix4 q p k g) + cornersH (ix4 q p k g)) * 8#32 + wideH (iotaInDim S1x1536x9x8 32 3) (ix4 q p k g) := rfl
  rw [hr, wideH_apply, wideH_apply, cornersH_apply, halfH_apply]
  refine (row_word _ g q (by rw [hw]; omega) (by rw [hw]; omega)).trans ?_
  rw [hw]
  rfl

/-- A gathered row: the operand's row that the index names, where it names one. -/
theorem gather_apply (R : Vec Ideal S12544x256 .i8) (I : S4x1536x9x8x1.Idx → BitVec 32) (q : Fin 4) (p : Fin 1536) (k : Fin 9) (g : Fin 8) (c : Fin 256) (n : Fin 12544)
    (hn : (I (ix5 q p k g 0)).toNat = n.val) :
    Host.gather gather_S12544x256_S4x1536x9x8x1_S4x1536x9x8x256_4_0_n_n_0_4_1256 R I (ix5 q p k g c) = R (ix2 n c) := by
  have hn' := n.isLt
  unfold Host.gather
  refine congrArg R (funext fun a => Fin.ext ?_)
  have hs : (gather_S12544x256_S4x1536x9x8x1_S4x1536x9x8x256_4_0_n_n_0_4_1256).siIdx (ix5 q p k g c) ⟨0, by decide⟩ = ix5 q p k g 0 := by
    funext b; refine Fin.ext ?_
    match b with
    | ⟨0, _⟩ => rfl
    | ⟨1, _⟩ => rfl
    | ⟨2, _⟩ => rfl
    | ⟨3, _⟩ => rfl
    | ⟨4, _⟩ => rfl
  have hi : (I (ix5 q p k g 0)).toInt.toNat = n.val := by
    rw [BitVec.toInt_eq_toNat_of_lt (by omega), hn]; rfl
  match a with
  | ⟨0, _⟩ =>
    show min (I ((gather_S12544x256_S4x1536x9x8x1_S4x1536x9x8x256_4_0_n_n_0_4_1256).siIdx (ix5 q p k g c) ⟨0, _⟩)).toInt.toNat (12544 - 1) + 0 + 0 = n.val
    rw [hs, hi]; omega
  | ⟨1, _⟩ => show 0 + 0 + c.val = c.val; omega

/-- A gathered byte. -/
theorem bytesH_apply (X : Vec Ideal S1536x2048 .i8) (A : S108x8x128.Idx → BitVec 32) (hA : WordOk A) (q : Fin 4) (p : Fin 1536) (k : Fin 9) (ch : Fin 2048) (j : Fin 18432) (hj : j.val = 2048 * k.val + ch.val) :
    bytesH X A (ix3 q p j) = padX X (pix A (chunkP p k) ⟨ch.val / 256, by have := ch.isLt; omega⟩ (laneP p) + off q) ch := by
  have hch := ch.isLt
  have hp := p.isLt
  have ho : off q ≤ 13 := by revert q; decide
  have hr := rowH_apply A hA q p k ⟨ch.val / 256, by omega⟩
  obtain ⟨h1, h2, h3⟩ := hA (ix3 (chunkP p k) ⟨ch.val / 256, by omega⟩ (laneP p))
  change 3104 * (ch.val / 256) ≤ _ at h2
  change _ < 3104 * (ch.val / 256) + 3104 at h3
  have hx : pix A (chunkP p k) ⟨ch.val / 256, by omega⟩ (laneP p) < 1552 := by
    unfold pix
    show _ - 1552 * (ch.val / 256) < _
    omega
  unfold bytesH
  refine (shapeCast_apply _ _ (ix3 q p j) (ix5 q p k ⟨ch.val / 256, by omega⟩ ⟨ch.val % 256, by omega⟩) ?_).trans ?_
  · rw [Shape.rowMajor_val_five, Shape.rowMajor_val_three]
    show (((q.val * 1536 + p.val) * 9 + k.val) * 8 + ch.val / 256) * 256 + ch.val % 256 = (q.val * 1536 + p.val) * 18432 + j.val
    omega
  refine (gather_apply _ _ q p k _ _ ⟨(pix A (chunkP p k) ⟨ch.val / 256, by omega⟩ (laneP p) + off q) * 8 + ch.val / 256, by omega⟩ ?_).trans ?_
  · refine (congrArg BitVec.toNat (broadcastInDim_apply _ _ (rowH A) _ (ix4 q p k ⟨ch.val / 256, by omega⟩) fun a => ?_)).trans hr
    match a with
    | ⟨0, _⟩ => rfl
    | ⟨1, _⟩ => rfl
    | ⟨2, _⟩ => rfl
    | ⟨3, _⟩ => rfl
  · exact rowsH_apply X _ ⟨ch.val / 256, by omega⟩ _ _ rfl ch (by show ch.val = 256 * (ch.val / 256) + ch.val % 256; omega)

/-- A repeated weight. -/
theorem weightsH_apply (Z : Vec Ideal S108x4x8x128 .f32) (q : Fin 4) (p : Fin 1536) (k : Fin 9) (ch : Fin 2048) (j : Fin 18432) (hj : j.val = 2048 * k.val + ch.val) :
    weightsH Z (ix3 q p j) = Z (ix4 (chunkP p k) q ⟨ch.val / 256, by have := ch.isLt; omega⟩ (laneP p)) := by
  have hch := ch.isLt
  have hp := p.isLt
  unfold weightsH
  refine (shapeCast_apply _ _ (ix3 q p j) (ix5 q p k ⟨ch.val / 256, by omega⟩ ⟨ch.val % 256, by omega⟩) ?_).trans ?_
  · rw [Shape.rowMajor_val_five, Shape.rowMajor_val_three]
    show (((q.val * 1536 + p.val) * 9 + k.val) * 8 + ch.val / 256) * 256 + ch.val % 256 = (q.val * 1536 + p.val) * 18432 + j.val
    omega
  refine (broadcastInDim_apply _ _ _ _ (ix5 q p k ⟨ch.val / 256, by omega⟩ 0) fun a => ?_).trans ?_
  · match a with
    | ⟨0, _⟩ => rfl
    | ⟨1, _⟩ => rfl
    | ⟨2, _⟩ => rfl
    | ⟨3, _⟩ => rfl
    | ⟨4, _⟩ => rfl
  refine (broadcastInDim_apply _ _ _ _ (ix4 q p k ⟨ch.val / 256, by omega⟩) fun a => ?_).trans ?_
  · match a with
    | ⟨0, _⟩ => rfl
    | ⟨1, _⟩ => rfl
    | ⟨2, _⟩ => rfl
    | ⟨3, _⟩ => rfl
  refine (shapeCast_apply _ _ _ (ix5 q ⟨p.val / 128, by omega⟩ (laneP p) k ⟨ch.val / 256, by omega⟩) ?_).trans ?_
  · rw [Shape.rowMajor_val_five, Shape.rowMajor_val_four]
    show (((q.val * 12 + p.val / 128) * 128 + p.val % 128) * 9 + k.val) * 8 + ch.val / 256 = ((q.val * 1536 + p.val) * 9 + k.val) * 8 + ch.val / 256
    omega
  refine (transpose_apply _ _ _ _ (ix5 ⟨p.val / 128, by omega⟩ k q ⟨ch.val / 256, by omega⟩ (laneP p)) fun b => ?_).trans ?_
  · match b with
    | ⟨0, _⟩ => rfl
    | ⟨1, _⟩ => rfl
    | ⟨2, _⟩ => rfl
    | ⟨3, _⟩ => rfl
    | ⟨4, _⟩ => rfl
  refine shapeCast_apply _ _ _ _ ?_
  rw [Shape.rowMajor_val_five, Shape.rowMajor_val_four]
  show (((9 * (p.val / 128) + k.val) * 4 + q.val) * 8 + ch.val / 256) * 128 + p.val % 128 = (((p.val / 128 * 9 + k.val) * 4 + q.val) * 8 + ch.val / 256) * 128 + p.val % 128
  omega

end Cert.Proof.Reference

end
-- ==== Proof.RVal.lean ====
/- What the reference computes, over the extended reals. -/
module

public import proofs.«01_k».proof.Proof.RHost
public import proofs.«01_k».proof.Proof.Sums
public import Idealize.ShloMosaic.Lib.Pipeline.ValueKit
public import Idealize.ShloMosaic.Lib.MatmulPlain
public import Idealize.ShloMosaic.PureOps.Ideal.Laws
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.Reference

open Cert.ReferenceIdeal Cert.ReferenceIdeal.Gen Cert.ReferenceIdeal.Value
open Idealize.ShloMosaic hiding ix1 ix2 ix3 ix4 ix5
open Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Proof.Values (padX off pix WordOk f8 mid chunk tapSum outM)

/-- The place of channel `ch` of tap `k` among a pixel's gathered channels. -/
def place (k : Fin 9) (ch : Fin 2048) : Fin 18432 := ⟨2048 * k.val + ch.val, by have := k.isLt; have := ch.isLt; omega⟩

/-- A sum over the gathered channels, tap by tap. -/
theorem sum_places (f : Fin 18432 → EReal) : ∑ j : Fin 18432, f j = ∑ k : Fin 9, ∑ ch : Fin 2048, f (place k ch) := by
  rw [← Fintype.sum_prod_type']
  refine (Fintype.sum_equiv (finProdFinEquiv (m := 9) (n := 2048)) (fun x => f (place x.1 x.2)) f fun x => congrArg f (Fin.ext ?_)).symm
  show 2048 * x.1.val + x.2.val = x.2.val + 2048 * x.1.val
  omega

/-- The summed axis of the corners. -/
theorem lift3 (h : S4x1536x18432.Reduces [0] S1536x18432) (p : Fin 1536) (j : Fin 18432) (q : Fin 4) : h.lift (ix2 p j) q = ix3 q p j := by
  funext c
  refine Fin.ext ?_
  match c with
  | ⟨0, _⟩ => rfl
  | ⟨1, _⟩ => rfl
  | ⟨2, _⟩ => rfl

/-- The interpolated elements, as the reference's body sums them. -/
def midH (v : Vec Ideal S4x1536x18432 .i8) (z : Vec Ideal S4x1536x18432 .f32) : FVec Ideal S1536x18432 .f32 :=
  multiReduction .add [0] S1536x18432 (mulf (extf .f32 (bitcastToFloat .fp8e4m3 v : FVec Ideal S4x1536x18432 .fp8e4m3) bitsLt_fp8e4m3_f32) z) 0x00000000#32 reduces_S4x1536x18432_S1536x18432 (.inl rfl) rfl

/-- The weighted sum of the four corners. -/
theorem midH_apply (v : Vec Ideal S4x1536x18432 .i8) (z : Vec Ideal S4x1536x18432 .f32) (p : Fin 1536) (j : Fin 18432) :
    midH v z (ix2 p j) = ∑ q : Fin 4, f8 (v (ix3 q p j)) * z (ix3 q p j) := by
  unfold midH
  refine (Ideal.multiReduction_add_single _ _ _ _ _ _).trans ?_
  refine Finset.sum_congr rfl fun q _ => ?_
  exact (congrArg (mulf (extf .f32 (bitcastToFloat .fp8e4m3 v : FVec Ideal S4x1536x18432 .fp8e4m3) bitsLt_fp8e4m3_f32) z) (lift3 _ p j q)).trans rfl

/-- The weights of the product, a row for every gathered channel. -/
theorem weight_place (w : Vec Ideal S9x2048x1024 .fp8e4m3) (k : Fin 9) (ch : Fin 2048) (o : Fin 1024) :
    (shapeCast S18432x1024 (extf (F := Ideal) .bf16 (w : FVec Ideal S9x2048x1024 .fp8e4m3) bitsLt_fp8e4m3_bf16 : FVec Ideal S9x2048x1024 .bf16) shapeCasts_S9x2048x1024_S18432x1024 : FVec Ideal S18432x1024 .bf16) (ix2 (place k ch) o) = w (ix3 k ch o) := by
  refine (shapeCast_apply _ _ (ix2 (place k ch) o) (ix3 k ch o) ?_).trans rfl
  rw [Shape.rowMajor_val_three, Shape.rowMajor_val_two]
  show (k.val * 2048 + ch.val) * 1024 + o.val = (2048 * k.val + ch.val) * 1024 + o.val
  omega

/-- What the reference's body computes, element by element. -/
theorem pay_apply (v : Vec Ideal S4x1536x18432 .i8) (z : Vec Ideal S4x1536x18432 .f32) (w : Vec Ideal S9x2048x1024 .fp8e4m3) (sc bias : Vec Ideal S1x1024 .f32) (p : Fin 1536) (o : Fin 1024) :
    k0_pay1 (F := Ideal) v z w sc bias (ix2 p o)
      = (∑ k : Fin 9, ∑ ch : Fin 2048, (∑ q : Fin 4, f8 (v (ix3 q p (place k ch))) * z (ix3 q p (place k ch))) * w (ix3 k ch o)) * sc (ix2 0 o) + bias (ix2 0 o) := by
  unfold k0_pay1
  dsimp only
  rw [shapeCast_self, shapeCast_self]
  have h2 : ∀ u : Vec Ideal S1x1024 .f32, broadcastTo S1536x1024 u broadcasts_S1x1024_S1536x1024 (ix2 p o) = u (ix2 0 o) :=
    fun u => broadcastTo_1b_ab_apply (a := 1536) (b := 1024) u _ _ _
  have hm : matmul (F := Ideal) (φ₁ := .bf16) (φ₂ := .bf16) dot_S1536x18432_S18432x1024_S1536x1024_1_0_0_1_n_n none (truncf .bf16 (midH v z) bitsLt_bf16_f32)
      (shapeCast S18432x1024 (extf .bf16 (w : FVec Ideal S9x2048x1024 .fp8e4m3) bitsLt_fp8e4m3_bf16) shapeCasts_S9x2048x1024_S18432x1024)
      (constant S1536x1024 .f32 0x00000000#32) (ix2 p o)
      = ∑ k : Fin 9, ∑ ch : Fin 2048, (∑ q : Fin 4, f8 (v (ix3 q p (place k ch))) * z (ix3 q p (place k ch))) * w (ix3 k ch o) := by
    refine (Ideal.matmul_plain_apply (M := 1536) (K := 18432) (N := 1024) none _ _ _ p o).trans ?_
    show Ideal.ofBits .f32 0x00000000#32 + _ = _
    rw [Ideal.ofBits_zero_f32, zero_add]
    refine (sum_places _).trans ?_
    refine Finset.sum_congr rfl fun k _ => ?_
    refine Finset.sum_congr rfl fun ch _ => ?_
    have h1 := midH_apply v z p (place k ch)
    have h3 := weight_place w k ch o
    generalize place k ch = j at h1 h3 ⊢
    rw [← h1, ← h3]
    generalize midH v z = M
    rfl
  rw [← hm]
  show matmul (F := Ideal) (φ₁ := .bf16) (φ₂ := .bf16) dot_S1536x18432_S18432x1024_S1536x1024_1_0_0_1_n_n none (truncf .bf16 (midH v z) bitsLt_bf16_f32) _ _ (ix2 p o)
    * broadcastTo S1536x1024 sc broadcasts_S1x1024_S1536x1024 (ix2 p o) + broadcastTo S1536x1024 bias broadcasts_S1x1024_S1536x1024 (ix2 p o) = _
  rw [h2, h2]

/-- From the arguments: the problem's result. -/
theorem pay_eq (X : Vec Ideal S1536x2048 .i8) (A : S108x8x128.Idx → BitVec 32) (Z : Vec Ideal S108x4x8x128 .f32) (w : Vec Ideal S9x2048x1024 .fp8e4m3) (sc bias : Vec Ideal S1x1024 .f32) (hA : WordOk A) :
    k0_pay1 (F := Ideal) (bytesH X A) (weightsH Z) w sc bias = outM X A Z w sc bias := by
  funext y
  have hy : y = ix2 (y 0) (y 1) := ValueIdx.eq_ix2 y
  rw [hy]
  refine (pay_apply _ _ _ _ _ (y 0) (y 1)).trans ?_
  unfold outM tapSum mid
  show _ = (∑ k : Fin 9, ∑ ch : Fin 2048, (∑ q : Fin 4, f8 (padX X (pix A (chunkP (y 0) k) ⟨ch.val / 256, _⟩ (laneP (y 0)) + off q) ch) * Z (ix4 (chunkP (y 0) k) q ⟨ch.val / 256, _⟩ (laneP (y 0)))) * w (ix3 k ch (y 1))) * sc (ix2 0 (y 1)) + bias (ix2 0 (y 1))
  refine congrArg (· * _ + _) (Finset.sum_congr rfl fun k _ => Finset.sum_congr rfl fun ch _ => congrArg (· * _) (Finset.sum_congr rfl fun q _ => ?_))
  rw [bytesH_apply X A hA q (y 0) k ch (place k ch) rfl, weightsH_apply Z q (y 0) k ch (place k ch) rfl]

section
variable (m : (ℓ : Loc nD τ sig) → Buf (Elt Ideal) ℓ) (ρ : Dev nD → PrngReg)

/-- The block of the reference's window 0 is the whole array. -/
theorem rblk0 (c : Dev nD) : iblk m c 0 t0_0 = V m c main_v26 := by
  refine Eq.trans ?_ (rfl)
  show (win0_0.blk t0_0).view.read (Elt Ideal) (V m c main_v26) = _
  exact Memref.read_access_unit_zero (Elt Ideal) main_v26
    (show (fun a => (win0_0.index t0_0) a * main_v26.ty.shape.size a) = fun _ => 0 from
      funext fun a => by fin_cases a <;> decide) (fun a => by fin_cases a <;> decide) _

/-- The block of the reference's window 1 is the whole array. -/
theorem rblk1 (c : Dev nD) : iblk m c 1 t0_0 = V m c main_v27 := by
  refine Eq.trans ?_ (rfl)
  show (win0_1.blk t0_0).view.read (Elt Ideal) (V m c main_v27) = _
  exact Memref.read_access_unit_zero (Elt Ideal) main_v27
    (show (fun a => (win0_1.index t0_0) a * main_v27.ty.shape.size a) = fun _ => 0 from
      funext fun a => by fin_cases a <;> decide) (fun a => by fin_cases a <;> decide) _

/-- The block of the reference's window 2 is the whole array. -/
theorem rblk2 (c : Dev nD) : iblk m c 2 t0_0 = m ((c : Thread nD τ).loc main_arg3) := by
  refine Eq.trans ?_ (V_main_arg3 m c)
  show (win0_2.blk t0_0).view.read (Elt Ideal) (V m c main_arg3) = _
  exact Memref.read_access_unit_zero (Elt Ideal) main_arg3
    (show (fun a => (win0_2.index t0_0) a * main_arg3.ty.shape.size a) = fun _ => 0 from
      funext fun a => by fin_cases a <;> decide) (fun a => by fin_cases a <;> decide) _

/-- The block of the reference's window 3 is the whole array. -/
theorem rblk3 (c : Dev nD) : iblk m c 3 t0_0 = m ((c : Thread nD τ).loc main_arg4) := by
  refine Eq.trans ?_ (V_main_arg4 m c)
  show (win0_3.blk t0_0).view.read (Elt Ideal) (V m c main_arg4) = _
  exact Memref.read_access_unit_zero (Elt Ideal) main_arg4
    (show (fun a => (win0_3.index t0_0) a * main_arg4.ty.shape.size a) = fun _ => 0 from
      funext fun a => by fin_cases a <;> decide) (fun a => by fin_cases a <;> decide) _

/-- The block of the reference's window 4 is the whole array. -/
theorem rblk4 (c : Dev nD) : iblk m c 4 t0_0 = m ((c : Thread nD τ).loc main_arg5) := by
  refine Eq.trans ?_ (V_main_arg5 m c)
  show (win0_4.blk t0_0).view.read (Elt Ideal) (V m c main_arg5) = _
  exact Memref.read_access_unit_zero (Elt Ideal) main_arg5
    (show (fun a => (win0_4.index t0_0) a * main_arg5.ty.shape.size a) = fun _ => 0 from
      funext fun a => by fin_cases a <;> decide) (fun a => by fin_cases a <;> decide) _

/-- The reference's result array after its run. -/
theorem final_out (c : Dev nD) (hA : WordOk (m ((c : Thread nD τ).loc main_arg1))) : (dats m 0 c).arrAt 5 cfg0.N
    = outM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 5 t0_0 (by decide +kernel) _ fun j => ?_
  blk_simp
  rw [after0_5, rblk0, rblk1, rblk2, rblk3, rblk4, V_bytes, V_weights, ← pay_eq _ _ _ _ _ _ hA]
  unfold out0_5
  frame_out

/-- A run of the reference ends with that result, the arguments as they were. -/
theorem value_run (h : ∀ c : Dev nD, WordOk (m ((c : Thread nD τ).loc main_arg1))) : θ_run defs (onTc (τ := τ) (main (F := Ideal))) ⟨m, fun _ => 0, ρ⟩ (fun r => ∀ c : Dev nD,
      r.2.mem ((c : Thread nD τ).loc main_v28) = outM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r hh c => ⟨(hh c).1.trans (final_out m c (h c)), (hh c).2⟩) (run_blocks m ρ)
end

end Cert.Proof.Reference

end
-- ==== Proof.OffIBase.lean ====
/- The offset convolution: what its scratch arrays hold after each tap. -/
module

public import proofs.«01_k».proof.Proof.Gen.OffsetsIdeal.Frame
public import proofs.«01_k».proof.Proof.Gen.OffsetsIdeal.Skeleton
public import proofs.«01_k».proof.Proof.Gen.OffsetsIdeal.Loops
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.OffsetsIdeal

open Cert.OffsetsIdeal Cert.OffsetsIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The ghost state: the pipeline's cells beside counters. -/
abbrev UU (nD : Nat) (τ : Topo) : Type := UR sig nD τ × Counters
/-- The pipeline's cells within it. -/
abbrev EP : Emb (UR sig nD τ) (MT nD τ sig Unit (Elt F) ℕ (UU nD τ) ℕ) := embL
/-- No variants are used: every loop is counted. -/
abbrev 𝒱₀ : Variants := Variants.none

omit [FloatOps F] in
/-- Equal assertions entail one another. -/
theorem entails_of_eq {P Q : sProp (MT nD τ sig Unit (Elt F) ℕ (UU nD τ) ℕ)} (e : P = Q) : P ⊢ Q := e ▸ .rfl

/-- A memref of the core held whole at values `X`. -/
abbrev at_ (c : Dev nD) {sp : Space} {s : Shape} {e : EltTy} (m : Memref sig .tc sp s e) (X : s.Idx → Elt F e) :
    sProp (MT nD τ sig Unit (Elt F) ℕ (UU nD τ) ℕ) :=
  m.view.loc (c : Thread nD τ) ↦[m.view.set]{fullShare} m.view.rep X

/-! ## What a tap adds, pixel by pixel -/

/-- The word of `+0.0`. -/
def zeroF : F .f32 := Scalar.ofBits .f32 0x00000000#32

/-- Pixel block `b` of the input. -/
def xBlk (X : Vec F S1536x2048 .fp8e4m3) (b : Fin 12) : Vec F S128x2048 .fp8e4m3 := fun y =>
  X (ix2 ⟨128 * b.val + (y 0).val, by have := (y 0).isLt; change _ < 128 at this; have := b.isLt; omega⟩ (y 1))

/-- Tap `t` of the weights. -/
def wTap (W : Vec F S9x2048x216 .bf16) (t : Fin 9) : Vec F S1x2048x216 .bf16 := fun y => W (ix3 t (y 1) (y 2))

/-- Tap `t`'s product for pixel `p` and channel `ch`. -/
def prod (X : Vec F S1536x2048 .fp8e4m3) (W : Vec F S9x2048x216 .bf16) (t : Fin 9) (p : Fin 1536) (ch : Fin 216) : F .f32 :=
  k0_pay199 (xBlk X ⟨p.val / 128, by have := p.isLt; omega⟩) (wTap W t) (ix2 ⟨p.val % 128, Nat.mod_lt _ (by decide)⟩ ch)

/-- The same with the rows above and below the image read as zero: row `q` is pixel `q - 16`. -/
def zval (X : Vec F S1536x2048 .fp8e4m3) (W : Vec F S9x2048x216 .bf16) (t : Fin 9) (q : ℕ) (ch : Fin 216) : F .f32 :=
  if h : 16 ≤ q ∧ q < 1552 then prod X W t ⟨q - 16, by omega⟩ ch else zeroF

/-- Whether a tap's column of a pixel lies in the image, as the body tests it: `dx` is the tap's column step. -/
def colOk (dx : BitVec 32) (b : ℕ) : IVec S128x128 1 :=
  have v8 : IVec S128x128 32 := iota .tc S128x128 32 [0] iota_S128x128_d0_w32
  let arg9 : BitVec 32 := Scf.iv 0#32 1#32 b
  let v31 : BitVec 32 := Scalar.muli arg9 128#32
  have v32 : IVec S128x128 32 := broadcast S128x128 v31
  have v33 : IVec S128x128 32 := addi v8 v32
  have v34 : IVec S128x128 32 := broadcast S128x128 12#32
  have v35 : IVec S128x128 32 := remsi v33 v34
  have v36 : IVec S128x128 32 := broadcast S128x128 dx
  have v37 : IVec S128x128 32 := addi v35 v36
  have v38 : IVec S128x128 32 := broadcast S128x128 0#32
  have v39 : IVec S128x128 1 := cmpi .sge v37 v38
  have v40 : IVec S128x128 32 := broadcast S128x128 12#32
  have v41 : IVec S128x128 1 := cmpi .slt v37 v40
  andi v39 v41

/-- Tap `t`'s column step as the body's word. -/
def dxW (t : Fin 9) : BitVec 32 := BitVec.ofNat 32 (t.val % 3) + 4294967295#32

/-- The row of the padded products that tap `t` reads for pixel 0. -/
def rowOf (t : Fin 9) : ℕ := 3 + 12 * (t.val / 3) + t.val % 3

/-- What tap `t` adds at a pixel: the product of the neighbour, zero where that lies outside the image. -/
def selV (X : Vec F S1536x2048 .fp8e4m3) (W : Vec F S9x2048x216 .bf16) (t : Fin 9) (p : Fin 1536) (ch : Fin 216) : F .f32 :=
  Scalar.select (colOk (dxW t) (p.val / 128) (ix2 ⟨p.val % 128, Nat.mod_lt _ (by decide)⟩ 0)) (zval X W t (p.val + rowOf t) ch) zeroF

/-- The sum of the first `n` taps in the body's order. -/
def accV (X : Vec F S1536x2048 .fp8e4m3) (W : Vec F S9x2048x216 .bf16) (p : Fin 1536) (ch : Fin 216) : ℕ → F .f32
  | 0 => zeroF
  | 1 => selV X W 0 p ch
  | n + 2 => FloatOps.addf (selV X W (Fin.ofNat 9 (n + 1)) p ch) (accV X W p ch (n + 1))

/-- The half and lane of a channel. -/
def hC (ch : Fin 216) : Fin 2 := ⟨ch.val / 128, by have := ch.isLt; omega⟩
/-- A channel's lane. -/
def lC (ch : Fin 216) : Fin 128 := ⟨ch.val % 128, Nat.mod_lt _ (by decide)⟩

/-- The padded products after `n` blocks of tap `t`. -/
def ZOk (X : Vec F S1536x2048 .fp8e4m3) (W : Vec F S9x2048x216 .bf16) (t : Fin 9) (n : ℕ) (Z : Vec F S2x1568x128 .f32) : Prop :=
  (∀ (h : Fin 2) (q : Fin 1568) (l : Fin 128), (q.val < 16 ∨ 1552 ≤ q.val) → Z (ix3 h q l) = zeroF)
    ∧ ∀ (p : Fin 1536) (ch : Fin 216), p.val < 128 * n → Z (ix3 (hC ch) ⟨p.val + 16, by have := p.isLt; omega⟩ (lC ch)) = prod X W t p ch

/-- The sums after `n` blocks of tap `t`: before them the taps already added. -/
def OOk (X : Vec F S1536x2048 .fp8e4m3) (W : Vec F S9x2048x216 .bf16) (t : Fin 9) (n : ℕ) (O : Vec F S2x1536x128 .f32) : Prop :=
  ∀ (p : Fin 1536) (ch : Fin 216), (p.val < 128 * n → O (ix3 (hC ch) p (lC ch)) = accV X W p ch (t.val + 1))
    ∧ (128 * n ≤ p.val → t.val ≠ 0 → O (ix3 (hC ch) p (lC ch)) = accV X W p ch t.val)

/-- What one tap's products left, with its zero border, is a right start for the next tap. -/
theorem zOk_next {X : Vec F S1536x2048 .fp8e4m3} {W : Vec F S9x2048x216 .bf16} {t : Fin 9} {n : ℕ} {Z : Vec F S2x1568x128 .f32} (h : ZOk X W t n Z) (t' : Fin 9) : ZOk X W t' 0 Z :=
  ⟨h.1, fun p ch hp => absurd hp (by omega)⟩

/-- The accumulator after a tap is the one before the next. -/
theorem oOk_next {X : Vec F S1536x2048 .fp8e4m3} {W : Vec F S9x2048x216 .bf16} {t : Fin 9} {O : Vec F S2x1536x128 .f32} (h : OOk X W t 12 O) (t' : Fin 9) (ht : t'.val = t.val + 1) : OOk X W t' 0 O :=
  fun p ch => ⟨fun hp => absurd hp (by omega), fun _ _ => by rw [ht]; exact (h p ch).1 (by have := p.isLt; omega)⟩

/-- The padded products read by row. -/
theorem zOk_val {X : Vec F S1536x2048 .fp8e4m3} {W : Vec F S9x2048x216 .bf16} {t : Fin 9} {Z : Vec F S2x1568x128 .f32} (h : ZOk X W t 12 Z) (q : Fin 1568) (ch : Fin 216) :
    Z (ix3 (hC ch) q (lC ch)) = zval X W t q.val ch := by
  unfold zval
  split
  · rename_i hq
    refine Eq.trans (congrArg Z (congrArg (fun r => ix3 (hC ch) r (lC ch)) (Fin.ext ?_))) (h.2 ⟨q.val - 16, by omega⟩ ch (by show q.val - 16 < _; omega))
    show q.val = q.val - 16 + 16; omega
  · exact h.1 _ _ _ (by omega)

end Cert.Proof.OffsetsIdeal

end
-- ==== Proof.OffITaps.lean ====
/- The offset convolution: the two loops of a tap. -/
module

public import proofs.«01_k».proof.Proof.OffIBase
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.OffsetsIdeal

open Cert.OffsetsIdeal Cert.OffsetsIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The two loops of a tap, written once for every tap -/

/-- A block's product, its first 128 channels. -/
def zLo (v34 : Vec F S128x2048 .fp8e4m3) (v36 : Vec F S1x2048x216 .bf16) : FVec F S1x128x128 .f32 :=
  shapeCast S1x128x128 (extractStridedSlice S128x128 ![0, 0] (k0_pay199 v34 v36) slices_S128x216_o0_0_S128x128) shapeCasts_S128x128_S1x128x128

/-- A block's product, its last 88 channels. -/
def zHi (v34 : Vec F S128x2048 .fp8e4m3) (v36 : Vec F S1x2048x216 .bf16) : FVec F S1x128x88 .f32 :=
  shapeCast S1x128x88 (extractStridedSlice S128x88 ![0, 128] (k0_pay199 v34 v36) slices_S128x216_o0_128_S128x88) shapeCasts_S128x88_S1x128x88

/-- A block of a tap's products, zero where the column leaves the image. -/
def selP (dx : BitVec 32) (b : ℕ) (v45 : Vec F S1x128x128 .f32) : FVec F S128x128 .f32 :=
  select (colOk dx b) (shapeCast S128x128 v45 shapeCasts_S1x128x128_S128x128) (broadcast S128x128 (Scalar.ofBits .f32 0x00000000#32))

/-- The same as it is stored. -/
def setP (dx : BitVec 32) (b : ℕ) (v45 : Vec F S1x128x128 .f32) : FVec F S1x128x128 .f32 :=
  shapeCast S1x128x128 (selP dx b v45) shapeCasts_S128x128_S1x128x128

/-- The block added to the sums. -/
def addP (dx : BitVec 32) (b : ℕ) (v45 v51 : Vec F S1x128x128 .f32) : FVec F S1x128x128 .f32 :=
  shapeCast S1x128x128 (addf (selP dx b v45) (shapeCast S128x128 v51 shapeCasts_S1x128x128_S128x128)) shapeCasts_S128x128_S1x128x128

/-- One block's product of a tap. -/
def mmB (arg1 : Memref sig .tc .vmem S1536x2048 .fp8e4m3) (arg2 : Memref sig .tc .vmem S9x2048x216 .bf16) (arg6 : Memref sig .tc .vmem S2x1568x128 .f32)
    (o1 : Fin 2 → ℕ) (h1 : ∀ a, o1 a + S128x2048.size a ≤ S1536x2048.size a) (o2 : Fin 3 → ℕ) (h2 : ∀ a, o2 a + S1x2048x216.size a ≤ S9x2048x216.size a)
    (o3 : Fin 3 → ℕ) (h3 : ∀ a, o3 a + S1x128x128.size a ≤ S2x1568x128.size a) (o4 : Fin 3 → ℕ) (h4 : ∀ a, o4 a + S1x128x88.size a ≤ S2x1568x128.size a) :
    Prog (TpuEff nD τ sig (Elt F) Λ₀ .tc) Unit := do
  let v34 : Vec F S128x2048 .fp8e4m3 ← Prog.lift (.load arg1 (Rect.unit (s := S1536x2048) o1 S128x2048.size h1).toLoadRect (View.loadsAt_vmem h_S128x2048))
  let v36 : Vec F S1x2048x216 .bf16 ← Prog.lift (.load arg2 (Rect.unit (s := S9x2048x216) o2 S1x2048x216.size h2).toLoadRect (View.loadsAt_vmem h_S1x2048x216))
  let v42 : Vec F S1x128x128 .f32 ← Prog.lift (.load arg6 (Rect.unit (s := S2x1568x128) o3 S1x128x128.size h3).toLoadRect (View.loadsAt_vmem h_S1x128x128))
  Prog.lift (.store arg6 (Rect.unit (s := S2x1568x128) o3 S1x128x128.size h3) (zLo v34 v36) Finset.univ (View.stores_vmem_bits_univ h_S1x128x128 rfl) (.inl rfl))
  let v48 : Vec F S1x128x88 .f32 ← Prog.lift (.load arg6 (Rect.unit (s := S2x1568x128) o4 S1x128x88.size h4).toLoadRect (View.loadsAt_vmem h_S1x128x88))
  Prog.lift (.store arg6 (Rect.unit (s := S2x1568x128) o4 S1x128x88.size h4) (zHi v34 v36) Finset.univ (View.stores_vmem_bits_univ h_S1x128x88 rfl) (.inl rfl))
  pure ⟨⟩

/-- One block of the first tap's sums. -/
def setB (arg6 : Memref sig .tc .vmem S2x1568x128 .f32) (arg7 : Memref sig .tc .vmem S2x1536x128 .f32) (dx : BitVec 32) (b : ℕ)
    (o1 : Fin 3 → ℕ) (h1 : ∀ a, o1 a + S1x128x128.size a ≤ S2x1568x128.size a) (o2 : Fin 3 → ℕ) (h2 : ∀ a, o2 a + S1x128x128.size a ≤ S2x1536x128.size a)
    (o3 : Fin 3 → ℕ) (h3 : ∀ a, o3 a + S1x128x128.size a ≤ S2x1568x128.size a) (o4 : Fin 3 → ℕ) (h4 : ∀ a, o4 a + S1x128x128.size a ≤ S2x1536x128.size a) :
    Prog (TpuEff nD τ sig (Elt F) Λ₀ .tc) Unit := do
  let v45 : Vec F S1x128x128 .f32 ← Prog.lift (.load arg6 (Rect.unit (s := S2x1568x128) o1 S1x128x128.size h1).toLoadRect (View.loadsAt_vmem h_S1x128x128))
  let v51 : Vec F S1x128x128 .f32 ← Prog.lift (.load arg7 (Rect.unit (s := S2x1536x128) o2 S1x128x128.size h2).toLoadRect (View.loadsAt_vmem h_S1x128x128))
  Prog.lift (.store arg7 (Rect.unit (s := S2x1536x128) o2 S1x128x128.size h2) (setP dx b v45) Finset.univ (View.stores_vmem_bits_univ h_S1x128x128 rfl) (.inl rfl))
  let v56 : Vec F S1x128x128 .f32 ← Prog.lift (.load arg6 (Rect.unit (s := S2x1568x128) o3 S1x128x128.size h3).toLoadRect (View.loadsAt_vmem h_S1x128x128))
  let v62 : Vec F S1x128x128 .f32 ← Prog.lift (.load arg7 (Rect.unit (s := S2x1536x128) o4 S1x128x128.size h4).toLoadRect (View.loadsAt_vmem h_S1x128x128))
  Prog.lift (.store arg7 (Rect.unit (s := S2x1536x128) o4 S1x128x128.size h4) (setP dx b v56) Finset.univ (View.stores_vmem_bits_univ h_S1x128x128 rfl) (.inl rfl))
  pure ⟨⟩

/-- One block of a later tap's sums. -/
def addB (arg6 : Memref sig .tc .vmem S2x1568x128 .f32) (arg7 : Memref sig .tc .vmem S2x1536x128 .f32) (dx : BitVec 32) (b : ℕ)
    (o1 : Fin 3 → ℕ) (h1 : ∀ a, o1 a + S1x128x128.size a ≤ S2x1568x128.size a) (o2 : Fin 3 → ℕ) (h2 : ∀ a, o2 a + S1x128x128.size a ≤ S2x1536x128.size a)
    (o3 : Fin 3 → ℕ) (h3 : ∀ a, o3 a + S1x128x128.size a ≤ S2x1568x128.size a) (o4 : Fin 3 → ℕ) (h4 : ∀ a, o4 a + S1x128x128.size a ≤ S2x1536x128.size a) :
    Prog (TpuEff nD τ sig (Elt F) Λ₀ .tc) Unit := do
  let v45 : Vec F S1x128x128 .f32 ← Prog.lift (.load arg6 (Rect.unit (s := S2x1568x128) o1 S1x128x128.size h1).toLoadRect (View.loadsAt_vmem h_S1x128x128))
  let v51 : Vec F S1x128x128 .f32 ← Prog.lift (.load arg7 (Rect.unit (s := S2x1536x128) o2 S1x128x128.size h2).toLoadRect (View.loadsAt_vmem h_S1x128x128))
  let v56 : Vec F S1x128x128 .f32 ← Prog.lift (.load arg7 (Rect.unit (s := S2x1536x128) o2 S1x128x128.size h2).toLoadRect (View.loadsAt_vmem h_S1x128x128))
  Prog.lift (.store arg7 (Rect.unit (s := S2x1536x128) o2 S1x128x128.size h2) (addP dx b v45 v51) Finset.univ (View.stores_vmem_bits_univ h_S1x128x128 rfl) (.inl rfl))
  let v61 : Vec F S1x128x128 .f32 ← Prog.lift (.load arg6 (Rect.unit (s := S2x1568x128) o3 S1x128x128.size h3).toLoadRect (View.loadsAt_vmem h_S1x128x128))
  let v67 : Vec F S1x128x128 .f32 ← Prog.lift (.load arg7 (Rect.unit (s := S2x1536x128) o4 S1x128x128.size h4).toLoadRect (View.loadsAt_vmem h_S1x128x128))
  let v72 : Vec F S1x128x128 .f32 ← Prog.lift (.load arg7 (Rect.unit (s := S2x1536x128) o4 S1x128x128.size h4).toLoadRect (View.loadsAt_vmem h_S1x128x128))
  Prog.lift (.store arg7 (Rect.unit (s := S2x1536x128) o4 S1x128x128.size h4) (addP dx b v61 v67) Finset.univ (View.stores_vmem_bits_univ h_S1x128x128 rfl) (.inl rfl))
  pure ⟨⟩

/-- A product's lower half of channels. -/
theorem zLo_apply (v34 : Vec F S128x2048 .fp8e4m3) (v36 : Vec F S1x2048x216 .bf16) (i : Fin 128) (l : Fin 128) :
    zLo v34 v36 (ix3 0 i l) = k0_pay199 v34 v36 (ix2 i ⟨l.val, by have := l.isLt; omega⟩) := by
  unfold zLo
  refine (shapeCast_apply _ shapeCasts_S128x128_S1x128x128 _ (ix2 i l) ?_).trans ?_
  · rw [Shape.rowMajor_val_three, Shape.rowMajor_val_two]; show i.val * 128 + l.val = (0 * 128 + i.val) * 128 + l.val; omega
  · refine congrArg (k0_pay199 v34 v36) (funext fun a => Fin.ext ?_)
    match a with
    | ⟨0, _⟩ => show 0 + i.val = i.val; omega
    | ⟨1, _⟩ => show 0 + l.val = l.val; omega

/-- A product's upper channels. -/
theorem zHi_apply (v34 : Vec F S128x2048 .fp8e4m3) (v36 : Vec F S1x2048x216 .bf16) (i : Fin 128) (l : Fin 88) :
    zHi v34 v36 (ix3 0 i l) = k0_pay199 v34 v36 (ix2 i ⟨128 + l.val, by have := l.isLt; omega⟩) := by
  unfold zHi
  refine (shapeCast_apply _ shapeCasts_S128x88_S1x128x88 _ (ix2 i l) ?_).trans ?_
  · rw [Shape.rowMajor_val_three, Shape.rowMajor_val_two]; show i.val * 88 + l.val = (0 * 128 + i.val) * 88 + l.val; omega
  · refine congrArg (k0_pay199 v34 v36) (funext fun a => Fin.ext ?_)
    match a with
    | ⟨0, _⟩ => show 0 + i.val = i.val; omega
    | ⟨1, _⟩ => show 128 + l.val = 128 + l.val; rfl

/-- A loaded half without its leading axis. -/
theorem in3 (a b : ℕ) (v : Vec F S1x128x128 .f32) (i l) : shapeCast S128x128 v shapeCasts_S1x128x128_S128x128 (ix2 i l) = v (ix3 0 i l) := by
  refine shapeCast_apply _ shapeCasts_S1x128x128_S128x128 _ (ix3 0 i l) ?_
  rw [Shape.rowMajor_val_three, Shape.rowMajor_val_two]; show (0 * 128 + i.val) * 128 + l.val = i.val * 128 + l.val; omega

/-- A half with its leading axis, for its store. -/
theorem out3 (v : Vec F S128x128 .f32) (i l) : shapeCast S1x128x128 v shapeCasts_S128x128_S1x128x128 (ix3 0 i l) = v (ix2 i l) := by
  refine shapeCast_apply _ shapeCasts_S128x128_S1x128x128 _ (ix2 i l) ?_
  rw [Shape.rowMajor_val_three, Shape.rowMajor_val_two]; show i.val * 128 + l.val = (0 * 128 + i.val) * 128 + l.val; omega

/-- The first tap's stored value. -/
theorem setP_apply (dx : BitVec 32) (b : ℕ) (v : Vec F S1x128x128 .f32) (i l) :
    setP dx b v (ix3 0 i l) = Scalar.select (colOk dx b (ix2 i 0)) (v (ix3 0 i l)) zeroF := by
  unfold setP
  rw [out3]
  unfold selP
  show Scalar.select (colOk dx b (ix2 i l)) _ zeroF = _
  rw [in3 0 0]; rfl

/-- A later tap's stored value. -/
theorem addP_apply (dx : BitVec 32) (b : ℕ) (v w : Vec F S1x128x128 .f32) (i l) :
    addP dx b v w (ix3 0 i l) = FloatOps.addf (Scalar.select (colOk dx b (ix2 i 0)) (v (ix3 0 i l)) zeroF) (w (ix3 0 i l)) := by
  unfold addP
  rw [out3]
  show FloatOps.addf (selP dx b v (ix2 i l)) (shapeCast S128x128 w shapeCasts_S1x128x128_S128x128 (ix2 i l)) = _
  rw [in3 0 0]
  congr 1
  unfold selP
  show Scalar.select (colOk dx b (ix2 i l)) _ zeroF = _
  rw [in3 0 0]; rfl

/-- A block of x as loaded. -/
theorem load_xb (arg1 : Memref sig .tc .vmem S1536x2048 .fp8e4m3) (X : Vec F S1536x2048 .fp8e4m3) (b : ℕ) (hb : b < 12) (inb) :
    View.readAt (Elt F) arg1.view (Rect.unit (s := S1536x2048) ![128 * b, 0] S128x2048.size inb).toLoadRect (arg1.view.rep X) = xBlk X ⟨b, hb⟩ := by
  funext y
  refine (congrFun (View.read_rep (Val := Elt F) arg1.view X) _).trans ?_
  refine congrArg X (funext fun a => Fin.ext ?_)
  match a with
  | ⟨0, _⟩ => show 128 * b + 1 * (y 0).val = 128 * b + (y 0).val; omega
  | ⟨1, _⟩ => show 0 + 1 * (y 1).val = (y 1).val; omega

/-- A tap's weights as loaded. -/
theorem load_wt (arg2 : Memref sig .tc .vmem S9x2048x216 .bf16) (W : Vec F S9x2048x216 .bf16) (t : Fin 9) (inb) :
    View.readAt (Elt F) arg2.view (Rect.unit (s := S9x2048x216) ![t.val, 0, 0] S1x2048x216.size inb).toLoadRect (arg2.view.rep W) = wTap W t := by
  funext y
  refine (congrFun (View.read_rep (Val := Elt F) arg2.view W) _).trans ?_
  refine congrArg W (funext fun a => Fin.ext ?_)
  have h0 : (y 0).val < 1 := (y 0).isLt
  match a with
  | ⟨0, _⟩ => show t.val + 1 * (y 0).val = t.val; omega
  | ⟨1, _⟩ => show 0 + 1 * (y 1).val = (y 1).val; omega
  | ⟨2, _⟩ => show 0 + 1 * (y 2).val = (y 2).val; omega

/-- Rows read out of a three-axis array. -/
theorem load_rows {n : ℕ} {s : Shape} (hs : s = ⟨3, ![2, n, 128]⟩) (arg : Memref sig .tc .vmem ⟨3, ![2, n, 128]⟩ .f32) (Z : (⟨3, ![2, n, 128]⟩ : Shape).Idx → Elt F .f32) (h : Fin 2) (r : ℕ) (hr : r + 128 ≤ n) (inb)
    (i : Fin 128) (l : Fin 128) :
    View.readAt (Elt F) arg.view (Rect.unit (s := ⟨3, ![2, n, 128]⟩) ![h.val, r, 0] S1x128x128.size inb).toLoadRect (arg.view.rep Z) (ix3 0 i l)
      = Z (ix3 h ⟨r + i.val, by have := i.isLt; omega⟩ l) := by
  refine (congrFun (View.read_rep (Val := Elt F) arg.view Z) _).trans ?_
  refine congrArg Z (funext fun a => Fin.ext ?_)
  match a with
  | ⟨0, _⟩ => show h.val + 1 * 0 = h.val; omega
  | ⟨1, _⟩ => show r + 1 * i.val = r + i.val; omega
  | ⟨2, _⟩ => show 0 + 1 * l.val = l.val; omega

/-- A store to a half, read back inside. -/
theorem wr_in {n m : ℕ} (arg : Memref sig .tc .vmem ⟨3, ![2, n, 128]⟩ .f32) (f) (o : ℕ) (r : ℕ) (inb) (P : Vec F ⟨3, ![1, 128, m]⟩ .f32) (L)
    (h : Fin 2) (q : Fin n) (l : Fin 128) (i : Fin 128) (j : Fin m) (e0 : h.val = o) (e1 : q.val = r + i.val) (e2 : l.val = j.val) :
    arg.view.read (Elt F) (arg.view.writes (Elt F) f (⟨Rect.unit (s := ⟨3, ![2, n, 128]⟩) ![o, r, 0] (⟨3, ![1, 128, m]⟩ : Shape).size inb, P⟩ :: L)) (ix3 h q l) = P (ix3 0 i j) :=
  View.read_writes_cons_unit_of_mem (Val := Elt F) arg.view _ inb P L (ix3 h q l) (ix3 0 i j) rfl (fun a => by
    match a with
    | ⟨0, _⟩ => show h.val = o + 0; omega
    | ⟨1, _⟩ => show q.val = r + i.val; omega
    | ⟨2, _⟩ => show l.val = 0 + j.val; omega)

/-- A store to the other half is not seen. -/
theorem wr_out0 {n m : ℕ} (arg : Memref sig .tc .vmem ⟨3, ![2, n, 128]⟩ .f32) (f) (o : ℕ) (r : ℕ) (inb) (P : Vec F ⟨3, ![1, 128, m]⟩ .f32) (L)
    (h : Fin 2) (q : Fin n) (l : Fin 128) (e : h.val ≠ o) :
    arg.view.read (Elt F) (arg.view.writes (Elt F) f (⟨Rect.unit (s := ⟨3, ![2, n, 128]⟩) ![o, r, 0] (⟨3, ![1, 128, m]⟩ : Shape).size inb, P⟩ :: L)) (ix3 h q l)
      = arg.view.read (Elt F) (arg.view.writes (Elt F) f L) (ix3 h q l) :=
  View.read_writes_cons_unit_of_not_mem (Val := Elt F) arg.view _ inb P L (ix3 h q l) rfl (0 : Fin 3) (by show h.val < o ∨ o + 1 ≤ h.val; omega)

/-- A store to other rows is not seen. -/
theorem wr_out1 {n m : ℕ} (arg : Memref sig .tc .vmem ⟨3, ![2, n, 128]⟩ .f32) (f) (o : ℕ) (r : ℕ) (inb) (P : Vec F ⟨3, ![1, 128, m]⟩ .f32) (L)
    (h : Fin 2) (q : Fin n) (l : Fin 128) (e : q.val < r ∨ r + 128 ≤ q.val) :
    arg.view.read (Elt F) (arg.view.writes (Elt F) f (⟨Rect.unit (s := ⟨3, ![2, n, 128]⟩) ![o, r, 0] (⟨3, ![1, 128, m]⟩ : Shape).size inb, P⟩ :: L)) (ix3 h q l)
      = arg.view.read (Elt F) (arg.view.writes (Elt F) f L) (ix3 h q l) :=
  View.read_writes_cons_unit_of_not_mem (Val := Elt F) arg.view _ inb P L (ix3 h q l) rfl (1 : Fin 3) (by show q.val < r ∨ r + 128 ≤ q.val; exact e)

/-- Nothing stored: the contents are the old ones. -/
theorem wr_nil {n : ℕ} (arg : Memref sig .tc .vmem ⟨3, ![2, n, 128]⟩ .f32) (Z : (⟨3, ![2, n, 128]⟩ : Shape).Idx → Elt F .f32) (y) :
    arg.view.read (Elt F) (arg.view.writes (Elt F) (arg.view.rep Z) []) y = Z y := congrFun (View.read_rep (Val := Elt F) arg.view Z) y

/-- A tap's sum is the one before it with the tap's part added. -/
theorem accV_succ (X : Vec F S1536x2048 .fp8e4m3) (W : Vec F S9x2048x216 .bf16) (p : Fin 1536) (ch : Fin 216) (t : Fin 9) (ht : t.val ≠ 0) :
    accV X W p ch (t.val + 1) = FloatOps.addf (selV X W t p ch) (accV X W p ch t.val) := by
  obtain ⟨t, h⟩ := t
  match t with
  | 0 => exact absurd rfl ht
  | k + 1 =>
    show FloatOps.addf (selV X W (Fin.ofNat 9 (k + 1)) p ch) _ = _
    rw [show Fin.ofNat 9 (k + 1) = (⟨k + 1, h⟩ : Fin 9) from Fin.ext (Nat.mod_eq_of_lt h)]

/-- The body's selection at a pixel of block `b`. -/
theorem sel_at (X : Vec F S1536x2048 .fp8e4m3) (W : Vec F S9x2048x216 .bf16) (t : Fin 9) (b : ℕ) (hb : b < 12) (i : Fin 128) (ch : Fin 216) (h : 128 * b + i.val < 1536) (q : ℕ) (hq : q = 128 * b + i.val + rowOf t) :
    Scalar.select (colOk (dxW t) b (ix2 i 0)) (zval X W t q ch) zeroF = selV X W t ⟨128 * b + i.val, h⟩ ch := by
  subst hq
  have hi := i.isLt
  have e1 : (128 * b + i.val) / 128 = b := by omega
  have e2 : (⟨(128 * b + i.val) % 128, Nat.mod_lt _ (by decide)⟩ : Fin 128) = i := Fin.ext (show (128 * b + i.val) % 128 = i.val by omega)
  unfold selV
  dsimp only
  rw [e1, e2]

/-- One block of a tap's product keeps the products right. -/
theorem mm_step (arg6 : Memref sig .tc .vmem S2x1568x128 .f32) (X : Vec F S1536x2048 .fp8e4m3) (W : Vec F S9x2048x216 .bf16) (t : Fin 9) (b : ℕ) (hb : b < 12) (Z) (hZ : ZOk X W t b Z) (i3) (i4) (P3 P4)
    (e3 : P3 = zLo (xBlk X ⟨b, hb⟩) (wTap W t)) (e4 : P4 = zHi (xBlk X ⟨b, hb⟩) (wTap W t)) :
    ZOk X W t (b + 1) (arg6.view.read (Elt F) (arg6.view.writes (Elt F) (arg6.view.rep Z)
      [⟨Rect.unit (s := S2x1568x128) ![1, 16 + 128 * b, 0] S1x128x88.size i4, P4⟩, ⟨Rect.unit (s := S2x1568x128) ![0, 16 + 128 * b, 0] S1x128x128.size i3, P3⟩])) := by
  constructor
  · intro h q l hq
    have a4 := wr_out1 arg6 (arg6.view.rep Z) 1 (16 + 128 * b) i4 P4 [⟨Rect.unit (s := S2x1568x128) ![0, 16 + 128 * b, 0] S1x128x128.size i3, P3⟩] h q l (by omega)
    have a3 := wr_out1 arg6 (arg6.view.rep Z) 0 (16 + 128 * b) i3 P3 [] h q l (by omega)
    exact a4.trans (a3.trans ((wr_nil arg6 Z _).trans (hZ.1 h q l hq)))
  · intro p ch hp
    have hp1 := p.isLt
    have hc := ch.isLt
    by_cases hl : p.val < 128 * b
    · have a4 := wr_out1 arg6 (arg6.view.rep Z) 1 (16 + 128 * b) i4 P4 [⟨Rect.unit (s := S2x1568x128) ![0, 16 + 128 * b, 0] S1x128x128.size i3, P3⟩] (hC ch) ⟨p.val + 16, by omega⟩ (lC ch) (by show p.val + 16 < _ ∨ _ ≤ p.val + 16; omega)
      have a3 := wr_out1 arg6 (arg6.view.rep Z) 0 (16 + 128 * b) i3 P3 [] (hC ch) ⟨p.val + 16, by omega⟩ (lC ch) (by show p.val + 16 < _ ∨ _ ≤ p.val + 16; omega)
      exact a4.trans (a3.trans ((wr_nil arg6 Z _).trans (hZ.2 p ch hl)))
    · have hd : p.val / 128 = b := by omega
      have hx : prod X W t p ch = k0_pay199 (xBlk X ⟨b, hb⟩) (wTap W t) (ix2 ⟨p.val % 128, Nat.mod_lt _ (by decide)⟩ ch) := by
        unfold prod
        rw [show (⟨p.val / 128, by omega⟩ : Fin 12) = ⟨b, hb⟩ from Fin.ext hd]
      rw [hx]
      by_cases hh : ch.val < 128
      · have a4 := wr_out0 arg6 (arg6.view.rep Z) 1 (16 + 128 * b) i4 P4 [⟨Rect.unit (s := S2x1568x128) ![0, 16 + 128 * b, 0] S1x128x128.size i3, P3⟩] (hC ch) ⟨p.val + 16, by omega⟩ (lC ch) (by show ch.val / 128 ≠ 1; omega)
        have a3 := wr_in arg6 (arg6.view.rep Z) 0 (16 + 128 * b) i3 P3 [] (hC ch) ⟨p.val + 16, by omega⟩ (lC ch) ⟨p.val % 128, Nat.mod_lt _ (by decide)⟩ ⟨ch.val, hh⟩
          (by show ch.val / 128 = 0; omega) (by show p.val + 16 = 16 + 128 * b + p.val % 128; omega) (by show ch.val % 128 = ch.val; omega)
        refine a4.trans (a3.trans ?_)
        rw [e3, zLo_apply]
      · have a4 := wr_in (m := 88) arg6 (arg6.view.rep Z) 1 (16 + 128 * b) i4 P4 [⟨Rect.unit (s := S2x1568x128) ![0, 16 + 128 * b, 0] S1x128x128.size i3, P3⟩] (hC ch) ⟨p.val + 16, by omega⟩ (lC ch) ⟨p.val % 128, Nat.mod_lt _ (by decide)⟩ ⟨ch.val - 128, by omega⟩
          (by show ch.val / 128 = 1; omega) (by show p.val + 16 = 16 + 128 * b + p.val % 128; omega) (by show ch.val % 128 = ch.val - 128; omega)
        refine a4.trans ?_
        rw [e4, zHi_apply]
        exact congrArg (fun r => k0_pay199 (xBlk X ⟨b, hb⟩) (wTap W t) (ix2 _ r)) (Fin.ext (show 128 + (ch.val - 128) = ch.val by omega))

/-- One block of the accumulation keeps the sums right. -/
theorem set_step (arg7 : Memref sig .tc .vmem S2x1536x128 .f32) (X : Vec F S1536x2048 .fp8e4m3) (W : Vec F S9x2048x216 .bf16) (t : Fin 9) (b : ℕ) (hb : b < 12) (O) (hO : OOk X W t b O) (i3 i4) (P3 P4)
    (hP : ∀ (i : Fin 128) (ch : Fin 216) (h : 128 * b + i.val < 1536), (if ch.val < 128 then P3 else P4) (ix3 0 i (lC ch)) = accV X W ⟨128 * b + i.val, h⟩ ch (t.val + 1)) :
    OOk X W t (b + 1) (arg7.view.read (Elt F) (arg7.view.writes (Elt F) (arg7.view.rep O)
      [⟨Rect.unit (s := S2x1536x128) ![1, 128 * b, 0] S1x128x128.size i4, P4⟩, ⟨Rect.unit (s := S2x1536x128) ![0, 128 * b, 0] S1x128x128.size i3, P3⟩])) := by
  intro p ch
  have hp1 := p.isLt
  have hc := ch.isLt
  have keep : (p.val < 128 * b ∨ 128 * b + 128 ≤ p.val) → arg7.view.read (Elt F) (arg7.view.writes (Elt F) (arg7.view.rep O)
      [⟨Rect.unit (s := S2x1536x128) ![1, 128 * b, 0] S1x128x128.size i4, P4⟩, ⟨Rect.unit (s := S2x1536x128) ![0, 128 * b, 0] S1x128x128.size i3, P3⟩]) (ix3 (hC ch) p (lC ch)) = O (ix3 (hC ch) p (lC ch)) := fun h => by
    have a4 := wr_out1 arg7 (arg7.view.rep O) 1 (128 * b) i4 P4 [⟨Rect.unit (s := S2x1536x128) ![0, 128 * b, 0] S1x128x128.size i3, P3⟩] (hC ch) p (lC ch) h
    have a3 := wr_out1 arg7 (arg7.view.rep O) 0 (128 * b) i3 P3 [] (hC ch) p (lC ch) h
    exact a4.trans (a3.trans (wr_nil arg7 O _))
  refine ⟨fun hp => ?_, fun hp ht => ?_⟩
  · by_cases hl : p.val < 128 * b
    · exact (keep (Or.inl hl)).trans ((hO p ch).1 hl)
    · have q := hP ⟨p.val - 128 * b, by omega⟩ ch (by show 128 * b + (p.val - 128 * b) < _; omega)
      rw [show (⟨128 * b + (p.val - 128 * b), by omega⟩ : Fin 1536) = p from Fin.ext (show 128 * b + (p.val - 128 * b) = p.val by omega)] at q
      by_cases hh : ch.val < 128
      · rw [if_pos hh] at q
        have a4 := wr_out0 arg7 (arg7.view.rep O) 1 (128 * b) i4 P4 [⟨Rect.unit (s := S2x1536x128) ![0, 128 * b, 0] S1x128x128.size i3, P3⟩] (hC ch) p (lC ch) (by show ch.val / 128 ≠ 1; omega)
        have a3 := wr_in arg7 (arg7.view.rep O) 0 (128 * b) i3 P3 [] (hC ch) p (lC ch) ⟨p.val - 128 * b, by omega⟩ (lC ch)
          (by show ch.val / 128 = 0; omega) (by show p.val = 128 * b + (p.val - 128 * b); omega) rfl
        exact a4.trans (a3.trans q)
      · rw [if_neg hh] at q
        have a4 := wr_in arg7 (arg7.view.rep O) 1 (128 * b) i4 P4 [⟨Rect.unit (s := S2x1536x128) ![0, 128 * b, 0] S1x128x128.size i3, P3⟩] (hC ch) p (lC ch) ⟨p.val - 128 * b, by omega⟩ (lC ch)
          (by show ch.val / 128 = 1; omega) (by show p.val = 128 * b + (p.val - 128 * b); omega) rfl
        exact a4.trans q
  · exact (keep (Or.inr (by omega))).trans ((hO p ch).2 (by omega) ht)

section
variable (c : Dev nD)
  (arg1 : Memref sig .tc .vmem S1536x2048 .fp8e4m3) (arg2 : Memref sig .tc .vmem S9x2048x216 .bf16)
  (arg6 : Memref sig .tc .vmem S2x1568x128 .f32) (arg7 : Memref sig .tc .vmem S2x1536x128 .f32)

set_option maxHeartbeats 4000000 in
/-- A block's product goes to its rows of the padded products. -/
theorem mmB_run (X : Vec F S1536x2048 .fp8e4m3) (W : Vec F S9x2048x216 .bf16) (t : Fin 9) (b : ℕ) (hb : b < 12) {o1 h1 o2 h2 o3 h3 o4 h4}
    (e1 : o1 = ![128 * b, 0]) (e2 : o2 = ![t.val, 0, 0]) (e3 : o3 = ![0, 16 + 128 * b, 0]) (e4 : o4 = ![1, 16 + 128 * b, 0]) :
    iprop(∃ Z, ⌜ZOk X W t b Z⌝ ∗ at_ c arg1 X ∗ at_ c arg2 W ∗ at_ (F := F) c arg6 Z)
      ⊢ wp frame (wpE (defs₀ (F := F)) 𝒱₀ (c : Thread nD τ) none) Set.univ (mmB arg1 arg2 arg6 o1 h1 o2 h2 o3 h3 o4 h4)
        fun _ => iprop(∃ Z, ⌜ZOk X W t (b + 1) Z⌝ ∗ at_ c arg1 X ∗ at_ c arg2 W ∗ at_ (F := F) c arg6 Z) := by
  subst e1 e2 e3 e4
  unfold mmB
  iintro ⟨%Z, %hZ, H1, H2, H6⟩
  sl_exec
  sl_step
  iexists _
  isplitr
  rotate_left
  · isplitl [H1]; · iexact H1
    isplitl [H2]; · iexact H2
    iapply (pointsTo_rep_of_read (c : Thread nD τ) arg6 _ fullShare _ rfl) $$ H6
  · ipureintro
    exact mm_step arg6 X W t b hb Z hZ _ _ _ _ (congrArg₂ zLo (load_xb arg1 X b hb _) (load_wt arg2 W t _)) (congrArg₂ zHi (load_xb arg1 X b hb _) (load_wt arg2 W t _))

set_option maxHeartbeats 4000000 in
/-- The first tap's block becomes the sums. -/
theorem setB_run (X : Vec F S1536x2048 .fp8e4m3) (W : Vec F S9x2048x216 .bf16) (b : ℕ) (hb : b < 12) {o1 h1 o2 h2 o3 h3 o4 h4}
    (e1 : o1 = ![0, 128 * b + rowOf 0, 0]) (e2 : o2 = ![0, 128 * b, 0]) (e3 : o3 = ![1, 128 * b + rowOf 0, 0]) (e4 : o4 = ![1, 128 * b, 0]) :
    iprop(∃ Z O, ⌜ZOk X W 0 12 Z⌝ ∗ ⌜OOk X W 0 b O⌝ ∗ at_ (F := F) c arg6 Z ∗ at_ (F := F) c arg7 O)
      ⊢ wp frame (wpE (defs₀ (F := F)) 𝒱₀ (c : Thread nD τ) none) Set.univ (setB arg6 arg7 (dxW 0) b o1 h1 o2 h2 o3 h3 o4 h4)
        fun _ => iprop(∃ Z O, ⌜ZOk X W 0 12 Z⌝ ∗ ⌜OOk X W 0 (b + 1) O⌝ ∗ at_ (F := F) c arg6 Z ∗ at_ (F := F) c arg7 O) := by
  subst e1 e2 e3 e4
  unfold setB
  iintro ⟨%Z, %O, %hZ, %hO, H6, H7⟩
  sl_exec
  sl_step
  iexists Z
  iexists _
  isplitr; · ipureintro; exact hZ
  isplitr
  rotate_left
  · isplitl [H6]; · iexact H6
    iapply (pointsTo_rep_of_read (c : Thread nD τ) arg7 _ fullShare _ rfl) $$ H7
  · ipureintro
    refine set_step arg7 X W 0 b hb O hO _ _ _ _ fun i ch h => ?_
    have hi := i.isLt
    have hc := ch.isLt
    have hz : ∀ (o : Fin 2) (ho : o = hC ch) (v : F .f32) (inb), v = View.readAt (Elt F) arg6.view (Rect.unit (s := S2x1568x128) ![o.val, 128 * b + rowOf 0, 0] S1x128x128.size inb).toLoadRect (arg6.view.rep Z) (ix3 0 i (lC ch)) →
        Scalar.select (colOk (dxW 0) b (ix2 i 0)) v zeroF = accV X W ⟨128 * b + i.val, h⟩ ch 1 := fun o ho v inb e => by
      subst ho
      rw [e, load_rows rfl arg6 Z (hC ch) (128 * b + rowOf 0) (by show 128 * b + 3 + 128 ≤ 1568; omega), zOk_val hZ]
      exact sel_at X W 0 b hb i ch h _ (by show 128 * b + rowOf 0 + i.val = 128 * b + i.val + rowOf 0; omega)
    split
    · rename_i hh
      exact (setP_apply _ _ _ _ _).trans (hz 0 (Fin.ext (show 0 = ch.val / 128 by omega)) _ _ rfl)
    · rename_i hh
      exact (setP_apply _ _ _ _ _).trans (hz 1 (Fin.ext (show 1 = ch.val / 128 by omega)) _ _ rfl)

set_option maxHeartbeats 4000000 in
/-- A later tap's block is added to the sums. -/
theorem addB_run (X : Vec F S1536x2048 .fp8e4m3) (W : Vec F S9x2048x216 .bf16) (t : Fin 9) (ht : t.val ≠ 0) (dx : BitVec 32) (hdx : dx = dxW t) (b : ℕ) (hb : b < 12) {o1 h1 o2 h2 o3 h3 o4 h4}
    (e1 : o1 = ![0, 128 * b + rowOf t, 0]) (e2 : o2 = ![0, 128 * b, 0]) (e3 : o3 = ![1, 128 * b + rowOf t, 0]) (e4 : o4 = ![1, 128 * b, 0]) :
    iprop(∃ Z O, ⌜ZOk X W t 12 Z⌝ ∗ ⌜OOk X W t b O⌝ ∗ at_ (F := F) c arg6 Z ∗ at_ (F := F) c arg7 O)
      ⊢ wp frame (wpE (defs₀ (F := F)) 𝒱₀ (c : Thread nD τ) none) Set.univ (addB arg6 arg7 dx b o1 h1 o2 h2 o3 h3 o4 h4)
        fun _ => iprop(∃ Z O, ⌜ZOk X W t 12 Z⌝ ∗ ⌜OOk X W t (b + 1) O⌝ ∗ at_ (F := F) c arg6 Z ∗ at_ (F := F) c arg7 O) := by
  subst e1 e2 e3 e4 hdx
  unfold addB
  iintro ⟨%Z, %O, %hZ, %hO, H6, H7⟩
  sl_exec
  sl_step
  iexists Z
  iexists _
  isplitr; · ipureintro; exact hZ
  isplitr
  rotate_left
  · isplitl [H6]; · iexact H6
    iapply (pointsTo_rep_of_read (c : Thread nD τ) arg7 _ fullShare _ rfl) $$ H7
  · ipureintro
    refine set_step arg7 X W t b hb O hO _ _ _ _ fun i ch h => ?_
    have hi := i.isLt
    have hc := ch.isLt
    have htl := t.isLt
    have hr : rowOf t ≤ 29 := by unfold rowOf; omega
    have hz : ∀ (o : Fin 2) (ho : o = hC ch) (v w : F .f32) (inb inb'), v = View.readAt (Elt F) arg6.view (Rect.unit (s := S2x1568x128) ![o.val, 128 * b + rowOf t, 0] S1x128x128.size inb).toLoadRect (arg6.view.rep Z) (ix3 0 i (lC ch)) →
        w = View.readAt (Elt F) arg7.view (Rect.unit (s := S2x1536x128) ![o.val, 128 * b, 0] S1x128x128.size inb').toLoadRect (arg7.view.rep O) (ix3 0 i (lC ch)) →
        FloatOps.addf (Scalar.select (colOk (dxW t) b (ix2 i 0)) v zeroF) w = accV X W ⟨128 * b + i.val, h⟩ ch (t.val + 1) := fun o ho v w inb inb' e e' => by
      subst ho
      rw [e, e', load_rows rfl arg6 Z (hC ch) (128 * b + rowOf t) (by omega), zOk_val hZ, load_rows rfl arg7 O (hC ch) (128 * b) (by omega)]
      rw [accV_succ X W _ ch t ht]
      exact congrArg₂ FloatOps.addf (sel_at X W t b hb i ch h _ (by show 128 * b + rowOf t + i.val = 128 * b + i.val + rowOf t; omega)) ((hO _ ch).2 (by show 128 * b ≤ 128 * b + i.val; omega) ht)
    split
    · rename_i hh
      exact (addP_apply _ _ _ _ _ _).trans (hz 0 (Fin.ext (show 0 = ch.val / 128 by omega)) _ _ _ _ rfl rfl)
    · rename_i hh
      delta addB_run.sl.v67
      exact (addP_apply _ _ _ _ _ _).trans (hz 1 (Fin.ext (show 1 = ch.val / 128 by omega)) _ _ _ _ rfl rfl)
end

end Cert.Proof.OffsetsIdeal

end
-- ==== Proof.OffIPrep.lean ====
/- The offset convolution: the positions and weights of one block. -/
module

public import proofs.«01_k».proof.Proof.OffITaps
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.OffsetsIdeal

open Cert.OffsetsIdeal Cert.OffsetsIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The positions and weights of one block -/

/-- A block's sums scaled and shifted, channels by pixels. -/
def omtP (v27 : Elt F .f32) (v34 : Vec F S1x128x128 .f32) (v38 : Vec F S1x1x128 .f32) : FVec F S128x128 .f32 := k0_pay29 v27 v34 v38

/-- The pixel numbers of block `i`, its rows and its columns. -/
def pixI (i : Fin k0_t19_loop.trips) : IVec S8x128 32 := k0_pay31 (iota .tc S8x128 32 [1] iota_S8x128_d1_w32) 0#32 1#32 i
/-- The pixels' rows in a block. -/
def rowI (i : Fin k0_t19_loop.trips) : IVec S8x128 32 := k0_pay32 (iota .tc S8x128 32 [1] iota_S8x128_d1_w32) 0#32 1#32 i
/-- The pixels' columns in a block. -/
def colI (i : Fin k0_t19_loop.trips) : IVec S8x128 32 := k0_pay33 (iota .tc S8x128 32 [1] iota_S8x128_d1_w32) 0#32 1#32 i

/-- Tap `t`'s row step as the body's word. -/
def dyW (t : Fin 9) : BitVec 32 := BitVec.ofNat 32 (t.val / 3) + 4294967295#32

/-- A coordinate of the sampling position, its floor and its fraction. -/
def posP (v : IVec S8x128 32) (k : BitVec 32) (d : Vec F S8x128 .f32) : FVec F S8x128 .f32 := addf (sitofp .f32 (addi v (broadcast S8x128 k))) d
/-- The floor of a position. -/
def flP (v : IVec S8x128 32) (k : BitVec 32) (d : Vec F S8x128 .f32) : FVec F S8x128 .f32 := floor (posP v k d)
/-- The fraction of a position. -/
def frP (v : IVec S8x128 32) (k : BitVec 32) (d : Vec F S8x128 .f32) : FVec F S8x128 .f32 := subf (posP v k d) (flP v k d)

/-- The lower and the upper neighbour's share along one axis, zero where it lies outside the image. -/
def loP (v : IVec S8x128 32) (k : BitVec 32) (d : Vec F S8x128 .f32) (top : BitVec 32) : FVec F S8x128 .f32 :=
  select (andi (cmpf .oge (flP v k d) (broadcast S8x128 (Scalar.ofBits .f32 0x00000000#32))) (cmpf .ole (flP v k d) (broadcast S8x128 (Scalar.ofBits .f32 top))))
    (subf (broadcast S8x128 (Scalar.ofBits .f32 0x3F800000#32)) (frP v k d)) (broadcast S8x128 (Scalar.ofBits .f32 0x00000000#32))
/-- The share of the upper neighbour, zero outside the image. -/
def hiP (v : IVec S8x128 32) (k : BitVec 32) (d : Vec F S8x128 .f32) (top : BitVec 32) : FVec F S8x128 .f32 :=
  select (andi (cmpf .oge (flP v k d) (broadcast S8x128 (Scalar.ofBits .f32 0xBF800000#32))) (cmpf .ole (flP v k d) (broadcast S8x128 (Scalar.ofBits .f32 top))))
    (frP v k d) (broadcast S8x128 (Scalar.ofBits .f32 0x00000000#32))

/-- The floor clipped to the image and its border, as a word. -/
def clP (v : IVec S8x128 32) (k : BitVec 32) (d : Vec F S8x128 .f32) (top : BitVec 32) : IVec S8x128 32 :=
  fptosi 32 (minimumf (broadcast S8x128 (Scalar.ofBits .f32 top)) (maximumf (broadcast S8x128 (Scalar.ofBits .f32 0xBF800000#32)) (flP v k d)))

/-- The index words of block `i` and tap `t`. -/
def idxG (t : Fin 9) (i : Fin k0_t19_loop.trips) (dy dx : Vec F S8x128 .f32) : IVec S8x128 32 :=
  muli (broadcast S8x128 2#32) (addi (addi (addi (muli (iota .tc S8x128 32 [0] iota_S8x128_d0_w32) (broadcast S8x128 1552#32)) (muli (clP (rowI i) (dyW t) dy 0x42FE0000#32) (broadcast S8x128 12#32)))
    (clP (colI i) (dxW t) dx 0x41300000#32)) (broadcast S8x128 16#32))

/-- The four weights of block `i` and tap `t`. -/
def wtG (t : Fin 9) (i : Fin k0_t19_loop.trips) (q : Fin 4) (dy dx m : Vec F S8x128 .f32) : FVec F S8x128 .f32 :=
  match q with
  | 0 => mulf (mulf (loP (rowI i) (dyW t) dy 0x42FE0000#32) (loP (colI i) (dxW t) dx 0x41300000#32)) (logistic m)
  | 1 => mulf (mulf (loP (rowI i) (dyW t) dy 0x42FE0000#32) (hiP (colI i) (dxW t) dx 0x41200000#32)) (logistic m)
  | 2 => mulf (mulf (hiP (rowI i) (dyW t) dy 0x42FC0000#32) (loP (colI i) (dxW t) dx 0x41300000#32)) (logistic m)
  | 3 => mulf (mulf (hiP (rowI i) (dyW t) dy 0x42FC0000#32) (hiP (colI i) (dxW t) dx 0x41200000#32)) (logistic m)

/-- The loop's counter as a number. -/
def ivI (i : Fin k0_t19_loop.trips) : ℕ := (Scalar.indexCast (Scf.iv 0#32 1#32 i)).toNat
/-- The loop's counter is the trip. -/
theorem ivI_eq : ∀ i : Fin k0_t19_loop.trips, ivI i = i.val := by decide +kernel
/-- The stored index words lie in the result. -/
theorem inb_idx (t : Fin 9) (i : Fin k0_t19_loop.trips) : ∀ a, (![ivI i, t.val, 0, 0] : Fin 4 → ℕ) a + S1x1x8x128.size a ≤ S12x9x8x128.size a := fun a => by
  have h1 := t.isLt
  have h2 : i.val < 12 := Nat.lt_of_lt_of_eq i.isLt (by decide)
  rw [ivI_eq]
  match a with
  | ⟨0, _⟩ => show i.val + 1 ≤ 12; omega
  | ⟨1, _⟩ => show t.val + 1 ≤ 9; omega
  | ⟨2, _⟩ => show 0 + 8 ≤ 8; omega
  | ⟨3, _⟩ => show 0 + 128 ≤ 128; omega
/-- The stored weights lie in the result. -/
theorem inb_wt (t : Fin 9) (q : Fin 4) (i : Fin k0_t19_loop.trips) : ∀ a, (![ivI i, t.val, q.val, 0, 0] : Fin 5 → ℕ) a + S1x1x1x8x128.size a ≤ S12x9x4x8x128.size a := fun a => by
  have h1 := t.isLt
  have h3 := q.isLt
  have h2 : i.val < 12 := Nat.lt_of_lt_of_eq i.isLt (by decide)
  rw [ivI_eq]
  match a with
  | ⟨0, _⟩ => show i.val + 1 ≤ 12; omega
  | ⟨1, _⟩ => show t.val + 1 ≤ 9; omega
  | ⟨2, _⟩ => show q.val + 1 ≤ 4; omega
  | ⟨3, _⟩ => show 0 + 8 ≤ 8; omega
  | ⟨4, _⟩ => show 0 + 128 ≤ 128; omega
/-- The offsets' strided rows lie in the transposed channels. -/
theorem inb_d (r : ℕ) (hr : r < 18) : ∀ a, S8x128.size a = 0 ∨ (![r, 0] : Fin 2 → Nat) a + (![18, 1] : Fin 2 → Nat) a * (S8x128.size a - 1) < S256x128.size a := fun a => .inr (by
  match a with
  | ⟨0, _⟩ => show r + 18 * 7 < 256; omega
  | ⟨1, _⟩ => show 0 + 1 * 127 < 128; omega)
/-- The masks' strided rows lie in the transposed channels. -/
theorem inb_m (t : Fin 9) : ∀ a, S8x128.size a = 0 ∨ (![144 + t.val, 0] : Fin 2 → Nat) a + (![9, 1] : Fin 2 → Nat) a * (S8x128.size a - 1) < S256x128.size a := fun a => .inr (by
  have h1 := t.isLt
  match a with
  | ⟨0, _⟩ => show 144 + t.val + 9 * 7 < 256; omega
  | ⟨1, _⟩ => show 0 + 1 * 127 < 128; omega)

/-- One block's sums, scaled, shifted and transposed. -/
def omB (arg3 : Memref sig .tc .vmem S2x1x128 .f32) (arg7 : Memref sig .tc .vmem S2x1536x128 .f32) (arg8 : Memref sig .tc .vmem S256x128 .f32) (v27 : Elt F .f32) (i : Fin k0_t19_loop.trips) :
    Prog (TpuEff nD τ sig (Elt F) Λ₀ .tc) Unit := do
  let v34 : Vec F S1x128x128 .f32 ← Prog.lift (.load arg7 (Rect.unit (s := S2x1536x128) (k0_off64 i) S1x128x128.size (k0_off64_inb i)).toLoadRect (View.loadsAt_vmem h_S1x128x128))
  let v38 : Vec F S1x1x128 .f32 ← Prog.lift (.load arg3 (Rect.unit (s := S2x1x128) ![0, 0, 0] S1x1x128.size inb_S2x1x128_S1x1x128_0_0_0).toLoadRect (View.loadsAt_vmem h_S1x1x128))
  let v43 : Vec F S128x128 .f32 ← Prog.lift (.load arg8 (Rect.unit (s := S256x128) ![0, 0] S128x128.size inb_S256x128_S128x128_0_0).toLoadRect (View.loadsAt_vmem h_S128x128))
  Prog.lift (.store arg8 (Rect.unit (s := S256x128) ![0, 0] S128x128.size inb_S256x128_S128x128_0_0) (omtP v27 v34 v38) Finset.univ (View.stores_vmem_bits_univ h_S128x128 rfl) (.inl rfl))
  let v47 : Vec F S1x128x128 .f32 ← Prog.lift (.load arg7 (Rect.unit (s := S2x1536x128) (k0_off65 i) S1x128x128.size (k0_off65_inb i)).toLoadRect (View.loadsAt_vmem h_S1x128x128))
  let v51 : Vec F S1x1x128 .f32 ← Prog.lift (.load arg3 (Rect.unit (s := S2x1x128) ![1, 0, 0] S1x1x128.size inb_S2x1x128_S1x1x128_1_0_0).toLoadRect (View.loadsAt_vmem h_S1x1x128))
  let v56 : Vec F S128x128 .f32 ← Prog.lift (.load arg8 (Rect.unit (s := S256x128) ![128, 0] S128x128.size inb_S256x128_S128x128_128_0).toLoadRect (View.loadsAt_vmem h_S128x128))
  Prog.lift (.store arg8 (Rect.unit (s := S256x128) ![128, 0] S128x128.size inb_S256x128_S128x128_128_0) (omtP v27 v47 v51) Finset.univ (View.stores_vmem_bits_univ h_S128x128 rfl) (.inl rfl))
  pure ⟨⟩

/-- One tap's index words and weights. -/
def tapB (arg4 : Memref sig .tc .vmem S12x9x8x128 .i32) (arg5 : Memref sig .tc .vmem S12x9x4x8x128 .f32) (arg8 : Memref sig .tc .vmem S256x128 .f32) (t : Fin 9) (i : Fin k0_t19_loop.trips) :
    Prog (TpuEff nD τ sig (Elt F) Λ₀ .tc) Unit := do
  let dy : Vec F S8x128 .f32 ← Prog.lift (.load arg8 (⟨![2 * t.val, 0], S8x128.size, ![18, 1], inb_d _ (by omega)⟩ : LoadRect S256x128) (View.loadsAt_vmem h_S8x128))
  let dx : Vec F S8x128 .f32 ← Prog.lift (.load arg8 (⟨![2 * t.val + 1, 0], S8x128.size, ![18, 1], inb_d _ (by omega)⟩ : LoadRect S256x128) (View.loadsAt_vmem h_S8x128))
  let m : Vec F S8x128 .f32 ← Prog.lift (.load arg8 (⟨![144 + t.val, 0], S8x128.size, ![9, 1], inb_m t⟩ : LoadRect S256x128) (View.loadsAt_vmem h_S8x128))
  let u : Vec F S1x1x8x128 .i32 ← Prog.lift (.load arg4 (Rect.unit (s := S12x9x8x128) ![ivI i, t.val, 0, 0] S1x1x8x128.size (inb_idx t i)).toLoadRect (View.loadsAt_vmem h_S1x1x8x128))
  Prog.lift (.store arg4 (Rect.unit (s := S12x9x8x128) ![ivI i, t.val, 0, 0] S1x1x8x128.size (inb_idx t i)) (shapeCast S1x1x8x128 (idxG t i dy dx) shapeCasts_S8x128_S1x1x8x128) Finset.univ (View.stores_vmem_bits_univ h_S1x1x8x128 rfl) (.inl rfl))
  let w0 : Vec F S1x1x1x8x128 .f32 ← Prog.lift (.load arg5 (Rect.unit (s := S12x9x4x8x128) ![ivI i, t.val, 0, 0, 0] S1x1x1x8x128.size (inb_wt t 0 i)).toLoadRect (View.loadsAt_vmem h_S1x1x1x8x128))
  Prog.lift (.store arg5 (Rect.unit (s := S12x9x4x8x128) ![ivI i, t.val, 0, 0, 0] S1x1x1x8x128.size (inb_wt t 0 i)) (shapeCast S1x1x1x8x128 (wtG t i 0 dy dx m) shapeCasts_S8x128_S1x1x1x8x128) Finset.univ (View.stores_vmem_bits_univ h_S1x1x1x8x128 rfl) (.inl rfl))
  let w1 : Vec F S1x1x1x8x128 .f32 ← Prog.lift (.load arg5 (Rect.unit (s := S12x9x4x8x128) ![ivI i, t.val, 1, 0, 0] S1x1x1x8x128.size (inb_wt t 1 i)).toLoadRect (View.loadsAt_vmem h_S1x1x1x8x128))
  Prog.lift (.store arg5 (Rect.unit (s := S12x9x4x8x128) ![ivI i, t.val, 1, 0, 0] S1x1x1x8x128.size (inb_wt t 1 i)) (shapeCast S1x1x1x8x128 (wtG t i 1 dy dx m) shapeCasts_S8x128_S1x1x1x8x128) Finset.univ (View.stores_vmem_bits_univ h_S1x1x1x8x128 rfl) (.inl rfl))
  let w2 : Vec F S1x1x1x8x128 .f32 ← Prog.lift (.load arg5 (Rect.unit (s := S12x9x4x8x128) ![ivI i, t.val, 2, 0, 0] S1x1x1x8x128.size (inb_wt t 2 i)).toLoadRect (View.loadsAt_vmem h_S1x1x1x8x128))
  Prog.lift (.store arg5 (Rect.unit (s := S12x9x4x8x128) ![ivI i, t.val, 2, 0, 0] S1x1x1x8x128.size (inb_wt t 2 i)) (shapeCast S1x1x1x8x128 (wtG t i 2 dy dx m) shapeCasts_S8x128_S1x1x1x8x128) Finset.univ (View.stores_vmem_bits_univ h_S1x1x1x8x128 rfl) (.inl rfl))
  let w3 : Vec F S1x1x1x8x128 .f32 ← Prog.lift (.load arg5 (Rect.unit (s := S12x9x4x8x128) ![ivI i, t.val, 3, 0, 0] S1x1x1x8x128.size (inb_wt t 3 i)).toLoadRect (View.loadsAt_vmem h_S1x1x1x8x128))
  Prog.lift (.store arg5 (Rect.unit (s := S12x9x4x8x128) ![ivI i, t.val, 3, 0, 0] S1x1x1x8x128.size (inb_wt t 3 i)) (shapeCast S1x1x1x8x128 (wtG t i 3 dy dx m) shapeCasts_S8x128_S1x1x1x8x128) Finset.univ (View.stores_vmem_bits_univ h_S1x1x1x8x128 rfl) (.inl rfl))
  pure ⟨⟩

/-- One block of the last loop: the sums, then the nine taps. -/
def prepB (arg3 : Memref sig .tc .vmem S2x1x128 .f32) (arg4 : Memref sig .tc .vmem S12x9x8x128 .i32) (arg5 : Memref sig .tc .vmem S12x9x4x8x128 .f32) (arg7 : Memref sig .tc .vmem S2x1536x128 .f32) (arg8 : Memref sig .tc .vmem S256x128 .f32)
    (v27 : Elt F .f32) (i : Fin k0_t19_loop.trips) : Prog (TpuEff nD τ sig (Elt F) Λ₀ .tc) Unit := do
  omB arg3 arg7 arg8 v27 i
  tapB arg4 arg5 arg8 0 i
  tapB arg4 arg5 arg8 1 i
  tapB arg4 arg5 arg8 2 i
  tapB arg4 arg5 arg8 3 i
  tapB arg4 arg5 arg8 4 i
  tapB arg4 arg5 arg8 5 i
  tapB arg4 arg5 arg8 6 i
  tapB arg4 arg5 arg8 7 i
  tapB arg4 arg5 arg8 8 i

set_option maxRecDepth 65536 in
/-- The printed block is that. -/
theorem prepB_eq (arg0 : Memref sig .tc .smem S1 .f32) (harg0 : arg0.IsWhole)
  (arg1 : Memref sig .tc .vmem S1536x2048 .fp8e4m3) (harg1 : arg1.IsWhole)
  (arg2 : Memref sig .tc .vmem S9x2048x216 .bf16) (harg2 : arg2.IsWhole)
  (arg3 : Memref sig .tc .vmem S2x1x128 .f32) (harg3 : arg3.IsWhole)
  (arg4 : Memref sig .tc .vmem S12x9x8x128 .i32) (harg4 : arg4.IsWhole)
  (arg5 : Memref sig .tc .vmem S12x9x4x8x128 .f32) (harg5 : arg5.IsWhole)
  (arg6 : Memref sig .tc .vmem S2x1568x128 .f32) (harg6 : arg6.IsWhole)
  (arg7 : Memref sig .tc .vmem S2x1536x128 .f32) (harg7 : arg7.IsWhole)
  (arg8 : Memref sig .tc .vmem S256x128 .f32) (harg8 : arg8.IsWhole) (v27 : Elt F .f32) (i : Fin k0_t19_loop.trips) :
    k0_t19_body arg0 harg0 arg1 harg1 arg2 harg2 arg3 harg3 arg4 harg4 arg5 harg5 arg6 harg6 arg7 harg7 arg8 harg8 v27 (iota .tc S8x128 32 [1] iota_S8x128_d1_w32) (iota .tc S8x128 32 [0] iota_S8x128_d0_w32) i () = prepB arg3 arg4 arg5 arg7 arg8 v27 i := rfl

/-! ## What the arrays hold -/

/-- A channel of a pixel's sums, scaled and shifted. -/
def omV (s : Elt F .f32) (B : Vec F S2x1x128 .f32) (X : Vec F S1536x2048 .fp8e4m3) (W : Vec F S9x2048x216 .bf16) (p : Fin 1536) (ch : Fin 216) : F .f32 :=
  FloatOps.addf (FloatOps.mulf (accV X W p ch 9) s) (B (ix3 (hC ch) 0 (lC ch)))

/-- Pixel `l` of block `b`. -/
def pixOf (b : Fin 12) (l : Fin 128) : Fin 1536 := ⟨128 * b.val + l.val, by have := b.isLt; have := l.isLt; omega⟩

/-- The transposed sums of block `b`. -/
def TOk (s : Elt F .f32) (B : Vec F S2x1x128 .f32) (X : Vec F S1536x2048 .fp8e4m3) (W : Vec F S9x2048x216 .bf16) (b : Fin 12) (T : Vec F S256x128 .f32) : Prop :=
  ∀ (ch : Fin 216) (l : Fin 128), T (ix2 ⟨ch.val, by have := ch.isLt; omega⟩ l) = omV s B X W (pixOf b l) ch

/-- The channels of a group's row offset, column offset and mask at tap `t`. -/
def dyC (t : Fin 9) (g : Fin 8) : Fin 216 := ⟨18 * g.val + 2 * t.val, by have := g.isLt; have := t.isLt; omega⟩
/-- The channel of the horizontal offset. -/
def dxC (t : Fin 9) (g : Fin 8) : Fin 216 := ⟨18 * g.val + 2 * t.val + 1, by have := g.isLt; have := t.isLt; omega⟩
/-- The channel of the mask. -/
def mC (t : Fin 9) (g : Fin 8) : Fin 216 := ⟨144 + 9 * g.val + t.val, by have := g.isLt; have := t.isLt; omega⟩

/-- A channel per group of block `b`'s pixels. -/
def chR (s : Elt F .f32) (B : Vec F S2x1x128 .f32) (X : Vec F S1536x2048 .fp8e4m3) (W : Vec F S9x2048x216 .bf16) (b : Fin 12) (ch : Fin 8 → Fin 216) : Vec F S8x128 .f32 :=
  fun y => omV s B X W (pixOf b (y 1)) (ch (y 0))

/-- Block `b` as the loop's counter. -/
def trI (b : Fin 12) : Fin k0_t19_loop.trips := ⟨b.val, Nat.lt_of_lt_of_eq b.isLt (by decide)⟩

/-- The index words and the weights of block `b` and tap `t`. -/
def idxV (s : Elt F .f32) (B : Vec F S2x1x128 .f32) (X : Vec F S1536x2048 .fp8e4m3) (W : Vec F S9x2048x216 .bf16) (b : Fin 12) (t : Fin 9) : IVec S8x128 32 :=
  idxG t (trI b) (chR s B X W b (dyC t)) (chR s B X W b (dxC t))
/-- The weights a block stores for a tap and a corner. -/
def wtV (s : Elt F .f32) (B : Vec F S2x1x128 .f32) (X : Vec F S1536x2048 .fp8e4m3) (W : Vec F S9x2048x216 .bf16) (b : Fin 12) (t : Fin 9) (q : Fin 4) : FVec F S8x128 .f32 :=
  wtG t (trI b) q (chR s B X W b (dyC t)) (chR s B X W b (dxC t)) (chR s B X W b (mC t))

/-- The results after `n` blocks and `k` taps of the next. -/
def POk (s : Elt F .f32) (B : Vec F S2x1x128 .f32) (X : Vec F S1536x2048 .fp8e4m3) (W : Vec F S9x2048x216 .bf16) (n k : ℕ) (A4 : Vec F S12x9x8x128 .i32) (A5 : Vec F S12x9x4x8x128 .f32) : Prop :=
  ∀ (b : Fin 12) (t : Fin 9), (b.val < n ∨ b.val = n ∧ t.val < k) →
    (∀ g l, A4 (ix4 b t g l) = idxV s B X W b t (ix2 g l)) ∧ ∀ q g l, A5 (ix5 b t q g l) = wtV s B X W b t q (ix2 g l)

/-- After a block's nine taps the results are right up to the next block. -/
theorem pOk_next {s : Elt F .f32} {B : Vec F S2x1x128 .f32} {X : Vec F S1536x2048 .fp8e4m3} {W : Vec F S9x2048x216 .bf16} {n : ℕ} {A4 : Vec F S12x9x8x128 .i32} {A5 : Vec F S12x9x4x8x128 .f32}
    (h : POk s B X W n 9 A4 A5) : POk s B X W (n + 1) 0 A4 A5 := fun b t hb => h b t (by have := t.isLt; omega)

/-- A store of index words, read back inside. -/
theorem w4_in (arg : Memref sig .tc .vmem S12x9x8x128 .i32) (f) (n k : ℕ) (inb) (P : Vec F S1x1x8x128 .i32) (L) (b : Fin 12) (t : Fin 9) (g : Fin 8) (l : Fin 128) (e0 : b.val = n) (e1 : t.val = k) :
    arg.view.read (Elt F) (arg.view.writes (Elt F) f (⟨Rect.unit (s := S12x9x8x128) ![n, k, 0, 0] S1x1x8x128.size inb, P⟩ :: L)) (ix4 b t g l) = P (ix4 0 0 g l) :=
  View.read_writes_cons_unit_of_mem (Val := Elt F) arg.view _ inb P L (ix4 b t g l) (ix4 0 0 g l) rfl (fun a => by
    match a with
    | ⟨0, _⟩ => show b.val = n + 0; omega
    | ⟨1, _⟩ => show t.val = k + 0; omega
    | ⟨2, _⟩ => show g.val = 0 + g.val; omega
    | ⟨3, _⟩ => show l.val = 0 + l.val; omega)

/-- A store of index words, read back outside. -/
theorem w4_out (arg : Memref sig .tc .vmem S12x9x8x128 .i32) (f) (n k : ℕ) (inb) (P : Vec F S1x1x8x128 .i32) (L) (b : Fin 12) (t : Fin 9) (g : Fin 8) (l : Fin 128) (e : b.val ≠ n ∨ t.val ≠ k) :
    arg.view.read (Elt F) (arg.view.writes (Elt F) f (⟨Rect.unit (s := S12x9x8x128) ![n, k, 0, 0] S1x1x8x128.size inb, P⟩ :: L)) (ix4 b t g l)
      = arg.view.read (Elt F) (arg.view.writes (Elt F) f L) (ix4 b t g l) := by
  rcases e with e | e
  · exact View.read_writes_cons_unit_of_not_mem (Val := Elt F) arg.view _ inb P L (ix4 b t g l) rfl (0 : Fin 4) (by show b.val < n ∨ n + 1 ≤ b.val; omega)
  · exact View.read_writes_cons_unit_of_not_mem (Val := Elt F) arg.view _ inb P L (ix4 b t g l) rfl (1 : Fin 4) (by show t.val < k ∨ k + 1 ≤ t.val; omega)

/-- A store of weights, read back inside. -/
theorem w5_in (arg : Memref sig .tc .vmem S12x9x4x8x128 .f32) (f) (n k r : ℕ) (inb) (P : Vec F S1x1x1x8x128 .f32) (L) (b : Fin 12) (t : Fin 9) (q : Fin 4) (g : Fin 8) (l : Fin 128) (e0 : b.val = n) (e1 : t.val = k) (e2 : q.val = r) :
    arg.view.read (Elt F) (arg.view.writes (Elt F) f (⟨Rect.unit (s := S12x9x4x8x128) ![n, k, r, 0, 0] S1x1x1x8x128.size inb, P⟩ :: L)) (ix5 b t q g l) = P (ix5 0 0 0 g l) :=
  View.read_writes_cons_unit_of_mem (Val := Elt F) arg.view _ inb P L (ix5 b t q g l) (ix5 0 0 0 g l) rfl (fun a => by
    match a with
    | ⟨0, _⟩ => show b.val = n + 0; omega
    | ⟨1, _⟩ => show t.val = k + 0; omega
    | ⟨2, _⟩ => show q.val = r + 0; omega
    | ⟨3, _⟩ => show g.val = 0 + g.val; omega
    | ⟨4, _⟩ => show l.val = 0 + l.val; omega)

/-- A store of weights, read back outside. -/
theorem w5_out (arg : Memref sig .tc .vmem S12x9x4x8x128 .f32) (f) (n k r : ℕ) (inb) (P : Vec F S1x1x1x8x128 .f32) (L) (b : Fin 12) (t : Fin 9) (q : Fin 4) (g : Fin 8) (l : Fin 128) (e : b.val ≠ n ∨ t.val ≠ k ∨ q.val ≠ r) :
    arg.view.read (Elt F) (arg.view.writes (Elt F) f (⟨Rect.unit (s := S12x9x4x8x128) ![n, k, r, 0, 0] S1x1x1x8x128.size inb, P⟩ :: L)) (ix5 b t q g l)
      = arg.view.read (Elt F) (arg.view.writes (Elt F) f L) (ix5 b t q g l) := by
  rcases e with e | e | e
  · exact View.read_writes_cons_unit_of_not_mem (Val := Elt F) arg.view _ inb P L (ix5 b t q g l) rfl (0 : Fin 5) (by show b.val < n ∨ n + 1 ≤ b.val; omega)
  · exact View.read_writes_cons_unit_of_not_mem (Val := Elt F) arg.view _ inb P L (ix5 b t q g l) rfl (1 : Fin 5) (by show t.val < k ∨ k + 1 ≤ t.val; omega)
  · exact View.read_writes_cons_unit_of_not_mem (Val := Elt F) arg.view _ inb P L (ix5 b t q g l) rfl (2 : Fin 5) (by show q.val < r ∨ r + 1 ≤ q.val; omega)

/-- Nothing stored: the contents are the old ones. -/
theorem w_nil {sh : Shape} {e : EltTy} (arg : Memref sig .tc .vmem sh e) (Z : sh.Idx → Elt F e) (y) :
    arg.view.read (Elt F) (arg.view.writes (Elt F) (arg.view.rep Z) []) y = Z y := congrFun (View.read_rep (Val := Elt F) arg.view Z) y

/-- A block of index words reshaped for its store. -/
theorem sc4 {α : Type} (x : S8x128.Idx → α) (g l) : shapeCast S1x1x8x128 x shapeCasts_S8x128_S1x1x8x128 (ix4 0 0 g l) = x (ix2 g l) := by
  refine shapeCast_apply _ shapeCasts_S8x128_S1x1x8x128 _ (ix2 g l) ?_
  rw [Shape.rowMajor_val_four, Shape.rowMajor_val_two]; show g.val * 128 + l.val = ((0 * 1 + 0) * 8 + g.val) * 128 + l.val; omega

/-- A block of weights reshaped for its store. -/
theorem sc5 {α : Type} (x : S8x128.Idx → α) (g l) : shapeCast S1x1x1x8x128 x shapeCasts_S8x128_S1x1x1x8x128 (ix5 0 0 0 g l) = x (ix2 g l) := by
  refine shapeCast_apply _ shapeCasts_S8x128_S1x1x1x8x128 _ (ix2 g l) ?_
  rw [Shape.rowMajor_val_five, Shape.rowMajor_val_two]; show g.val * 128 + l.val = (((0 * 1 + 0) * 1 + 0) * 8 + g.val) * 128 + l.val; omega

/-- One tap's writes, read back. -/
theorem tap_step (arg4 : Memref sig .tc .vmem S12x9x8x128 .i32) (arg5 : Memref sig .tc .vmem S12x9x4x8x128 .f32)
    (s : Elt F .f32) (B : Vec F S2x1x128 .f32) (X : Vec F S1536x2048 .fp8e4m3) (W : Vec F S9x2048x216 .bf16) (b : Fin 12) (t : Fin 9) (A4 A5) (h : POk s B X W b.val t.val A4 A5) (n : ℕ) (hn : n = b.val)
    (i4 j0 j1 j2 j3) (P : IVec S8x128 32) (Q0 Q1 Q2 Q3 : FVec F S8x128 .f32) (hP : P = idxV s B X W b t)
    (h0 : Q0 = wtV s B X W b t 0) (h1 : Q1 = wtV s B X W b t 1) (h2 : Q2 = wtV s B X W b t 2) (h3 : Q3 = wtV s B X W b t 3) :
    POk s B X W b.val (t.val + 1)
      (arg4.view.read (Elt F) (arg4.view.writes (Elt F) (arg4.view.rep A4) [⟨Rect.unit (s := S12x9x8x128) ![n, t.val, 0, 0] S1x1x8x128.size i4, shapeCast S1x1x8x128 P shapeCasts_S8x128_S1x1x8x128⟩]))
      (arg5.view.read (Elt F) (arg5.view.writes (Elt F) (arg5.view.rep A5)
        [⟨Rect.unit (s := S12x9x4x8x128) ![n, t.val, 3, 0, 0] S1x1x1x8x128.size j3, shapeCast S1x1x1x8x128 Q3 shapeCasts_S8x128_S1x1x1x8x128⟩,
         ⟨Rect.unit (s := S12x9x4x8x128) ![n, t.val, 2, 0, 0] S1x1x1x8x128.size j2, shapeCast S1x1x1x8x128 Q2 shapeCasts_S8x128_S1x1x1x8x128⟩,
         ⟨Rect.unit (s := S12x9x4x8x128) ![n, t.val, 1, 0, 0] S1x1x1x8x128.size j1, shapeCast S1x1x1x8x128 Q1 shapeCasts_S8x128_S1x1x1x8x128⟩,
         ⟨Rect.unit (s := S12x9x4x8x128) ![n, t.val, 0, 0, 0] S1x1x1x8x128.size j0, shapeCast S1x1x1x8x128 Q0 shapeCasts_S8x128_S1x1x1x8x128⟩])) := by
  subst hn hP h0 h1 h2 h3
  intro b' t' hb
  by_cases e : b'.val = b.val ∧ t'.val = t.val
  · obtain ⟨e0, e1⟩ := e
    obtain rfl : b' = b := Fin.ext e0
    obtain rfl : t' = t := Fin.ext e1
    refine ⟨fun g l => (w4_in arg4 _ _ _ i4 _ [] b' t' g l rfl rfl).trans (sc4 _ g l), fun q g l => ?_⟩
    match q with
    | 0 => exact (w5_out arg5 _ _ _ _ j3 _ _ b' t' 0 g l (.inr (.inr (by decide)))).trans ((w5_out arg5 _ _ _ _ j2 _ _ b' t' 0 g l (.inr (.inr (by decide)))).trans
        ((w5_out arg5 _ _ _ _ j1 _ _ b' t' 0 g l (.inr (.inr (by decide)))).trans ((w5_in arg5 _ _ _ _ j0 _ [] b' t' 0 g l rfl rfl rfl).trans (sc5 _ g l))))
    | 1 => exact (w5_out arg5 _ _ _ _ j3 _ _ b' t' 1 g l (.inr (.inr (by decide)))).trans ((w5_out arg5 _ _ _ _ j2 _ _ b' t' 1 g l (.inr (.inr (by decide)))).trans
        ((w5_in arg5 _ _ _ _ j1 _ _ b' t' 1 g l rfl rfl rfl).trans (sc5 _ g l)))
    | 2 => exact (w5_out arg5 _ _ _ _ j3 _ _ b' t' 2 g l (.inr (.inr (by decide)))).trans ((w5_in arg5 _ _ _ _ j2 _ _ b' t' 2 g l rfl rfl rfl).trans (sc5 _ g l))
    | 3 => exact (w5_in arg5 _ _ _ _ j3 _ _ b' t' 3 g l rfl rfl rfl).trans (sc5 _ g l)
  · have e' : b'.val ≠ b.val ∨ t'.val ≠ t.val := by omega
    have e5 : ∀ (q : Fin 4) (r : ℕ), b'.val ≠ b.val ∨ t'.val ≠ t.val ∨ q.val ≠ r := fun q r => by omega
    have hh := h b' t' (by omega)
    refine ⟨fun g l => (w4_out arg4 _ _ _ i4 _ [] b' t' g l e').trans ((w_nil arg4 A4 _).trans (hh.1 g l)), fun q g l => ?_⟩
    exact (w5_out arg5 _ _ _ _ j3 _ _ b' t' q g l (e5 _ _)).trans ((w5_out arg5 _ _ _ _ j2 _ _ b' t' q g l (e5 _ _)).trans
        ((w5_out arg5 _ _ _ _ j1 _ _ b' t' q g l (e5 _ _)).trans ((w5_out arg5 _ _ _ _ j0 _ [] b' t' q g l (e5 _ _)).trans
          ((w_nil arg5 A5 _).trans (hh.2 q g l)))))

/-- Every `m`-th row of the transposed sums, from row `r`. -/
theorem load_ch (arg8 : Memref sig .tc .vmem S256x128 .f32) {s : Elt F .f32} {B : Vec F S2x1x128 .f32} {X : Vec F S1536x2048 .fp8e4m3} {W : Vec F S9x2048x216 .bf16} {b : Fin 12} {T : Vec F S256x128 .f32} (h : TOk s B X W b T)
    (r m : ℕ) (inb) (ch : Fin 8 → Fin 216) (hc : ∀ g, (ch g).val = r + m * g.val) :
    View.readAt (Elt F) arg8.view (⟨![r, 0], S8x128.size, ![m, 1], inb⟩ : LoadRect S256x128) (arg8.view.rep T) = chR s B X W b ch := by
  funext y
  refine (congrFun (View.read_rep (Val := Elt F) arg8.view T) _).trans ?_
  refine Eq.trans (congrArg T (funext fun a => Fin.ext ?_)) (h (ch (y 0)) (y 1))
  match a with
  | ⟨0, _⟩ => exact (hc (y 0)).symm
  | ⟨1, _⟩ => show 0 + 1 * (y 1).val = (y 1).val; omega

/-- The transposed block, entry by entry. -/
theorem omtP_apply (s : Elt F .f32) (v : Vec F S1x128x128 .f32) (u : Vec F S1x1x128 .f32) (j i : Fin 128) :
    omtP s v u (ix2 j i) = FloatOps.addf (FloatOps.mulf (v (ix3 0 i j)) s) (u (ix3 0 0 j)) := by
  unfold omtP k0_pay29
  dsimp only
  refine (shapeCast_apply _ shapeCasts_S128x128_S128x128 _ (ix2 j i) rfl).trans ?_
  refine (transpose_apply _ _ _ _ (ix2 i j) fun a => by
    match a with
    | ⟨0, _⟩ => rfl
    | ⟨1, _⟩ => rfl).trans ?_
  show FloatOps.addf (FloatOps.mulf (shapeCast S128x128 v shapeCasts_S1x128x128_S128x128 (ix2 i j)) s) _ = _
  rw [in3 0 0]
  refine congrArg (FloatOps.addf _) ((broadcastTo_1b_ab_apply (a := 128) (b := 128) _ _ _ _).trans ?_)
  refine shapeCast_apply _ shapeCasts_S1x1x128_S1x128 _ (ix3 0 0 j) ?_
  rw [Shape.rowMajor_val_three, Shape.rowMajor_val_two]; show (0 * 1 + 0) * 128 + j.val = 0 * 128 + j.val; omega

/-- A half of the bias as loaded. -/
theorem load_bias (arg3 : Memref sig .tc .vmem S2x1x128 .f32) (B : Vec F S2x1x128 .f32) (h : Fin 2) (inb) (l : Fin 128) :
    View.readAt (Elt F) arg3.view (Rect.unit (s := S2x1x128) ![h.val, 0, 0] S1x1x128.size inb).toLoadRect (arg3.view.rep B) (ix3 0 0 l) = B (ix3 h 0 l) := by
  refine (congrFun (View.read_rep (Val := Elt F) arg3.view B) _).trans ?_
  refine congrArg B (funext fun a => Fin.ext ?_)
  match a with
  | ⟨0, _⟩ => show h.val + 1 * 0 = h.val; omega
  | ⟨1, _⟩ => rfl
  | ⟨2, _⟩ => show 0 + 1 * l.val = l.val; omega

/-- The transposed channels after both halves are stored. -/
theorem w2 (arg : Memref sig .tc .vmem S256x128 .f32) (f) (i0 i1) (P0 P1 : FVec F S128x128 .f32) (ch : Fin 216) (l : Fin 128) :
    arg.view.read (Elt F) (arg.view.writes (Elt F) f [⟨Rect.unit (s := S256x128) ![128, 0] S128x128.size i1, P1⟩, ⟨Rect.unit (s := S256x128) ![0, 0] S128x128.size i0, P0⟩]) (ix2 ⟨ch.val, by have := ch.isLt; omega⟩ l)
      = (if ch.val < 128 then P0 else P1) (ix2 (lC ch) l) := by
  have hc := ch.isLt
  split
  · rename_i h
    refine (View.read_writes_cons_unit_of_not_mem (Val := Elt F) arg.view _ i1 P1 _ _ rfl (0 : Fin 2) (by show ch.val < 128 ∨ 128 + 128 ≤ ch.val; omega)).trans ?_
    exact View.read_writes_cons_unit_of_mem (Val := Elt F) arg.view _ i0 P0 [] _ (ix2 (lC ch) l) rfl (fun a => by
      match a with
      | ⟨0, _⟩ => show ch.val = 0 + ch.val % 128; omega
      | ⟨1, _⟩ => show l.val = 0 + l.val; omega)
  · rename_i h
    exact View.read_writes_cons_unit_of_mem (Val := Elt F) arg.view _ i1 P1 _ _ (ix2 (lC ch) l) rfl (fun a => by
      match a with
      | ⟨0, _⟩ => show ch.val = 128 + ch.val % 128; omega
      | ⟨1, _⟩ => show l.val = 0 + l.val; omega)

/-- The lower half of the accumulator that a block reads. -/
theorem off64_eq : ∀ b : Fin 12, k0_off64 (trI b) = ![(0 : Fin 2).val, 128 * b.val, 0] := by decide +kernel
/-- The upper half of the accumulator that a block reads. -/
theorem off65_eq : ∀ b : Fin 12, k0_off65 (trI b) = ![(1 : Fin 2).val, 128 * b.val, 0] := by decide +kernel

section
variable (c : Dev nD) (arg3 : Memref sig .tc .vmem S2x1x128 .f32) (arg4 : Memref sig .tc .vmem S12x9x8x128 .i32) (arg5 : Memref sig .tc .vmem S12x9x4x8x128 .f32)
  (arg7 : Memref sig .tc .vmem S2x1536x128 .f32) (arg8 : Memref sig .tc .vmem S256x128 .f32)

set_option maxHeartbeats 4000000 in
/-- One tap's words and weights are written. -/
theorem tapB_run (s : Elt F .f32) (B : Vec F S2x1x128 .f32) (X : Vec F S1536x2048 .fp8e4m3) (W : Vec F S9x2048x216 .bf16) (b : Fin 12) (t : Fin 9) :
    iprop(∃ A4 A5 T, ⌜POk s B X W b.val t.val A4 A5⌝ ∗ ⌜TOk s B X W b T⌝ ∗ at_ (F := F) c arg4 A4 ∗ at_ (F := F) c arg5 A5 ∗ at_ (F := F) c arg8 T)
      ⊢ wp frame (wpE (defs₀ (F := F)) 𝒱₀ (c : Thread nD τ) none) Set.univ (tapB arg4 arg5 arg8 t (trI b))
        fun _ => iprop(∃ A4 A5 T, ⌜POk s B X W b.val (t.val + 1) A4 A5⌝ ∗ ⌜TOk s B X W b T⌝ ∗ at_ (F := F) c arg4 A4 ∗ at_ (F := F) c arg5 A5 ∗ at_ (F := F) c arg8 T) := by
  unfold tapB
  iintro ⟨%A4, %A5, %T, %hP, %hT, H4, H5, H8⟩
  sl_exec
  sl_step
  iexists _
  iexists _
  iexists T
  isplitr
  rotate_left
  · isplitr; · ipureintro; exact hT
    isplitl [H4]; · iapply (pointsTo_rep_of_read (c : Thread nD τ) arg4 _ fullShare _ rfl) $$ H4
    isplitl [H5]; · iapply (pointsTo_rep_of_read (c : Thread nD τ) arg5 _ fullShare _ rfl) $$ H5
    iexact H8
  · ipureintro
    have ld := load_ch arg8 hT (2 * t.val) 18 (inb_d _ (by omega)) (dyC t) (fun g => by show 18 * g.val + 2 * t.val = _; omega)
    have lx := load_ch arg8 hT (2 * t.val + 1) 18 (inb_d _ (by omega)) (dxC t) (fun g => by show 18 * g.val + 2 * t.val + 1 = _; omega)
    have lm := load_ch arg8 hT (144 + t.val) 9 (inb_m t) (mC t) (fun g => by show 144 + 9 * g.val + t.val = _; omega)
    refine tap_step arg4 arg5 s B X W b t A4 A5 hP _ (ivI_eq _) _ _ _ _ _ _ _ _ _ _ ?_ ?_ ?_ ?_ ?_ <;> rw [ld, lx] <;> try rw [lm]
    all_goals rfl

set_option maxHeartbeats 4000000 in
/-- One block's sums are scaled, shifted and transposed. -/
theorem omB_run (s : Elt F .f32) (B : Vec F S2x1x128 .f32) (X : Vec F S1536x2048 .fp8e4m3) (W : Vec F S9x2048x216 .bf16) (b : Fin 12) :
    iprop(∃ O T, ⌜OOk X W 8 12 O⌝ ∗ at_ (F := F) c arg3 B ∗ at_ (F := F) c arg7 O ∗ at_ (F := F) c arg8 T)
      ⊢ wp frame (wpE (defs₀ (F := F)) 𝒱₀ (c : Thread nD τ) none) Set.univ (omB arg3 arg7 arg8 s (trI b))
        fun _ => iprop(∃ O T, ⌜OOk X W 8 12 O⌝ ∗ ⌜TOk s B X W b T⌝ ∗ at_ (F := F) c arg3 B ∗ at_ (F := F) c arg7 O ∗ at_ (F := F) c arg8 T) := by
  unfold omB
  iintro ⟨%O, %T, %hO, H3, H7, H8⟩
  sl_exec
  sl_step
  iexists O
  iexists _
  isplitr; · ipureintro; exact hO
  isplitr
  rotate_left
  · isplitl [H3]; · iexact H3
    isplitl [H7]; · iexact H7
    iapply (pointsTo_rep_of_read (c : Thread nD τ) arg8 _ fullShare _ rfl) $$ H8
  · ipureintro
    intro ch l
    have hz : ∀ (h : Fin 2) (hh : h = hC ch) (o : Fin 3 → ℕ) (eo : o = ![h.val, 128 * b.val, 0]) (inb inb'),
        omtP s (View.readAt (Elt F) arg7.view (Rect.unit (s := S2x1536x128) o S1x128x128.size inb).toLoadRect (arg7.view.rep O))
          (View.readAt (Elt F) arg3.view (Rect.unit (s := S2x1x128) ![h.val, 0, 0] S1x1x128.size inb').toLoadRect (arg3.view.rep B)) (ix2 (lC ch) l) = omV s B X W (pixOf b l) ch := fun h hh o eo inb inb' => by
      subst hh eo
      have hb := b.isLt
      rw [omtP_apply, load_rows rfl arg7 O (hC ch) (128 * b.val) (by omega), load_bias]
      unfold omV
      rw [show O (ix3 (hC ch) ⟨128 * b.val + l.val, _⟩ (lC ch)) = accV X W (pixOf b l) ch 9 from (hO (pixOf b l) ch).1 (pixOf b l).isLt]
    have hc := ch.isLt
    refine (w2 arg8 _ _ _ _ _ ch l).trans ?_
    split
    · exact hz 0 (Fin.ext (show 0 = ch.val / 128 by omega)) _ (off64_eq b) _ _
    · exact hz 1 (Fin.ext (show 1 = ch.val / 128 by omega)) _ (off65_eq b) _ _
end

/-- One program after another. -/
theorem wp_seq {c : Dev nD} {A R : sProp (MT nD τ sig Unit (Elt F) ℕ (UU nD τ) ℕ)} {Q : Unit → sProp (MT nD τ sig Unit (Elt F) ℕ (UU nD τ) ℕ)} {p : Prog (TpuEff nD τ sig (Elt F) Λ₀ .tc) Unit} {k : Unit → Prog (TpuEff nD τ sig (Elt F) Λ₀ .tc) Unit}
    (h1 : A ⊢ wp frame (wpE (defs₀ (F := F)) 𝒱₀ (c : Thread nD τ) none) Set.univ p (fun _ => R))
    (h2 : R ⊢ wp frame (wpE (defs₀ (F := F)) 𝒱₀ (c : Thread nD τ) none) Set.univ (k ()) Q) :
    A ⊢ wp frame (wpE (defs₀ (F := F)) 𝒱₀ (c : Thread nD τ) none) Set.univ (p >>= k) Q := by
  rw [wp_bind]
  exact h1.trans (wp_mono _ _ _ fun _ => h2)

section
variable (c : Dev nD) (arg3 : Memref sig .tc .vmem S2x1x128 .f32) (arg4 : Memref sig .tc .vmem S12x9x8x128 .i32) (arg5 : Memref sig .tc .vmem S12x9x4x8x128 .f32)
  (arg7 : Memref sig .tc .vmem S2x1536x128 .f32) (arg8 : Memref sig .tc .vmem S256x128 .f32)

/-- The arrays between two blocks of the last loop. -/
def prepI (s : Elt F .f32) (B : Vec F S2x1x128 .f32) (X : Vec F S1536x2048 .fp8e4m3) (W : Vec F S9x2048x216 .bf16) (n : ℕ) : sProp (MT nD τ sig Unit (Elt F) ℕ (UU nD τ) ℕ) :=
  iprop(∃ A4 A5 O T, ⌜POk s B X W n 0 A4 A5⌝ ∗ ⌜OOk X W 8 12 O⌝ ∗ at_ (F := F) c arg4 A4 ∗ at_ (F := F) c arg5 A5 ∗ at_ (F := F) c arg3 B ∗ at_ (F := F) c arg7 O ∗ at_ (F := F) c arg8 T)

/-- The same between two taps. -/
def tapI (s : Elt F .f32) (B : Vec F S2x1x128 .f32) (X : Vec F S1536x2048 .fp8e4m3) (W : Vec F S9x2048x216 .bf16) (b : Fin 12) (k : ℕ) : sProp (MT nD τ sig Unit (Elt F) ℕ (UU nD τ) ℕ) :=
  iprop((∃ O, ⌜OOk X W 8 12 O⌝ ∗ at_ (F := F) c arg3 B ∗ at_ (F := F) c arg7 O)
    ∗ ∃ A4 A5 T, ⌜POk s B X W b.val k A4 A5⌝ ∗ ⌜TOk s B X W b T⌝ ∗ at_ (F := F) c arg4 A4 ∗ at_ (F := F) c arg5 A5 ∗ at_ (F := F) c arg8 T)

/-- One tap of a block, from the state before it. -/
theorem tapB_run' (s : Elt F .f32) (B : Vec F S2x1x128 .f32) (X : Vec F S1536x2048 .fp8e4m3) (W : Vec F S9x2048x216 .bf16) (b : Fin 12) (t : Fin 9) :
    tapI c arg3 arg4 arg5 arg7 arg8 s B X W b t.val
      ⊢ wp frame (wpE (defs₀ (F := F)) 𝒱₀ (c : Thread nD τ) none) Set.univ (tapB arg4 arg5 arg8 t (trI b)) fun _ => tapI c arg3 arg4 arg5 arg7 arg8 s B X W b (t.val + 1) := by
  unfold tapI
  iintro ⟨HF, HA⟩
  iapply (wp_wand_r _ _ _)
  isplitl [HA]
  · iapply (tapB_run c arg4 arg5 arg8 s B X W b t) $$ HA
  · iintro %_ HA
    isplitl [HF]; · iexact HF
    iexact HA

/-- The transposed channels of a block, from the state before it. -/
theorem omB_run' (s : Elt F .f32) (B : Vec F S2x1x128 .f32) (X : Vec F S1536x2048 .fp8e4m3) (W : Vec F S9x2048x216 .bf16) (b : Fin 12) :
    prepI c arg3 arg4 arg5 arg7 arg8 s B X W b.val
      ⊢ wp frame (wpE (defs₀ (F := F)) 𝒱₀ (c : Thread nD τ) none) Set.univ (omB arg3 arg7 arg8 s (trI b)) fun _ => tapI c arg3 arg4 arg5 arg7 arg8 s B X W b 0 := by
  unfold tapI prepI
  iintro ⟨%A4, %A5, %O, %T, %hP, %hO, H4, H5, H3, H7, H8⟩
  iapply (wp_wand_r _ _ _)
  isplitl [H3 H7 H8]
  · iapply (omB_run c arg3 arg7 arg8 s B X W b)
    iexists O
    iexists T
    isplitr; · ipureintro; exact hO
    isplitl [H3]; · iexact H3
    isplitl [H7]; · iexact H7
    iexact H8
  · iintro %_ ⟨%O, %T, %hO, %hT, H3, H7, H8⟩
    isplitl [H3 H7]
    · iexists O
      isplitr; · ipureintro; exact hO
      isplitl [H3]; · iexact H3
      iexact H7
    · iexists A4
      iexists A5
      iexists T
      isplitr; · ipureintro; exact hP
      isplitr; · ipureintro; exact hT
      isplitl [H4]; · iexact H4
      isplitl [H5]; · iexact H5
      iexact H8

/-- One block of the last loop. -/
theorem prepB_run (s : Elt F .f32) (B : Vec F S2x1x128 .f32) (X : Vec F S1536x2048 .fp8e4m3) (W : Vec F S9x2048x216 .bf16) (b : Fin 12) :
    prepI c arg3 arg4 arg5 arg7 arg8 s B X W b.val
      ⊢ wp frame (wpE (defs₀ (F := F)) 𝒱₀ (c : Thread nD τ) none) Set.univ (prepB arg3 arg4 arg5 arg7 arg8 s (trI b)) fun _ => prepI c arg3 arg4 arg5 arg7 arg8 s B X W (b.val + 1) := by
  have tr := tapB_run' c arg3 arg4 arg5 arg7 arg8 s B X W b
  have fin : tapI c arg3 arg4 arg5 arg7 arg8 s B X W b 9 ⊢ prepI c arg3 arg4 arg5 arg7 arg8 s B X W (b.val + 1) := by
    unfold tapI prepI
    iintro ⟨⟨%O, %hO, H3, H7⟩, ⟨%A4, %A5, %T, %hP, %hT, H4, H5, H8⟩⟩
    iexists A4
    iexists A5
    iexists O
    iexists T
    isplitr; · ipureintro; exact pOk_next hP
    isplitr; · ipureintro; exact hO
    isplitl [H4]; · iexact H4
    isplitl [H5]; · iexact H5
    isplitl [H3]; · iexact H3
    isplitl [H7]; · iexact H7
    iexact H8
  unfold prepB
  refine wp_seq (omB_run' c arg3 arg4 arg5 arg7 arg8 s B X W b) ?_
  refine wp_seq (tr 0) (wp_seq (tr 1) (wp_seq (tr 2) (wp_seq (tr 3) (wp_seq (tr 4) (wp_seq (tr 5) (wp_seq (tr 6) (wp_seq (tr 7) ?_)))))))
  exact (tr 8).trans (wp_mono _ _ _ fun _ => fin)
end

end Cert.Proof.OffsetsIdeal

end
-- ==== Proof.OffIBody.lean ====
/- The offset convolution: its body run. -/
module

public import proofs.«01_k».proof.Proof.OffIPrep
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.OffsetsIdeal

open Cert.OffsetsIdeal Cert.OffsetsIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The body as a sequence of loops -/

/-- A tap's weights lie in the weights. -/
theorem inb_w (t : Fin 9) : ∀ a, (![t.val, 0, 0] : Fin 3 → ℕ) a + S1x2048x216.size a ≤ S9x2048x216.size a := fun a => by
  have := t.isLt
  match a with
  | ⟨0, _⟩ => show t.val + 1 ≤ 9; omega
  | ⟨1, _⟩ => show 0 + 2048 ≤ 2048; omega
  | ⟨2, _⟩ => show 0 + 216 ≤ 216; omega

/-- The row of the padded products that tap `t` reads first in block `i`, as the body's word. -/
def rowWd (t : Fin 9) (i : Fin k0_t2_loop.trips) : ℕ := (Scalar.indexCast (Scalar.addi (Scalar.muli (Scf.iv 0#32 1#32 i) 128#32) (BitVec.ofNat 32 (rowOf t)))).toNat
/-- The row of the shifted product that a block reads for a tap. -/
theorem rowWd_eq : ∀ (t : Fin 9) (i : Fin k0_t2_loop.trips), rowWd t i = 128 * i.val + rowOf t := by decide +kernel
/-- The rows so read lie in the buffer. -/
theorem inb_r (h : Fin 2) (t : Fin 9) (i : Fin k0_t2_loop.trips) : ∀ a, (![h.val, rowWd t i, 0] : Fin 3 → ℕ) a + S1x128x128.size a ≤ S2x1568x128.size a := fun a => by
  have h1 := t.isLt
  have h3 := h.isLt
  have h2 : i.val < 12 := Nat.lt_of_lt_of_eq i.isLt (by decide)
  have hr : rowOf t ≤ 29 := by unfold rowOf; omega
  rw [rowWd_eq]
  match a with
  | ⟨0, _⟩ => show h.val + 1 ≤ 2; omega
  | ⟨1, _⟩ => show 128 * i.val + rowOf t + 128 ≤ 1568; omega
  | ⟨2, _⟩ => show 0 + 128 ≤ 128; omega

/-- The loop of a tap's products. -/
def mmL (arg1 : Memref sig .tc .vmem S1536x2048 .fp8e4m3) (arg2 : Memref sig .tc .vmem S9x2048x216 .bf16) (arg6 : Memref sig .tc .vmem S2x1568x128 .f32) (t : Fin 9) :
    Prog (TpuEff nD τ sig (Elt F) Λ₀ .tc) Unit :=
  Scf.Loop.for k0_t1_loop k0_t1_ok ⟨⟩ fun i _ => mmB arg1 arg2 arg6 (k0_off1 i) (k0_off1_inb i) ![t.val, 0, 0] (inb_w t) (k0_off2 i) (k0_off2_inb i) (k0_off3 i) (k0_off3_inb i)

/-- The loop that starts the sums. -/
def setL (arg6 : Memref sig .tc .vmem S2x1568x128 .f32) (arg7 : Memref sig .tc .vmem S2x1536x128 .f32) : Prog (TpuEff nD τ sig (Elt F) Λ₀ .tc) Unit :=
  Scf.Loop.for k0_t2_loop k0_t2_ok ⟨⟩ fun i _ => setB arg6 arg7 (dxW 0) i.val (k0_off4 i) (k0_off4_inb i) (k0_off5 i) (k0_off5_inb i) (k0_off6 i) (k0_off6_inb i) (k0_off7 i) (k0_off7_inb i)

/-- The loop that adds a later tap. -/
def addL (arg6 : Memref sig .tc .vmem S2x1568x128 .f32) (arg7 : Memref sig .tc .vmem S2x1536x128 .f32) (t : Fin 9) : Prog (TpuEff nD τ sig (Elt F) Λ₀ .tc) Unit :=
  Scf.Loop.for k0_t2_loop k0_t2_ok ⟨⟩ fun i _ => addB arg6 arg7 (dxW t) i.val ![(0 : Fin 2).val, rowWd t i, 0] (inb_r 0 t i) (k0_off5 i) (k0_off5_inb i) ![(1 : Fin 2).val, rowWd t i, 0] (inb_r 1 t i) (k0_off7 i) (k0_off7_inb i)

/-- The loop over the blocks of positions and weights. -/
def prepL (arg3 : Memref sig .tc .vmem S2x1x128 .f32) (arg4 : Memref sig .tc .vmem S12x9x8x128 .i32) (arg5 : Memref sig .tc .vmem S12x9x4x8x128 .f32) (arg7 : Memref sig .tc .vmem S2x1536x128 .f32) (arg8 : Memref sig .tc .vmem S256x128 .f32)
    (v27 : Elt F .f32) : Prog (TpuEff nD τ sig (Elt F) Λ₀ .tc) Unit :=
  Scf.Loop.for k0_t19_loop k0_t19_ok ⟨⟩ fun i _ => prepB arg3 arg4 arg5 arg7 arg8 v27 i

/-- The border rows are zeroed. -/
def padB (arg6 : Memref sig .tc .vmem S2x1568x128 .f32) : Prog (TpuEff nD τ sig (Elt F) Λ₀ .tc) Unit := do
  let v1 : Vec F S2x16x128 .f32 ← Prog.lift (.load arg6 (Rect.unit (s := S2x1568x128) ![0, 0, 0] S2x16x128.size inb_S2x1568x128_S2x16x128_0_0_0).toLoadRect (View.loadsAt_vmem h_S2x16x128))
  Prog.lift (.store arg6 (Rect.unit (s := S2x1568x128) ![0, 0, 0] S2x16x128.size inb_S2x1568x128_S2x16x128_0_0_0) (k0_pay197 (F := F)) Finset.univ (View.stores_vmem_bits_univ h_S2x16x128 rfl) (.inl rfl))
  let v5 : Vec F S2x16x128 .f32 ← Prog.lift (.load arg6 (Rect.unit (s := S2x1568x128) ![0, 1552, 0] S2x16x128.size inb_S2x1568x128_S2x16x128_0_1552_0).toLoadRect (View.loadsAt_vmem h_S2x16x128))
  Prog.lift (.store arg6 (Rect.unit (s := S2x1568x128) ![0, 1552, 0] S2x16x128.size inb_S2x1568x128_S2x16x128_0_1552_0) (k0_pay198 (F := F)) Finset.univ (View.stores_vmem_bits_univ h_S2x16x128 rfl) (.inl rfl))
  pure ⟨⟩

/-- The nine taps. -/
def tapsB (arg1 : Memref sig .tc .vmem S1536x2048 .fp8e4m3) (arg2 : Memref sig .tc .vmem S9x2048x216 .bf16) (arg6 : Memref sig .tc .vmem S2x1568x128 .f32) (arg7 : Memref sig .tc .vmem S2x1536x128 .f32) :
    Prog (TpuEff nD τ sig (Elt F) Λ₀ .tc) Unit := do
  mmL arg1 arg2 arg6 0
  setL arg6 arg7
  mmL arg1 arg2 arg6 1
  addL arg6 arg7 1
  mmL arg1 arg2 arg6 2
  addL arg6 arg7 2
  mmL arg1 arg2 arg6 3
  addL arg6 arg7 3
  mmL arg1 arg2 arg6 4
  addL arg6 arg7 4
  mmL arg1 arg2 arg6 5
  addL arg6 arg7 5
  mmL arg1 arg2 arg6 6
  addL arg6 arg7 6
  mmL arg1 arg2 arg6 7
  addL arg6 arg7 7
  mmL arg1 arg2 arg6 8
  addL arg6 arg7 8

/-- The whole body. -/
def offB (arg0 : Memref sig .tc .smem S1 .f32) (harg0 : arg0.IsWhole)
  (arg1 : Memref sig .tc .vmem S1536x2048 .fp8e4m3) (harg1 : arg1.IsWhole)
  (arg2 : Memref sig .tc .vmem S9x2048x216 .bf16) (harg2 : arg2.IsWhole)
  (arg3 : Memref sig .tc .vmem S2x1x128 .f32) (harg3 : arg3.IsWhole)
  (arg4 : Memref sig .tc .vmem S12x9x8x128 .i32) (harg4 : arg4.IsWhole)
  (arg5 : Memref sig .tc .vmem S12x9x4x8x128 .f32) (harg5 : arg5.IsWhole)
  (arg6 : Memref sig .tc .vmem S2x1568x128 .f32) (harg6 : arg6.IsWhole)
  (arg7 : Memref sig .tc .vmem S2x1536x128 .f32) (harg7 : arg7.IsWhole)
  (arg8 : Memref sig .tc .vmem S256x128 .f32) (harg8 : arg8.IsWhole) : Prog (TpuEff nD τ sig (Elt F) Λ₀ .tc) Unit := do
  padB arg6
  tapsB arg1 arg2 arg6 arg7
  let v27 : Elt F .f32 ← smemLoad arg0 (Rect.unit (s := S1) ![0] S1.size inb_S1_S1_0) numel1_S1 rfl
  prepL arg3 arg4 arg5 arg7 arg8 v27
  pure ⟨⟩

set_option maxRecDepth 65536 in
/-- The first half of the printed body. -/
theorem part32_eq (arg0 : Memref sig .tc .smem S1 .f32) (harg0 : arg0.IsWhole)
  (arg1 : Memref sig .tc .vmem S1536x2048 .fp8e4m3) (harg1 : arg1.IsWhole)
  (arg2 : Memref sig .tc .vmem S9x2048x216 .bf16) (harg2 : arg2.IsWhole)
  (arg3 : Memref sig .tc .vmem S2x1x128 .f32) (harg3 : arg3.IsWhole)
  (arg4 : Memref sig .tc .vmem S12x9x8x128 .i32) (harg4 : arg4.IsWhole)
  (arg5 : Memref sig .tc .vmem S12x9x4x8x128 .f32) (harg5 : arg5.IsWhole)
  (arg6 : Memref sig .tc .vmem S2x1568x128 .f32) (harg6 : arg6.IsWhole)
  (arg7 : Memref sig .tc .vmem S2x1536x128 .f32) (harg7 : arg7.IsWhole)
  (arg8 : Memref sig .tc .vmem S256x128 .f32) (harg8 : arg8.IsWhole) : k0_part32 (F := F) arg0 harg0 arg1 harg1 arg2 harg2 arg3 harg3 arg4 harg4 arg5 harg5 arg6 harg6 arg7 harg7 arg8 harg8 = (do
    padB arg6
    mmL arg1 arg2 arg6 0
    setL arg6 arg7
    mmL arg1 arg2 arg6 1
    addL arg6 arg7 1
    mmL arg1 arg2 arg6 2
    addL arg6 arg7 2
    mmL arg1 arg2 arg6 3
    pure (iota .tc S128x128 32 [0] iota_S128x128_d0_w32)) := rfl

set_option maxRecDepth 65536 in
/-- The second half. -/
theorem part33_eq (arg0 : Memref sig .tc .smem S1 .f32) (harg0 : arg0.IsWhole)
  (arg1 : Memref sig .tc .vmem S1536x2048 .fp8e4m3) (harg1 : arg1.IsWhole)
  (arg2 : Memref sig .tc .vmem S9x2048x216 .bf16) (harg2 : arg2.IsWhole)
  (arg3 : Memref sig .tc .vmem S2x1x128 .f32) (harg3 : arg3.IsWhole)
  (arg4 : Memref sig .tc .vmem S12x9x8x128 .i32) (harg4 : arg4.IsWhole)
  (arg5 : Memref sig .tc .vmem S12x9x4x8x128 .f32) (harg5 : arg5.IsWhole)
  (arg6 : Memref sig .tc .vmem S2x1568x128 .f32) (harg6 : arg6.IsWhole)
  (arg7 : Memref sig .tc .vmem S2x1536x128 .f32) (harg7 : arg7.IsWhole)
  (arg8 : Memref sig .tc .vmem S256x128 .f32) (harg8 : arg8.IsWhole) : k0_part33 (F := F) arg0 harg0 arg1 harg1 arg2 harg2 arg3 harg3 arg4 harg4 arg5 harg5 arg6 harg6 arg7 harg7 arg8 harg8 (iota .tc S128x128 32 [0] iota_S128x128_d0_w32) = (do
    addL arg6 arg7 3
    mmL arg1 arg2 arg6 4
    addL arg6 arg7 4
    mmL arg1 arg2 arg6 5
    addL arg6 arg7 5
    mmL arg1 arg2 arg6 6
    addL arg6 arg7 6
    mmL arg1 arg2 arg6 7
    addL arg6 arg7 7
    mmL arg1 arg2 arg6 8
    pure ()) := rfl

set_option maxRecDepth 65536 in
set_option maxHeartbeats 2000000 in
/-- The printed body is the sequence of its loops. -/
theorem offB_eq (arg0 : Memref sig .tc .smem S1 .f32) (harg0 : arg0.IsWhole)
  (arg1 : Memref sig .tc .vmem S1536x2048 .fp8e4m3) (harg1 : arg1.IsWhole)
  (arg2 : Memref sig .tc .vmem S9x2048x216 .bf16) (harg2 : arg2.IsWhole)
  (arg3 : Memref sig .tc .vmem S2x1x128 .f32) (harg3 : arg3.IsWhole)
  (arg4 : Memref sig .tc .vmem S12x9x8x128 .i32) (harg4 : arg4.IsWhole)
  (arg5 : Memref sig .tc .vmem S12x9x4x8x128 .f32) (harg5 : arg5.IsWhole)
  (arg6 : Memref sig .tc .vmem S2x1568x128 .f32) (harg6 : arg6.IsWhole)
  (arg7 : Memref sig .tc .vmem S2x1536x128 .f32) (harg7 : arg7.IsWhole)
  (arg8 : Memref sig .tc .vmem S256x128 .f32) (harg8 : arg8.IsWhole) : cc0_offsets_skel (F := F) arg0 harg0 arg1 harg1 arg2 harg2 arg3 harg3 arg4 harg4 arg5 harg5 arg6 harg6 arg7 harg7 arg8 harg8 = offB arg0 harg0 arg1 harg1 arg2 harg2 arg3 harg3 arg4 harg4 arg5 harg5 arg6 harg6 arg7 harg7 arg8 harg8 := by
  unfold cc0_offsets_skel offB tapsB
  rw [part32_eq]
  simp only [Prog.bind_assoc, Prog.pure_eq_ret, Prog.bind_ret]
  rw [part33_eq]
  simp only [Prog.bind_assoc, Prog.pure_eq_ret, Prog.bind_ret]
  rfl

section
variable (c : Dev nD) (arg0 : Memref sig .tc .smem S1 .f32) (arg1 : Memref sig .tc .vmem S1536x2048 .fp8e4m3) (arg2 : Memref sig .tc .vmem S9x2048x216 .bf16)
  (arg3 : Memref sig .tc .vmem S2x1x128 .f32) (arg4 : Memref sig .tc .vmem S12x9x8x128 .i32) (arg5 : Memref sig .tc .vmem S12x9x4x8x128 .f32)
  (arg6 : Memref sig .tc .vmem S2x1568x128 .f32) (arg7 : Memref sig .tc .vmem S2x1536x128 .f32) (arg8 : Memref sig .tc .vmem S256x128 .f32)

/-- The products after `z` blocks of tap `t` and the sums after `n`. -/
def tapS (X : Vec F S1536x2048 .fp8e4m3) (W : Vec F S9x2048x216 .bf16) (t : Fin 9) (z n : ℕ) : sProp (MT nD τ sig Unit (Elt F) ℕ (UU nD τ) ℕ) :=
  iprop((∃ Z, ⌜ZOk X W t z Z⌝ ∗ at_ c arg1 X ∗ at_ c arg2 W ∗ at_ (F := F) c arg6 Z) ∗ ∃ O, ⌜OOk X W t n O⌝ ∗ at_ (F := F) c arg7 O)

/-- The rows of x a trip of the product reads. -/
theorem o1_eq : ∀ i : Fin k0_t1_loop.trips, k0_off1 i = ![128 * i.val, 0] := by decide +kernel
/-- The rows the lower half of a product is stored to. -/
theorem o2_eq : ∀ i : Fin k0_t1_loop.trips, k0_off2 i = ![0, 16 + 128 * i.val, 0] := by decide +kernel
/-- The rows the upper half of a product is stored to. -/
theorem o3_eq : ∀ i : Fin k0_t1_loop.trips, k0_off3 i = ![1, 16 + 128 * i.val, 0] := by decide +kernel
/-- The rows of the product's lower half that the first tap reads. -/
theorem o4_eq : ∀ i : Fin k0_t2_loop.trips, k0_off4 i = ![0, 128 * i.val + rowOf 0, 0] := by decide +kernel
/-- The rows of the accumulator's lower half. -/
theorem o5_eq : ∀ i : Fin k0_t2_loop.trips, k0_off5 i = ![0, 128 * i.val, 0] := by decide +kernel
/-- The rows of the product's upper half that the first tap reads. -/
theorem o6_eq : ∀ i : Fin k0_t2_loop.trips, k0_off6 i = ![1, 128 * i.val + rowOf 0, 0] := by decide +kernel
/-- The rows of the accumulator's upper half. -/
theorem o7_eq : ∀ i : Fin k0_t2_loop.trips, k0_off7 i = ![1, 128 * i.val, 0] := by decide +kernel

/-- A tap's products. -/
theorem mmL_run (X : Vec F S1536x2048 .fp8e4m3) (W : Vec F S9x2048x216 .bf16) (t : Fin 9) (n : ℕ) :
    tapS c arg1 arg2 arg6 arg7 X W t 0 n ⊢ wp frame (wpE (defs₀ (F := F)) 𝒱₀ (c : Thread nD τ) none) Set.univ (mmL arg1 arg2 arg6 t) fun _ => tapS c arg1 arg2 arg6 arg7 X W t 12 n := by
  unfold mmL tapS
  iintro ⟨HZ, HO⟩
  sl_for (fun k _ => iprop(∃ Z, ⌜ZOk X W t k Z⌝ ∗ at_ c arg1 X ∗ at_ c arg2 W ∗ at_ (F := F) c arg6 Z)) $$ [HZ HO]
  case region => intro k a; exact mmB_run c arg1 arg2 arg6 X W t k.val (Nat.lt_of_lt_of_eq k.isLt (by decide)) (o1_eq k) rfl (o2_eq k) (o3_eq k)
  isplitl [HZ]; · iexact HZ
  rw [(by decide : Scf.trips k0_t1_loop.lb k0_t1_loop.ub k0_t1_loop.st = 12)]
  iintro %a HZ
  isplitl [HZ]; · iexact HZ
  iexact HO

/-- The first tap's sums. -/
theorem setL_run (X : Vec F S1536x2048 .fp8e4m3) (W : Vec F S9x2048x216 .bf16) :
    tapS c arg1 arg2 arg6 arg7 X W 0 12 0 ⊢ wp frame (wpE (defs₀ (F := F)) 𝒱₀ (c : Thread nD τ) none) Set.univ (setL arg6 arg7) fun _ => tapS c arg1 arg2 arg6 arg7 X W 0 12 12 := by
  unfold setL tapS
  iintro ⟨⟨%Z, %hZ, H1, H2, H6⟩, ⟨%O, %hO, H7⟩⟩
  sl_for (fun k _ => iprop(∃ Z O, ⌜ZOk X W 0 12 Z⌝ ∗ ⌜OOk X W 0 k O⌝ ∗ at_ (F := F) c arg6 Z ∗ at_ (F := F) c arg7 O)) $$ [H1 H2 H6 H7]
  case region => intro k a; exact setB_run c arg6 arg7 X W k.val (Nat.lt_of_lt_of_eq k.isLt (by decide)) (o4_eq k) (o5_eq k) (o6_eq k) (o7_eq k)
  isplitl [H6 H7]
  · iexists Z
    iexists O
    isplitr; · ipureintro; exact hZ
    isplitr; · ipureintro; exact hO
    isplitl [H6]; · iexact H6
    iexact H7
  rw [(by decide : Scf.trips k0_t2_loop.lb k0_t2_loop.ub k0_t2_loop.st = 12)]
  iintro %a ⟨%Z, %O, %hZ, %hO, H6, H7⟩
  isplitl [H1 H2 H6]
  · iexists Z
    isplitr; · ipureintro; exact hZ
    isplitl [H1]; · iexact H1
    isplitl [H2]; · iexact H2
    iexact H6
  · iexists O
    isplitr; · ipureintro; exact hO
    iexact H7

/-- A later tap's sums. -/
theorem addL_run (X : Vec F S1536x2048 .fp8e4m3) (W : Vec F S9x2048x216 .bf16) (t : Fin 9) (ht : t.val ≠ 0) :
    tapS c arg1 arg2 arg6 arg7 X W t 12 0 ⊢ wp frame (wpE (defs₀ (F := F)) 𝒱₀ (c : Thread nD τ) none) Set.univ (addL arg6 arg7 t) fun _ => tapS c arg1 arg2 arg6 arg7 X W t 12 12 := by
  unfold addL tapS
  iintro ⟨⟨%Z, %hZ, H1, H2, H6⟩, ⟨%O, %hO, H7⟩⟩
  sl_for (fun k _ => iprop(∃ Z O, ⌜ZOk X W t 12 Z⌝ ∗ ⌜OOk X W t k O⌝ ∗ at_ (F := F) c arg6 Z ∗ at_ (F := F) c arg7 O)) $$ [H1 H2 H6 H7]
  case region => intro k a; exact addB_run c arg6 arg7 X W t ht (dxW t) rfl k.val (Nat.lt_of_lt_of_eq k.isLt (by decide)) (by rw [rowWd_eq]; rfl) (o5_eq k) (by rw [rowWd_eq]; rfl) (o7_eq k)
  isplitl [H6 H7]
  · iexists Z
    iexists O
    isplitr; · ipureintro; exact hZ
    isplitr; · ipureintro; exact hO
    isplitl [H6]; · iexact H6
    iexact H7
  rw [(by decide : Scf.trips k0_t2_loop.lb k0_t2_loop.ub k0_t2_loop.st = 12)]
  iintro %a ⟨%Z, %O, %hZ, %hO, H6, H7⟩
  isplitl [H1 H2 H6]
  · iexists Z
    isplitr; · ipureintro; exact hZ
    isplitl [H1]; · iexact H1
    isplitl [H2]; · iexact H2
    iexact H6
  · iexists O
    isplitr; · ipureintro; exact hO
    iexact H7

/-- The next tap finds the sums as the last one left them. -/
theorem tapS_next (X : Vec F S1536x2048 .fp8e4m3) (W : Vec F S9x2048x216 .bf16) (t t' : Fin 9) (h : t'.val = t.val + 1) :
    tapS c arg1 arg2 arg6 arg7 X W t 12 12 ⊢ tapS c arg1 arg2 arg6 arg7 X W t' 0 0 := by
  unfold tapS
  iintro ⟨⟨%Z, %hZ, H1, H2, H6⟩, ⟨%O, %hO, H7⟩⟩
  isplitl [H1 H2 H6]
  · iexists Z
    isplitr; · ipureintro; exact zOk_next hZ t'
    isplitl [H1]; · iexact H1
    isplitl [H2]; · iexact H2
    iexact H6
  · iexists O
    isplitr; · ipureintro; exact oOk_next hO t' h
    iexact H7

/-- The nine taps leave the sums. -/
theorem tapsB_run (X : Vec F S1536x2048 .fp8e4m3) (W : Vec F S9x2048x216 .bf16) :
    tapS c arg1 arg2 arg6 arg7 X W 0 0 0 ⊢ wp frame (wpE (defs₀ (F := F)) 𝒱₀ (c : Thread nD τ) none) Set.univ (tapsB arg1 arg2 arg6 arg7) fun _ => tapS c arg1 arg2 arg6 arg7 X W 8 12 12 := by
  have mm := fun t => mmL_run c arg1 arg2 arg6 arg7 X W t 0
  have ad := addL_run c arg1 arg2 arg6 arg7 X W
  have nx := tapS_next c arg1 arg2 arg6 arg7 X W
  unfold tapsB
  refine wp_seq (mm 0) (wp_seq (setL_run c arg1 arg2 arg6 arg7 X W) ?_)
  refine (nx 0 1 rfl).trans (wp_seq (mm 1) (wp_seq (ad 1 (by decide)) ?_))
  refine (nx 1 2 rfl).trans (wp_seq (mm 2) (wp_seq (ad 2 (by decide)) ?_))
  refine (nx 2 3 rfl).trans (wp_seq (mm 3) (wp_seq (ad 3 (by decide)) ?_))
  refine (nx 3 4 rfl).trans (wp_seq (mm 4) (wp_seq (ad 4 (by decide)) ?_))
  refine (nx 4 5 rfl).trans (wp_seq (mm 5) (wp_seq (ad 5 (by decide)) ?_))
  refine (nx 5 6 rfl).trans (wp_seq (mm 6) (wp_seq (ad 6 (by decide)) ?_))
  refine (nx 6 7 rfl).trans (wp_seq (mm 7) (wp_seq (ad 7 (by decide)) ?_))
  exact (nx 7 8 rfl).trans (wp_seq (mm 8) (ad 8 (by decide)))

/-- The border rows are zero. -/
theorem padB_run (X : Vec F S1536x2048 .fp8e4m3) (W : Vec F S9x2048x216 .bf16) :
    iprop(∃ Y, at_ (F := F) c arg6 Y) ⊢ wp frame (wpE (defs₀ (F := F)) 𝒱₀ (c : Thread nD τ) none) Set.univ (padB arg6) fun _ => iprop(∃ Z, ⌜ZOk X W 0 0 Z⌝ ∗ at_ (F := F) c arg6 Z) := by
  unfold padB
  iintro ⟨%Y, H6⟩
  sl_exec
  sl_step
  iexists _
  isplitr
  rotate_left
  · iapply (pointsTo_rep_of_read (c : Thread nD τ) arg6 _ fullShare _ rfl) $$ H6
  · ipureintro
    refine ⟨fun h q l hq => ?_, fun p ch hp => absurd hp (by omega)⟩
    rcases hq with hq | hq
    · refine (View.read_writes_cons_unit_of_not_mem (Val := Elt F) arg6.view _ _ _ _ _ rfl (1 : Fin 3) (by show q.val < 1552 ∨ 1552 + 16 ≤ q.val; omega)).trans ?_
      exact View.read_writes_cons_unit_of_mem (Val := Elt F) arg6.view _ _ _ [] _ (ix3 h ⟨q.val, hq⟩ l) rfl (fun a => by
        match a with
        | ⟨0, _⟩ => show h.val = 0 + h.val; omega
        | ⟨1, _⟩ => show q.val = 0 + q.val; omega
        | ⟨2, _⟩ => show l.val = 0 + l.val; omega)
    · exact View.read_writes_cons_unit_of_mem (Val := Elt F) arg6.view _ _ _ _ _ (ix3 h ⟨q.val - 1552, by have := q.isLt; omega⟩ l) rfl (fun a => by
        match a with
        | ⟨0, _⟩ => show h.val = 0 + h.val; omega
        | ⟨1, _⟩ => show q.val = 1552 + (q.val - 1552); omega
        | ⟨2, _⟩ => show l.val = 0 + l.val; omega)

/-- The last loop. -/
theorem prepL_run (s : Elt F .f32) (B : Vec F S2x1x128 .f32) (X : Vec F S1536x2048 .fp8e4m3) (W : Vec F S9x2048x216 .bf16) :
    prepI c arg3 arg4 arg5 arg7 arg8 s B X W 0 ⊢ wp frame (wpE (defs₀ (F := F)) 𝒱₀ (c : Thread nD τ) none) Set.univ (prepL arg3 arg4 arg5 arg7 arg8 s) fun _ => prepI c arg3 arg4 arg5 arg7 arg8 s B X W 12 := by
  unfold prepL
  iintro H
  sl_for (fun k _ => prepI c arg3 arg4 arg5 arg7 arg8 s B X W k) $$ [H]
  case region => intro k a; exact prepB_run c arg3 arg4 arg5 arg7 arg8 s B X W ⟨k.val, Nat.lt_of_lt_of_eq k.isLt (by decide)⟩
  isplitl [H]; · iexact H
  rw [(by decide : Scf.trips k0_t19_loop.lb k0_t19_loop.ub k0_t19_loop.st = 12)]
  iintro %a H
  iexact H
end

section
variable (c : Dev nD) (arg0 : Memref sig .tc .smem S1 .f32) (harg0 : arg0.IsWhole)
  (arg1 : Memref sig .tc .vmem S1536x2048 .fp8e4m3) (harg1 : arg1.IsWhole)
  (arg2 : Memref sig .tc .vmem S9x2048x216 .bf16) (harg2 : arg2.IsWhole)
  (arg3 : Memref sig .tc .vmem S2x1x128 .f32) (harg3 : arg3.IsWhole)
  (arg4 : Memref sig .tc .vmem S12x9x8x128 .i32) (harg4 : arg4.IsWhole)
  (arg5 : Memref sig .tc .vmem S12x9x4x8x128 .f32) (harg5 : arg5.IsWhole)
  (arg6 : Memref sig .tc .vmem S2x1568x128 .f32) (harg6 : arg6.IsWhole)
  (arg7 : Memref sig .tc .vmem S2x1536x128 .f32) (harg7 : arg7.IsWhole)
  (arg8 : Memref sig .tc .vmem S256x128 .f32) (harg8 : arg8.IsWhole)

/-- The body leaves its operands and writes every block's index words and weights. -/
theorem body (S : Vec F S1 .f32) (X : Vec F S1536x2048 .fp8e4m3) (W : Vec F S9x2048x216 .bf16) (B : Vec F S2x1x128 .f32) :
    iprop(at_ c arg0 S ∗ at_ c arg1 X ∗ at_ c arg2 W ∗ at_ c arg3 B ∗ (∃ Y, at_ (F := F) c arg4 Y) ∗ (∃ Y, at_ (F := F) c arg5 Y)
      ∗ (∃ Y, at_ (F := F) c arg6 Y) ∗ (∃ Y, at_ (F := F) c arg7 Y) ∗ (∃ Y, at_ (F := F) c arg8 Y))
      ⊢ wp frame (wpE (defs₀ (F := F)) 𝒱₀ (c : Thread nD τ) none) Set.univ (cc0_offsets_skel arg0 harg0 arg1 harg1 arg2 harg2 arg3 harg3 arg4 harg4 arg5 harg5 arg6 harg6 arg7 harg7 arg8 harg8)
        fun _ => iprop(∃ A4 A5, ⌜POk (S (ix1 0)) B X W 12 0 A4 A5⌝ ∗ at_ c arg0 S ∗ at_ c arg1 X ∗ at_ c arg2 W ∗ at_ c arg3 B ∗ at_ (F := F) c arg4 A4 ∗ at_ (F := F) c arg5 A5
          ∗ (∃ Y, at_ (F := F) c arg6 Y) ∗ (∃ Y, at_ (F := F) c arg7 Y) ∗ (∃ Y, at_ (F := F) c arg8 Y)) := by
  rw [offB_eq]
  unfold offB
  iintro ⟨H0, H1, H2, H3, ⟨%Y4, H4⟩, ⟨%Y5, H5⟩, H6, ⟨%Y7, H7⟩, ⟨%Y8, H8⟩⟩
  rw [wp_bind]
  iapply (wp_wand_r _ _ _)
  isplitl [H6]; · iapply (padB_run c arg6 X W) $$ H6
  iintro %_ ⟨%Z, %hZ, H6⟩
  rw [wp_bind]
  iapply (wp_wand_r _ _ _)
  isplitl [H1 H2 H6 H7]
  · iapply (tapsB_run c arg1 arg2 arg6 arg7 X W)
    unfold tapS
    isplitl [H1 H2 H6]
    · iexists Z
      isplitr; · ipureintro; exact hZ
      isplitl [H1]; · iexact H1
      isplitl [H2]; · iexact H2
      iexact H6
    · iexists Y7
      isplitr; · ipureintro; exact fun p ch => ⟨fun hp => absurd hp (by omega), fun _ h => absurd rfl h⟩
      iexact H7
  unfold tapS
  iintro %_ ⟨⟨%Z, %hZ, H1, H2, H6⟩, ⟨%O, %hO, H7⟩⟩
  simp only [smemLoad, smemLoadElt]
  sl_exec
  have hs : View.readAt (Elt F) arg0.view (Rect.unit (s := S1) ![0] S1.size inb_S1_S1_0).toLoadRect (arg0.view.rep S) (Shape.Idx.first (numel1_S1.symm ▸ Nat.one_pos)) = S (ix1 0) := by
    refine (congrFun (View.read_rep (Val := Elt F) arg0.view S) _).trans (congrArg S (funext fun a => ?_))
    match a with
    | ⟨0, _⟩ => exact Subsingleton.elim (α := Fin 1) _ _
  iapply (wp_wand_r _ _ _)
  isplitl [H3 H4 H5 H7 H8]
  · iapply ((prepL_run c arg3 arg4 arg5 arg7 arg8 (S (ix1 0)) B X W).trans (entails_of_eq (by unfold prepL; rw [← hs])))
    unfold prepI
    iexists Y4, Y5, O, Y8
    isplitr; · ipureintro; exact fun b t h => absurd h (by have := b.isLt; omega)
    isplitr; · ipureintro; exact hO
    isplitl [H4]; · iexact H4
    isplitl [H5]; · iexact H5
    isplitl [H3]; · iexact H3
    isplitl [H7]; · iexact H7
    iexact H8
  unfold prepI
  iintro %_ ⟨%A4, %A5, %O', %T, %hP, -, H4, H5, H3, H7, H8⟩
  dsimp only
  rw [hs] at hP
  rw [wp_pure]
  try imodintro
  iexists A4, A5
  isplitr; · ipureintro; exact hP
  isplitl [H0]; · iexact H0
  isplitl [H1]; · iexact H1
  isplitl [H2]; · iexact H2
  isplitl [H3]; · iexact H3
  isplitl [H4]; · iexact H4
  isplitl [H5]; · iexact H5
  isplitl [H6]; · iexists Z; iexact H6
  isplitl [H7]; · iexists O'; iexact H7
  iexists T; iexact H8
end

end Cert.Proof.OffsetsIdeal

end
-- ==== Proof.OffILaunch.lean ====
/- The offset convolution launched: the region around the body, and what a run leaves. -/
module

public import proofs.«01_k».proof.Proof.OffIBody
public import proofs.«01_k».proof.Proof.Gen.OffsetsIdeal.Frame
public import proofs.«01_k».proof.Proof.Gen.OffsetsIdeal.Launch
public import proofs.«01_k».proof.Proof.Gen.OffsetsIdeal.Points
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.OffsetsIdeal

open Cert.OffsetsIdeal Cert.OffsetsIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The index result: the words of block `y 0` and tap `y 1`. -/
def idxOut (S : Vec F S1 .f32) (X : Vec F S1536x2048 .fp8e4m3) (W : Vec F S9x2048x216 .bf16) (B : Vec F S2x1x128 .f32) : Vec F S12x9x8x128 .i32 :=
  fun y => idxV (S (ix1 0)) B X W (y 0) (y 1) (ix2 (y 2) (y 3))
/-- The weight result: the weights of block `y 0`, tap `y 1` and corner `y 2`. -/
def wtOut (S : Vec F S1 .f32) (X : Vec F S1536x2048 .fp8e4m3) (W : Vec F S9x2048x216 .bf16) (B : Vec F S2x1x128 .f32) : Vec F S12x9x4x8x128 .f32 :=
  fun y => wtV (S (ix1 0)) B X W (y 0) (y 1) (y 2) (ix2 (y 3) (y 4))

/-- All blocks done, both results are settled. -/
theorem idxOut_eq {S : Vec F S1 .f32} {X : Vec F S1536x2048 .fp8e4m3} {W : Vec F S9x2048x216 .bf16} {B : Vec F S2x1x128 .f32} {A4 : Vec F S12x9x8x128 .i32} {A5 : Vec F S12x9x4x8x128 .f32}
    (h : POk (S (ix1 0)) B X W 12 0 A4 A5) : A4 = idxOut S X W B := funext fun y =>
  (congrArg A4 (funext fun a => by match a with | ⟨0, _⟩ => rfl | ⟨1, _⟩ => rfl | ⟨2, _⟩ => rfl | ⟨3, _⟩ => rfl)).trans ((h (y 0) (y 1) (Or.inl (y 0).isLt)).1 (y 2) (y 3))
/-- Weights right up to the last block are the whole result. -/
theorem wtOut_eq {S : Vec F S1 .f32} {X : Vec F S1536x2048 .fp8e4m3} {W : Vec F S9x2048x216 .bf16} {B : Vec F S2x1x128 .f32} {A4 : Vec F S12x9x8x128 .i32} {A5 : Vec F S12x9x4x8x128 .f32}
    (h : POk (S (ix1 0)) B X W 12 0 A4 A5) : A5 = wtOut S X W B := funext fun y =>
  (congrArg A5 (funext fun a => by match a with | ⟨0, _⟩ => rfl | ⟨1, _⟩ => rfl | ⟨2, _⟩ => rfl | ⟨3, _⟩ => rfl | ⟨4, _⟩ => rfl)).trans ((h (y 0) (y 1) (Or.inl (y 0).isLt)).2 (y 2) (y 3) (y 4))

section
variable (m : (ℓ : Loc nD τ sig) → Buf (Elt F) ℓ) (ρ : Dev nD → PrngReg)

/-- The scratch buffers at anything. -/
def Φ (c : Dev nD) : sProp 𝕄 := iprop((∃ Y, at_ (F := F) c (Memref.whole cc0_scratch0) Y)
      ∗ (∃ Y, at_ (F := F) c (Memref.whole cc0_scratch1) Y)
      ∗ (∃ Y, at_ (F := F) c (Memref.whole cc0_scratch2) Y))

/-- A scratch buffer whole, as a memref held at values. -/
theorem buf_at (c : Dev nD) (b : Ref sig .tc) : iprop(∃ f : Buf (Elt F) ((c : Thread nD τ).loc b), ((c : Thread nD τ).loc b) ↦{fullShare} f)
    ⊢ (iprop(∃ Y, at_ (F := F) c (Memref.whole b) Y) : sProp 𝕄) := by
  iintro ⟨%f, H⟩
  iexists (Memref.whole b).view.read (Elt F) f
  iapply (pointsTo_rep_of_read (c : Thread nD τ) (Memref.whole b) f fullShare _ rfl)
  rw [show (Memref.whole b).view.set = Finset.univ from View.set_whole b]
  iexact H
/-- And back. -/
theorem at_buf (c : Dev nD) (b : Ref sig .tc) : (iprop(∃ Y, at_ (F := F) c (Memref.whole b) Y) : sProp 𝕄)
    ⊢ iprop(∃ f : Buf (Elt F) ((c : Thread nD τ).loc b), ((c : Thread nD τ).loc b) ↦{fullShare} f) := by
  iintro ⟨%Y, H⟩
  iexists (Memref.whole b).view.rep Y
  ihave H := (entails_of_eq (congrArg (fun S => ((Memref.whole b).view.loc (c : Thread nD τ) ↦[S]{fullShare} (Memref.whole b).view.rep Y : sProp 𝕄)) (View.set_whole b))) $$ H
  iexact H

/-- What the body leaves in the index result's staging buffer. -/
def outAt4 (c : Dev nD) (t : Fin cfg0.N) : (cfg0.win 4).block.Idx → Elt F (cfg0.win 4).elt :=
  idxOut (iblk m c 0 t) (iblk m c 1 t) (iblk m c 2 t) (iblk m c 3 t)
/-- What the body leaves in the weight result's staging buffer. -/
def outAt5 (c : Dev nD) (t : Fin cfg0.N) : (cfg0.win 5).block.Idx → Elt F (cfg0.win 5).elt :=
  wtOut (iblk m c 0 t) (iblk m c 1 t) (iblk m c 2 t) (iblk m c 3 t)

/-- The region's data: arrays as launched, blocks left as they are, results as the body leaves them. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt4 m c t
    | ⟨5, _⟩ => outAt5 m c t
  Φ _ := Φ c
  q _ := fullShare
  owed _ := 0

/-- Window 0 holds its argument before the body. -/
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
/-- Window 0 holds its argument after the body. -/
theorem after_w0 (c : Dev nD) (t : Fin cfg0.N) : (dats m 0 c).after 0 t = iblk m c 0 t := by dsimp only [dats]
/-- Window 1 holds its argument before the body. -/
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
/-- Window 1 holds its argument after the body. -/
theorem after_w1 (c : Dev nD) (t : Fin cfg0.N) : (dats m 0 c).after 1 t = iblk m c 1 t := by dsimp only [dats]
/-- Window 2 holds its argument before the body. -/
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
/-- Window 2 holds its argument after the body. -/
theorem after_w2 (c : Dev nD) (t : Fin cfg0.N) : (dats m 0 c).after 2 t = iblk m c 2 t := by dsimp only [dats]
/-- Window 3 holds its argument before the body. -/
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
/-- Window 3 holds its argument after the body. -/
theorem after_w3 (c : Dev nD) (t : Fin cfg0.N) : (dats m 0 c).after 3 t = iblk m c 3 t := by dsimp only [dats]
/-- The body leaves the index words in window 4. -/
theorem after_w4 (c : Dev nD) (t : Fin cfg0.N) : (dats m 0 c).after 4 t = outAt4 m c t := by dsimp only [dats]
/-- The body leaves the weights in window 5. -/
theorem after_w5 (c : Dev nD) (t : Fin cfg0.N) : (dats m 0 c).after 5 t = outAt5 m c t := by dsimp only [dats]

/-- The call's label runs the body. -/
theorem defs_tc : (defs₀ (F := F)) .tc cfg0.body
    = fun a => cc0_offsets (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (Memref.whole cc0_scratch0) (Memref.isWhole_whole _) (Memref.whole cc0_scratch1) (Memref.isWhole_whole _) (Memref.whole cc0_scratch2) (Memref.isWhole_whole _) := rfl
/-- The program the label runs is the body over the staged blocks. -/
theorem prog_eq (t : Fin cfg0.N) : (defs₀ (F := F)) .tc cfg0.body (cfg0.bodyArgs t (cfg0.slots t)) = cc0_offsets_skel (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (Memref.whole cc0_scratch0) (Memref.isWhole_whole _) (Memref.whole cc0_scratch1) (Memref.isWhole_whole _) (Memref.whole cc0_scratch2) (Memref.isWhole_whole _) :=
  (congrFun defs_tc _).trans rfl

set_option backward.isDefEq.respectTransparency.types false in
/-- The body run on the point's staging buffers. -/
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, after_w0, after_w1, after_w2, after_w3, after_w4, after_w5]
  rw [show (dats m 0 c).Φ t.castSucc = Φ c from rfl, show (dats m 0 c).Φ t.succ = Φ c from rfl]
  unfold Dat.owesAt Pipeline.owesWithin
  rw [show (dats m 0 c).owed t.castSucc = 0 from rfl, show (dats m 0 c).owed t.succ = 0 from rfl]
  unfold owns Φ
  iintro ⟨⟨HS0, HS1, HS2⟩, ⟨%W, -, HW⟩, ⟨%d0, %g0, %hg0, H0⟩, ⟨%d1, %g1, %hg1, H1⟩, ⟨%d2, %g2, %hg2, H2⟩, ⟨%d3, %g3, %hg3, H3⟩, ⟨%d4, %g4, -, H4⟩, ⟨%d5, %g5, -, H5⟩⟩
  ihave H0 := (pointsTo_rep_of_read (c : Thread nD τ) (st0_0 t) g0 fullShare _ hg0) $$ H0
  ihave H1 := (pointsTo_rep_of_read (c : Thread nD τ) (st0_1 t) g1 fullShare _ hg1) $$ H1
  ihave H2 := (pointsTo_rep_of_read (c : Thread nD τ) (st0_2 t) g2 fullShare _ hg2) $$ H2
  ihave H3 := (pointsTo_rep_of_read (c : Thread nD τ) (st0_3 t) g3 fullShare _ hg3) $$ H3
  ihave H4 := (pointsTo_rep_of_read (c : Thread nD τ) (st0_4 t) g4 fullShare _ rfl) $$ H4
  ihave H5 := (pointsTo_rep_of_read (c : Thread nD τ) (st0_5 t) g5 fullShare _ rfl) $$ H5
  sl_rw [prog_eq t]
  iapply wp_wand_r
  isplitl [H0 H1 H2 H3 H4 H5 HS0 HS1 HS2]
  · iapply (body c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (Memref.whole cc0_scratch0) (Memref.isWhole_whole _) (Memref.whole cc0_scratch1) (Memref.isWhole_whole _) (Memref.whole cc0_scratch2) (Memref.isWhole_whole _)
      (iblk m c 0 t) (iblk m c 1 t) (iblk m c 2 t) (iblk m c 3 t))
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iexact HS2
  · iintro %u ⟨%A4, %A5, %hP, H0, H1, H2, H3, H4, H5, HS0, HS1, HS2⟩
    isplitl [HS0 HS1 HS2]
    · isplitl [HS0]; · iexact HS0
      isplitl [HS1]; · iexact HS1
      iexact HS2
    isplitl [HW]
    · iexists W; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact (View.read_rep _ _).trans (idxOut_eq hP)
      iexact H4
    iexists _; isplitr; · ipureintro; exact (View.read_rep _ _).trans (wtOut_eq hP)
    iexact H5

/-- The ghost state at the start. -/
def u₀ : UU nD τ := (initOf (Pipeline.cells cfgs Cert.OffsetsIdeal.Gen.cellOf_inj) (Pipeline.launchToks cfgs Cert.OffsetsIdeal.Gen.cellOf_inj), 1)

set_option backward.isDefEq.respectTransparency.types false in
/-- Every execution of the program ends, its arrays at the pipeline's final contents and every semaphore at zero. -/
theorem run_main : θ_run defs (onTc (τ := τ) (main (F := F))) (s₀ m ρ)
    (fun r => (∀ c : Dev nD, ∀ w : Fin cfg0.W, r.2.mem ((cfg0.win w).arr.view.loc (c : Thread nD τ)) = (dats m 0 c).arrAt w cfg0.N) ∧ r.2.sem = fun _ => 0) :=
  Pipeline.θ_run_region_noSem_kit_quiescent cfgs (dats m) () (0 : Fin 1) launch0 EP defs₀ 𝒱₀ m ρ main
    (hbody := fun c => (body_obligation m c).loose) (hshare := fun c => (dats m 0 c).share_full fun _ => rfl)
    (howed := fun _ _ => rfl)
    (u₀ := u₀)
    (hu₀ := by
      unfold u₀
      iintro Hu
      ihave H := (ownU_pair _ _) $$ Hu
      icases H with ⟨HP, -⟩
      iexact HP)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by
      iintro -
      isplitl []; · iempintro
      iempintro)
    (hin := fun c => by
      rw [scopedRest0_eq, show (dats m 0 c).Φ 0 = Φ c from rfl]
      unfold Φ
      iintro ⟨-, HS0, HS1, HS2⟩
      isplitl [HS0]; · iapply (buf_at c cc0_scratch0); iexact HS0
      isplitl [HS1]; · iapply (buf_at c cc0_scratch1); iexact HS1
      iapply (buf_at c cc0_scratch2); iexact HS2)
    (hout := fun c => by
      rw [scopedRest0_eq, show (dats m 0 c).Φ (Fin.last cfg0.N) = Φ c from rfl]
      unfold Φ
      iintro ⟨HS0, HS1, HS2⟩
      isplitl []; · iempintro
      isplitl [HS0]; · iapply (at_buf c cc0_scratch0); iexact HS0
      isplitl [HS1]; · iapply (at_buf c cc0_scratch1); iexact HS1
      iapply (at_buf c cc0_scratch2); iexact HS2)
    (QY := fun _ _ => True)
    (hY := fun c s' => by
      iintro ⟨-, -, HSI⟩
      imodintro
      isplitr; · ipureintro; trivial
      iexact HSI)
    (hQ := fun _ hh hz => ⟨fun c w => (hh c).1 w, hz⟩)

/-- An argument's array ends as it was. -/
theorem final_in (c : Dev nD) (w : Fin cfg0.W) (hw : (cfg0.win w).isOut = false) :
    (dats m 0 c).arrAt w cfg0.N = m ((cfg0.win w).arr.view.loc (c : Thread nD τ)) :=
  (dats (F := F) m 0 c).arrAt_in w hw _

/-- A run of the program ends with its arguments as they were and every semaphore at zero. -/
theorem frame_run : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r hh => ⟨fun c => ⟨(hh.1 c 0).trans (final_in m c 0 rfl), (hh.1 c 1).trans (final_in m c 1 rfl), (hh.1 c 2).trans (final_in m c 2 rfl), (hh.1 c 3).trans (final_in m c 3 rfl)⟩, hh.2⟩) (run_main m ρ)
end

end Cert.Proof.OffsetsIdeal

end
-- ==== Proof.OffIRun.lean ====
/- What a run of the offset convolution leaves in memory. -/
module

public import proofs.«01_k».proof.Proof.OffILaunch
public import Idealize.ShloMosaic.Lib.Pipeline.ValueKit
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.OffsetsIdeal

open Cert.OffsetsIdeal Cert.OffsetsIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section
variable (m : (ℓ : Loc nD τ sig) → Buf (Elt F) ℓ) (ρ : Dev nD → PrngReg)
/-- The block of window 0 is the whole argument. -/
theorem iblk0 (c : Dev nD) : iblk m c 0 t0_0 = m ((c : Thread nD τ).loc main_arg0) := by
  show (win0_0.blk t0_0).view.read (Elt F) (m ((c : Thread nD τ).loc main_arg0)) = _
  exact Memref.read_access_unit_zero (Elt F) main_arg0
    (show (fun a => (win0_0.index t0_0) a * main_arg0.ty.shape.size a) = fun _ => 0 from
      funext fun a => by fin_cases a <;> decide) (fun a => by fin_cases a <;> decide) _
/-- The block of window 1 is the whole argument. -/
theorem iblk1 (c : Dev nD) : iblk m c 1 t0_0 = m ((c : Thread nD τ).loc main_arg1) := by
  show (win0_1.blk t0_0).view.read (Elt F) (m ((c : Thread nD τ).loc main_arg1)) = _
  exact Memref.read_access_unit_zero (Elt F) main_arg1
    (show (fun a => (win0_1.index t0_0) a * main_arg1.ty.shape.size a) = fun _ => 0 from
      funext fun a => by fin_cases a <;> decide) (fun a => by fin_cases a <;> decide) _
/-- The block of window 2 is the whole argument. -/
theorem iblk2 (c : Dev nD) : iblk m c 2 t0_0 = m ((c : Thread nD τ).loc main_arg2) := by
  show (win0_2.blk t0_0).view.read (Elt F) (m ((c : Thread nD τ).loc main_arg2)) = _
  exact Memref.read_access_unit_zero (Elt F) main_arg2
    (show (fun a => (win0_2.index t0_0) a * main_arg2.ty.shape.size a) = fun _ => 0 from
      funext fun a => by fin_cases a <;> decide) (fun a => by fin_cases a <;> decide) _
/-- The block of window 3 is the whole argument. -/
theorem iblk3 (c : Dev nD) : iblk m c 3 t0_0 = m ((c : Thread nD τ).loc main_arg3) := by
  show (win0_3.blk t0_0).view.read (Elt F) (m ((c : Thread nD τ).loc main_arg3)) = _
  exact Memref.read_access_unit_zero (Elt F) main_arg3
    (show (fun a => (win0_3.index t0_0) a * main_arg3.ty.shape.size a) = fun _ => 0 from
      funext fun a => by fin_cases a <;> decide) (fun a => by fin_cases a <;> decide) _

/-- The index result at the end. -/
theorem final_idx (c : Dev nD) : (dats m 0 c).arrAt 4 cfg0.N = idxOut (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun j => ?_
  blk_simp
  rw [after_w4]
  unfold outAt4
  rw [iblk0, iblk1, iblk2, iblk3]

/-- The weight result at the end. -/
theorem final_wt (c : Dev nD) : (dats m 0 c).arrAt 5 cfg0.N = wtOut (m ((c : Thread nD τ).loc main_arg0)) (m ((c : Thread nD τ).loc main_arg1)) (m ((c : Thread nD τ).loc main_arg2)) (m ((c : Thread nD τ).loc main_arg3)) := by
  refine (dats m 0 c).arrAt_eq_of_after_last 5 t0_0 (by decide +kernel) _ fun j => ?_
  blk_simp
  rw [after_w5]
  unfold outAt5
  rw [iblk0, iblk1, iblk2, iblk3]

/-- A run ends with both results the body's, the arguments as they were. -/
theorem value_run : θ_run defs (onTc (τ := τ) (main (F := F))) ⟨m, fun _ => 0, ρ⟩ (fun r => ∀ c : Dev nD,
      r.2.mem ((c : Thread nD τ).loc main_v0_0) = idxOut (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = wtOut (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r hh c => ⟨(hh.1 c 4).trans (final_idx m c), (hh.1 c 5).trans (final_wt m c), (hh.1 c 0).trans (final_in m c 0 rfl), (hh.1 c 1).trans (final_in m c 1 rfl), (hh.1 c 2).trans (final_in m c 2 rfl), (hh.1 c 3).trans (final_in m c 3 rfl)⟩) (run_main m ρ)
end

end Cert.Proof.OffsetsIdeal

end
-- ==== Proof.OffSpec.lean ====
/- The offset convolution, the sampling positions and the weights, in plain mathematics over the extended reals. -/
module

public import proofs.«01_k».proof.Proof.OffILaunch
public import Idealize.ShloMosaic.Lib.MatmulPlain
public import Idealize.ShloMosaic.Lib.IdealHost
public import Idealize.ShloMosaic.PureOps.Ideal.Laws
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.OffsetValues

open Cert.OffsetsIdeal Cert.OffsetsIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The convolution over the zero-padded image -/

/-- The image with a border of zeros: row `r` and column `c` count the border. -/
def padE (X : Vec Ideal S1536x2048 .fp8e4m3) (r c : ℕ) (k : Fin 2048) : EReal :=
  if h : (1 ≤ r ∧ r ≤ 128) ∧ 1 ≤ c ∧ c ≤ 12 then X (ix2 ⟨12 * (r - 1) + (c - 1), by omega⟩ k) else 0

/-- Tap `t`'s part of pixel `p`'s channel `ch`. -/
def tapE (X : Vec Ideal S1536x2048 .fp8e4m3) (W : Vec Ideal S9x2048x216 .bf16) (t : Fin 9) (p : Fin 1536) (ch : Fin 216) : EReal :=
  ∑ k : Fin 2048, padE X (p.val / 12 + t.val / 3) (p.val % 12 + t.val % 3) k * W (ix3 t k ch)

/-- A channel of a pixel: the nine taps summed, scaled and shifted. -/
def omE (S : Vec Ideal S1 .f32) (X : Vec Ideal S1536x2048 .fp8e4m3) (W : Vec Ideal S9x2048x216 .bf16) (B : Vec Ideal S2x1x128 .f32) (p : Fin 1536) (ch : Fin 216) : EReal :=
  (∑ t : Fin 9, tapE X W t p ch) * S (ix1 0)
    + B (ix3 ⟨ch.val / 128, by have := ch.isLt; omega⟩ 0 ⟨ch.val % 128, Nat.mod_lt _ (by decide)⟩)

/-! ## Positions and weights -/

/-- A coordinate of the sampling position: the pixel's, the tap's, and the offset. -/
def posE (n k : ℕ) (d : EReal) : EReal := ((((BitVec.ofNat 32 n + BitVec.ofNat 32 k) - 1#32).toInt : ℝ) : EReal) + d
/-- The floor. -/
def flE (y : EReal) : EReal := Ideal.liftRound Int.floor y
/-- The fraction. -/
def frE (y : EReal) : EReal := y - flE y

/-- The floor clipped to the image and its border, as a word. -/
def clE (top : BitVec 32) (y : EReal) : BitVec 32 :=
  Ideal.fptosi 32 (min (Ideal.ofBits .f32 top) (max (Ideal.ofBits .f32 0xBF800000#32) (flE y)))

/-- The index word of group `g` at position `y`, `x`. -/
def idxE (g : ℕ) (y x : EReal) : BitVec 32 :=
  2#32 * (((BitVec.ofNat 32 g * 1552#32 + clE 0x42FE0000#32 y * 12#32) + clE 0x41300000#32 x) + 16#32)

/-- Whether a corner lies in the image. -/
def validE (yy xx : EReal) : BitVec 1 :=
  ((Ideal.cmp .oge yy (Ideal.ofBits .f32 0x00000000#32) &&& Ideal.cmp .ole yy (Ideal.ofBits .f32 0x42FE0000#32))
    &&& Ideal.cmp .oge xx (Ideal.ofBits .f32 0x00000000#32)) &&& Ideal.cmp .ole xx (Ideal.ofBits .f32 0x41300000#32)

/-- One corner's weight: the mask times its share where it lies in the image, zero elsewhere. -/
def cornE (m yy xx wt : EReal) : EReal := m * Scalar.select (validE yy xx) wt (Ideal.ofBits .f32 0x00000000#32)

/-- The four corners' weights at position `y`, `x` with mask channel `c`. -/
def wE (q : Fin 4) (y x c : EReal) : EReal :=
  match q with
  | 0 => cornE (Ideal.logistic c) (flE y) (flE x) ((Ideal.ofBits .f32 0x3F800000#32 - frE y) * (Ideal.ofBits .f32 0x3F800000#32 - frE x))
  | 1 => cornE (Ideal.logistic c) (flE y) (flE x + Ideal.ofBits .f32 0x3F800000#32) ((Ideal.ofBits .f32 0x3F800000#32 - frE y) * frE x)
  | 2 => cornE (Ideal.logistic c) (flE y + Ideal.ofBits .f32 0x3F800000#32) (flE x) (frE y * (Ideal.ofBits .f32 0x3F800000#32 - frE x))
  | 3 => cornE (Ideal.logistic c) (flE y + Ideal.ofBits .f32 0x3F800000#32) (flE x + Ideal.ofBits .f32 0x3F800000#32) (frE y * frE x)

/-- The pixel of block `b` and lane `l`; the channels of group `g` and tap `t`. -/
def pixE (b : Fin 12) (l : Fin 128) : Fin 1536 := ⟨128 * b.val + l.val, by have := b.isLt; have := l.isLt; omega⟩
/-- The channel of an offset: `e` is 0 for the vertical one, 1 for the horizontal one. -/
def chE (e : Fin 2) (t : Fin 9) (g : Fin 8) : Fin 216 := ⟨18 * g.val + 2 * t.val + e.val, by have := g.isLt; have := t.isLt; have := e.isLt; omega⟩
/-- The channel of the mask. -/
def maskE (t : Fin 9) (g : Fin 8) : Fin 216 := ⟨144 + 9 * g.val + t.val, by have := g.isLt; have := t.isLt; omega⟩

/-- The index result for any channels `om`. -/
def idxOf (om : Fin 1536 → Fin 216 → EReal) (b : Fin 12) (t : Fin 9) (g : Fin 8) (l : Fin 128) : BitVec 32 :=
  idxE g.val (posE ((pixE b l).val / 12) (t.val / 3) (om (pixE b l) (chE 0 t g))) (posE ((pixE b l).val % 12) (t.val % 3) (om (pixE b l) (chE 1 t g)))
/-- The weight result for any channels `om`. -/
def wtOf (om : Fin 1536 → Fin 216 → EReal) (b : Fin 12) (t : Fin 9) (q : Fin 4) (g : Fin 8) (l : Fin 128) : EReal :=
  wE q (posE ((pixE b l).val / 12) (t.val / 3) (om (pixE b l) (chE 0 t g))) (posE ((pixE b l).val % 12) (t.val % 3) (om (pixE b l) (chE 1 t g))) (om (pixE b l) (maskE t g))

/-- The two results. -/
def idxM (S : Vec Ideal S1 .f32) (X : Vec Ideal S1536x2048 .fp8e4m3) (W : Vec Ideal S9x2048x216 .bf16) (B : Vec Ideal S2x1x128 .f32) : Vec Ideal S12x9x8x128 .i32 :=
  fun y => idxOf (omE S X W B) (y 0) (y 1) (y 2) (y 3)
/-- The weight result. -/
def wtM (S : Vec Ideal S1 .f32) (X : Vec Ideal S1536x2048 .fp8e4m3) (W : Vec Ideal S9x2048x216 .bf16) (B : Vec Ideal S2x1x128 .f32) : Vec Ideal S12x9x4x8x128 .f32 :=
  fun y => wtOf (omE S X W B) (y 0) (y 1) (y 2) (y 3) (y 4)

end Cert.Proof.OffsetValues

end
-- ==== Proof.OffIVal.lean ====
/- What the offset convolution's body computes, over the extended reals. -/
module

public import proofs.«01_k».proof.Proof.OffSpec
public import Idealize.ShloMosaic.Lib.MatmulPlain
public import Idealize.ShloMosaic.Lib.IdealHost
public import Idealize.ShloMosaic.PureOps.Ideal.Laws
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value
public import Idealize.ShloMosaic.Lib.KernelVsHost

@[expose] public section

noncomputable section

namespace Cert.Proof.OffsetValues

open Cert.OffsetsIdeal Cert.OffsetsIdeal.Gen Cert.Proof.OffsetsIdeal
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The channels -/

/-- A tap's product for one pixel. -/
theorem prod_apply (X : Vec Ideal S1536x2048 .fp8e4m3) (W : Vec Ideal S9x2048x216 .bf16) (t : Fin 9) (p : Fin 1536) (ch : Fin 216) :
    prod (F := Ideal) X W t p ch = ∑ k : Fin 2048, X (ix2 p k) * W (ix3 t k ch) := by
  unfold prod k0_pay199
  refine (Ideal.matmul_plain_apply (M := 128) (K := 2048) (N := 216) none _ _ _ _ ch).trans ?_
  show Ideal.ofBits .f32 0x00000000#32 + _ = _
  rw [Ideal.ofBits_zero_f32, zero_add]
  refine Finset.sum_congr rfl fun k _ => congrArg₂ (· * ·) ?_ ?_
  · show X _ = X _
    refine congrArg X (funext fun a => Fin.ext ?_)
    match a with
    | ⟨0, _⟩ => show 128 * (p.val / 128) + p.val % 128 = p.val; omega
    | ⟨1, _⟩ => rfl
  · refine (shapeCast_apply _ _ _ (ix3 0 k ch) ?_).trans rfl
    rw [Shape.rowMajor_val_three, Shape.rowMajor_val_two]
    show (0 * 2048 + k.val) * 216 + ch.val = k.val * 216 + ch.val
    omega

set_option maxRecDepth 20000 in
/-- The body's column test holds where the tap's column of the padded image is one of the image's. -/
theorem colOk_eq : ∀ (d : Fin 3) (b : Fin 12) (r : Fin 128), colOk (BitVec.ofNat 32 d.val + 4294967295#32) b.val (ix2 r 0)
    = if 1 ≤ (128 * b.val + r.val) % 12 + d.val ∧ (128 * b.val + r.val) % 12 + d.val ≤ 12 then 1#1 else 0#1 := by decide +kernel

/-- What a tap adds is its part of the convolution. -/
theorem selV_eq (X : Vec Ideal S1536x2048 .fp8e4m3) (W : Vec Ideal S9x2048x216 .bf16) (t : Fin 9) (p : Fin 1536) (ch : Fin 216) :
    selV (F := Ideal) X W t p ch = tapE X W t p ch := by
  have hp := p.isLt
  have ht := t.isLt
  have hc := colOk_eq ⟨t.val % 3, Nat.mod_lt _ (by decide)⟩ ⟨p.val / 128, by omega⟩ ⟨p.val % 128, Nat.mod_lt _ (by decide)⟩
  change colOk (dxW t) (p.val / 128) (ix2 ⟨p.val % 128, _⟩ 0) = if 1 ≤ (128 * (p.val / 128) + p.val % 128) % 12 + t.val % 3 ∧ (128 * (p.val / 128) + p.val % 128) % 12 + t.val % 3 ≤ 12 then 1#1 else 0#1 at hc
  rw [show 128 * (p.val / 128) + p.val % 128 = p.val by omega] at hc
  unfold selV tapE
  rw [hc]
  have hz : zeroF (F := Ideal) = (0 : EReal) := Ideal.ofBits_zero_f32
  by_cases hcol : 1 ≤ p.val % 12 + t.val % 3 ∧ p.val % 12 + t.val % 3 ≤ 12
  · rw [if_pos hcol]
    show zval X W t (p.val + rowOf t) ch = _
    unfold zval rowOf
    by_cases hrow : 16 ≤ p.val + (3 + 12 * (t.val / 3) + t.val % 3) ∧ p.val + (3 + 12 * (t.val / 3) + t.val % 3) < 1552
    · rw [dif_pos hrow, prod_apply]
      refine Finset.sum_congr rfl fun k _ => congrArg (· * _) ?_
      unfold padE
      rw [dif_pos ⟨by omega, hcol⟩]
      refine congrArg X (funext fun a => Fin.ext ?_)
      match a with
      | ⟨0, _⟩ => show p.val + (3 + 12 * (t.val / 3) + t.val % 3) - 16 = 12 * (p.val / 12 + t.val / 3 - 1) + (p.val % 12 + t.val % 3 - 1); omega
      | ⟨1, _⟩ => rfl
    · rw [dif_neg hrow]
      refine hz.trans (Finset.sum_eq_zero fun k _ => ?_).symm
      unfold padE
      rw [dif_neg (fun h => hrow (by omega)), zero_mul]
  · rw [if_neg hcol]
    show zeroF (F := Ideal) = _
    refine hz.trans (Finset.sum_eq_zero fun k _ => ?_).symm
    unfold padE
    rw [dif_neg (fun h => hcol h.2), zero_mul]

/-- The nine taps in the body's order are their sum. -/
theorem accV_eq (X : Vec Ideal S1536x2048 .fp8e4m3) (W : Vec Ideal S9x2048x216 .bf16) (p : Fin 1536) (ch : Fin 216) :
    accV (F := Ideal) X W p ch 9 = ∑ t : Fin 9, tapE X W t p ch := by
  have h : accV (F := Ideal) X W p ch 9 = (selV X W 8 p ch + (selV X W 7 p ch + (selV X W 6 p ch + (selV X W 5 p ch + (selV X W 4 p ch + (selV X W 3 p ch
    + (selV X W 2 p ch + (selV X W 1 p ch + selV X W 0 p ch))))))) : EReal) := rfl
  rw [h]
  simp only [selV_eq]
  rw [Fin.sum_univ_castSucc, Fin.sum_univ_eight]
  show tapE X W 8 p ch + (tapE X W 7 p ch + (tapE X W 6 p ch + (tapE X W 5 p ch + (tapE X W 4 p ch + (tapE X W 3 p ch + (tapE X W 2 p ch + (tapE X W 1 p ch + tapE X W 0 p ch)))))))
    = tapE X W 0 p ch + tapE X W 1 p ch + tapE X W 2 p ch + tapE X W 3 p ch + tapE X W 4 p ch + tapE X W 5 p ch + tapE X W 6 p ch + tapE X W 7 p ch + tapE X W 8 p ch
  generalize tapE X W 0 p ch = a0
  generalize tapE X W 1 p ch = a1
  generalize tapE X W 2 p ch = a2
  generalize tapE X W 3 p ch = a3
  generalize tapE X W 4 p ch = a4
  generalize tapE X W 5 p ch = a5
  generalize tapE X W 6 p ch = a6
  generalize tapE X W 7 p ch = a7
  generalize tapE X W 8 p ch = a8
  abel

/-- A channel as the body holds it. -/
theorem omV_eq (S : Vec Ideal S1 .f32) (X : Vec Ideal S1536x2048 .fp8e4m3) (W : Vec Ideal S9x2048x216 .bf16) (B : Vec Ideal S2x1x128 .f32) (p : Fin 1536) (ch : Fin 216) :
    omV (F := Ideal) (S (ix1 0)) B X W p ch = omE S X W B p ch := by
  unfold omV omE
  rw [accV_eq]
  rfl

/-! ## The words -/

/-- A pixel's row, on words. -/
theorem div_word : ∀ n : Fin 1536, IntOp.divsi .vector (BitVec.ofNat 32 n.val) 12#32 = BitVec.ofNat 32 (n.val / 12) := by decide +kernel
/-- A pixel's column from its row, on words. -/
theorem col_word : ∀ n : Fin 1536, BitVec.ofNat 32 n.val - BitVec.ofNat 32 (n.val / 12) * 12#32 = BitVec.ofNat 32 (n.val % 12) := by decide +kernel
/-- A pixel's column, on words. -/
theorem rem_word : ∀ n : Fin 1536, IntOp.remsi .vector (BitVec.ofNat 32 n.val) 12#32 = BitVec.ofNat 32 (n.val % 12) := by decide +kernel
/-- A tap's row, on words. -/
theorem div3_word : ∀ t : Fin 9, IntOp.divsi .vector (BitVec.ofNat 32 t.val) 3#32 = BitVec.ofNat 32 (t.val / 3) := by decide +kernel
/-- A tap's column, on words. -/
theorem rem3_word : ∀ t : Fin 9, IntOp.remsi .vector (BitVec.ofNat 32 t.val) 3#32 = BitVec.ofNat 32 (t.val % 3) := by decide +kernel
/-- The block's counter, on words. -/
theorem iv_word : ∀ b : Fin 12, Scf.iv 0#32 1#32 b.val = BitVec.ofNat 32 b.val := by decide +kernel

/-- A pixel's number from its block and lane. -/
theorem pix_word (b : Fin 12) (l : Fin 128) : BitVec.ofNat 32 b.val * 128#32 + BitVec.ofNat 32 l.val = BitVec.ofNat 32 (pixE b l).val := by
  have := b.isLt
  have := l.isLt
  refine BitVec.eq_of_toNat_eq ?_
  simp only [BitVec.toNat_add, BitVec.toNat_mul, BitVec.toNat_ofNat]
  show _ = (128 * b.val + l.val) % 2 ^ 32
  omega

/-- The body's pixel number. -/
theorem pixI_apply (b : Fin 12) (g : Fin 8) (l : Fin 128) : pixI (trI b) (ix2 g l) = BitVec.ofNat 32 (pixE b l).val := by
  have h : pixI (trI b) (ix2 g l) = Scf.iv 0#32 1#32 b.val * 128#32 + iota .tc S8x128 32 [1] iota_S8x128_d1_w32 (ix2 g l) := rfl
  rw [h, iv_word, iota_single_apply]
  exact pix_word b l
/-- The body's pixel row. -/
theorem rowI_apply (b : Fin 12) (g : Fin 8) (l : Fin 128) : rowI (trI b) (ix2 g l) = BitVec.ofNat 32 ((pixE b l).val / 12) := by
  rw [← div_word, ← pixI_apply b g l]
  rfl
/-- The body's pixel column. -/
theorem colI_apply (b : Fin 12) (g : Fin 8) (l : Fin 128) : colI (trI b) (ix2 g l) = BitVec.ofNat 32 ((pixE b l).val % 12) := by
  show pixI (trI b) (ix2 g l) - rowI (trI b) (ix2 g l) * 12#32 = _
  rw [pixI_apply, rowI_apply, col_word]

/-- Adding the tap's step less one, regrouped. -/
theorem step_word (x y : BitVec 32) : x + (y + 4294967295#32) = (x + y) - 1#32 := by
  rw [BitVec.sub_eq_add_neg, ← BitVec.add_assoc]
  rfl

/-! ## The weights -/

/-- The bits of one. -/
theorem one_bits : Ideal.ofBits .f32 0x3F800000#32 = ((1 : ℝ) : EReal) := by
  simp [Ideal.ofBits, Ideal.ieee, -EReal.coe_mul]; norm_num
/-- The bits of minus one. -/
theorem neg_one_bits : Ideal.ofBits .f32 0xBF800000#32 = ((-(1 : ℝ) : ℝ) : EReal) := by
  simp [Ideal.ofBits, Ideal.ieee, -EReal.coe_mul, -EReal.coe_neg]; norm_num
/-- The bits of 127. -/
theorem bits_127 : Ideal.ofBits .f32 0x42FE0000#32 = ((127 : ℝ) : EReal) := by
  simp [Ideal.ofBits, Ideal.ieee, -EReal.coe_mul]; norm_num
/-- The bits of 126. -/
theorem bits_126 : Ideal.ofBits .f32 0x42FC0000#32 = ((126 : ℝ) : EReal) := by
  simp [Ideal.ofBits, Ideal.ieee, -EReal.coe_mul]; norm_num
/-- The bits of 11. -/
theorem bits_11 : Ideal.ofBits .f32 0x41300000#32 = ((11 : ℝ) : EReal) := by
  simp [Ideal.ofBits, Ideal.ieee, -EReal.coe_mul]; norm_num
/-- The bits of 10. -/
theorem bits_10 : Ideal.ofBits .f32 0x41200000#32 = ((10 : ℝ) : EReal) := by
  simp [Ideal.ofBits, Ideal.ieee, -EReal.coe_mul]; norm_num

/-- One more is at least zero where the number is at least minus one. -/
theorem oge_next (z : EReal) : Ideal.cmp .oge (z + Ideal.ofBits .f32 0x3F800000#32) (Ideal.ofBits .f32 0x00000000#32) = Ideal.cmp .oge z (Ideal.ofBits .f32 0xBF800000#32) := by
  rw [one_bits, neg_one_bits, Ideal.ofBits_zero_f32]
  refine congrArg BitVec.ofBool (decide_eq_decide.2 ?_)
  induction z with
  | bot => rw [EReal.bot_add]; exact ⟨fun h => absurd h (not_le.2 EReal.bot_lt_zero), fun h => absurd h (not_le.2 (EReal.bot_lt_coe _))⟩
  | coe r => rw [← EReal.coe_add, ← EReal.coe_zero, EReal.coe_le_coe_iff, EReal.coe_le_coe_iff]; constructor <;> intro h <;> linarith
  | top => rw [EReal.top_add_coe]; exact ⟨fun _ => le_top, fun _ => le_top⟩

/-- One more is at most a bound where the number is at most one less. -/
theorem ole_next (z : EReal) (u v : BitVec 32) (r s : ℝ) (hu : Ideal.ofBits .f32 u = (r : EReal)) (hv : Ideal.ofBits .f32 v = (s : EReal)) (h : r = s + 1) :
    Ideal.cmp .ole (z + Ideal.ofBits .f32 0x3F800000#32) (Ideal.ofBits .f32 u) = Ideal.cmp .ole z (Ideal.ofBits .f32 v) := by
  rw [one_bits, hu, hv]
  refine congrArg BitVec.ofBool (decide_eq_decide.2 ?_)
  induction z with
  | bot => rw [EReal.bot_add]; exact ⟨fun _ => bot_le, fun _ => bot_le⟩
  | coe x => rw [← EReal.coe_add, EReal.coe_le_coe_iff, EReal.coe_le_coe_iff]; constructor <;> intro h <;> linarith
  | top => rw [EReal.top_add_coe]; exact ⟨fun h => absurd h (not_le.2 (EReal.coe_lt_top _)), fun h => absurd h (not_le.2 (EReal.coe_lt_top _))⟩

/-- Two shares, each zero outside the image, multiplied: zero unless both lie inside. -/
theorem select_mul (p q : BitVec 1) (u v : EReal) : Scalar.select p u 0 * Scalar.select q v 0 = Scalar.select (p &&& q) (u * v) 0 := by
  rcases BitVec.eq_zero_or_eq_one p with rfl | rfl <;> rcases BitVec.eq_zero_or_eq_one q with rfl | rfl <;> simp [Scalar.select]

/-- The body's weight from two shares is the corner's. -/
theorem corner_eq (m yy xx u v : EReal) (p q : BitVec 1)
    (hp : Ideal.cmp .oge yy (Ideal.ofBits .f32 0x00000000#32) &&& Ideal.cmp .ole yy (Ideal.ofBits .f32 0x42FE0000#32) = p)
    (hq : Ideal.cmp .oge xx (Ideal.ofBits .f32 0x00000000#32) &&& Ideal.cmp .ole xx (Ideal.ofBits .f32 0x41300000#32) = q) :
    (Scalar.select p u (Ideal.ofBits .f32 0x00000000#32) * Scalar.select q v (Ideal.ofBits .f32 0x00000000#32)) * m = cornE m yy xx (u * v) := by
  unfold cornE validE
  rw [Ideal.ofBits_zero_f32, select_mul, mul_comm m, ← hp, ← hq, Ideal.ofBits_zero_f32, BitVec.and_assoc (_ &&& _)]

/-- The body's shares of a coordinate. -/
def loE (y : EReal) (top : BitVec 32) : EReal :=
  Scalar.select (Ideal.cmp .oge (flE y) (Ideal.ofBits .f32 0x00000000#32) &&& Ideal.cmp .ole (flE y) (Ideal.ofBits .f32 top))
    (Ideal.ofBits .f32 0x3F800000#32 - frE y) (Ideal.ofBits .f32 0x00000000#32)
/-- The share of the upper neighbour, zero outside the image. -/
def hiE (y : EReal) (top : BitVec 32) : EReal :=
  Scalar.select (Ideal.cmp .oge (flE y) (Ideal.ofBits .f32 0xBF800000#32) &&& Ideal.cmp .ole (flE y) (Ideal.ofBits .f32 top))
    (frE y) (Ideal.ofBits .f32 0x00000000#32)
/-- The body's four weights. -/
def wK (q : Fin 4) (y x c : EReal) : EReal :=
  match q with
  | 0 => (loE y 0x42FE0000#32 * loE x 0x41300000#32) * Ideal.logistic c
  | 1 => (loE y 0x42FE0000#32 * hiE x 0x41200000#32) * Ideal.logistic c
  | 2 => (hiE y 0x42FC0000#32 * loE x 0x41300000#32) * Ideal.logistic c
  | 3 => (hiE y 0x42FC0000#32 * hiE x 0x41200000#32) * Ideal.logistic c

/-- The body's four weights are the four corners'. -/
theorem wK_eq (q : Fin 4) (y x c : EReal) : wK q y x c = wE q y x c := by
  have h1 := fun z => ole_next z 0x42FE0000#32 0x42FC0000#32 127 126 bits_127 bits_126 (by norm_num)
  have h2 := fun z => ole_next z 0x41300000#32 0x41200000#32 11 10 bits_11 bits_10 (by norm_num)
  match q with
  | 0 => exact corner_eq _ _ _ _ _ _ _ rfl rfl
  | 1 => exact corner_eq _ _ _ _ _ _ _ rfl (by rw [oge_next, h2])
  | 2 => exact corner_eq _ _ _ _ _ _ _ (by rw [oge_next, h1]) rfl
  | 3 => exact corner_eq _ _ _ _ _ _ _ (by rw [oge_next, h1]) (by rw [oge_next, h2])

/-! ## The two results -/

/-- The index words and the weights from the two positions. -/
theorem idxG_apply (t : Fin 9) (b : Fin 12) (dy dx : Vec Ideal S8x128 .f32) (g : Fin 8) (l : Fin 128) :
    idxG (F := Ideal) t (trI b) dy dx (ix2 g l) = idxE g.val (posP (F := Ideal) (rowI (trI b)) (dyW t) dy (ix2 g l)) (posP (F := Ideal) (colI (trI b)) (dxW t) dx (ix2 g l)) := by
  unfold idxG clP flP
  generalize posP (F := Ideal) (rowI (trI b)) (dyW t) dy = y
  generalize posP (F := Ideal) (colI (trI b)) (dxW t) dx = x
  have h : iota .tc S8x128 32 [0] iota_S8x128_d0_w32 (ix2 g l) = BitVec.ofNat 32 g.val := iota_single_apply _ _ _ _ _ _
  unfold idxE
  rw [← h]
  rfl
/-- A stored weight in terms of the positions. -/
theorem wtG_apply (t : Fin 9) (b : Fin 12) (q : Fin 4) (dy dx m : Vec Ideal S8x128 .f32) (g : Fin 8) (l : Fin 128) :
    wtG (F := Ideal) t (trI b) q dy dx m (ix2 g l) = wK q (posP (F := Ideal) (rowI (trI b)) (dyW t) dy (ix2 g l)) (posP (F := Ideal) (colI (trI b)) (dxW t) dx (ix2 g l)) (m (ix2 g l)) := by
  unfold wtG loP hiP frP flP
  generalize posP (F := Ideal) (rowI (trI b)) (dyW t) dy = y
  generalize posP (F := Ideal) (colI (trI b)) (dxW t) dx = x
  match q with
  | 0 => rfl
  | 1 => rfl
  | 2 => rfl
  | 3 => rfl

/-- A position from the pixel's coordinate, the tap's and the offset. -/
theorem posY_eq (t : Fin 9) (b : Fin 12) (dy : Vec Ideal S8x128 .f32) (g : Fin 8) (l : Fin 128) :
    posP (F := Ideal) (rowI (trI b)) (dyW t) dy (ix2 g l) = posE ((pixE b l).val / 12) (t.val / 3) (dy (ix2 g l)) := by
  have h : posP (F := Ideal) (rowI (trI b)) (dyW t) dy (ix2 g l) = (((rowI (trI b) (ix2 g l) + dyW t).toInt : ℝ) : EReal) + dy (ix2 g l) := rfl
  rw [h, rowI_apply]
  unfold dyW posE
  rw [step_word]
/-- The same of the columns. -/
theorem posX_eq (t : Fin 9) (b : Fin 12) (dx : Vec Ideal S8x128 .f32) (g : Fin 8) (l : Fin 128) :
    posP (F := Ideal) (colI (trI b)) (dxW t) dx (ix2 g l) = posE ((pixE b l).val % 12) (t.val % 3) (dx (ix2 g l)) := by
  have h : posP (F := Ideal) (colI (trI b)) (dxW t) dx (ix2 g l) = (((colI (trI b) (ix2 g l) + dxW t).toInt : ℝ) : EReal) + dx (ix2 g l) := rfl
  rw [h, colI_apply]
  unfold dxW posE
  rw [step_word]

/-- A channel's row of a block. -/
theorem chR_eq (S : Vec Ideal S1 .f32) (X : Vec Ideal S1536x2048 .fp8e4m3) (W : Vec Ideal S9x2048x216 .bf16) (B : Vec Ideal S2x1x128 .f32) (b : Fin 12) (ch : Fin 8 → Fin 216) (g : Fin 8) (l : Fin 128) :
    chR (F := Ideal) (S (ix1 0)) B X W b ch (ix2 g l) = omE S X W B (pixE b l) (ch g) := by
  have h : chR (F := Ideal) (S (ix1 0)) B X W b ch (ix2 g l) = omV (F := Ideal) (S (ix1 0)) B X W (pixOf b l) (ch g) := rfl
  rw [h, omV_eq]
  rfl

/-- A stored index word is the spec's. -/
theorem idxV_eq (S : Vec Ideal S1 .f32) (X : Vec Ideal S1536x2048 .fp8e4m3) (W : Vec Ideal S9x2048x216 .bf16) (B : Vec Ideal S2x1x128 .f32) (b : Fin 12) (t : Fin 9) (g : Fin 8) (l : Fin 128) :
    idxV (F := Ideal) (S (ix1 0)) B X W b t (ix2 g l) = idxOf (omE S X W B) b t g l := by
  unfold idxV
  rw [idxG_apply, posY_eq, posX_eq, chR_eq, chR_eq]
  rfl

/-- A stored weight is the spec's. -/
theorem wtV_eq (S : Vec Ideal S1 .f32) (X : Vec Ideal S1536x2048 .fp8e4m3) (W : Vec Ideal S9x2048x216 .bf16) (B : Vec Ideal S2x1x128 .f32) (b : Fin 12) (t : Fin 9) (q : Fin 4) (g : Fin 8) (l : Fin 128) :
    wtV (F := Ideal) (S (ix1 0)) B X W b t q (ix2 g l) = wtOf (omE S X W B) b t q g l := by
  unfold wtV
  rw [wtG_apply, posY_eq, posX_eq, chR_eq, chR_eq, chR_eq, wK_eq]
  rfl

/-- The body's results are the spec's. -/
theorem idxOut_eq_idxM (S : Vec Ideal S1 .f32) (X : Vec Ideal S1536x2048 .fp8e4m3) (W : Vec Ideal S9x2048x216 .bf16) (B : Vec Ideal S2x1x128 .f32) :
    idxOut (F := Ideal) S X W B = idxM S X W B := funext fun y => idxV_eq S X W B (y 0) (y 1) (y 2) (y 3)
/-- So are its weights. -/
theorem wtOut_eq_wtM (S : Vec Ideal S1 .f32) (X : Vec Ideal S1536x2048 .fp8e4m3) (W : Vec Ideal S9x2048x216 .bf16) (B : Vec Ideal S2x1x128 .f32) :
    wtOut (F := Ideal) S X W B = wtM S X W B := funext fun y => wtV_eq S X W B (y 0) (y 1) (y 2) (y 3) (y 4)

end Cert.Proof.OffsetValues

end
-- ==== Proof.OffWords.lean ====
/- Over the extended reals the first call's index words have what the second call asks of them. -/
module

public import proofs.«01_k».proof.Proof.OffIVal

@[expose] public section

noncomputable section

namespace Cert.Proof.OffsetValues

open Cert.OffsetsIdeal Cert.OffsetsIdeal.Gen
open Idealize.ShloMosaic Idealize.ShloMosaic.ValueIdx

/-- A number clipped to the span from minus one to a whole number `n` below two million is, as a word, such a whole number. -/
theorem clip_word (z : EReal) (n : ℕ) (hn : n < 2000000) :
    ∃ k : ℤ, -1 ≤ k ∧ k ≤ n ∧ Ideal.fptosi 32 (min ((n : ℝ) : EReal) (max ((-(1 : ℝ) : ℝ) : EReal) z)) = BitVec.ofInt 32 k := by
  obtain ⟨r, hr, h1, h2⟩ : ∃ r : ℝ, min ((n : ℝ) : EReal) (max ((-(1 : ℝ) : ℝ) : EReal) z) = (r : EReal) ∧ -1 ≤ r ∧ r ≤ n := by
    have hn0 : (0 : ℝ) ≤ n := Nat.cast_nonneg n
    induction z with
    | bot => exact ⟨-1, by rw [max_eq_left bot_le, min_eq_right (EReal.coe_le_coe_iff.2 (by linarith))], le_refl _, by linarith⟩
    | coe x => exact ⟨min n (max (-1) x), by rw [EReal.coe_strictMono.monotone.map_min, EReal.coe_strictMono.monotone.map_max], le_min (by linarith) (le_max_left _ _), min_le_left _ _⟩
    | top => exact ⟨n, by rw [max_eq_right le_top, min_eq_left le_top], by linarith, le_refl _⟩
  rw [hr, Ideal.fptosi, Ideal.toIntClamped_coe]
  refine ⟨_, ?_, ?_, rfl⟩
  · have h : -1 ≤ (if 0 ≤ r then ⌊r⌋ else ⌈r⌉) := by
      split
      · exact Int.le_floor.2 (by push_cast; linarith)
      · exact Int.cast_le.1 ((by push_cast; linarith : (((-1 : ℤ)) : ℝ) ≤ r).trans (Int.le_ceil r))
    refine le_max_of_le_right (le_min (by norm_num) h)
  · have h : (if 0 ≤ r then ⌊r⌋ else ⌈r⌉) ≤ n := by
      split
      · exact Int.cast_le.1 ((Int.floor_le r).trans (by exact_mod_cast h2))
      · exact Int.ceil_le.2 (by exact_mod_cast h2)
    exact max_le (by norm_num) ((min_le_right _ _).trans h)

/-- The word of a group and a clipped position is even and names a place in the group's part of the table. -/
theorem idxE_ok (g : ℕ) (hg : g < 8) (y x : EReal) :
    (idxE g y x).toNat % 2 = 0 ∧ 3104 * g ≤ (idxE g y x).toNat ∧ (idxE g y x).toNat < 3104 * g + 3104 := by
  obtain ⟨a, a1, a2, ha⟩ := clip_word (flE y) 127 (by norm_num)
  obtain ⟨b, b1, b2, hb⟩ := clip_word (flE x) 11 (by norm_num)
  have e : idxE g y x = BitVec.ofInt 32 (2 * ((g * 1552 + a * 12) + b + 16)) := by
    unfold idxE clE
    rw [bits_127, bits_11, neg_one_bits]
    norm_num at ha hb
    norm_num
    rw [ha, hb]
    simp only [BitVec.ofInt_mul, BitVec.ofInt_add]
    rfl
  have h : (idxE g y x).toNat = (2 * ((g * 1552 + a * 12) + b + 16)).toNat := by
    rw [e, BitVec.toNat_ofInt, Int.emod_eq_of_lt (by push_cast at *; omega) (by push_cast at *; omega)]
  rw [h]
  push_cast at *
  omega

/-- Every index word of the first call is even and lies in its group's part of the table: the second call's precondition. -/
theorem idxM_ok (S : Vec Ideal S1 .f32) (X : Vec Ideal S1536x2048 .fp8e4m3) (W : Vec Ideal S9x2048x216 .bf16) (B : Vec Ideal S2x1x128 .f32) (y : S12x9x8x128.Idx) :
    (idxM S X W B y).toNat % 2 = 0 ∧ 3104 * (y 2).val ≤ (idxM S X W B y).toNat ∧ (idxM S X W B y).toNat < 3104 * (y 2).val + 3104 :=
  idxE_ok (y 2).val (y 2).isLt _ _

end Cert.Proof.OffsetValues

end
-- ==== Proof.OffRConv.lean ====
/- The offset convolution as the reference computes it, over the extended reals. -/
module

public import proofs.«01_k».proof.Proof.OffIVal
public import proofs.«01_k».proof.Proof.Gen.OffsetsReferenceIdeal.Value
public import Idealize.ShloMosaic.Lib.StableHlo.Run
public import Idealize.ShloMosaic.Lib.Pipeline.ValueKit
public import Idealize.ShloMosaic.Lib.MatmulPlain
public import Idealize.ShloMosaic.Lib.IdealHost
public import Idealize.ShloMosaic.PureOps.Ideal.Laws
public import Idealize.ShloMosaic.Lib.Pipeline.KitQuiescent
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value

@[expose] public section

noncomputable section

namespace Cert.Proof.OffsetsReference

open Cert.OffsetsReferenceIdeal Cert.OffsetsReferenceIdeal.Gen Cert.OffsetsReferenceIdeal.Value
open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat Cfg Window BodyObligation cellOf)
open Cert.Proof.OffsetValues (padE tapE omE posE flE frE clE idxE validE cornE wE pixE chE maskE idxOf wtOf idxM wtM div_word rem_word div3_word rem3_word pix_word)

/-! ## The padded image -/

/-- The padding's zero. -/
theorem zero_word : (Scalar.sitofp (F := Ideal) .bf16 0#32 : EReal) = 0 := by
  show (((0#32).toInt : ℝ) : EReal) = 0
  simp

/-- The image by rows and columns. -/
def imgR (X : Vec Ideal S1536x2048 .fp8e4m3) : FVec Ideal S128x12x2048 .bf16 :=
  shapeCast S128x12x2048 (extf (F := Ideal) .bf16 (X : FVec Ideal S1536x2048 .fp8e4m3) bitsLt_fp8e4m3_bf16) shapeCasts_S1536x2048_S128x12x2048
/-- A row of zeros before and after. -/
def topR (X : Vec Ideal S1536x2048 .fp8e4m3) : FVec Ideal S129x12x2048 .bf16 :=
  concatenate S129x12x2048 0 [⟨S1x12x2048, broadcast S1x12x2048 (Scalar.sitofp (F := Ideal) .bf16 0#32)⟩, ⟨S128x12x2048, imgR X⟩] concatenates_S1x12x2048_S128x12x2048_S129x12x2048_d0
/-- The image with a row of zeros above and below. -/
def rowsR (X : Vec Ideal S1536x2048 .fp8e4m3) : FVec Ideal S130x12x2048 .bf16 :=
  concatenate S130x12x2048 0 [⟨S129x12x2048, topR X⟩, ⟨S1x12x2048, broadcast S1x12x2048 (Scalar.sitofp (F := Ideal) .bf16 0#32)⟩] concatenates_S129x12x2048_S1x12x2048_S130x12x2048_d0
/-- A column of zeros before. -/
def leftR (X : Vec Ideal S1536x2048 .fp8e4m3) : FVec Ideal S130x13x2048 .bf16 :=
  concatenate S130x13x2048 1 [⟨S130x1x2048, broadcast S130x1x2048 (Scalar.sitofp (F := Ideal) .bf16 0#32)⟩, ⟨S130x12x2048, rowsR X⟩] concatenates_S130x1x2048_S130x12x2048_S130x13x2048_d1

/-- The image as rows and columns. -/
theorem imgR_apply (X : Vec Ideal S1536x2048 .fp8e4m3) (r : Fin 128) (c : Fin 12) (k : Fin 2048) (p : Fin 1536) (hp : p.val = 12 * r.val + c.val) : imgR X (ix3 r c k) = X (ix2 p k) := by
  refine (shapeCast_apply _ _ (ix3 r c k) (ix2 p k) ?_).trans rfl
  rw [Shape.rowMajor_val_three, Shape.rowMajor_val_two]
  show p.val * 2048 + k.val = (r.val * 12 + c.val) * 2048 + k.val
  omega

/-- The image with a row of zeros above. -/
theorem topR_apply (X : Vec Ideal S1536x2048 .fp8e4m3) (r : Fin 129) (c : Fin 12) (k : Fin 2048) : topR X (ix3 r c k) = padE X r.val (c.val + 1) k := by
  have hr := r.isLt
  have hc := c.isLt
  unfold topR padE
  by_cases h : 1 ≤ r.val
  · rw [dif_pos ⟨⟨h, by omega⟩, by omega⟩]
    refine (concatenate_pair_apply_right (t := S129x12x2048) (s₁ := S1x12x2048) (s₂ := S128x12x2048) (0 : Fin 3) (broadcast S1x12x2048 (Scalar.sitofp (F := Ideal) .bf16 0#32)) (imgR X) concatenates_S1x12x2048_S128x12x2048_S129x12x2048_d0 (ix3 r c k) rfl rfl (ix3 ⟨r.val - 1, by omega⟩ c k) (fun b hb => ?_) ?_).trans ?_
    · match b with
      | ⟨0, _⟩ => exact absurd rfl hb
      | ⟨1, _⟩ => rfl
      | ⟨2, _⟩ => rfl
    · show r.val - 1 + 1 = r.val; omega
    · exact imgR_apply X _ c k _ rfl
  · rw [dif_neg (fun h' => h h'.1.1)]
    refine (concatenate_pair_apply_left (t := S129x12x2048) (s₁ := S1x12x2048) (s₂ := S128x12x2048) (0 : Fin 3) (broadcast S1x12x2048 (Scalar.sitofp (F := Ideal) .bf16 0#32)) (imgR X) concatenates_S1x12x2048_S128x12x2048_S129x12x2048_d0 (ix3 r c k) rfl (ix3 0 c k) fun b => ?_).trans zero_word
    match b with
    | ⟨0, _⟩ => show 0 = r.val; omega
    | ⟨1, _⟩ => rfl
    | ⟨2, _⟩ => rfl

/-- The image with a row of zeros above and below. -/
theorem rowsR_apply (X : Vec Ideal S1536x2048 .fp8e4m3) (r : Fin 130) (c : Fin 12) (k : Fin 2048) : rowsR X (ix3 r c k) = padE X r.val (c.val + 1) k := by
  have hr := r.isLt
  have hc := c.isLt
  unfold rowsR
  by_cases h : r.val ≤ 128
  · refine (concatenate_pair_apply_left (t := S130x12x2048) (s₁ := S129x12x2048) (s₂ := S1x12x2048) (0 : Fin 3) (topR X) (broadcast S1x12x2048 (Scalar.sitofp (F := Ideal) .bf16 0#32)) concatenates_S129x12x2048_S1x12x2048_S130x12x2048_d0 (ix3 r c k) rfl (ix3 ⟨r.val, by omega⟩ c k) fun b => ?_).trans (topR_apply X _ c k)
    match b with
    | ⟨0, _⟩ => rfl
    | ⟨1, _⟩ => rfl
    | ⟨2, _⟩ => rfl
  · unfold padE
    rw [dif_neg (fun h' => h h'.1.2)]
    refine (concatenate_pair_apply_right (t := S130x12x2048) (s₁ := S129x12x2048) (s₂ := S1x12x2048) (0 : Fin 3) (topR X) (broadcast S1x12x2048 (Scalar.sitofp (F := Ideal) .bf16 0#32)) concatenates_S129x12x2048_S1x12x2048_S130x12x2048_d0 (ix3 r c k) rfl rfl (ix3 0 c k) (fun b hb => ?_) ?_).trans zero_word
    · match b with
      | ⟨0, _⟩ => exact absurd rfl hb
      | ⟨1, _⟩ => rfl
      | ⟨2, _⟩ => rfl
    · show 0 + 129 = r.val; omega

/-- And with a column of zeros at the left. -/
theorem leftR_apply (X : Vec Ideal S1536x2048 .fp8e4m3) (r : Fin 130) (c : Fin 13) (k : Fin 2048) : leftR X (ix3 r c k) = padE X r.val c.val k := by
  have hr := r.isLt
  have hc := c.isLt
  unfold leftR
  by_cases h : 1 ≤ c.val
  · refine (concatenate_pair_apply_right (t := S130x13x2048) (s₁ := S130x1x2048) (s₂ := S130x12x2048) (1 : Fin 3) (broadcast S130x1x2048 (Scalar.sitofp (F := Ideal) .bf16 0#32)) (rowsR X) concatenates_S130x1x2048_S130x12x2048_S130x13x2048_d1 (ix3 r c k) rfl rfl (ix3 r ⟨c.val - 1, by omega⟩ k) (fun b hb => ?_) ?_).trans ?_
    · match b with
      | ⟨0, _⟩ => rfl
      | ⟨1, _⟩ => exact absurd rfl hb
      | ⟨2, _⟩ => rfl
    · show c.val - 1 + 1 = c.val; omega
    · rw [rowsR_apply]
      show padE X r.val (c.val - 1 + 1) k = _
      rw [Nat.sub_add_cancel h]
  · unfold padE
    rw [dif_neg (fun h' => h h'.2.1)]
    refine (concatenate_pair_apply_left (t := S130x13x2048) (s₁ := S130x1x2048) (s₂ := S130x12x2048) (1 : Fin 3) (broadcast S130x1x2048 (Scalar.sitofp (F := Ideal) .bf16 0#32)) (rowsR X) concatenates_S130x1x2048_S130x12x2048_S130x13x2048_d1 (ix3 r c k) rfl (ix3 r 0 k) fun b => ?_).trans zero_word
    match b with
    | ⟨0, _⟩ => rfl
    | ⟨1, _⟩ => show 0 = c.val; omega
    | ⟨2, _⟩ => rfl

/-- The padded image is the image with a border of zeros. -/
theorem pay3_apply (X : Vec Ideal S1536x2048 .fp8e4m3) (r : Fin 130) (c : Fin 14) (k : Fin 2048) : k0_pay3 (F := Ideal) X (ix3 r c k) = padE X r.val c.val k := by
  have hr := r.isLt
  have hc := c.isLt
  show concatenate S130x14x2048 1 [⟨S130x13x2048, leftR X⟩, ⟨S130x1x2048, broadcast S130x1x2048 (Scalar.sitofp (F := Ideal) .bf16 0#32)⟩] concatenates_S130x13x2048_S130x1x2048_S130x14x2048_d1 (ix3 r c k) = _
  by_cases h : c.val ≤ 12
  · refine (concatenate_pair_apply_left (t := S130x14x2048) (s₁ := S130x13x2048) (s₂ := S130x1x2048) (1 : Fin 3) (leftR X) (broadcast S130x1x2048 (Scalar.sitofp (F := Ideal) .bf16 0#32)) concatenates_S130x13x2048_S130x1x2048_S130x14x2048_d1 (ix3 r c k) rfl (ix3 r ⟨c.val, by omega⟩ k) fun b => ?_).trans (leftR_apply X r _ k)
    match b with
    | ⟨0, _⟩ => rfl
    | ⟨1, _⟩ => rfl
    | ⟨2, _⟩ => rfl
  · unfold padE
    rw [dif_neg (fun h' => h h'.2.2)]
    refine (concatenate_pair_apply_right (t := S130x14x2048) (s₁ := S130x13x2048) (s₂ := S130x1x2048) (1 : Fin 3) (leftR X) (broadcast S130x1x2048 (Scalar.sitofp (F := Ideal) .bf16 0#32)) concatenates_S130x13x2048_S130x1x2048_S130x14x2048_d1 (ix3 r c k) rfl rfl (ix3 r 0 k) (fun b hb => ?_) ?_).trans zero_word
    · match b with
      | ⟨0, _⟩ => rfl
      | ⟨1, _⟩ => exact absurd rfl hb
      | ⟨2, _⟩ => rfl
    · show 0 + 13 = c.val; omega

/-! ## A tap -/

/-- The image moved by a tap, and its product with the tap's weights. -/
def movR (o : Fin 3 → ℕ) (x : FVec Ideal S130x14x2048 .bf16) (h : S130x14x2048.Slices o S128x12x2048) : FVec Ideal S1536x2048 .bf16 :=
  shapeCast S1536x2048 (extractStridedSlice S128x12x2048 o x h) shapeCasts_S128x12x2048_S1536x2048
/-- One tap's product. -/
def dotR (x : FVec Ideal S1536x2048 .bf16) (w : Vec Ideal S1x2048x216 .bf16) : FVec Ideal S1536x216 .f32 :=
  matmul (F := Ideal) (φ₁ := .bf16) (φ₂ := .bf16) dot_S1536x2048_S2048x216_S1536x216_1_0_0_1_n_n none x (shapeCast S2048x216 w shapeCasts_S1x2048x216_S2048x216) (constant S1536x216 .f32 0x00000000#32)

/-- One tap's product, written out. -/
theorem dotR_apply (x : FVec Ideal S1536x2048 .bf16) (w : Vec Ideal S1x2048x216 .bf16) (p : Fin 1536) (ch : Fin 216) :
    dotR x w (ix2 p ch) = ∑ k : Fin 2048, x (ix2 p k) * w (ix3 0 k ch) := by
  unfold dotR
  refine (Ideal.matmul_plain_apply (M := 1536) (K := 2048) (N := 216) none _ _ _ p ch).trans ?_
  show Ideal.ofBits .f32 0x00000000#32 + _ = _
  rw [Ideal.ofBits_zero_f32, zero_add]
  refine Finset.sum_congr rfl fun k _ => congrArg (x (ix2 p k) * ·) ?_
  refine shapeCast_apply _ _ _ (ix3 0 k ch) ?_
  rw [Shape.rowMajor_val_three, Shape.rowMajor_val_two]
  show (0 * 2048 + k.val) * 216 + ch.val = k.val * 216 + ch.val
  omega

/-- The shifted image at a pixel. -/
theorem movR_apply (dy dx : ℕ) (x : FVec Ideal S130x14x2048 .bf16) (h : S130x14x2048.Slices ![dy, dx, 0] S128x12x2048) (hy : dy < 3) (hx : dx < 3) (p : Fin 1536) (k : Fin 2048) :
    movR ![dy, dx, 0] x h (ix2 p k) = x (ix3 ⟨p.val / 12 + dy, by have := p.isLt; omega⟩ ⟨p.val % 12 + dx, by omega⟩ k) := by
  have hp := p.isLt
  unfold movR
  refine (shapeCast_apply _ _ (ix2 p k) (ix3 ⟨p.val / 12, by omega⟩ ⟨p.val % 12, by omega⟩ k) ?_).trans ?_
  · rw [Shape.rowMajor_val_three, Shape.rowMajor_val_two]
    show (p.val / 12 * 12 + p.val % 12) * 2048 + k.val = p.val * 2048 + k.val
    omega
  refine extractStridedSlice_apply _ _ _ _ _ fun a => ?_
  match a with
  | ⟨0, _⟩ => show p.val / 12 + dy = dy + p.val / 12; omega
  | ⟨1, _⟩ => show p.val % 12 + dx = dx + p.val % 12; omega
  | ⟨2, _⟩ => show k.val = 0 + k.val; omega

/-- A tap's product is its part of the convolution. -/
theorem tap_apply (X : Vec Ideal S1536x2048 .fp8e4m3) (W : Vec Ideal S9x2048x216 .bf16) (t : Fin 9) (dy dx : ℕ) (hy : dy = t.val / 3) (hx : dx = t.val % 3)
    (h : S130x14x2048.Slices ![dy, dx, 0] S128x12x2048) (w : Vec Ideal S1x2048x216 .bf16) (hw : ∀ (k : Fin 2048) (ch : Fin 216), w (ix3 0 k ch) = W (ix3 t k ch)) (p : Fin 1536) (ch : Fin 216) :
    dotR (movR ![dy, dx, 0] (k0_pay3 (F := Ideal) X) h) w (ix2 p ch) = tapE X W t p ch := by
  have ht := t.isLt
  rw [dotR_apply]
  unfold tapE
  refine Finset.sum_congr rfl fun k _ => ?_
  rw [movR_apply dy dx _ h (by omega) (by omega) p k, pay3_apply, hw]
  subst hy hx
  rfl

/-- A tap's weights as the reference loads them. -/
theorem ld_tap (W : Vec Ideal S9x2048x216 .bf16) (t : Fin 9) (n : ℕ) (hn : n = t.val) (inb : ∀ a, (![n, 0, 0] : Fin 3 → ℕ) a + S1x2048x216.size a ≤ S9x2048x216.size a) (k : Fin 2048) (ch : Fin 216) :
    View.ld (Val := Elt Ideal) (e' := .bf16) W (Rect.unit (s := S9x2048x216) ![n, 0, 0] S1x2048x216.size inb) (ix3 0 k ch) = W (ix3 t k ch) := by
  refine congrArg W (funext fun a => Fin.ext ?_)
  match a with
  | ⟨0, _⟩ => show n + 1 * 0 = t.val; omega
  | ⟨1, _⟩ => show 0 + 1 * k.val = k.val; omega
  | ⟨2, _⟩ => show 0 + 1 * ch.val = ch.val; omega

/-! ## The channels -/

/-- The channels, scaled and shifted. -/
def omR (x0 : Vec Ideal S1536x2048 .fp8e4m3) (x1 : Vec Ideal S9x2048x216 .bf16) (x2 : Vec Ideal S1x1 .f32) (x3 : Vec Ideal S1x216 .f32) : FVec Ideal S1536x216 .f32 :=
  k0_pay6 (F := Ideal) (k0_pay34 x0 x1 x2 x3) (k0_pay35 x0 x1 x2 x3) (k0_pay36 x0 x1 x2 x3) (View.ld x1 r0_5) (View.ld x1 r0_6) (View.ld x1 r0_7) (View.ld x1 r0_8) (View.ld x1 r0_9) (View.ld x2 r0_10) (View.ld x3 r0_11)

/-- The channels from the sum of the first taps and the remaining ones. -/
theorem pay6_apply (X0 : FVec Ideal S130x14x2048 .bf16) (a : FVec Ideal S1536x216 .f32) (b : FVec Ideal S1536x2048 .bf16) (w4 w5 w6 w7 w8 : Vec Ideal S1x2048x216 .bf16) (sc : Vec Ideal S1x1 .f32) (bi : Vec Ideal S1x216 .f32) (p : Fin 1536) (ch : Fin 216) :
    k0_pay6 (F := Ideal) X0 a b w4 w5 w6 w7 w8 sc bi (ix2 p ch)
      = (a (ix2 p ch) + dotR b w4 (ix2 p ch) + dotR (movR ![1, 2, 0] X0 slices_S130x14x2048_o1_2_0_S128x12x2048) w5 (ix2 p ch) + dotR (movR ![2, 0, 0] X0 slices_S130x14x2048_o2_0_0_S128x12x2048) w6 (ix2 p ch) + dotR (movR ![2, 1, 0] X0 slices_S130x14x2048_o2_1_0_S128x12x2048) w7 (ix2 p ch) + dotR (movR ![2, 2, 0] X0 slices_S130x14x2048_o2_2_0_S128x12x2048) w8 (ix2 p ch)) * sc (ix2 0 0) + bi (ix2 0 ch) := by
  have h1 : broadcastTo S1536x216 sc broadcasts_S1x1_S1536x216 (ix2 p ch) = sc (ix2 0 0) := broadcastTo_apply _ _ _ (ix2 0 0) fun a => by
    match a with
    | ⟨0, _⟩ => rfl
    | ⟨1, _⟩ => rfl
  have h2 : broadcastTo S1536x216 bi broadcasts_S1x216_S1536x216 (ix2 p ch) = bi (ix2 0 ch) := broadcastTo_apply _ _ _ (ix2 0 ch) fun a => by
    match a with
    | ⟨0, _⟩ => rfl
    | ⟨1, _⟩ => rfl
  rw [← h1, ← h2]
  unfold k0_pay6
  rw [shapeCast_self, shapeCast_self]
  rfl

/-- The sum of the first taps. -/
theorem pay4_apply (X : Vec Ideal S1536x2048 .fp8e4m3) (w0 w1 w2 w3 : Vec Ideal S1x2048x216 .bf16) (p : Fin 1536) (ch : Fin 216) :
    k0_pay4 (F := Ideal) X w0 w1 w2 w3 (ix2 p ch)
      = Ideal.ofBits .f32 0x00000000#32 + dotR (movR ![0, 0, 0] (k0_pay3 (F := Ideal) X) slices_S130x14x2048_o0_0_0_S128x12x2048) w0 (ix2 p ch) + dotR (movR ![0, 1, 0] (k0_pay3 (F := Ideal) X) slices_S130x14x2048_o0_1_0_S128x12x2048) w1 (ix2 p ch) + dotR (movR ![0, 2, 0] (k0_pay3 (F := Ideal) X) slices_S130x14x2048_o0_2_0_S128x12x2048) w2 (ix2 p ch) + dotR (movR ![1, 0, 0] (k0_pay3 (F := Ideal) X) slices_S130x14x2048_o1_0_0_S128x12x2048) w3 (ix2 p ch) := rfl

/-- The channels in plain mathematics. -/
theorem omR_apply (x0 : Vec Ideal S1536x2048 .fp8e4m3) (x1 : Vec Ideal S9x2048x216 .bf16) (x2 : Vec Ideal S1x1 .f32) (x3 : Vec Ideal S1x216 .f32) (p : Fin 1536) (ch : Fin 216) :
    omR x0 x1 x2 x3 (ix2 p ch) = (∑ t : Fin 9, tapE x0 x1 t p ch) * x2 (ix2 0 0) + x3 (ix2 0 ch) := by
  have e0 : View.ld (Val := Elt Ideal) (e' := .fp8e4m3) x0 r0_0 = x0 := View.ld_unit_zero (funext fun a => by fin_cases a <;> rfl) _ _
  have e2 : View.ld (Val := Elt Ideal) (e' := .f32) x2 r0_10 = x2 := View.ld_unit_zero (funext fun a => by fin_cases a <;> rfl) _ _
  have e3 : View.ld (Val := Elt Ideal) (e' := .f32) x3 r0_11 = x3 := View.ld_unit_zero (funext fun a => by fin_cases a <;> rfl) _ _
  have ha : k0_pay35 (F := Ideal) x0 x1 x2 x3 = k0_pay4 (F := Ideal) x0 (View.ld x1 r0_1) (View.ld x1 r0_2) (View.ld x1 r0_3) (View.ld x1 r0_4) := congrArg (fun v => k0_pay4 (F := Ideal) v (View.ld x1 r0_1) (View.ld x1 r0_2) (View.ld x1 r0_3) (View.ld x1 r0_4)) e0
  have hb : k0_pay36 (F := Ideal) x0 x1 x2 x3 = movR ![1, 1, 0] (k0_pay3 (F := Ideal) x0) slices_S130x14x2048_o1_1_0_S128x12x2048 := congrArg (fun v => k0_pay5 (F := Ideal) v) e0
  have hc : k0_pay34 (F := Ideal) x0 x1 x2 x3 = k0_pay3 (F := Ideal) x0 := congrArg (fun v => k0_pay3 (F := Ideal) v) e0
  unfold omR
  rw [ha, hb, hc, pay6_apply, e2, e3, pay4_apply, Ideal.ofBits_zero_f32, zero_add]
  rw [tap_apply x0 x1 0 0 0 rfl rfl slices_S130x14x2048_o0_0_0_S128x12x2048 (View.ld x1 r0_1) (fun k ch => ld_tap x1 0 0 rfl _ k ch) p ch]
  rw [tap_apply x0 x1 1 0 1 rfl rfl slices_S130x14x2048_o0_1_0_S128x12x2048 (View.ld x1 r0_2) (fun k ch => ld_tap x1 1 1 rfl _ k ch) p ch]
  rw [tap_apply x0 x1 2 0 2 rfl rfl slices_S130x14x2048_o0_2_0_S128x12x2048 (View.ld x1 r0_3) (fun k ch => ld_tap x1 2 2 rfl _ k ch) p ch]
  rw [tap_apply x0 x1 3 1 0 rfl rfl slices_S130x14x2048_o1_0_0_S128x12x2048 (View.ld x1 r0_4) (fun k ch => ld_tap x1 3 3 rfl _ k ch) p ch]
  rw [tap_apply x0 x1 4 1 1 rfl rfl slices_S130x14x2048_o1_1_0_S128x12x2048 (View.ld x1 r0_5) (fun k ch => ld_tap x1 4 4 rfl _ k ch) p ch]
  rw [tap_apply x0 x1 5 1 2 rfl rfl slices_S130x14x2048_o1_2_0_S128x12x2048 (View.ld x1 r0_6) (fun k ch => ld_tap x1 5 5 rfl _ k ch) p ch]
  rw [tap_apply x0 x1 6 2 0 rfl rfl slices_S130x14x2048_o2_0_0_S128x12x2048 (View.ld x1 r0_7) (fun k ch => ld_tap x1 6 6 rfl _ k ch) p ch]
  rw [tap_apply x0 x1 7 2 1 rfl rfl slices_S130x14x2048_o2_1_0_S128x12x2048 (View.ld x1 r0_8) (fun k ch => ld_tap x1 7 7 rfl _ k ch) p ch]
  rw [tap_apply x0 x1 8 2 2 rfl rfl slices_S130x14x2048_o2_2_0_S128x12x2048 (View.ld x1 r0_9) (fun k ch => ld_tap x1 8 8 rfl _ k ch) p ch]
  refine congrArg (· * _ + _) ?_
  rw [Fin.sum_univ_castSucc, Fin.sum_univ_eight]
  rfl

end Cert.Proof.OffsetsReference

end
-- ==== Proof.OffRVal.lean ====
/- What the offset convolution's reference computes, over the extended reals. -/
module

public import proofs.«01_k».proof.Proof.OffRConv
public import Idealize.ShloMosaic.Lib.StableHlo.Run
public import Idealize.ShloMosaic.Lib.Pipeline.ValueKit
public import Idealize.ShloMosaic.Lib.MatmulPlain
public import Idealize.ShloMosaic.Lib.IdealHost
public import Idealize.ShloMosaic.PureOps.Ideal.Laws
public import Idealize.ShloMosaic.Lib.Pipeline.KitQuiescent
public import Idealize.ShloMosaic.Lib.Tactic
public import Idealize.ShloMosaic.Lib.VecWindow
public import Idealize.ShloMosaic.Lib.ValueIdxCore
public import Idealize.ShloMosaic.Lib.ValueLayout
public import Idealize.ShloMosaic.Lib.Pipeline.Value

@[expose] public section

noncomputable section

namespace Cert.Proof.OffsetsReference

open Cert.OffsetsReferenceIdeal Cert.OffsetsReferenceIdeal.Gen Cert.OffsetsReferenceIdeal.Value
open Idealize.ShloMosaic hiding ix1 ix2 ix3 ix4 ix5
open Idealize.ShloMosaic.ValueIdx
open Idealize.ShloMosaic.TcCoe Idealize.ShloMosaic.Tactic
open Idealize.SL Idealize.SL.Sem
open Idealize.ShloMosaic.Pipeline (Dat Cfg Window BodyObligation cellOf)
open Cert.Proof.OffsetValues (padE tapE omE posE flE frE clE idxE validE cornE wE pixE chE maskE idxOf wtOf idxM wtM div_word rem_word div3_word rem3_word pix_word)

/-! ## Positions -/

/-- A pixel's number from its block and lane. -/
theorem pay10_apply (b : Fin 12) (t : Fin 9) (g : Fin 8) (l : Fin 128) : k0_pay10 (ix4 b l g t) = BitVec.ofNat 32 (pixE b l).val := by
  have h : k0_pay10 (ix4 b l g t) = iota .tc S12x128x8x9 32 [0] iota_S12x128x8x9_d0_w32 (ix4 b l g t) * 128#32 + iota .tc S12x128x8x9 32 [1] iota_S12x128x8x9_d1_w32 (ix4 b l g t) := rfl
  rw [h, iota_single_apply, iota_single_apply]
  exact pix_word b l

/-- An offset of a group and tap among its pixel's channels. -/
theorem off_apply (v : FVec Ideal S1536x144 .f32) (e : Fin 2) (n : ℕ) (hn : n = e.val) (h : S12x128x8x9x2.Slices ![0, 0, 0, 0, n] S12x128x8x9x1) (b : Fin 12) (t : Fin 9) (g : Fin 8) (l : Fin 128) :
    shapeCast S12x128x8x9 (extractStridedSlice S12x128x8x9x1 ![0, 0, 0, 0, n] (k0_pay8 (F := Ideal) v) h) shapeCasts_S12x128x8x9x1_S12x128x8x9 (ix4 b l g t)
      = v (ix2 (pixE b l) ⟨18 * g.val + 2 * t.val + e.val, by have := g.isLt; have := t.isLt; have := e.isLt; omega⟩) := by
  refine (shapeCast_apply _ _ _ (ix5 b l g t 0) ?_).trans ?_
  · rw [Shape.rowMajor_val_five, Shape.rowMajor_val_four]
    show (((b.val * 128 + l.val) * 8 + g.val) * 9 + t.val) * 1 + 0 = ((b.val * 128 + l.val) * 8 + g.val) * 9 + t.val
    omega
  refine (extractStridedSlice_apply _ _ _ _ (ix5 b l g t e) fun a => ?_).trans ?_
  · match a with
    | ⟨0, _⟩ => show b.val = 0 + b.val; omega
    | ⟨1, _⟩ => show l.val = 0 + l.val; omega
    | ⟨2, _⟩ => show g.val = 0 + g.val; omega
    | ⟨3, _⟩ => show t.val = 0 + t.val; omega
    | ⟨4, _⟩ => show e.val = n + 0; omega
  refine shapeCast_apply _ _ _ _ ?_
  rw [Shape.rowMajor_val_two, Shape.rowMajor_val_five]
  show (128 * b.val + l.val) * 144 + (18 * g.val + 2 * t.val + e.val) = (((b.val * 128 + l.val) * 8 + g.val) * 9 + t.val) * 2 + e.val
  omega

/-- The two coordinates of the sampling position. -/
theorem pay11_apply (v : FVec Ideal S1536x144 .f32) (b : Fin 12) (t : Fin 9) (g : Fin 8) (l : Fin 128) :
    k0_pay11 (F := Ideal) v (ix4 b l g t) = posE ((pixE b l).val / 12) (t.val / 3) (v (ix2 (pixE b l) ⟨18 * g.val + 2 * t.val + 0, by have := g.isLt; have := t.isLt; omega⟩)) := by
  have h : k0_pay11 (F := Ideal) v (ix4 b l g t)
      = ((((IntOp.divsi .vector (k0_pay10 (ix4 b l g t)) 12#32 + IntOp.divsi .vector (iota .tc S12x128x8x9 32 [3] iota_S12x128x8x9_d3_w32 (ix4 b l g t)) 3#32) - 1#32).toInt : ℝ) : EReal)
        + shapeCast S12x128x8x9 (extractStridedSlice S12x128x8x9x1 ![0, 0, 0, 0, 0] (k0_pay8 (F := Ideal) v) slices_S12x128x8x9x2_o0_0_0_0_0_S12x128x8x9x1) shapeCasts_S12x128x8x9x1_S12x128x8x9 (ix4 b l g t) := rfl
  rw [h, off_apply v 0 0 rfl, iota_single_apply, pay10_apply, div_word]
  exact congrArg (fun w : BitVec 32 => ((((BitVec.ofNat 32 ((pixE b l).val / 12) + w) - 1#32).toInt : ℝ) : EReal) + _) (div3_word t)
/-- The offsets, from their channels. -/
theorem pay12_apply (v : FVec Ideal S1536x144 .f32) (b : Fin 12) (t : Fin 9) (g : Fin 8) (l : Fin 128) :
    k0_pay12 (F := Ideal) v (ix4 b l g t) = posE ((pixE b l).val % 12) (t.val % 3) (v (ix2 (pixE b l) ⟨18 * g.val + 2 * t.val + 1, by have := g.isLt; have := t.isLt; omega⟩)) := by
  have h : k0_pay12 (F := Ideal) v (ix4 b l g t)
      = ((((IntOp.remsi .vector (k0_pay10 (ix4 b l g t)) 12#32 + IntOp.remsi .vector (iota .tc S12x128x8x9 32 [3] iota_S12x128x8x9_d3_w32 (ix4 b l g t)) 3#32) - 1#32).toInt : ℝ) : EReal)
        + shapeCast S12x128x8x9 (extractStridedSlice S12x128x8x9x1 ![0, 0, 0, 0, 1] (k0_pay8 (F := Ideal) v) slices_S12x128x8x9x2_o0_0_0_0_1_S12x128x8x9x1) shapeCasts_S12x128x8x9x1_S12x128x8x9 (ix4 b l g t) := rfl
  rw [h, off_apply v 1 1 rfl, iota_single_apply, pay10_apply, rem_word]
  exact congrArg (fun w : BitVec 32 => ((((BitVec.ofNat 32 ((pixE b l).val % 12) + w) - 1#32).toInt : ℝ) : EReal) + _) (rem3_word t)

/-- The masks. -/
theorem pay9_apply (om : FVec Ideal S1536x216 .f32) (b : Fin 12) (t : Fin 9) (g : Fin 8) (l : Fin 128) :
    k0_pay9 (F := Ideal) om (ix4 b l g t) = Ideal.logistic (om (ix2 (pixE b l) (maskE t g))) := by
  refine congrArg Ideal.logistic ?_
  refine (shapeCast_apply (s := S1536x72) _ _ _ (ix2 (pixE b l) ⟨9 * g.val + t.val, by have := g.isLt; have := t.isLt; omega⟩) ?_).trans ?_
  · rw [Shape.rowMajor_val_two, Shape.rowMajor_val_four]
    show (128 * b.val + l.val) * 72 + (9 * g.val + t.val) = ((b.val * 128 + l.val) * 8 + g.val) * 9 + t.val
    omega
  refine extractStridedSlice_apply _ _ _ _ _ fun a => ?_
  match a with
  | ⟨0, _⟩ => show 128 * b.val + l.val = 0 + (128 * b.val + l.val); omega
  | ⟨1, _⟩ => show 144 + 9 * g.val + t.val = 144 + (9 * g.val + t.val); omega

/-- The offsets among the channels. -/
theorem pay37_apply (x0 : Vec Ideal S1536x2048 .fp8e4m3) (x1 : Vec Ideal S9x2048x216 .bf16) (x2 : Vec Ideal S1x1 .f32) (x3 : Vec Ideal S1x216 .f32) (p : Fin 1536) (ch : Fin 144) :
    k0_pay37 (F := Ideal) x0 x1 x2 x3 (ix2 p ch) = omR x0 x1 x2 x3 (ix2 p ⟨ch.val, by have := ch.isLt; omega⟩) := by
  show extractStridedSlice S1536x144 ![0, 0] (omR x0 x1 x2 x3) slices_S1536x216_o0_0_S1536x144 (ix2 p ch) = _
  refine extractStridedSlice_apply _ _ _ _ _ fun a => ?_
  match a with
  | ⟨0, _⟩ => show p.val = 0 + p.val; omega
  | ⟨1, _⟩ => show ch.val = 0 + ch.val; omega

/-! ## The stored values -/

/-- The index words. -/
theorem pay20_apply (v : FVec Ideal S1536x144 .f32) (b : Fin 12) (t : Fin 9) (g : Fin 8) (l : Fin 128) :
    k0_pay20 (iota .tc S12x128x8x9 32 [2] iota_S12x128x8x9_d2_w32) (k0_pay17 (F := Ideal) v) (k0_pay18 (F := Ideal) v) k0_pay19 (ix4 b t g l)
      = idxE g.val (k0_pay11 (F := Ideal) v (ix4 b l g t)) (k0_pay12 (F := Ideal) v (ix4 b l g t)) := by
  have h : iota .tc S12x128x8x9 32 [2] iota_S12x128x8x9_d2_w32 (ix4 b l g t) = BitVec.ofNat 32 g.val := iota_single_apply _ _ _ _ _ _
  unfold k0_pay20
  refine (transpose_apply _ _ _ _ (ix4 b l g t) fun a => ?_).trans ?_
  · match a with
    | ⟨0, _⟩ => rfl
    | ⟨1, _⟩ => rfl
    | ⟨2, _⟩ => rfl
    | ⟨3, _⟩ => rfl
  unfold k0_pay17 k0_pay18 k0_pay13 k0_pay14 idxE clE
  rw [← h]
  generalize k0_pay11 (F := Ideal) v = y
  generalize k0_pay12 (F := Ideal) v = x
  rfl

/-- A corner's weights as they are stored. -/
theorem spread_apply (u : FVec Ideal S12x128x8x9 .f32) (b : Fin 12) (t : Fin 9) (g : Fin 8) (l : Fin 128) :
    shapeCast S12x9x1x8x128 (transpose S12x9x8x128 [0, 3, 2, 1] u transposes_S12x128x8x9_p0_3_2_1_S12x9x8x128) shapeCasts_S12x9x8x128_S12x9x1x8x128 (ix5 b t 0 g l) = u (ix4 b l g t) := by
  refine (shapeCast_apply _ _ _ (ix4 b t g l) ?_).trans ?_
  · rw [Shape.rowMajor_val_five, Shape.rowMajor_val_four]
    show ((b.val * 9 + t.val) * 8 + g.val) * 128 + l.val = (((b.val * 9 + t.val) * 1 + 0) * 8 + g.val) * 128 + l.val
    omega
  refine transpose_apply _ _ _ _ _ fun a => ?_
  match a with
  | ⟨0, _⟩ => rfl
  | ⟨1, _⟩ => rfl
  | ⟨2, _⟩ => rfl
  | ⟨3, _⟩ => rfl

/-- The four corners' stored weights from the masks and the offsets. -/
def cornR (m : FVec Ideal S12x128x8x9 .f32) (v : FVec Ideal S1536x144 .f32) : Fin 4 → FVec Ideal S12x9x1x8x128 .f32
  | 0 => k0_pay31 (F := Ideal) m (k0_pay14 v) (k0_pay21 (k0_pay15 v) (k0_pay16 v)) (k0_pay29 (k0_pay13 v) (k0_pay14 v)) (k0_pay30 (F := Ideal))
  | 1 => k0_pay32 (F := Ideal) m (k0_pay13 v) (k0_pay22 (k0_pay14 v)) (k0_pay23 (k0_pay15 v) (k0_pay16 v))
  | 2 => k0_pay1 (F := Ideal) m (k0_pay25 (k0_pay15 v) (k0_pay16 v)) (k0_pay33 (k0_pay14 v) (k0_pay24 (k0_pay13 v)))
  | 3 => k0_pay2 (F := Ideal) m (k0_pay26 (k0_pay13 v)) (k0_pay27 (k0_pay14 v)) (k0_pay28 (k0_pay15 v) (k0_pay16 v))

/-- A corner's weights as the reference stores them. -/
theorem cornR_apply (om : FVec Ideal S1536x216 .f32) (v : FVec Ideal S1536x144 .f32) (q : Fin 4) (b : Fin 12) (t : Fin 9) (g : Fin 8) (l : Fin 128) :
    cornR (k0_pay9 (F := Ideal) om) v q (ix5 b t 0 g l) = wE q (k0_pay11 (F := Ideal) v (ix4 b l g t)) (k0_pay12 (F := Ideal) v (ix4 b l g t)) (om (ix2 (pixE b l) (maskE t g))) := by
  have hm := pay9_apply om b t g l
  unfold wE cornR
  rw [← hm]
  generalize k0_pay9 (F := Ideal) om = m
  match q with
  | 0 =>
    dsimp only
    refine (spread_apply _ b t g l).trans ?_
    unfold k0_pay29 k0_pay30 k0_pay21 k0_pay15 k0_pay16 k0_pay13 k0_pay14 flE
    generalize k0_pay11 (F := Ideal) v = y
    generalize k0_pay12 (F := Ideal) v = x
    rfl
  | 1 =>
    dsimp only
    refine (spread_apply _ b t g l).trans ?_
    unfold k0_pay22 k0_pay23 k0_pay15 k0_pay16 k0_pay13 k0_pay14 flE
    generalize k0_pay11 (F := Ideal) v = y
    generalize k0_pay12 (F := Ideal) v = x
    rfl
  | 2 =>
    dsimp only
    refine (spread_apply _ b t g l).trans ?_
    unfold k0_pay25 k0_pay33 k0_pay24 k0_pay15 k0_pay16 k0_pay13 k0_pay14 flE
    generalize k0_pay11 (F := Ideal) v = y
    generalize k0_pay12 (F := Ideal) v = x
    rfl
  | 3 =>
    dsimp only
    refine (spread_apply _ b t g l).trans ?_
    unfold k0_pay26 k0_pay27 k0_pay28 k0_pay15 k0_pay16 k0_pay13 k0_pay14 flE
    generalize k0_pay11 (F := Ideal) v = y
    generalize k0_pay12 (F := Ideal) v = x
    rfl

/-! ## The stored arrays -/

/-- A corner's place in the weights. -/
theorem emb_corner (q : Fin 4) (n : ℕ) (hn : n = q.val) (inb : ∀ a, (![0, 0, n, 0, 0] : Fin 5 → ℕ) a + S12x9x1x8x128.size a ≤ S12x9x4x8x128.size a) (b : Fin 12) (t : Fin 9) (g : Fin 8) (l : Fin 128) :
    (Rect.unit (s := S12x9x4x8x128) ![0, 0, n, 0, 0] S12x9x1x8x128.size inb).emb (ix5 b t 0 g l) = ix5 b t q g l := by
  funext a
  refine Fin.ext ?_
  match a with
  | ⟨0, _⟩ => show 0 + 1 * b.val = b.val; omega
  | ⟨1, _⟩ => show 0 + 1 * t.val = t.val; omega
  | ⟨2, _⟩ => show n + 1 * 0 = q.val; omega
  | ⟨3, _⟩ => show 0 + 1 * g.val = g.val; omega
  | ⟨4, _⟩ => show 0 + 1 * l.val = l.val; omega

/-- Another corner's place is elsewhere. -/
theorem not_corner (q : Fin 4) (n : ℕ) (hn : n ≠ q.val) (inb : ∀ a, (![0, 0, n, 0, 0] : Fin 5 → ℕ) a + S12x9x1x8x128.size a ≤ S12x9x4x8x128.size a) (b : Fin 12) (t : Fin 9) (g : Fin 8) (l : Fin 128) :
    ix5 b t q g l ∉ (Rect.unit (s := S12x9x4x8x128) ![0, 0, n, 0, 0] S12x9x1x8x128.size inb).set := fun h => by
  obtain ⟨j, hj, e⟩ := ((LoadRect.mem_set _).1 h) ⟨2, by decide⟩
  change j < 1 at hj
  change q.val = n + 1 * j at e
  omega

/-- The weights' array: each corner's own part. -/
theorem canon_corner (w : Fin 4 → FVec Ideal S12x9x1x8x128 .f32) (q : Fin 4) (b : Fin 12) (t : Fin 9) (g : Fin 8) (l : Fin 128) :
    View.canon (Val := Elt Ideal) (s := S12x9x4x8x128) (e := .f32) [⟨r0_16, w 3⟩, ⟨r0_15, w 2⟩, ⟨r0_14, w 1⟩, ⟨r0_13, w 0⟩] (ix5 b t q g l) = w q (ix5 b t 0 g l) := by
  match q with
  | 0 =>
    refine (View.canon_cons_of_not_mem (Val := Elt Ideal) (s := S12x9x4x8x128) (e := .f32) ⟨r0_16, w 3⟩ _ (not_corner 0 3 (by decide) inb_S12x9x4x8x128_S12x9x1x8x128_0_0_3_0_0 b t g l)).trans ?_
    refine (View.canon_cons_of_not_mem (Val := Elt Ideal) (s := S12x9x4x8x128) (e := .f32) ⟨r0_15, w 2⟩ _ (not_corner 0 2 (by decide) inb_S12x9x4x8x128_S12x9x1x8x128_0_0_2_0_0 b t g l)).trans ?_
    refine (View.canon_cons_of_not_mem (Val := Elt Ideal) (s := S12x9x4x8x128) (e := .f32) ⟨r0_14, w 1⟩ _ (not_corner 0 1 (by decide) inb_S12x9x4x8x128_S12x9x1x8x128_0_0_1_0_0 b t g l)).trans ?_
    refine (congrArg _ (emb_corner 0 0 rfl inb_S12x9x4x8x128_S12x9x1x8x128_0_0_0_0_0 b t g l).symm).trans ?_
    exact View.canon_cons_emb (Val := Elt Ideal) (s := S12x9x4x8x128) (e := .f32) r0_13 (w 0) _ (ix5 b t 0 g l)
  | 1 =>
    refine (View.canon_cons_of_not_mem (Val := Elt Ideal) (s := S12x9x4x8x128) (e := .f32) ⟨r0_16, w 3⟩ _ (not_corner 1 3 (by decide) inb_S12x9x4x8x128_S12x9x1x8x128_0_0_3_0_0 b t g l)).trans ?_
    refine (View.canon_cons_of_not_mem (Val := Elt Ideal) (s := S12x9x4x8x128) (e := .f32) ⟨r0_15, w 2⟩ _ (not_corner 1 2 (by decide) inb_S12x9x4x8x128_S12x9x1x8x128_0_0_2_0_0 b t g l)).trans ?_
    refine (congrArg _ (emb_corner 1 1 rfl inb_S12x9x4x8x128_S12x9x1x8x128_0_0_1_0_0 b t g l).symm).trans ?_
    exact View.canon_cons_emb (Val := Elt Ideal) (s := S12x9x4x8x128) (e := .f32) r0_14 (w 1) _ (ix5 b t 0 g l)
  | 2 =>
    refine (View.canon_cons_of_not_mem (Val := Elt Ideal) (s := S12x9x4x8x128) (e := .f32) ⟨r0_16, w 3⟩ _ (not_corner 2 3 (by decide) inb_S12x9x4x8x128_S12x9x1x8x128_0_0_3_0_0 b t g l)).trans ?_
    refine (congrArg _ (emb_corner 2 2 rfl inb_S12x9x4x8x128_S12x9x1x8x128_0_0_2_0_0 b t g l).symm).trans ?_
    exact View.canon_cons_emb (Val := Elt Ideal) (s := S12x9x4x8x128) (e := .f32) r0_15 (w 2) _ (ix5 b t 0 g l)
  | 3 =>
    refine (congrArg _ (emb_corner 3 3 rfl inb_S12x9x4x8x128_S12x9x1x8x128_0_0_3_0_0 b t g l).symm).trans ?_
    exact View.canon_cons_emb (Val := Elt Ideal) (s := S12x9x4x8x128) (e := .f32) r0_16 (w 3) _ (ix5 b t 0 g l)

/-- The channels for the arrays the call receives. -/
theorem om_eq (S : Vec Ideal S1 .f32) (X : Vec Ideal S1536x2048 .fp8e4m3) (W : Vec Ideal S9x2048x216 .bf16) (B : Vec Ideal S2x1x128 .f32) (p : Fin 1536) (ch : Fin 216) :
    omR X W (shapeCast S1x1 S shapeCasts_S1_S1x1) (extractStridedSlice S1x216 ![0, 0] (shapeCast S1x256 B shapeCasts_S2x1x128_S1x256) slices_S1x256_S1x216_0_0) (ix2 p ch) = omE S X W B p ch := by
  have hch := ch.isLt
  rw [omR_apply]
  unfold omE
  refine congrArg₂ (· + ·) (congrArg (_ * ·) ?_) ?_
  · refine shapeCast_apply _ _ _ _ ?_
    rw [Shape.rowMajor_val_two, Shape.rowMajor_val_one]
    rfl
  · refine (extractStridedSlice_apply _ _ _ _ (ix2 0 ⟨ch.val, by omega⟩) fun a => ?_).trans ?_
    · match a with
      | ⟨0, _⟩ => rfl
      | ⟨1, _⟩ => show ch.val = 0 + ch.val; omega
    refine shapeCast_apply _ _ _ _ ?_
    rw [Shape.rowMajor_val_two, Shape.rowMajor_val_three]
    show (ch.val / 128 * 1 + 0) * 128 + ch.val % 128 = 0 * 256 + ch.val
    omega

/-- The index words the reference stores. -/
theorem idx_eq (x0 : Vec Ideal S1536x2048 .fp8e4m3) (x1 : Vec Ideal S9x2048x216 .bf16) (x2 : Vec Ideal S1x1 .f32) (x3 : Vec Ideal S1x216 .f32) (om : Fin 1536 → Fin 216 → EReal)
    (ho : ∀ p ch, omR x0 x1 x2 x3 (ix2 p ch) = om p ch) : out0_4 (F := Ideal) x0 x1 x2 x3 = fun y => idxOf om (y 0) (y 1) (y 2) (y 3) := by
  have e : out0_4 (F := Ideal) x0 x1 x2 x3 = k0_pay20 (iota .tc S12x128x8x9 32 [2] iota_S12x128x8x9_d2_w32) (k0_pay17 (F := Ideal) (k0_pay37 x0 x1 x2 x3)) (k0_pay18 (F := Ideal) (k0_pay37 x0 x1 x2 x3)) k0_pay19 := by
    unfold out0_4
    frame_out
  rw [e]
  have key : ∀ (b : Fin 12) (t : Fin 9) (g : Fin 8) (l : Fin 128), k0_pay20 (iota .tc S12x128x8x9 32 [2] iota_S12x128x8x9_d2_w32) (k0_pay17 (F := Ideal) (k0_pay37 x0 x1 x2 x3)) (k0_pay18 (F := Ideal) (k0_pay37 x0 x1 x2 x3)) k0_pay19 (ix4 b t g l)
      = idxOf om b t g l := fun b t g l => by
    rw [pay20_apply, pay11_apply, pay12_apply, pay37_apply, pay37_apply, ho, ho]
    rfl
  funext y
  exact (congrArg _ (ValueIdx.eq_ix4 y)).trans (key (y 0) (y 1) (y 2) (y 3))

/-- The weights the reference stores. -/
theorem wt_eq (x0 : Vec Ideal S1536x2048 .fp8e4m3) (x1 : Vec Ideal S9x2048x216 .bf16) (x2 : Vec Ideal S1x1 .f32) (x3 : Vec Ideal S1x216 .f32) (om : Fin 1536 → Fin 216 → EReal)
    (ho : ∀ p ch, omR x0 x1 x2 x3 (ix2 p ch) = om p ch) : out0_5 (F := Ideal) x0 x1 x2 x3 = fun y => wtOf om (y 0) (y 1) (y 2) (y 3) (y 4) := by
  have key : ∀ (b : Fin 12) (t : Fin 9) (q : Fin 4) (g : Fin 8) (l : Fin 128), out0_5 (F := Ideal) x0 x1 x2 x3 (ix5 b t q g l) = wtOf om b t q g l := fun b t q g l => by
    refine (canon_corner (cornR (k0_pay9 (F := Ideal) (omR x0 x1 x2 x3)) (k0_pay37 x0 x1 x2 x3)) q b t g l).trans ?_
    rw [cornR_apply, pay11_apply, pay12_apply, pay37_apply, pay37_apply, ho, ho, ho]
    rfl
  funext y
  exact (congrArg _ (ValueIdx.eq_ix5 y)).trans (key (y 0) (y 1) (y 2) (y 3) (y 4))

/-! ## The run -/

section
variable (m : (ℓ : Loc nD τ sig) → Buf (Elt Ideal) ℓ) (ρ : Dev nD → PrngReg)

/-- The scale as the reference's call takes it. -/
theorem V_scale (c : Dev nD) : V m c main_v0 = shapeCast S1x1 (m ((c : Thread nD τ).loc main_arg0)) shapeCasts_S1_S1x1 := by
  dsimp only [V, hostOps0]
  after_results
  rfl
/-- The bias as the reference's call takes it. -/
theorem V_bias (c : Dev nD) : V m c main_v2 = extractStridedSlice S1x216 ![0, 0] (shapeCast S1x256 (m ((c : Thread nD τ).loc main_arg3)) shapeCasts_S2x1x128_S1x256) slices_S1x256_S1x216_0_0 := by
  dsimp only [V, hostOps0]
  after_results
  rfl

/-- The block of the reference's window 0 is the whole array. -/
theorem rblk0 (c : Dev nD) : iblk m c 0 t0_0 = m ((c : Thread nD τ).loc main_arg1) := by
  refine Eq.trans ?_ (V_main_arg1 m c)
  show (win0_0.blk t0_0).view.read (Elt Ideal) (V m c main_arg1) = _
  exact Memref.read_access_unit_zero (Elt Ideal) main_arg1
    (show (fun a => (win0_0.index t0_0) a * main_arg1.ty.shape.size a) = fun _ => 0 from
      funext fun a => by fin_cases a <;> decide) (fun a => by fin_cases a <;> decide) _

/-- The block of the reference's window 1 is the whole array. -/
theorem rblk1 (c : Dev nD) : iblk m c 1 t0_0 = m ((c : Thread nD τ).loc main_arg2) := by
  refine Eq.trans ?_ (V_main_arg2 m c)
  show (win0_1.blk t0_0).view.read (Elt Ideal) (V m c main_arg2) = _
  exact Memref.read_access_unit_zero (Elt Ideal) main_arg2
    (show (fun a => (win0_1.index t0_0) a * main_arg2.ty.shape.size a) = fun _ => 0 from
      funext fun a => by fin_cases a <;> decide) (fun a => by fin_cases a <;> decide) _

/-- The block of the reference's window 2 is the whole array. -/
theorem rblk2 (c : Dev nD) : iblk m c 2 t0_0 = V m c main_v0 := by
  refine Eq.trans ?_ (rfl)
  show (win0_2.blk t0_0).view.read (Elt Ideal) (V m c main_v0) = _
  exact Memref.read_access_unit_zero (Elt Ideal) main_v0
    (show (fun a => (win0_2.index t0_0) a * main_v0.ty.shape.size a) = fun _ => 0 from
      funext fun a => by fin_cases a <;> decide) (fun a => by fin_cases a <;> decide) _

/-- The block of the reference's window 3 is the whole array. -/
theorem rblk3 (c : Dev nD) : iblk m c 3 t0_0 = V m c main_v2 := by
  refine Eq.trans ?_ (rfl)
  show (win0_3.blk t0_0).view.read (Elt Ideal) (V m c main_v2) = _
  exact Memref.read_access_unit_zero (Elt Ideal) main_v2
    (show (fun a => (win0_3.index t0_0) a * main_v2.ty.shape.size a) = fun _ => 0 from
      funext fun a => by fin_cases a <;> decide) (fun a => by fin_cases a <;> decide) _

/-- The reference's index words and weights after its run. -/
theorem final_idx (c : Dev nD) : (dats m 0 c).arrAt 4 cfg0.N = idxM (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_0 (by decide +kernel) _ fun j => ?_
  blk_simp
  rw [after0_4, rblk0, rblk1, rblk2, rblk3, V_scale, V_bias]
  rw [idx_eq _ _ _ _ _ (om_eq (m ((c : Thread nD τ).loc main_arg0)) (m ((c : Thread nD τ).loc main_arg1)) (m ((c : Thread nD τ).loc main_arg2)) (m ((c : Thread nD τ).loc main_arg3)))]
  rfl
/-- The weight result at the end. -/
theorem final_wt (c : Dev nD) : (dats m 0 c).arrAt 5 cfg0.N = wtM (m ((c : Thread nD τ).loc main_arg0)) (m ((c : Thread nD τ).loc main_arg1)) (m ((c : Thread nD τ).loc main_arg2)) (m ((c : Thread nD τ).loc main_arg3)) := by
  refine (dats m 0 c).arrAt_eq_of_after_last 5 t0_0 (by decide +kernel) _ fun j => ?_
  blk_simp
  rw [after0_5, rblk0, rblk1, rblk2, rblk3, V_scale, V_bias]
  rw [wt_eq _ _ _ _ _ (om_eq (m ((c : Thread nD τ).loc main_arg0)) (m ((c : Thread nD τ).loc main_arg1)) (m ((c : Thread nD τ).loc main_arg2)) (m ((c : Thread nD τ).loc main_arg3)))]
  rfl

/-- A run of the reference ends with those results, the arguments as they were. -/
theorem value_run : θ_run defs (onTc (τ := τ) (main (F := Ideal))) ⟨m, fun _ => 0, ρ⟩ (fun r => ∀ c : Dev nD,
      r.2.mem ((c : Thread nD τ).loc main_v3_0) = idxM (m ((c : Thread nD τ).loc main_arg0)) (m ((c : Thread nD τ).loc main_arg1)) (m ((c : Thread nD τ).loc main_arg2)) (m ((c : Thread nD τ).loc main_arg3))
      ∧ r.2.mem ((c : Thread nD τ).loc main_v3_1) = wtM (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r hh c => ⟨(hh c).1.trans (final_idx m c), (hh c).2.1.trans (final_wt m c), (hh c).2.2⟩) (run_blocks m ρ)
end

end Cert.Proof.OffsetsReference

end
-- ==== Proof.Twin.lean ====
/- The programs as they run and the programs at exact arithmetic have the same text, so a frame proved for one at any
   reading of the floats is the other's. -/
module

public import proofs.«01_k».proof.Defs
public import proofs.«01_k».proof.Proof.Gen.Kernel
public import proofs.«01_k».proof.Proof.Gen.Offsets
public import proofs.«01_k».proof.Proof.Gen.Pre_words_in_table
public import proofs.«01_k».proof.Proof.IRun
public import proofs.«01_k».proof.Proof.OffIRun
public import proofs.«01_k».proof.Proof.Words

@[expose] public section

set_option maxRecDepth 100000
set_option maxHeartbeats 4000000

noncomputable section

namespace Cert.Proof.Twin

open Idealize.ShloMosaic Idealize.SL.Sem

/-- The body table of the main call is the same in the two programs. -/
theorem kernel_bodies : (Cert.Kernel.defs₀ (F := Bits) : Defs Cert.KernelIdeal.nD Cert.KernelIdeal.τ Cert.KernelIdeal.sig (Elt Bits) Cert.KernelIdeal.Λ₀) = Cert.KernelIdeal.defs₀ (F := Bits) := by
  funext t ℓ a
  cases t with
  | tc =>
    match ℓ, a with
    | 0, (t, s) => rfl
    | ⟨n + 1, h⟩, _ => exact absurd h (Nat.not_lt.2 (Nat.le_add_left _ _))
  | scScalar _ => rfl
  | scVector _ _ => rfl

/-- The main call runs at the bits with any body table equal to the one of the ideal program. -/
theorem kernel_frame (D : Defs Cert.KernelIdeal.nD Cert.KernelIdeal.τ Cert.KernelIdeal.sig (Elt Bits) Cert.KernelIdeal.Λ₀) (hD : D = Cert.KernelIdeal.defs₀ (F := Bits))
    (m : (ℓ : Loc Cert.KernelIdeal.nD Cert.KernelIdeal.τ Cert.KernelIdeal.sig) → Buf (Elt Bits) ℓ) (ρ : Dev Cert.KernelIdeal.nD → PrngReg) (h : Cert.Proof.KernelIdeal.PreOK m) :
    θ_run (Pipeline.defs (Cert.KernelIdeal.pcfgs (F := Bits)) D) (onTc (τ := Cert.KernelIdeal.τ) (Cert.KernelIdeal.main (F := Bits))) ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) ∧ r.2.sem = fun _ => 0) := by
  subst hD
  exact Cert.Proof.KernelIdeal.frame_run (F := Bits) m ρ h

/-- The body table of the offset convolution is the same in the two programs. -/
theorem offsets_bodies : (Cert.Offsets.defs₀ (F := Bits) : Defs Cert.OffsetsIdeal.nD Cert.OffsetsIdeal.τ Cert.OffsetsIdeal.sig (Elt Bits) Cert.OffsetsIdeal.Λ₀) = Cert.OffsetsIdeal.defs₀ (F := Bits) := by
  funext t ℓ a
  cases t with
  | tc =>
    match ℓ, a with
    | 0, (t, s) => rfl
    | ⟨n + 1, h⟩, _ => exact absurd h (Nat.not_lt.2 (Nat.le_add_left _ _))
  | scScalar _ => rfl
  | scVector _ _ => rfl

/-- The offset convolution runs at the bits with any body table equal to the one of the ideal program. -/
theorem offsets_frame (D : Defs Cert.OffsetsIdeal.nD Cert.OffsetsIdeal.τ Cert.OffsetsIdeal.sig (Elt Bits) Cert.OffsetsIdeal.Λ₀) (hD : D = Cert.OffsetsIdeal.defs₀ (F := Bits))
    (m : (ℓ : Loc Cert.OffsetsIdeal.nD Cert.OffsetsIdeal.τ Cert.OffsetsIdeal.sig) → Buf (Elt Bits) ℓ) (ρ : Dev Cert.OffsetsIdeal.nD → PrngReg) :
    θ_run (Pipeline.defs (Cert.OffsetsIdeal.pcfgs (F := Bits)) D) (onTc (τ := Cert.OffsetsIdeal.τ) (Cert.OffsetsIdeal.main (F := Bits))) ⟨m, fun _ => 0, ρ⟩ (fun r => (∀ c : Dev Cert.OffsetsIdeal.nD,
        r.2.mem ((c.tc : Thread Cert.OffsetsIdeal.nD Cert.OffsetsIdeal.τ).loc Cert.OffsetsIdeal.main_arg0) = m ((c.tc : Thread Cert.OffsetsIdeal.nD Cert.OffsetsIdeal.τ).loc Cert.OffsetsIdeal.main_arg0)
        ∧ r.2.mem ((c.tc : Thread Cert.OffsetsIdeal.nD Cert.OffsetsIdeal.τ).loc Cert.OffsetsIdeal.main_arg1) = m ((c.tc : Thread Cert.OffsetsIdeal.nD Cert.OffsetsIdeal.τ).loc Cert.OffsetsIdeal.main_arg1)
        ∧ r.2.mem ((c.tc : Thread Cert.OffsetsIdeal.nD Cert.OffsetsIdeal.τ).loc Cert.OffsetsIdeal.main_arg2) = m ((c.tc : Thread Cert.OffsetsIdeal.nD Cert.OffsetsIdeal.τ).loc Cert.OffsetsIdeal.main_arg2)
        ∧ r.2.mem ((c.tc : Thread Cert.OffsetsIdeal.nD Cert.OffsetsIdeal.τ).loc Cert.OffsetsIdeal.main_arg3) = m ((c.tc : Thread Cert.OffsetsIdeal.nD Cert.OffsetsIdeal.τ).loc Cert.OffsetsIdeal.main_arg3)) ∧ r.2.sem = fun _ => 0) := by
  subst hD
  exact Cert.Proof.OffsetsIdeal.frame_run (F := Bits) m ρ

/-- The main call runs under the precondition, its arguments unchanged and its semaphores back at zero. -/
theorem frame_kernel : Cert.quiescent_Kernel := fun m ρ hpre =>
  kernel_frame (Cert.Kernel.defs₀ (F := Bits)) kernel_bodies m ρ
    (Cert.Proof.KernelIdeal.pre_ok (F := Bits) m fun c y => Words.word_facts _ _ _ _ _ _ (hpre c) y)

/-- So does the offset convolution, whatever its arguments. -/
theorem frame_offsets : Cert.quiescent_Offsets := fun m ρ _ =>
  offsets_frame (Cert.Offsets.defs₀ (F := Bits)) offsets_bodies m ρ

end Cert.Proof.Twin

end
-- ==== Proof.lean ====
/- The certificate's claims from the runs proved under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.Pre_words_in_table
public import proofs.«01_k».proof.Proof.Words
public import proofs.«01_k».proof.Proof.IRun
public import proofs.«01_k».proof.Proof.Sums
public import proofs.«01_k».proof.Proof.RVal
public import proofs.«01_k».proof.Proof.Gen.Offsets
public import proofs.«01_k».proof.Proof.Gen.OffsetsIdeal
public import proofs.«01_k».proof.Proof.Gen.OffsetsReferenceIdeal
public import proofs.«01_k».proof.Proof.Gen.OffsetsReferenceIdeal.Value
public import proofs.«01_k».proof.Proof.OffIRun
public import proofs.«01_k».proof.Proof.OffIVal
public import proofs.«01_k».proof.Proof.OffWords
public import proofs.«01_k».proof.Proof.OffRVal
public import proofs.«01_k».proof.Proof.Twin

@[expose] public section

noncomputable section

namespace Cert.Proof

open Idealize.ShloMosaic Idealize.SL.Sem

/-- The kernel runs under the precondition, its arguments unchanged and its semaphores back at zero. -/
theorem frame_kernel : Cert.quiescent_Kernel := Twin.frame_kernel

/-- So does the kernel at exact arithmetic. -/
theorem frame_kernelIdeal : Cert.quiescent_KernelIdeal := fun m ρ hpre =>
  Cert.Proof.KernelIdeal.frame_run m ρ (Cert.Proof.KernelIdeal.pre_ok m fun c y => Words.word_facts _ _ _ _ _ _ (hpre c) y)

/-- So does the reference, whatever its arguments. -/
theorem frame_referenceIdeal : Cert.quiescent_ReferenceIdeal := fun m ρ _ => Cert.ReferenceIdeal.Gen.frame m ρ

/-- Over the extended reals the kernel and the reference end with the same array. -/
theorem algebraic : Cert.algebraic_KernelIdeal_ReferenceIdeal := by
  intro m g m' g' hpre hargs
  have hw := fun c y => Words.word_facts _ _ _ _ _ _ (hpre c) y
  have hw' : ∀ c : Dev Cert.ReferenceIdeal.nD, Values.WordOk (m' ((c.tc : Thread Cert.ReferenceIdeal.nD Cert.ReferenceIdeal.τ).loc Cert.ReferenceIdeal.main_arg1)) := fun c => by
    rw [(hargs c).2.1]
    exact hw c
  refine ⟨fun c => Values.outM (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run _ _ _).mono (fun r h c => ⟨(h c).1.trans (Values.yOut_eq _ _ _ _ _ _ (hw c)), (h c).2⟩)
      (Cert.Proof.KernelIdeal.value_run m g (Cert.Proof.KernelIdeal.pre_ok m hw))
  · refine (θ_run _ _ _).mono (fun r h c => ⟨(h c).1.trans ?_, (h c).2⟩) (Cert.Proof.Reference.value_run m' g' hw')
    rw [(hargs c).1, (hargs c).2.1, (hargs c).2.2.1, (hargs c).2.2.2.1, (hargs c).2.2.2.2.1, (hargs c).2.2.2.2.2]

/-- The offset convolution runs, its arguments unchanged and its semaphores back at zero. -/
theorem frame_offsets : Cert.quiescent_Offsets := Twin.frame_offsets

/-- So does the offset convolution at exact arithmetic. -/
theorem frame_offsetsIdeal : Cert.quiescent_OffsetsIdeal := fun m ρ _ => Cert.Proof.OffsetsIdeal.frame_run m ρ

/-- So does its reference. -/
theorem frame_offsetsReferenceIdeal : Cert.quiescent_OffsetsReferenceIdeal := fun m ρ _ => Cert.OffsetsReferenceIdeal.Gen.frame m ρ

/-- Over the extended reals the offset convolution and its reference end with the same index words and weights. -/
theorem algebraic_offsets : Cert.algebraic_OffsetsIdeal_OffsetsReferenceIdeal := by
  intro m g m' g' _ hargs
  refine ⟨fun c => OffsetValues.idxM (m ((c.tc : Thread Cert.OffsetsIdeal.nD Cert.OffsetsIdeal.τ).loc Cert.OffsetsIdeal.main_arg0)) (m ((c.tc : Thread Cert.OffsetsIdeal.nD Cert.OffsetsIdeal.τ).loc Cert.OffsetsIdeal.main_arg1)) (m ((c.tc : Thread Cert.OffsetsIdeal.nD Cert.OffsetsIdeal.τ).loc Cert.OffsetsIdeal.main_arg2)) (m ((c.tc : Thread Cert.OffsetsIdeal.nD Cert.OffsetsIdeal.τ).loc Cert.OffsetsIdeal.main_arg3)),
    fun c => OffsetValues.wtM (m ((c.tc : Thread Cert.OffsetsIdeal.nD Cert.OffsetsIdeal.τ).loc Cert.OffsetsIdeal.main_arg0)) (m ((c.tc : Thread Cert.OffsetsIdeal.nD Cert.OffsetsIdeal.τ).loc Cert.OffsetsIdeal.main_arg1)) (m ((c.tc : Thread Cert.OffsetsIdeal.nD Cert.OffsetsIdeal.τ).loc Cert.OffsetsIdeal.main_arg2)) (m ((c.tc : Thread Cert.OffsetsIdeal.nD Cert.OffsetsIdeal.τ).loc Cert.OffsetsIdeal.main_arg3)), ?_, ?_⟩
  · refine (θ_run _ _ _).mono (fun r h c => ⟨(h c).1.trans (OffsetValues.idxOut_eq_idxM _ _ _ _), (h c).2.1.trans (OffsetValues.wtOut_eq_wtM _ _ _ _), (h c).2.2⟩)
      (Cert.Proof.OffsetsIdeal.value_run m g)
  · refine (θ_run _ _ _).mono (fun r h c => ⟨(h c).1.trans ?_, (h c).2.1.trans ?_, (h c).2.2⟩) (Cert.Proof.OffsetsReference.value_run m' g')
    · rw [(hargs c).1, (hargs c).2.1, (hargs c).2.2.1, (hargs c).2.2.2]
    · rw [(hargs c).1, (hargs c).2.1, (hargs c).2.2.1, (hargs c).2.2.2]

/-- Every claim, with the side conditions of the programs. -/
theorem claim : Cert.Claim := ⟨Cert.Kernel.Gen.facts, Cert.KernelIdeal.Gen.facts, Cert.ReferenceIdeal.Gen.facts, Cert.Offsets.Gen.facts, Cert.OffsetsIdeal.Gen.facts, Cert.OffsetsReferenceIdeal.Gen.facts,
  Cert.Pre_words_in_table.Gen.facts, frame_kernel, frame_kernelIdeal, frame_referenceIdeal, fun m ρ _ => Cert.ReferenceIdeal.Gen.frame m ρ,
  frame_offsets, frame_offsetsIdeal, frame_offsetsReferenceIdeal, trivial, algebraic, trivial, algebraic_offsets⟩

end Cert.Proof

end
